-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_maxima_finite [hPre_maxima_finite : Cert.Pre_maxima_finite.Facts] (m : (ℓ : Loc Cert.DownIdeal.nD Cert.DownIdeal.τ Cert.DownIdeal.sig) → Buf (Elt Ideal) ℓ) : Prop :=
  ∀ c : Dev Cert.DownIdeal.nD,
    (Cert.Pre_maxima_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_maxima_finite [hPre_maxima_finite : Cert.Pre_maxima_finite.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_maxima_finite.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_attn_finite [hPre_attn_finite : Cert.Pre_attn_finite.Facts] (m : (ℓ : Loc Cert.OprojIdeal.nD Cert.OprojIdeal.τ Cert.OprojIdeal.sig) → Buf (Elt Ideal) ℓ) : Prop :=
  ∀ c : Dev Cert.OprojIdeal.nD,
    (Cert.Pre_attn_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3))) = (fun _ => 1#1)

def Pre_OprojReferenceIdeal (m : (ℓ : Loc Cert.OprojReferenceIdeal.nD Cert.OprojReferenceIdeal.τ Cert.OprojReferenceIdeal.sig) → Buf (Elt Ideal) ℓ) : Prop :=
  True

def Pre_OprojReferenceIdeal_attn_finite [hPre_attn_finite : Cert.Pre_attn_finite.Facts] (m : (ℓ : Loc Cert.OprojReferenceIdeal.nD Cert.OprojReferenceIdeal.τ Cert.OprojReferenceIdeal.sig) → Buf (Elt Ideal) ℓ) : Prop :=
  ∀ c : Dev Cert.OprojReferenceIdeal.nD,
    (Cert.Pre_attn_finite.fn (F := Ideal) (m ((c.tc : Thread Cert.OprojReferenceIdeal.nD Cert.OprojReferenceIdeal.τ).loc Cert.OprojReferenceIdeal.main_arg0)) (m ((c.tc : Thread Cert.OprojReferenceIdeal.nD Cert.OprojReferenceIdeal.τ).loc Cert.OprojReferenceIdeal.main_arg1)) (m ((c.tc : Thread Cert.OprojReferenceIdeal.nD Cert.OprojReferenceIdeal.τ).loc Cert.OprojReferenceIdeal.main_arg2)) (m ((c.tc : Thread Cert.OprojReferenceIdeal.nD Cert.OprojReferenceIdeal.τ).loc Cert.OprojReferenceIdeal.main_arg3))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_maxima_finite [hDownIdeal : Cert.DownIdeal.Facts] [hPre_maxima_finite : Cert.Pre_maxima_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_maxima_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DownReferenceIdeal_pre_maxima_finite [hDownReferenceIdeal : Cert.DownReferenceIdeal.Facts] [hPre_maxima_finite : Cert.Pre_maxima_finite.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_maxima_finite m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojIdeal_pre_attn_finite [hOprojIdeal : Cert.OprojIdeal.Facts] [hPre_attn_finite : Cert.Pre_attn_finite.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_attn_finite m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3))
      ∧ r.2.sem = fun _ => 0)

def quiescent_OprojReferenceIdeal_pre_attn_finite [hOprojReferenceIdeal : Cert.OprojReferenceIdeal.Facts] [hPre_attn_finite : Cert.Pre_attn_finite.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal_attn_finite m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6))
      ∧ r.2.sem = fun _ => 0)

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v4_0)) (v1 : (c : Dev Cert.GateUpIdeal.nD) → Buf (Elt Ideal) ((c.tc : Thread Cert.GateUpIdeal.nD Cert.GateUpIdeal.τ).loc Cert.GateUpIdeal.main_v4_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v4_0) = v0 c
          ∧ r.2.mem ((c.tc : Thread Cert.GateUpIdeal.nD Cert.GateUpIdeal.τ).loc Cert.GateUpIdeal.main_v4_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v3_0) = v0 c
          ∧ r.2.mem ((c.tc : Thread Cert.GateUpReferenceIdeal.nD Cert.GateUpReferenceIdeal.τ).loc Cert.GateUpReferenceIdeal.main_v3_1) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5))

def preserves_Down_DownIdeal : Prop :=
  True

def algebraic_DownIdeal_DownReferenceIdeal_pre_maxima_finite [hDownIdeal : Cert.DownIdeal.Facts] [hDownReferenceIdeal : Cert.DownReferenceIdeal.Facts] [hPre_maxima_finite : Cert.Pre_maxima_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_maxima_finite m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8_0) = v0 c
          ∧ r.2.mem ((c.tc : Thread Cert.DownReferenceIdeal.nD Cert.DownReferenceIdeal.τ).loc Cert.DownReferenceIdeal.main_v8_1) = v1 c
          ∧ r.2.mem ((c.tc : Thread Cert.DownReferenceIdeal.nD Cert.DownReferenceIdeal.τ).loc Cert.DownReferenceIdeal.main_v8_2) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Oproj_OprojIdeal : Prop :=
  True

def algebraic_OprojIdeal_OprojReferenceIdeal_pre_attn_finite [hOprojIdeal : Cert.OprojIdeal.Facts] [hOprojReferenceIdeal : Cert.OprojReferenceIdeal.Facts] [hPre_attn_finite : Cert.Pre_attn_finite.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal_attn_finite m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)) (v2 : (c : Dev Cert.OprojIdeal.nD) → Buf (Elt Ideal) ((c.tc : Thread Cert.OprojIdeal.nD Cert.OprojIdeal.τ).loc Cert.OprojIdeal.main_v1_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_v1_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v8_0) = v0 c
          ∧ r.2.mem ((c.tc : Thread Cert.OprojReferenceIdeal.nD Cert.OprojReferenceIdeal.τ).loc Cert.OprojReferenceIdeal.main_v8_1) = v1 c
          ∧ r.2.mem ((c.tc : Thread Cert.OprojReferenceIdeal.nD Cert.OprojReferenceIdeal.τ).loc Cert.OprojReferenceIdeal.main_v8_2) = v2 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v19_0)) (v1 : (c : Dev Cert.QkvIdeal.nD) → Buf (Elt Ideal) ((c.tc : Thread Cert.QkvIdeal.nD Cert.QkvIdeal.τ).loc Cert.QkvIdeal.main_v19_1)) (v2 : (c : Dev Cert.QkvIdeal.nD) → Buf (Elt Ideal) ((c.tc : Thread Cert.QkvIdeal.nD Cert.QkvIdeal.τ).loc Cert.QkvIdeal.main_v19_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v19_0) = v0 c
          ∧ r.2.mem ((c.tc : Thread Cert.QkvIdeal.nD Cert.QkvIdeal.τ).loc Cert.QkvIdeal.main_v19_1) = v1 c
          ∧ r.2.mem ((c.tc : Thread Cert.QkvIdeal.nD Cert.QkvIdeal.τ).loc Cert.QkvIdeal.main_v19_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v18_0) = v0 c
          ∧ r.2.mem ((c.tc : Thread Cert.QkvReferenceIdeal.nD Cert.QkvReferenceIdeal.τ).loc Cert.QkvReferenceIdeal.main_v18_1) = v1 c
          ∧ r.2.mem ((c.tc : Thread Cert.QkvReferenceIdeal.nD Cert.QkvReferenceIdeal.τ).loc Cert.QkvReferenceIdeal.main_v18_2) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6))

def Claim : Prop :=
  ∃ (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hOproj : Cert.Oproj.Facts) (hOprojIdeal : Cert.OprojIdeal.Facts) (hOprojReferenceIdeal : Cert.OprojReferenceIdeal.Facts) (hQkv : Cert.Qkv.Facts) (hQkvIdeal : Cert.QkvIdeal.Facts) (hQkvReferenceIdeal : Cert.QkvReferenceIdeal.Facts) (hPre_maxima_finite : Cert.Pre_maxima_finite.Facts) (hPre_attn_finite : Cert.Pre_attn_finite.Facts),
    quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Down (hDown := hDown)
    ∧ quiescent_DownIdeal (hDownIdeal := hDownIdeal)
    ∧ quiescent_DownIdeal_pre_maxima_finite (hDownIdeal := hDownIdeal) (hPre_maxima_finite := hPre_maxima_finite)
    ∧ quiescent_DownReferenceIdeal (hDownReferenceIdeal := hDownReferenceIdeal)
    ∧ quiescent_DownReferenceIdeal_pre_maxima_finite (hDownReferenceIdeal := hDownReferenceIdeal) (hPre_maxima_finite := hPre_maxima_finite)
    ∧ quiescent_Oproj (hOproj := hOproj)
    ∧ quiescent_OprojIdeal (hOprojIdeal := hOprojIdeal)
    ∧ quiescent_OprojIdeal_pre_attn_finite (hOprojIdeal := hOprojIdeal) (hPre_attn_finite := hPre_attn_finite)
    ∧ quiescent_OprojReferenceIdeal (hOprojReferenceIdeal := hOprojReferenceIdeal)
    ∧ quiescent_OprojReferenceIdeal_pre_attn_finite (hOprojReferenceIdeal := hOprojReferenceIdeal) (hPre_attn_finite := hPre_attn_finite)
    ∧ quiescent_Qkv (hQkv := hQkv)
    ∧ quiescent_QkvIdeal (hQkvIdeal := hQkvIdeal)
    ∧ quiescent_QkvReferenceIdeal (hQkvReferenceIdeal := hQkvReferenceIdeal)
    ∧ preserves_GateUp_GateUpIdeal
    ∧ algebraic_GateUpIdeal_GateUpReferenceIdeal (hGateUpIdeal := hGateUpIdeal) (hGateUpReferenceIdeal := hGateUpReferenceIdeal)
    ∧ preserves_Down_DownIdeal
    ∧ algebraic_DownIdeal_DownReferenceIdeal_pre_maxima_finite (hDownIdeal := hDownIdeal) (hDownReferenceIdeal := hDownReferenceIdeal) (hPre_maxima_finite := hPre_maxima_finite)
    ∧ preserves_Oproj_OprojIdeal
    ∧ algebraic_OprojIdeal_OprojReferenceIdeal_pre_attn_finite (hOprojIdeal := hOprojIdeal) (hOprojReferenceIdeal := hOprojReferenceIdeal) (hPre_attn_finite := hPre_attn_finite)
    ∧ preserves_Qkv_QkvIdeal
    ∧ algebraic_QkvIdeal_QkvReferenceIdeal (hQkvIdeal := hQkvIdeal) (hQkvReferenceIdeal := hQkvReferenceIdeal)
-- ==== Pre_attn_finite.lean ====
abbrev S5376x2560 : Shape := ⟨2, ![5376, 2560]⟩
abbrev S5376x7168 : Shape := ⟨2, ![5376, 7168]⟩
abbrev S7168 : Shape := ⟨1, ![7168]⟩
abbrev S2560x7168 : Shape := ⟨2, ![2560, 7168]⟩
abbrev S_ : Shape := ⟨0, ![]⟩

class Facts : Prop where
  bitsLt_bf16_f32 : FTy.bits .bf16 < FTy.bits .f32
  bcast_S_S5376x2560 : S_.BroadcastsInDim S5376x2560 (![] : Fin 0 → Fin S5376x2560.rank)

variable [Facts]

def fn {F : FTy → Type} [FloatOps F] (main_arg0 : FVec F S5376x2560 .bf16) (main_arg1 : FVec F S5376x7168 .fp8e4m3) (main_arg2 : FVec F S7168 .f32) (main_arg3 : FVec F S2560x7168 .bf16) : IVec S5376x2560 1 :=
  let main_v0 : FVec F S5376x2560 .f32 := (extf .f32 · bitsLt_bf16_f32) main_arg0
  let main_v1 : FVec F S5376x2560 .f32 := Host.absf main_v0
  let main_cst : FVec F S_ .f32 := constant S_ .f32 0x7F7FFFFF#32
  let main_v2 : FVec F S5376x2560 .f32 := broadcastInDim S5376x2560 ![] bcast_S_S5376x2560 main_cst
  let main_v3 : IVec S5376x2560 1 := cmpf .ole main_v1 main_v2
  main_v3
-- ==== Pre_maxima_finite.lean ====
abbrev S2560x128 : Shape := ⟨2, ![2560, 128]⟩
abbrev S2560x18432 : Shape := ⟨2, ![2560, 18432]⟩
abbrev S18432x7168 : Shape := ⟨2, ![18432, 7168]⟩
abbrev S7168 : Shape := ⟨1, ![7168]⟩
abbrev S2560x7168 : Shape := ⟨2, ![2560, 7168]⟩
abbrev S_ : Shape := ⟨0, ![]⟩

class Facts : Prop where
  bcast_S_S2560x128 : S_.BroadcastsInDim S2560x128 (![] : Fin 0 → Fin S2560x128.rank)

variable [Facts]

def fn {F : FTy → Type} [FloatOps F] (main_arg0 : FVec F S2560x128 .f32) (main_arg1 : FVec F S2560x18432 .bf16) (main_arg2 : FVec F S18432x7168 .fp8e4m3) (main_arg3 : FVec F S7168 .f32) (main_arg4 : FVec F S2560x7168 .bf16) : IVec S2560x128 1 :=
  let main_cst : FVec F S_ .f32 := constant S_ .f32 0x7F7FFFFF#32
  let main_v0 : FVec F S2560x128 .f32 := broadcastInDim S2560x128 ![] bcast_S_S2560x128 main_cst
  let main_v1 : IVec S2560x128 1 := cmpf .ole main_arg0 main_v0
  main_v1
-- ==== GateUp.lean ====
abbrev S2560x7168 : Shape := ⟨2, ![2560, 7168]⟩
abbrev S2560 : Shape := ⟨1, ![2560]⟩
abbrev S7168x18432 : Shape := ⟨2, ![7168, 18432]⟩
abbrev S18432 : Shape := ⟨1, ![18432]⟩
abbrev S2560x1 : Shape := ⟨2, ![2560, 1]⟩
abbrev S2560x128 : Shape := ⟨2, ![2560, 128]⟩
abbrev S1x18432 : Shape := ⟨2, ![1, 18432]⟩
abbrev S2560x18432 : Shape := ⟨2, ![2560, 18432]⟩
abbrev S7168x512 : Shape := ⟨2, ![7168, 512]⟩
abbrev S1x512 : Shape := ⟨2, ![1, 512]⟩
abbrev S2560x512 : Shape := ⟨2, ![2560, 512]⟩
abbrev S512x7168 : Shape := ⟨2, ![512, 7168]⟩
abbrev S512x128 : Shape := ⟨2, ![512, 128]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S2560x7168, .fp8e4m3⟩
  | .hbm, ⟨1, _⟩ => ⟨S2560, .f32⟩
  | .hbm, ⟨2, _⟩ => ⟨S7168x18432, .fp8e4m3⟩
  | .hbm, ⟨3, _⟩ => ⟨S18432, .f32⟩
  | .hbm, ⟨4, _⟩ => ⟨S7168x18432, .fp8e4m3⟩
  | .hbm, ⟨5, _⟩ => ⟨S18432, .f32⟩
  | .hbm, ⟨6, _⟩ => ⟨S2560x1, .f32⟩
  | .hbm, ⟨7, _⟩ => ⟨S2560x128, .f32⟩
  | .hbm, ⟨8, _⟩ => ⟨S1x18432, .f32⟩
  | .hbm, ⟨9, _⟩ => ⟨S1x18432, .f32⟩
  | .hbm, ⟨10, _⟩ => ⟨S2560x18432, .bf16⟩
  | .hbm, ⟨11, _⟩ => ⟨S2560x128, .f32⟩
  | .local _ .vmem, ⟨0, _⟩ => ⟨S2560x7168, .fp8e4m3⟩
  | .local _ .vmem, ⟨1, _⟩ => ⟨S7168x512, .fp8e4m3⟩
  | .local _ .vmem, ⟨2, _⟩ => ⟨S7168x512, .fp8e4m3⟩
  | .local _ .vmem, ⟨3, _⟩ => ⟨S7168x512, .fp8e4m3⟩
  | .local _ .vmem, ⟨4, _⟩ => ⟨S7168x512, .fp8e4m3⟩
  | .local _ .vmem, ⟨5, _⟩ => ⟨S2560x128, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2560x512, .bf16⟩
  | .local _ .vmem, ⟨11, _⟩ => ⟨S2560x512, .bf16⟩
  | .local _ .vmem, ⟨12, _⟩ => ⟨S2560x128, .f32⟩
  | _, _ => ⟨S2560x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2560x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2560x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2560x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateUpReferenceIdeal.lean ====
abbrev S2560x7168 : Shape := ⟨2, ![2560, 7168]⟩
abbrev S2560 : Shape := ⟨1, ![2560]⟩
abbrev S7168x18432 : Shape := ⟨2, ![7168, 18432]⟩
abbrev S18432 : Shape := ⟨1, ![18432]⟩
abbrev S2560x1 : Shape := ⟨2, ![2560, 1]⟩
abbrev S1x18432 : Shape := ⟨2, ![1, 18432]⟩
abbrev S2560x18432 : Shape := ⟨2, ![2560, 18432]⟩
abbrev S2560x128 : Shape := ⟨2, ![2560, 128]⟩
abbrev S2560x144x128 : Shape := ⟨3, ![2560, 144, 128]⟩

abbrev nBuf : Space → Nat
  | .hbm => 11
  | .vmem => 8
  | .smem => 0
  | _ => 0

abbrev bufTy : (tb : Table) → Fin (tcTables nBuf tb) → BufTy
  | .hbm, ⟨0, _⟩ => ⟨S2560x7168, .fp8e4m3⟩
  | .hbm, ⟨1, _⟩ => ⟨S2560, .f32⟩
  | .hbm, ⟨2, _⟩ => ⟨S7168x18432, .fp8e4m3⟩
  | .hbm, ⟨3, _⟩ => ⟨S18432, .f32⟩
  | .hbm, ⟨4, _⟩ => ⟨S7168x18432, .fp8e4m3⟩
  | .hbm, ⟨5, _⟩ => ⟨S18432, .f32⟩
  | .hbm, ⟨6, _⟩ => ⟨S2560x1, .f32⟩
  | .hbm, ⟨7, _⟩ => ⟨S1x18432, .f32⟩
  | .hbm, ⟨8, _⟩ => ⟨S1x18432, .f32⟩
  | .hbm, ⟨9, _⟩ => ⟨S2560x18432, .bf16⟩
  | .hbm, ⟨10, _⟩ => ⟨S2560x128, .f32⟩
  | .local _ .vmem, ⟨0, _⟩ => ⟨S2560x7168, .fp8e4m3⟩
  | .local _ .vmem, ⟨1, _⟩ => ⟨S2560x1, .f32⟩
  | .local _ .vmem, ⟨2, _⟩ => ⟨S7168x18432, .fp8e4m3⟩
  | .local _ .vmem, ⟨3, _⟩ => ⟨S1x18432, .f32⟩
  | .local _ .vmem, ⟨4, _⟩ => ⟨S7168x18432, .fp8e4m3⟩
  | .local _ .vmem, ⟨5, _⟩ => ⟨S1x18432, .f32⟩
  | .local _ .vmem, ⟨6, _⟩ => ⟨S2560x18432, .bf16⟩
  | .local _ .vmem, ⟨7, _⟩ => ⟨S2560x128, .f32⟩
  | _, _ => ⟨S2560x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2560x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x18432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x18432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S2560x128 : Shape := ⟨2, ![2560, 128]⟩
abbrev S2560x18432 : Shape := ⟨2, ![2560, 18432]⟩
abbrev S18432x7168 : Shape := ⟨2, ![18432, 7168]⟩
abbrev S7168 : Shape := ⟨1, ![7168]⟩
abbrev S2560x7168 : Shape := ⟨2, ![2560, 7168]⟩
abbrev S1x7168 : Shape := ⟨2, ![1, 7168]⟩
abbrev S1x2560 : Shape := ⟨2, ![1, 2560]⟩
abbrev S640x128 : Shape := ⟨2, ![640, 128]⟩
abbrev S640x1536 : Shape := ⟨2, ![640, 1536]⟩
abbrev S18432x512 : Shape := ⟨2, ![18432, 512]⟩
abbrev S1x512 : Shape := ⟨2, ![1, 512]⟩
abbrev S640x512 : Shape := ⟨2, ![640, 512]⟩
abbrev S1x640 : Shape := ⟨2, ![1, 640]⟩
abbrev S2x640x18432 : Shape := ⟨3, ![2, 640, 18432]⟩
abbrev S2x640x128 : Shape := ⟨3, ![2, 640, 128]⟩
abbrev S640 : Shape := ⟨1, ![640]⟩
abbrev S640x1 : Shape := ⟨2, ![640, 1]⟩
abbrev S1x640x128 : Shape := ⟨3, ![1, 640, 128]⟩
abbrev S128x640 : Shape := ⟨2, ![128, 640]⟩
abbrev S1x640x1536 : Shape := ⟨3, ![1, 640, 1536]⟩
abbrev S1x640x18432 : Shape := ⟨3, ![1, 640, 18432]⟩
abbrev S640x18432 : Shape := ⟨2, ![640, 18432]⟩

abbrev nBuf : Space → Nat
  | .hbm => 9
  | .vmem => 19
  | .smem => 0
  | _ => 0

abbrev bufTy : (tb : Table) → Fin (tcTables nBuf tb) → BufTy
  | .hbm, ⟨0, _⟩ => ⟨S2560x128, .f32⟩
  | .hbm, ⟨1, _⟩ => ⟨S2560x18432, .bf16⟩
  | .hbm, ⟨2, _⟩ => ⟨S18432x7168, .fp8e4m3⟩
  | .hbm, ⟨3, _⟩ => ⟨S7168, .f32⟩
  | .hbm, ⟨4, _⟩ => ⟨S2560x7168, .bf16⟩
  | .hbm, ⟨5, _⟩ => ⟨S1x7168, .f32⟩
  | .hbm, ⟨6, _⟩ => ⟨S2560x18432, .fp8e4m3⟩
  | .hbm, ⟨7, _⟩ => ⟨S1x2560, .f32⟩
  | .hbm, ⟨8, _⟩ => ⟨S2560x7168, .bf16⟩
  | .local _ .vmem, ⟨0, _⟩ => ⟨S640x128, .f32⟩
  | .local _ .vmem, ⟨1, _⟩ => ⟨S640x128, .f32⟩
  | .local _ .vmem, ⟨2, _⟩ => ⟨S640x1536, .bf16⟩
  | .local _ .vmem, ⟨3, _⟩ => ⟨S640x1536, .bf16⟩
  | .local _ .vmem, ⟨4, _⟩ => ⟨S18432x512, .fp8e4m3⟩
  | .local _ .vmem, ⟨5, _⟩ => ⟨S18432x512, .fp8e4m3⟩
  | .local _ .vmem, ⟨6, _⟩ => ⟨S1x512, .f32⟩
  | .local _ .vmem, ⟨7, _⟩ => ⟨S1x512, .f32⟩
  | .local _ .vmem, ⟨8, _⟩ => ⟨S640x512, .bf16⟩
  | .local _ .vmem, ⟨9, _⟩ => ⟨S640x512, .bf16⟩
  | .local _ .vmem, ⟨10, _⟩ => ⟨S640x1536, .fp8e4m3⟩
  | .local _ .vmem, ⟨11, _⟩ => ⟨S640x1536, .fp8e4m3⟩
  | .local _ .vmem, ⟨12, _⟩ => ⟨S1x640, .f32⟩
  | .local _ .vmem, ⟨13, _⟩ => ⟨S1x640, .f32⟩
  | .local _ .vmem, ⟨14, _⟩ => ⟨S640x512, .bf16⟩
  | .local _ .vmem, ⟨15, _⟩ => ⟨S640x512, .bf16⟩
  | .local _ .vmem, ⟨16, _⟩ => ⟨S2x640x18432, .fp8e4m3⟩
  | .local _ .vmem, ⟨17, _⟩ => ⟨S2x640x128, .f32⟩
  | .local _ .vmem, ⟨18, _⟩ => ⟨S640x128, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 14], ![false, false]⟩

def k0_cond1 (i : grid0.Coords) : BitVec 1 :=
  let arg0 : BitVec 32 := BitVec.ofNat 32 (i 0).val
  let c4_i32 : BitVec 32 := 4#32
  let v21 : BitVec 1 := Scalar.cmpi .slt arg0 c4_i32
  let arg1 : BitVec 32 := BitVec.ofNat 32 (i 1).val
  let c0_i32_10 : BitVec 32 := 0#32
  let v22 : BitVec 1 := Scalar.cmpi .eq arg1 c0_i32_10
  let v23 : BitVec 1 := Scalar.andi v21 v22
  let v24 : BitVec 32 := Scalar.extui v23
  let c0_i32_11 : BitVec 32 := 0#32
  let v25 : BitVec 1 := Scalar.cmpi .ne v24 c0_i32_11
  v25

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v130 : Index := Scalar.indexCast v9
  let c0_43 : Index := 0#32
  let c0_44 : Index := 0#32
  ![v130.toNat, 0, 0]
def k0_cond2 (i : grid0.Coords) : BitVec 1 :=
  let arg0 : BitVec 32 := BitVec.ofNat 32 (i 0).val
  let c0_i32_12 : BitVec 32 := 0#32
  let v26 : BitVec 1 := Scalar.cmpi .eq arg0 c0_i32_12
  let arg1 : BitVec 32 := BitVec.ofNat 32 (i 1).val
  let c12_i32 : BitVec 32 := 12#32
  let v27 : BitVec 1 := Scalar.cmpi .slt arg1 c12_i32
  let v28 : BitVec 1 := Scalar.andi v26 v27
  let v29 : BitVec 32 := Scalar.extui v28
  let c0_i32_13 : BitVec 32 := 0#32
  let v30 : BitVec 1 := Scalar.cmpi .ne v29 c0_i32_13
  v30

def k0_mult1 (i : grid0.Coords) : BitVec 32 :=
  let arg1 : BitVec 32 := BitVec.ofNat 32 (i 1).val
  let c11_i32 : BitVec 32 := 11#32
  let v39 : BitVec 32 := Scalar.minsi arg1 c11_i32
  let c1536_i32 : BitVec 32 := 1536#32
  let v51 : BitVec 32 := Scalar.muli v39 c1536_i32
  v51
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c0_25 : Index := 0#32
  let arg1 : BitVec 32 := BitVec.ofNat 32 (i 1).val
  let c11_i32 : BitVec 32 := 11#32
  let v39 : BitVec 32 := Scalar.minsi arg1 c11_i32
  let c1536_i32 : BitVec 32 := 1536#32
  let v51 : BitVec 32 := Scalar.muli v39 c1536_i32
  let v52 : BitVec 32 := v51
  let v54 : Index := Scalar.indexCast v52
  ![v53.toNat, 0, v54.toNat]
def k0_cond3 (i : grid0.Coords) : BitVec 1 :=
  let arg0 : BitVec 32 := BitVec.ofNat 32 (i 0).val
  let c0_i32_14 : BitVec 32 := 0#32
  let v31 : BitVec 1 := Scalar.cmpi .sgt arg0 c0_i32_14
  let c4_i32_15 : BitVec 32 := 4#32
  let v32 : BitVec 1 := Scalar.cmpi .slt arg0 c4_i32_15
  let v33 : BitVec 1 := Scalar.andi v31 v32
  let v34 : BitVec 32 := Scalar.extui v33
  let c0_i32_16 : BitVec 32 := 0#32
  let v35 : BitVec 1 := Scalar.cmpi .ne v34 c0_i32_16
  v35

def k0_mult2 (i : grid0.Coords) : BitVec 32 :=
  let arg1 : BitVec 32 := BitVec.ofNat 32 (i 1).val
  let c11_i32 : BitVec 32 := 11#32
  let v39 : BitVec 32 := Scalar.minsi arg1 c11_i32
  let c1536_i32 : BitVec 32 := 1536#32
  let v51 : BitVec 32 := Scalar.muli v39 c1536_i32
  v51
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c0_25 : Index := 0#32
  let arg1 : BitVec 32 := BitVec.ofNat 32 (i 1).val
  let c11_i32 : BitVec 32 := 11#32
  let v39 : BitVec 32 := Scalar.minsi arg1 c11_i32
  let c1536_i32 : BitVec 32 := 1536#32
  let v51 : BitVec 32 := Scalar.muli v39 c1536_i32
  let v52 : BitVec 32 := v51
  let v54 : Index := Scalar.indexCast v52
  ![v53.toNat, 0, v54.toNat]
def k0_off4 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v58 : Index := Scalar.indexCast v20
  let c0_26 : Index := 0#32
  let c0_27 : Index := 0#32
  ![v58.toNat, 0, 0]
def k0_off5 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v62 : Index := Scalar.indexCast v20
  let c0_28 : Index := 0#32
  let c0_29 : Index := 0#32
  ![v62.toNat, 0, 0]
def k0_cond4 (i : grid0.Coords) : BitVec 1 :=
  let arg0 : BitVec 32 := BitVec.ofNat 32 (i 0).val
  let c4_i32_17 : BitVec 32 := 4#32
  let v36 : BitVec 1 := Scalar.cmpi .eq arg0 c4_i32_17
  let v37 : BitVec 32 := Scalar.extui v36
  let c0_i32_18 : BitVec 32 := 0#32
  let v38 : BitVec 1 := Scalar.cmpi .ne v37 c0_i32_18
  v38

def k0_off6 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v39 : Index := Scalar.indexCast v20
  let c0 : Index := 0#32
  let c0_19 : Index := 0#32
  ![v39.toNat, 0, 0]
def k0_off7 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v43 : Index := Scalar.indexCast v20
  let c0_20 : Index := 0#32
  let c0_21 : Index := 0#32
  ![v43.toNat, 0, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .eq arg0 c4_i32
  let c11_i32 : BitVec 32 := 11#32
  let v2 : BitVec 32 := Scalar.minsi arg1 c11_i32
  let c11_i32_0 : BitVec 32 := 11#32
  let v3 : BitVec 32 := Scalar.select v1 c11_i32_0 v2
  let c0_i32 : BitVec 32 := 0#32
  ![v0.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .eq arg0 c4_i32
  let c11_i32 : BitVec 32 := 11#32
  let v2 : BitVec 32 := Scalar.minsi arg1 c11_i32
  let c11_i32_0 : BitVec 32 := 11#32
  let v3 : BitVec 32 := Scalar.select v1 c11_i32_0 v2
  let c0_i32 : BitVec 32 := 0#32
  ![v0.toNat, v3.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S18432x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownReferenceIdeal.lean ====
abbrev S2560x128 : Shape := ⟨2, ![2560, 128]⟩
abbrev S2560x18432 : Shape := ⟨2, ![2560, 18432]⟩
abbrev S18432x7168 : Shape := ⟨2, ![18432, 7168]⟩
abbrev S7168 : Shape := ⟨1, ![7168]⟩
abbrev S2560x7168 : Shape := ⟨2, ![2560, 7168]⟩
abbrev S254 : Shape := ⟨1, ![254]⟩
abbrev S_ : Shape := ⟨0, ![]⟩
abbrev S1x254 : Shape := ⟨2, ![1, 254]⟩
abbrev S1x7168 : Shape := ⟨2, ![1, 7168]⟩
abbrev S1x2560 : Shape := ⟨2, ![1, 2560]⟩
abbrev S2560 : Shape := ⟨1, ![2560]⟩
abbrev S2560x1 : Shape := ⟨2, ![2560, 1]⟩
abbrev S2560x254 : Shape := ⟨2, ![2560, 254]⟩

abbrev nBuf : Space → Nat
  | .hbm => 18
  | .vmem => 9
  | .smem => 0
  | _ => 0

abbrev bufTy : (tb : Table) → Fin (tcTables nBuf tb) → BufTy
  | .hbm, ⟨0, _⟩ => ⟨S2560x128, .f32⟩
  | .hbm, ⟨1, _⟩ => ⟨S2560x18432, .bf16⟩
  | .hbm, ⟨2, _⟩ => ⟨S18432x7168, .fp8e4m3⟩
  | .hbm, ⟨3, _⟩ => ⟨S7168, .f32⟩
  | .hbm, ⟨4, _⟩ => ⟨S2560x7168, .bf16⟩
  | .hbm, ⟨5, _⟩ => ⟨S254, .i32⟩
  | .hbm, ⟨6, _⟩ => ⟨S_, .i32⟩
  | .hbm, ⟨7, _⟩ => ⟨S254, .i32⟩
  | .hbm, ⟨8, _⟩ => ⟨S254, .i32⟩
  | .hbm, ⟨9, _⟩ => ⟨S254, .f32⟩
  | .hbm, ⟨10, _⟩ => ⟨S_, .f32⟩
  | .hbm, ⟨11, _⟩ => ⟨S254, .f32⟩
  | .hbm, ⟨12, _⟩ => ⟨S254, .f32⟩
  | .hbm, ⟨13, _⟩ => ⟨S1x254, .f32⟩
  | .hbm, ⟨14, _⟩ => ⟨S1x7168, .f32⟩
  | .hbm, ⟨15, _⟩ => ⟨S2560x18432, .fp8e4m3⟩
  | .hbm, ⟨16, _⟩ => ⟨S1x2560, .f32⟩
  | .hbm, ⟨17, _⟩ => ⟨S2560x7168, .bf16⟩
  | .local _ .vmem, ⟨0, _⟩ => ⟨S1x254, .f32⟩
  | .local _ .vmem, ⟨1, _⟩ => ⟨S2560x128, .f32⟩
  | .local _ .vmem, ⟨2, _⟩ => ⟨S2560x18432, .bf16⟩
  | .local _ .vmem, ⟨3, _⟩ => ⟨S18432x7168, .fp8e4m3⟩
  | .local _ .vmem, ⟨4, _⟩ => ⟨S1x7168, .f32⟩
  | .local _ .vmem, ⟨5, _⟩ => ⟨S2560x7168, .bf16⟩
  | .local _ .vmem, ⟨6, _⟩ => ⟨S2560x18432, .fp8e4m3⟩
  | .local _ .vmem, ⟨7, _⟩ => ⟨S1x2560, .f32⟩
  | .local _ .vmem, ⟨8, _⟩ => ⟨S2560x7168, .bf16⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x254 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x18432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x18432 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Oproj.lean ====
abbrev S5376x2560 : Shape := ⟨2, ![5376, 2560]⟩
abbrev S5376x7168 : Shape := ⟨2, ![5376, 7168]⟩
abbrev S7168 : Shape := ⟨1, ![7168]⟩
abbrev S2560x7168 : Shape := ⟨2, ![2560, 7168]⟩
abbrev S1x7168 : Shape := ⟨2, ![1, 7168]⟩
abbrev S2560x5376 : Shape := ⟨2, ![2560, 5376]⟩
abbrev S1x2560 : Shape := ⟨2, ![1, 2560]⟩
abbrev S5376x256 : Shape := ⟨2, ![5376, 256]⟩
abbrev S5376x512 : Shape := ⟨2, ![5376, 512]⟩
abbrev S1x512 : Shape := ⟨2, ![1, 512]⟩
abbrev S2560x512 : Shape := ⟨2, ![2560, 512]⟩
abbrev S256x5376 : Shape := ⟨2, ![256, 5376]⟩
abbrev S1x256 : Shape := ⟨2, ![1, 256]⟩
abbrev S2560x128 : Shape := ⟨2, ![2560, 128]⟩
abbrev S256 : Shape := ⟨1, ![256]⟩
abbrev S128x256 : Shape := ⟨2, ![128, 256]⟩
abbrev S256x128 : Shape := ⟨2, ![256, 128]⟩
abbrev S512x128 : Shape := ⟨2, ![512, 128]⟩
abbrev S512x512 : Shape := ⟨2, ![512, 512]⟩
abbrev S512x5376 : Shape := ⟨2, ![512, 5376]⟩

abbrev nBuf : Space → Nat
  | .hbm => 8
  | .vmem => 16
  | .smem => 0
  | _ => 0

abbrev bufTy : (tb : Table) → Fin (tcTables nBuf tb) → BufTy
  | .hbm, ⟨0, _⟩ => ⟨S5376x2560, .bf16⟩
  | .hbm, ⟨1, _⟩ => ⟨S5376x7168, .fp8e4m3⟩
  | .hbm, ⟨2, _⟩ => ⟨S7168, .f32⟩
  | .hbm, ⟨3, _⟩ => ⟨S2560x7168, .bf16⟩
  | .hbm, ⟨4, _⟩ => ⟨S1x7168, .f32⟩
  | .hbm, ⟨5, _⟩ => ⟨S2560x5376, .fp8e4m3⟩
  | .hbm, ⟨6, _⟩ => ⟨S1x2560, .f32⟩
  | .hbm, ⟨7, _⟩ => ⟨S2560x7168, .bf16⟩
  | .local _ .vmem, ⟨0, _⟩ => ⟨S5376x256, .bf16⟩
  | .local _ .vmem, ⟨1, _⟩ => ⟨S5376x256, .bf16⟩
  | .local _ .vmem, ⟨2, _⟩ => ⟨S5376x512, .fp8e4m3⟩
  | .local _ .vmem, ⟨3, _⟩ => ⟨S5376x512, .fp8e4m3⟩
  | .local _ .vmem, ⟨4, _⟩ => ⟨S1x512, .f32⟩
  | .local _ .vmem, ⟨5, _⟩ => ⟨S1x512, .f32⟩
  | .local _ .vmem, ⟨6, _⟩ => ⟨S2560x512, .bf16⟩
  | .local _ .vmem, ⟨7, _⟩ => ⟨S2560x512, .bf16⟩
  | .local _ .vmem, ⟨8, _⟩ => ⟨S256x5376, .fp8e4m3⟩
  | .local _ .vmem, ⟨9, _⟩ => ⟨S256x5376, .fp8e4m3⟩
  | .local _ .vmem, ⟨10, _⟩ => ⟨S1x256, .f32⟩
  | .local _ .vmem, ⟨11, _⟩ => ⟨S1x256, .f32⟩
  | .local _ .vmem, ⟨12, _⟩ => ⟨S2560x512, .bf16⟩
  | .local _ .vmem, ⟨13, _⟩ => ⟨S2560x512, .bf16⟩
  | .local _ .vmem, ⟨14, _⟩ => ⟨S2560x5376, .fp8e4m3⟩
  | .local _ .vmem, ⟨15, _⟩ => ⟨S2560x128, .f32⟩
  | _, _ => ⟨S5376x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v118 : BitVec 32 := Scalar.muli arg0 c256_i32
  v118
def k0_off1 (i : grid0.Coords) : Fin 2 → Nat :=
  let arg0 : BitVec 32 := BitVec.ofNat 32 (i 0).val
  let c256_i32 : BitVec 32 := 256#32
  let v118 : BitVec 32 := Scalar.muli arg0 c256_i32
  let v119 : BitVec 32 := v118
  let v120 : Index := Scalar.indexCast v119
  let c0_32 : Index := 0#32
  ![v120.toNat, 0]
def k0_off2 (i : grid0.Coords) : Fin 2 → Nat :=
  let arg0 : BitVec 32 := BitVec.ofNat 32 (i 0).val
  let c256_i32 : BitVec 32 := 256#32
  let v118 : BitVec 32 := Scalar.muli arg0 c256_i32
  let v119 : BitVec 32 := v118
  let v129 : Index := Scalar.indexCast v119
  let c0_35 : Index := 0#32
  ![v129.toNat, 0]
def k0_cond2 (i : grid0.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S5376x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5376x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5376 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2560x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OprojReferenceIdeal.lean ====
abbrev S5376x2560 : Shape := ⟨2, ![5376, 2560]⟩
abbrev S5376x7168 : Shape := ⟨2, ![5376, 7168]⟩
abbrev S7168 : Shape := ⟨1, ![7168]⟩
abbrev S2560x7168 : Shape := ⟨2, ![2560, 7168]⟩
abbrev S254 : Shape := ⟨1, ![254]⟩
abbrev S_ : Shape := ⟨0, ![]⟩
abbrev S1x254 : Shape := ⟨2, ![1, 254]⟩
abbrev S1x7168 : Shape := ⟨2, ![1, 7168]⟩
abbrev S2560x5376 : Shape := ⟨2, ![2560, 5376]⟩
abbrev S1x2560 : Shape := ⟨2, ![1, 2560]⟩
abbrev S2560 : Shape := ⟨1, ![2560]⟩
abbrev S2560x1 : Shape := ⟨2, ![2560, 1]⟩
abbrev S2560x254 : Shape := ⟨2, ![2560, 254]⟩

abbrev nBuf : Space → Nat
  | .hbm => 17
  | .vmem => 8
  | .smem => 0
  | _ => 0

abbrev bufTy : (tb : Table) → Fin (tcTables nBuf tb) → BufTy
  | .hbm, ⟨0, _⟩ => ⟨S5376x2560, .bf16⟩
  | .hbm, ⟨1, _⟩ => ⟨S5376x7168, .fp8e4m3⟩
  | .hbm, ⟨2, _⟩ => ⟨S7168, .f32⟩
  | .hbm, ⟨3, _⟩ => ⟨S2560x7168, .bf16⟩
  | .hbm, ⟨4, _⟩ => ⟨S254, .i32⟩
  | .hbm, ⟨5, _⟩ => ⟨S_, .i32⟩
  | .hbm, ⟨6, _⟩ => ⟨S254, .i32⟩
  | .hbm, ⟨7, _⟩ => ⟨S254, .i32⟩
  | .hbm, ⟨8, _⟩ => ⟨S254, .f32⟩
  | .hbm, ⟨9, _⟩ => ⟨S_, .f32⟩
  | .hbm, ⟨10, _⟩ => ⟨S254, .f32⟩
  | .hbm, ⟨11, _⟩ => ⟨S254, .f32⟩
  | .hbm, ⟨12, _⟩ => ⟨S1x254, .f32⟩
  | .hbm, ⟨13, _⟩ => ⟨S1x7168, .f32⟩
  | .hbm, ⟨14, _⟩ => ⟨S2560x5376, .fp8e4m3⟩
  | .hbm, ⟨15, _⟩ => ⟨S1x2560, .f32⟩
  | .hbm, ⟨16, _⟩ => ⟨S2560x7168, .bf16⟩
  | .local _ .vmem, ⟨0, _⟩ => ⟨S1x254, .f32⟩
  | .local _ .vmem, ⟨1, _⟩ => ⟨S5376x2560, .bf16⟩
  | .local _ .vmem, ⟨2, _⟩ => ⟨S5376x7168, .fp8e4m3⟩
  | .local _ .vmem, ⟨3, _⟩ => ⟨S1x7168, .f32⟩
  | .local _ .vmem, ⟨4, _⟩ => ⟨S2560x7168, .bf16⟩
  | .local _ .vmem, ⟨5, _⟩ => ⟨S2560x5376, .fp8e4m3⟩
  | .local _ .vmem, ⟨6, _⟩ => ⟨S1x2560, .f32⟩
  | .local _ .vmem, ⟨7, _⟩ => ⟨S2560x7168, .bf16⟩
  | _, _ => ⟨S5376x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x254 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x5376 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Qkv.lean ====
abbrev S2560x7168 : Shape := ⟨2, ![2560, 7168]⟩
abbrev S2560 : Shape := ⟨1, ![2560]⟩
abbrev S7168x6912 : Shape := ⟨2, ![7168, 6912]⟩
abbrev S6912 : Shape := ⟨1, ![6912]⟩
abbrev S1 : Shape := ⟨1, ![1]⟩
abbrev S48 : Shape := ⟨1, ![48]⟩
abbrev S_ : Shape := ⟨0, ![]⟩
abbrev S48x1 : Shape := ⟨2, ![48, 1]⟩
abbrev S1x2560 : Shape := ⟨2, ![1, 2560]⟩
abbrev S48x2560 : Shape := ⟨2, ![48, 2560]⟩
abbrev S2560x1 : Shape := ⟨2, ![2560, 1]⟩
abbrev S2560x128 : Shape := ⟨2, ![2560, 128]⟩
abbrev S1x6912 : Shape := ⟨2, ![1, 6912]⟩
abbrev S5376x2560 : Shape := ⟨2, ![5376, 2560]⟩
abbrev S768x2560 : Shape := ⟨2, ![768, 2560]⟩
abbrev S7168x768 : Shape := ⟨2, ![7168, 768]⟩
abbrev S1x768 : Shape := ⟨2, ![1, 768]⟩
abbrev S512x7168 : Shape := ⟨2, ![512, 7168]⟩
abbrev S512x768 : Shape := ⟨2, ![512, 768]⟩
abbrev S512x128 : Shape := ⟨2, ![512, 128]⟩
abbrev S768x512 : Shape := ⟨2, ![768, 512]⟩
abbrev S48x512 : Shape := ⟨2, ![48, 512]⟩

abbrev nBuf : Space → Nat
  | .hbm => 32
  | .vmem => 12
  | .smem => 2
  | _ => 0

abbrev bufTy : (tb : Table) → Fin (tcTables nBuf tb) → BufTy
  | .hbm, ⟨0, _⟩ => ⟨S2560x7168, .fp8e4m3⟩
  | .hbm, ⟨1, _⟩ => ⟨S2560, .f32⟩
  | .hbm, ⟨2, _⟩ => ⟨S7168x6912, .fp8e4m3⟩
  | .hbm, ⟨3, _⟩ => ⟨S6912, .f32⟩
  | .hbm, ⟨4, _⟩ => ⟨S2560, .i32⟩
  | .hbm, ⟨5, _⟩ => ⟨S1, .f32⟩
  | .hbm, ⟨6, _⟩ => ⟨S1, .f32⟩
  | .hbm, ⟨7, _⟩ => ⟨S48, .f32⟩
  | .hbm, ⟨8, _⟩ => ⟨S_, .f32⟩
  | .hbm, ⟨9, _⟩ => ⟨S48, .f32⟩
  | .hbm, ⟨10, _⟩ => ⟨S48, .f32⟩
  | .hbm, ⟨11, _⟩ => ⟨S48, .f32⟩
  | .hbm, ⟨12, _⟩ => ⟨S_, .f32⟩
  | .hbm, ⟨13, _⟩ => ⟨S48, .f32⟩
  | .hbm, ⟨14, _⟩ => ⟨S48, .f32⟩
  | .hbm, ⟨15, _⟩ => ⟨S_, .f32⟩
  | .hbm, ⟨16, _⟩ => ⟨S48, .f32⟩
  | .hbm, ⟨17, _⟩ => ⟨S48, .f32⟩
  | .hbm, ⟨18, _⟩ => ⟨S48x1, .f32⟩
  | .hbm, ⟨19, _⟩ => ⟨S2560, .f32⟩
  | .hbm, ⟨20, _⟩ => ⟨S1x2560, .f32⟩
  | .hbm, ⟨21, _⟩ => ⟨S48x2560, .f32⟩
  | .hbm, ⟨22, _⟩ => ⟨S48x2560, .f32⟩
  | .hbm, ⟨23, _⟩ => ⟨S48x2560, .f32⟩
  | .hbm, ⟨24, _⟩ => ⟨S2560x1, .f32⟩
  | .hbm, ⟨25, _⟩ => ⟨S2560x128, .f32⟩
  | .hbm, ⟨26, _⟩ => ⟨S48x2560, .f32⟩
  | .hbm, ⟨27, _⟩ => ⟨S48x2560, .f32⟩
  | .hbm, ⟨28, _⟩ => ⟨S1x6912, .f32⟩
  | .hbm, ⟨29, _⟩ => ⟨S5376x2560, .bf16⟩
  | .hbm, ⟨30, _⟩ => ⟨S768x2560, .fp8e4m3⟩
  | .hbm, ⟨31, _⟩ => ⟨S768x2560, .fp8e4m3⟩
  | .local _ .vmem, ⟨0, _⟩ => ⟨S2560x7168, .fp8e4m3⟩
  | .local _ .vmem, ⟨1, _⟩ => ⟨S7168x768, .fp8e4m3⟩
  | .local _ .vmem, ⟨2, _⟩ => ⟨S7168x768, .fp8e4m3⟩
  | .local _ .vmem, ⟨3, _⟩ => ⟨S2560x128, .f32⟩
  | .local _ .vmem, ⟨4, _⟩ => ⟨S1x768, .f32⟩
  | .local _ .vmem, ⟨5, _⟩ => ⟨S1x768, .f32⟩
  | .local _ .vmem, ⟨6, _⟩ => ⟨S48x2560, .f32⟩
  | .local _ .vmem, ⟨7, _⟩ => ⟨S48x2560, .f32⟩
  | .local _ .vmem, ⟨8, _⟩ => ⟨S768x2560, .bf16⟩
  | .local _ .vmem, ⟨9, _⟩ => ⟨S768x2560, .bf16⟩
  | .local _ .vmem, ⟨10, _⟩ => ⟨S768x2560, .fp8e4m3⟩
  | .local _ .vmem, ⟨11, _⟩ => ⟨S768x2560, .fp8e4m3⟩
  | .local _ .smem, ⟨0, _⟩ => ⟨S1, .f32⟩
  | .local _ .smem, ⟨1, _⟩ => ⟨S1, .f32⟩
  | _, _ => ⟨S2560x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c7_i32_0 : BitVec 32 := 7#32
  let v3 : BitVec 1 := Scalar.cmpi .eq arg0 c7_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_3 : BitVec 32 := 0#32
  let c5_i32 : BitVec 32 := 5#32
  let v9 : BitVec 32 := Scalar.addi c0_i32_3 c5_i32
  let c1_i32 : BitVec 32 := 1#32
  ⟨c0_i32_3, v9, c1_i32⟩
def k0_mult1 (k0_t1 : Fin k0_t1_loop.trips) : BitVec 32 :=
  let c0_i32_5 : BitVec 32 := 0#32
  let c0_i32_3 : BitVec 32 := 0#32
  let c1_i32 : BitVec 32 := 1#32
  let arg12 : BitVec 32 := Scf.iv c0_i32_3 c1_i32 k0_t1
  let c512_i32 : BitVec 32 := 512#32
  let v10 : BitVec 32 := Scalar.muli arg12 c512_i32
  let v11 : BitVec 32 := Scalar.addi c0_i32_5 v10
  v11
def k0_off1 (k0_t1 : Fin k0_t1_loop.trips) : Fin 2 → Nat :=
  let c0_i32_5 : BitVec 32 := 0#32
  let c0_i32_3 : BitVec 32 := 0#32
  let c1_i32 : BitVec 32 := 1#32
  let arg12 : BitVec 32 := Scf.iv c0_i32_3 c1_i32 k0_t1
  let c512_i32 : BitVec 32 := 512#32
  let v10 : BitVec 32 := Scalar.muli arg12 c512_i32
  let v11 : BitVec 32 := Scalar.addi c0_i32_5 v10
  let v12 : BitVec 32 := v11
  let v13 : Index := Scalar.indexCast v12
  let c0 : Index := 0#32
  ![v13.toNat, 0]
def k0_off2 (k0_t1 : Fin k0_t1_loop.trips) : Fin 2 → Nat :=
  let c0_i32_5 : BitVec 32 := 0#32
  let c0_i32_3 : BitVec 32 := 0#32
  let c1_i32 : BitVec 32 := 1#32
  let arg12 : BitVec 32 := Scf.iv c0_i32_3 c1_i32 k0_t1
  let c512_i32 : BitVec 32 := 512#32
  let v10 : BitVec 32 := Scalar.muli arg12 c512_i32
  let v11 : BitVec 32 := Scalar.addi c0_i32_5 v10
  let v12 : BitVec 32 := v11
  let v17 : Index := Scalar.indexCast v12
  let c0_8 : Index := 0#32
  ![v17.toNat, 0]
def k0_off3 (k0_t1 : Fin k0_t1_loop.trips) : Fin 2 → Nat :=
  let c0_11 : Index := 0#32
  let c0_i32_5 : BitVec 32 := 0#32
  let c0_i32_3 : BitVec 32 := 0#32
  let c1_i32 : BitVec 32 := 1#32
  let arg12 : BitVec 32 := Scf.iv c0_i32_3 c1_i32 k0_t1
  let c512_i32 : BitVec 32 := 512#32
  let v10 : BitVec 32 := Scalar.muli arg12 c512_i32
  let v11 : BitVec 32 := Scalar.addi c0_i32_5 v10
  let v12 : BitVec 32 := v11
  let v27 : Index := Scalar.indexCast v12
  ![0, v27.toNat]
def k0_off4 (k0_t1 : Fin k0_t1_loop.trips) : Fin 2 → Nat :=
  let c0_24 : Index := 0#32
  let c0_i32_5 : BitVec 32 := 0#32
  let c0_i32_3 : BitVec 32 := 0#32
  let c1_i32 : BitVec 32 := 1#32
  let arg12 : BitVec 32 := Scf.iv c0_i32_3 c1_i32 k0_t1
  let c512_i32 : BitVec 32 := 512#32
  let v10 : BitVec 32 := Scalar.muli arg12 c512_i32
  let v11 : BitVec 32 := Scalar.addi c0_i32_5 v10
  let v12 : BitVec 32 := v11
  let v122 : Index := Scalar.indexCast v12
  ![0, v122.toNat]
def k0_cond3 (i : grid0.Coords) : BitVec 1 :=
  let arg0 : BitVec 32 := BitVec.ofNat 32 (i 0).val
  let c8_i32 : BitVec 32 := 8#32
  let v6 : BitVec 1 := Scalar.cmpi .eq arg0 c8_i32
  let v7 : BitVec 32 := Scalar.extui v6
  let c0_i32_2 : BitVec 32 := 0#32
  let v8 : BitVec 1 := Scalar.cmpi .ne v7 c0_i32_2
  v8

@[reducible] def k0_t2_loop : Scf.Loop 32 :=
  let c0_i32_3 : BitVec 32 := 0#32
  let c5_i32 : BitVec 32 := 5#32
  let v9 : BitVec 32 := Scalar.addi c0_i32_3 c5_i32
  let c1_i32 : BitVec 32 := 1#32
  ⟨c0_i32_3, v9, c1_i32⟩
def k0_mult2 (k0_t2 : Fin k0_t2_loop.trips) : BitVec 32 :=
  let c0_i32_5 : BitVec 32 := 0#32
  let c0_i32_3 : BitVec 32 := 0#32
  let c1_i32 : BitVec 32 := 1#32
  let arg12 : BitVec 32 := Scf.iv c0_i32_3 c1_i32 k0_t2
  let c512_i32 : BitVec 32 := 512#32
  let v10 : BitVec 32 := Scalar.muli arg12 c512_i32
  let v11 : BitVec 32 := Scalar.addi c0_i32_5 v10
  v11
def k0_off5 (k0_t2 : Fin k0_t2_loop.trips) : Fin 2 → Nat :=
  let c0_i32_5 : BitVec 32 := 0#32
  let c0_i32_3 : BitVec 32 := 0#32
  let c1_i32 : BitVec 32 := 1#32
  let arg12 : BitVec 32 := Scf.iv c0_i32_3 c1_i32 k0_t2
  let c512_i32 : BitVec 32 := 512#32
  let v10 : BitVec 32 := Scalar.muli arg12 c512_i32
  let v11 : BitVec 32 := Scalar.addi c0_i32_5 v10
  let v12 : BitVec 32 := v11
  let v13 : Index := Scalar.indexCast v12
  let c0 : Index := 0#32
  ![v13.toNat, 0]
def k0_off6 (k0_t2 : Fin k0_t2_loop.trips) : Fin 2 → Nat :=
  let c0_i32_5 : BitVec 32 := 0#32
  let c0_i32_3 : BitVec 32 := 0#32
  let c1_i32 : BitVec 32 := 1#32
  let arg12 : BitVec 32 := Scf.iv c0_i32_3 c1_i32 k0_t2
  let c512_i32 : BitVec 32 := 512#32
  let v10 : BitVec 32 := Scalar.muli arg12 c512_i32
  let v11 : BitVec 32 := Scalar.addi c0_i32_5 v10
  let v12 : BitVec 32 := v11
  let v17 : Index := Scalar.indexCast v12
  let c0_8 : Index := 0#32
  ![v17.toNat, 0]
def k0_off7 (k0_t2 : Fin k0_t2_loop.trips) : Fin 2 → Nat :=
  let c0_14 : Index := 0#32
  let c0_i32_5 : BitVec 32 := 0#32
  let c0_i32_3 : BitVec 32 := 0#32
  let c1_i32 : BitVec 32 := 1#32
  let arg12 : BitVec 32 := Scf.iv c0_i32_3 c1_i32 k0_t2
  let c512_i32 : BitVec 32 := 512#32
  let v10 : BitVec 32 := Scalar.muli arg12 c512_i32
  let v11 : BitVec 32 := Scalar.addi c0_i32_5 v10
  let v12 : BitVec 32 := v11
  let v35 : Index := Scalar.indexCast v12
  ![0, v35.toNat]
def k0_cond1 (i : grid0.Coords) : BitVec 1 :=
  let arg0 : BitVec 32 := BitVec.ofNat 32 (i 0).val
  let c7_i32 : BitVec 32 := 7#32
  let v0 : BitVec 1 := Scalar.cmpi .slt arg0 c7_i32
  let v1 : BitVec 32 := Scalar.extui v0
  let c0_i32 : BitVec 32 := 0#32
  let v2 : BitVec 1 := Scalar.cmpi .ne v1 c0_i32
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S48x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S768x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x2560 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== QkvReferenceIdeal.lean ====
abbrev S2560x7168 : Shape := ⟨2, ![2560, 7168]⟩
abbrev S2560 : Shape := ⟨1, ![2560]⟩
abbrev S7168x6912 : Shape := ⟨2, ![7168, 6912]⟩
abbrev S6912 : Shape := ⟨1, ![6912]⟩
abbrev S1 : Shape := ⟨1, ![1]⟩
abbrev S48 : Shape := ⟨1, ![48]⟩
abbrev S_ : Shape := ⟨0, ![]⟩
abbrev S2560x1 : Shape := ⟨2, ![2560, 1]⟩
abbrev S1x48 : Shape := ⟨2, ![1, 48]⟩
abbrev S2560x48 : Shape := ⟨2, ![2560, 48]⟩
abbrev S1x6912 : Shape := ⟨2, ![1, 6912]⟩
abbrev S5376x2560 : Shape := ⟨2, ![5376, 2560]⟩
abbrev S768x2560 : Shape := ⟨2, ![768, 2560]⟩
abbrev S2560x6912 : Shape := ⟨2, ![2560, 6912]⟩
abbrev S2560x5376 : Shape := ⟨2, ![2560, 5376]⟩
abbrev S2560x56x96 : Shape := ⟨3, ![2560, 56, 96]⟩
abbrev S2560x768 : Shape := ⟨2, ![2560, 768]⟩
abbrev S2560x8x96 : Shape := ⟨3, ![2560, 8, 96]⟩
abbrev S2560x96 : Shape := ⟨2, ![2560, 96]⟩
abbrev S2560x1x96 : Shape := ⟨3, ![2560, 1, 96]⟩
abbrev S2560x56x48 : Shape := ⟨3, ![2560, 56, 48]⟩
abbrev S2560x8x48 : Shape := ⟨3, ![2560, 8, 48]⟩

abbrev nBuf : Space → Nat
  | .hbm => 31
  | .vmem => 9
  | .smem => 2
  | _ => 0

abbrev bufTy : (tb : Table) → Fin (tcTables nBuf tb) → BufTy
  | .hbm, ⟨0, _⟩ => ⟨S2560x7168, .fp8e4m3⟩
  | .hbm, ⟨1, _⟩ => ⟨S2560, .f32⟩
  | .hbm, ⟨2, _⟩ => ⟨S7168x6912, .fp8e4m3⟩
  | .hbm, ⟨3, _⟩ => ⟨S6912, .f32⟩
  | .hbm, ⟨4, _⟩ => ⟨S2560, .i32⟩
  | .hbm, ⟨5, _⟩ => ⟨S1, .f32⟩
  | .hbm, ⟨6, _⟩ => ⟨S1, .f32⟩
  | .hbm, ⟨7, _⟩ => ⟨S48, .f32⟩
  | .hbm, ⟨8, _⟩ => ⟨S_, .f32⟩
  | .hbm, ⟨9, _⟩ => ⟨S48, .f32⟩
  | .hbm, ⟨10, _⟩ => ⟨S48, .f32⟩
  | .hbm, ⟨11, _⟩ => ⟨S48, .f32⟩
  | .hbm, ⟨12, _⟩ => ⟨S_, .f32⟩
  | .hbm, ⟨13, _⟩ => ⟨S48, .f32⟩
  | .hbm, ⟨14, _⟩ => ⟨S48, .f32⟩
  | .hbm, ⟨15, _⟩ => ⟨S_, .f32⟩
  | .hbm, ⟨16, _⟩ => ⟨S48, .f32⟩
  | .hbm, ⟨17, _⟩ => ⟨S48, .f32⟩
  | .hbm, ⟨18, _⟩ => ⟨S2560, .f32⟩
  | .hbm, ⟨19, _⟩ => ⟨S2560x1, .f32⟩
  | .hbm, ⟨20, _⟩ => ⟨S1x48, .f32⟩
  | .hbm, ⟨21, _⟩ => ⟨S2560x48, .f32⟩
  | .hbm, ⟨22, _⟩ => ⟨S2560x48, .f32⟩
  | .hbm, ⟨23, _⟩ => ⟨S2560x48, .f32⟩
  | .hbm, ⟨24, _⟩ => ⟨S2560x1, .f32⟩
  | .hbm, ⟨25, _⟩ => ⟨S1x6912, .f32⟩
  | .hbm, ⟨26, _⟩ => ⟨S2560x48, .f32⟩
  | .hbm, ⟨27, _⟩ => ⟨S2560x48, .f32⟩
  | .hbm, ⟨28, _⟩ => ⟨S5376x2560, .bf16⟩
  | .hbm, ⟨29, _⟩ => ⟨S768x2560, .fp8e4m3⟩
  | .hbm, ⟨30, _⟩ => ⟨S768x2560, .fp8e4m3⟩
  | .local _ .vmem, ⟨0, _⟩ => ⟨S2560x7168, .fp8e4m3⟩
  | .local _ .vmem, ⟨1, _⟩ => ⟨S2560x1, .f32⟩
  | .local _ .vmem, ⟨2, _⟩ => ⟨S7168x6912, .fp8e4m3⟩
  | .local _ .vmem, ⟨3, _⟩ => ⟨S1x6912, .f32⟩
  | .local _ .vmem, ⟨4, _⟩ => ⟨S2560x48, .f32⟩
  | .local _ .vmem, ⟨5, _⟩ => ⟨S2560x48, .f32⟩
  | .local _ .vmem, ⟨6, _⟩ => ⟨S5376x2560, .bf16⟩
  | .local _ .vmem, ⟨7, _⟩ => ⟨S768x2560, .fp8e4m3⟩
  | .local _ .vmem, ⟨8, _⟩ => ⟨S768x2560, .fp8e4m3⟩
  | .local _ .smem, ⟨0, _⟩ => ⟨S1, .f32⟩
  | .local _ .smem, ⟨1, _⟩ => ⟨S1, .f32⟩
  | _, _ => ⟨S2560x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5376x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x2560 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.GateUpSpec.lean ====
/- GATE/UP, what both programs compute, as plain functions of numbers: the gated product of a row and a column, and
   the largest magnitude per row and lane. -/
module

public import Idealize.ShloMosaic.Lib.Pointwise

@[expose] public section

noncomputable section

namespace Cert.Proof.GateUp

open Idealize.ShloMosaic

/-- One entry of the gated product: the gate row-by-column product times its two scales, through silu, times the
    up product times its two scales. `h` is a row of the activations, `wg` and `wu` columns of the two weights. -/
def act (h wg wu : Fin 7168 → EReal) (sh sg su : EReal) : EReal :=
  ((∑ k, h k * wg k) * sh * sg) * Ideal.logistic ((∑ k, h k * wg k) * sh * sg) * ((∑ k, h k * wu k) * sh * su)

/-- The magnitude of a number. -/
def mag (x : EReal) : EReal := max x (-x)

/-- The four lane tiles of a row of magnitudes, merged into a running maximum. -/
def merge4 (o : EReal) (f : Fin 512 → EReal) (l : Fin 128) : EReal :=
  max (max (max (max o (f ⟨l.val, by omega⟩)) (f ⟨128 + l.val, by omega⟩)) (f ⟨256 + l.val, by omega⟩))
    (f ⟨384 + l.val, by omega⟩)

/-- The gated product of the whole arrays. -/
def actArr (H : (⟨2, ![2560, 7168]⟩ : Shape).Idx → EReal) (sh : (⟨1, ![2560]⟩ : Shape).Idx → EReal) (Wg : (⟨2, ![7168, 18432]⟩ : Shape).Idx → EReal) (sg : (⟨1, ![18432]⟩ : Shape).Idx → EReal)
    (Wu : (⟨2, ![7168, 18432]⟩ : Shape).Idx → EReal) (su : (⟨1, ![18432]⟩ : Shape).Idx → EReal) (i : Fin 2560) (j : Fin 18432) : EReal :=
  act (fun k => H (ix2 i k)) (fun k => Wg (ix2 k j)) (fun k => Wu (ix2 k j)) (sh (ix1 i)) (sg (ix1 j)) (su (ix1 j))

/-- The magnitude in tile `q` of row `i`, lane `l`. -/
def tileMag (A : Fin 2560 → Fin 18432 → EReal) (i : Fin 2560) (l : Fin 128) (q : ℕ) : EReal :=
  if h : q * 128 + l.val < 18432 then mag (A i ⟨q * 128 + l.val, h⟩) else 0

/-- The largest magnitude, from zero, among the first `n` tiles of row `i`, lane `l`. -/
def runMax (A : Fin 2560 → Fin 18432 → EReal) (i : Fin 2560) (l : Fin 128) (n : ℕ) : EReal :=
  max 0 ((Finset.range n).sup (tileMag A i l))

theorem runMax_zero (A : Fin 2560 → Fin 18432 → EReal) (i : Fin 2560) (l : Fin 128) : runMax A i l 0 = 0 := by
  simp [runMax]

theorem runMax_succ (A : Fin 2560 → Fin 18432 → EReal) (i : Fin 2560) (l : Fin 128) (n : ℕ) :
    runMax A i l (n + 1) = max (runMax A i l n) (tileMag A i l n) := by
  unfold runMax
  rw [Finset.range_add_one, Finset.sup_insert, max_assoc]
  congr 1
  exact max_comm _ _

/-- Merging the four tiles of a point. -/
theorem merge4_runMax (A : Fin 2560 → Fin 18432 → EReal) (i : Fin 2560) (l : Fin 128) (t : ℕ) (ht : t < 36)
    (f : Fin 512 → EReal) (hf : ∀ c : Fin 512, f c = mag (A i ⟨t * 512 + c.val, by omega⟩)) :
    merge4 (runMax A i l (4 * t)) f l = runMax A i l (4 * (t + 1)) := by
  rw [show 4 * (t + 1) = 4 * t + 1 + 1 + 1 + 1 from by ring]
  simp only [runMax_succ]
  unfold merge4
  have key : ∀ (b : ℕ) (hb : b < 4) (h : 128 * b + l.val < 512), f ⟨128 * b + l.val, h⟩ = tileMag A i l (4 * t + b) := fun b hb h => by
    rw [hf, tileMag, dif_pos (show (4 * t + b) * 128 + l.val < 18432 by omega)]
    congr 2
    apply Fin.ext
    show t * 512 + (128 * b + l.val) = (4 * t + b) * 128 + l.val
    ring
  have k0 := key 0 (by omega) (by omega)
  have k1 := key 1 (by omega) (by omega)
  have k2 := key 2 (by omega) (by omega)
  have k3 := key 3 (by omega) (by omega)
  simp only [Nat.mul_zero, Nat.zero_add, Nat.mul_one, Nat.reduceMul, Nat.add_zero] at k0 k1 k2 k3
  rw [k0, k1, k2, k3]

/-- Nothing is lost by starting from zero, a magnitude never being negative. -/
theorem mag_nonneg (x : EReal) : 0 ≤ mag x := by
  unfold mag
  rcases le_total 0 x with h | h
  · exact le_max_of_le_left h
  · exact le_max_of_le_right (EReal.neg_nonneg.mpr h)

/-- The largest of finitely many numbers none of which is negative, over `Fin n` or over `range n`, started from zero. -/
theorem sup_range_eq {n : Nat} (g : Fin n → EReal) (f : Nat → EReal) (hn : 0 < n) (hg : ∀ q, 0 ≤ g q)
    (hf : ∀ q : Fin n, f q.val = g q) : Finset.univ.sup g = max 0 ((Finset.range n).sup f) := by
  apply le_antisymm
  · refine Finset.sup_le fun q hq => le_max_of_le_right ?_
    rw [← hf q]
    exact Finset.le_sup (f := f) (Finset.mem_range.mpr q.isLt)
  · refine max_le ((hg ⟨0, hn⟩).trans (Finset.le_sup (f := g) (Finset.mem_univ _))) (Finset.sup_le fun q hq => ?_)
    rw [show f q = g ⟨q, Finset.mem_range.mp hq⟩ from hf ⟨q, Finset.mem_range.mp hq⟩]
    exact Finset.le_sup (f := g) (Finset.mem_univ _)

/-- The running maximum after all 144 tiles is the largest of the 144 magnitudes. -/
theorem runMax_all (A : Fin 2560 → Fin 18432 → EReal) (i : Fin 2560) (l : Fin 128) :
    (Finset.univ : Finset (Fin 144)).fold max ⊥ (fun q => mag (A i ⟨q.val * 128 + l.val, by omega⟩)) = runMax A i l 144 := by
  refine sup_range_eq (n := 144) _ (tileMag A i l) (by omega) (fun q => mag_nonneg _) fun q => ?_
  unfold tileMag
  exact dif_pos (by omega)

end Cert.Proof.GateUp
-- ==== Proof.GateUpPay.lean ====
/- GATE/UP, the kernel's arithmetic read at one entry: what each stored value is, as a number, in terms of the
   entries of the blocks it is computed from. -/
module

public import proofs.«01_k».proof.Proof.Gen.GateUpIdeal.Skeleton
public import proofs.«01_k».proof.Proof.GateUpSpec
public import Idealize.ShloMosaic.Lib.Pointwise

@[expose] public section

noncomputable section

namespace Cert.Proof.GateUp

open Idealize.ShloMosaic

open Cert.GateUpIdeal Cert.GateUpIdeal.Gen

/-- A stored entry of the gated product, where the row's scale is the same number `σ` in every lane. -/
theorem pay2_apply (a : Vec Ideal S512x7168 .fp8e4m3) (s : Vec Ideal S512x128 .f32) (wg : Vec Ideal S7168x512 .fp8e4m3)
    (sg : Vec Ideal S1x512 .f32) (wu : Vec Ideal S7168x512 .fp8e4m3) (su : Vec Ideal S1x512 .f32)
    (r : Fin 512) (σ : EReal) (hs : ∀ l, s (ix2 r l) = σ) (l : Fin 512) :
    k0_pay2 (F := Ideal) a s wg sg wu su (ix2 r l)
      = act (fun k => a (ix2 r k)) (fun k => wg (ix2 k l)) (fun k => wu (ix2 k l)) σ (sg (ix2 0 l)) (su (ix2 0 l)) := by
  pointwise [k0_pay2, act]
  simp only [hs, dite_eq_ite, ite_self]

theorem pay7_eq : k0_pay7 (F := Ideal) = k0_pay2 := rfl
theorem pay9_eq : k0_pay9 (F := Ideal) = k0_pay2 := rfl
theorem pay11_eq : k0_pay11 (F := Ideal) = k0_pay2 := rfl
theorem pay13_eq : k0_pay13 (F := Ideal) = k0_pay2 := rfl

theorem pay8_apply (a : Vec Ideal S512x7168 .fp8e4m3) (s : Vec Ideal S512x128 .f32) (wg : Vec Ideal S7168x512 .fp8e4m3)
    (sg : Vec Ideal S1x512 .f32) (wu : Vec Ideal S7168x512 .fp8e4m3) (su : Vec Ideal S1x512 .f32)
    (o : Vec Ideal S512x128 .f32) (r : Fin 512) (l : Fin 128) :
    k0_pay8 (F := Ideal) a s wg sg wu su o (ix2 r l)
      = merge4 (o (ix2 r l)) (fun c => mag (k0_pay7 (F := Ideal) a s wg sg wu su (ix2 r c))) l := by
  unfold k0_pay8
  generalize k0_pay7 (F := Ideal) a s wg sg wu su = Y
  pointwise [merge4, mag, Ideal.absf_def]

theorem pay10_eq : k0_pay10 (F := Ideal) = k0_pay8 := rfl
theorem pay12_eq : k0_pay12 (F := Ideal) = k0_pay8 := rfl
theorem pay14_eq : k0_pay14 (F := Ideal) = k0_pay8 := rfl
theorem pay6_eq (a : Vec Ideal S512x7168 .fp8e4m3) (s : Vec Ideal S512x128 .f32) (wg : Vec Ideal S7168x512 .fp8e4m3)
    (sg : Vec Ideal S1x512 .f32) (wu : Vec Ideal S7168x512 .fp8e4m3) (su : Vec Ideal S1x512 .f32)
    (o : Vec Ideal S512x128 .f32) :
    k0_pay6 (F := Ideal) (k0_pay4 a s wg sg wu su o) (k0_pay5 a s wg sg wu su) = k0_pay8 a s wg sg wu su o := rfl

/-- The running maximum starts at zero. -/
theorem pay1_apply (x : S2560x128.Idx) : k0_pay1 (F := Ideal) x = 0 := by
  pointwise [k0_pay1]

end Cert.Proof.GateUp
-- ==== Proof.GateUpOut.lean ====
/- GATE/UP, one grid point of the kernel: what its body leaves in the two output blocks, entry by entry. -/
module

public import proofs.«01_k».proof.Proof.Gen.GateUpIdeal.Value
public import proofs.«01_k».proof.Proof.GateUpPay
public import Idealize.ShloMosaic.Lib.Pipeline.Value
public import Idealize.ShloMosaic.Lib.Pipeline.ReadBack
public import Idealize.ShloMosaic.Lib.Tactic

@[expose] public section

noncomputable section

namespace Cert.Proof.GateUp

open Idealize.ShloMosaic Idealize.ShloMosaic.TcCoe Idealize.SL.Sem
open Cert.GateUpIdeal Cert.GateUpIdeal.Gen

theorem hz : (![0, 0] : Fin 2 → Nat) = fun _ => 0 := funext fun a => by fin_cases a <;> rfl
theorem hz0 : ∀ a : Fin 2, (![0, 0] : Fin 2 → Nat) a = 0 := fun a => by fin_cases a <;> rfl

theorem pay1_eq : k0_pay1 (F := Ideal) = fun _ => 0 := funext pay1_apply

/-- The gated product of the blocks of one grid point: all 2560 rows, the point's 512 columns. -/
def actG (x0 : Vec Ideal S2560x7168 .fp8e4m3) (x1 x2 : Vec Ideal S7168x512 .fp8e4m3) (x4 x5 : Vec Ideal S1x512 .f32)
    (σ : Fin 2560 → EReal) : Vec Ideal S2560x512 .bf16 := fun y =>
  act (fun k => x0 (ix2 (y 0) k)) (fun k => x1 (ix2 k (y 1))) (fun k => x2 (ix2 k (y 1))) (σ (y 0)) (x4 (ix2 0 (y 1)))
    (x5 (ix2 0 (y 1)))

/-- The running row maxima, per lane, with this point's four lane tiles merged in. -/
def amaxG (x0 : Vec Ideal S2560x7168 .fp8e4m3) (x1 x2 : Vec Ideal S7168x512 .fp8e4m3) (x4 x5 : Vec Ideal S1x512 .f32)
    (σ : Fin 2560 → EReal) (o : Vec Ideal S2560x128 .f32) : Vec Ideal S2560x128 .f32 := fun y =>
  merge4 (o y) (fun c => mag (actG x0 x1 x2 x4 x5 σ (ix2 (y 0) c))) (y 1)

/-- Rows `o … o + 511` of the activation block. -/
theorem chunk6 (x0 : Vec Ideal S2560x7168 .fp8e4m3) (x1 x2 : Vec Ideal S7168x512 .fp8e4m3) (x3 : Vec Ideal S2560x128 .f32)
    (x4 x5 : Vec Ideal S1x512 .f32) (σ : Fin 2560 → EReal) (hσ : ∀ r l, x3 (ix2 r l) = σ r) (o : Nat) (ho : o + 512 ≤ 2560)
    (i0 : ∀ a, (![o, 0] : Fin 2 → Nat) a + (![512, 7168] : Fin 2 → Nat) a ≤ S2560x7168.size a)
    (i3 : ∀ a, (![o, 0] : Fin 2 → Nat) a + (![512, 128] : Fin 2 → Nat) a ≤ S2560x128.size a)
    (i6 : ∀ a, (![o, 0] : Fin 2 → Nat) a + (![512, 512] : Fin 2 → Nat) a ≤ S2560x512.size a)
    (x : S512x512.Idx) :
    k0_pay2 (F := Ideal) (View.ld x0 (Rect.unit ![o, 0] ![512, 7168] i0)) (View.ld x3 (Rect.unit ![o, 0] ![512, 128] i3)) x1 x4 x2 x5 x
      = actG x0 x1 x2 x4 x5 σ ((Rect.unit (s := S2560x512) ![o, 0] ![512, 512] i6).emb x) := by
  obtain ⟨r, l, rfl⟩ : ∃ (r : Fin 512) (l : Fin 512), x = ix2 r l := ⟨x 0, x 1, eq_ix2 x⟩
  have he : (Rect.unit (s := S2560x512) ![o, 0] ![512, 512] i6).emb (ix2 r l) = ix2 ⟨o + r.val, by omega⟩ l := by
    funext a; apply Fin.ext
    match a with
    | ⟨0, _⟩ => show o + 1 * r.val = o + r.val; omega
    | ⟨1, _⟩ => show 0 + 1 * l.val = l.val; omega
  rw [he]
  rw [pay2_apply _ _ _ _ _ _ _ (σ ⟨o + r.val, by omega⟩) (fun l' => ?_)]
  · unfold actG
    congr 1
    funext k
    pointwise
  · rw [← hσ ⟨o + r.val, by omega⟩ l']
    pointwise

/-- Rows `o … o + 511` of the running maxima. -/
theorem chunk7 (x0 : Vec Ideal S2560x7168 .fp8e4m3) (x1 x2 : Vec Ideal S7168x512 .fp8e4m3) (x3 : Vec Ideal S2560x128 .f32)
    (x4 x5 : Vec Ideal S1x512 .f32) (σ : Fin 2560 → EReal) (hσ : ∀ r l, x3 (ix2 r l) = σ r) (old : Vec Ideal S2560x128 .f32)
    (o : Nat) (ho : o + 512 ≤ 2560)
    (i0 : ∀ a, (![o, 0] : Fin 2 → Nat) a + (![512, 7168] : Fin 2 → Nat) a ≤ S2560x7168.size a)
    (i3 : ∀ a, (![o, 0] : Fin 2 → Nat) a + (![512, 128] : Fin 2 → Nat) a ≤ S2560x128.size a)
    (x : S512x128.Idx) :
    k0_pay8 (F := Ideal) (View.ld x0 (Rect.unit ![o, 0] ![512, 7168] i0)) (View.ld x3 (Rect.unit ![o, 0] ![512, 128] i3)) x1 x4 x2 x5
        (View.ld old (Rect.unit ![o, 0] ![512, 128] i3)) x
      = amaxG x0 x1 x2 x4 x5 σ old ((Rect.unit (s := S2560x128) ![o, 0] ![512, 128] i3).emb x) := by
  obtain ⟨r, l, rfl⟩ : ∃ (r : Fin 512) (l : Fin 128), x = ix2 r l := ⟨x 0, x 1, eq_ix2 x⟩
  have he : (Rect.unit (s := S2560x128) ![o, 0] ![512, 128] i3).emb (ix2 r l) = ix2 ⟨o + r.val, by omega⟩ l := by
    funext a; apply Fin.ext
    match a with
    | ⟨0, _⟩ => show o + 1 * r.val = o + r.val; omega
    | ⟨1, _⟩ => show 0 + 1 * l.val = l.val; omega
  rw [he]
  rw [pay8_apply, pay7_eq]
  show merge4 (View.ld old (Rect.unit ![o, 0] ![512, 128] i3) (ix2 r l)) _ l = merge4 (old (ix2 ⟨o + r.val, by omega⟩ l)) _ l
  rw [show View.ld old (Rect.unit ![o, 0] ![512, 128] i3) (ix2 r l) = old (ix2 ⟨o + r.val, by omega⟩ l) from congrArg old he]
  refine congrArg (fun f => merge4 _ f l) (funext fun c => ?_)
  · show mag _ = mag (actG x0 x1 x2 x4 x5 σ (ix2 ⟨o + r.val, by omega⟩ c))
    have i6 : ∀ a, (![o, 0] : Fin 2 → Nat) a + (![512, 512] : Fin 2 → Nat) a ≤ S2560x512.size a := fun a => by
      match a with
      | ⟨0, _⟩ => exact ho
      | ⟨1, _⟩ => exact Nat.le_refl 512
    rw [chunk6 x0 x1 x2 x3 x4 x5 σ hσ o ho i0 i3 i6]
    refine congrArg (fun j => mag (actG x0 x1 x2 x4 x5 σ j)) ?_
    funext a; apply Fin.ext
    match a with
    | ⟨0, _⟩ => show o + 1 * r.val = o + r.val; omega
    | ⟨1, _⟩ => show 0 + 1 * c.val = c.val; omega

/-- At the first point the activation block holds the gated product. -/
theorem outA6 (c : Dev nD) (i : grid0.Coords) (arg1 : Memref sig .tc .vmem S2560x7168 .fp8e4m3) (harg1 : arg1.IsWhole) (arg2 : Memref sig .tc .vmem S7168x512 .fp8e4m3) (harg2 : arg2.IsWhole) (arg3 : Memref sig .tc .vmem S7168x512 .fp8e4m3) (harg3 : arg3.IsWhole) (arg4 : Memref sig .tc .vmem S2560x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole)
    (hc0 : cond0_0 i) (x0 : Vec Ideal S2560x7168 .fp8e4m3) (x1 : Vec Ideal S7168x512 .fp8e4m3) (x2 : Vec Ideal S7168x512 .fp8e4m3) (x3 : Vec Ideal S2560x128 .f32) (x4 : Vec Ideal S1x512 .f32) (x5 : Vec Ideal S1x512 .f32)
    (σ : Fin 2560 → EReal) (hσ : ∀ r l, x3 (ix2 r l) = σ r) :
    out0_A_6 (F := Ideal) c i arg1 harg1 arg2 harg2 arg3 harg3 arg4 harg4 arg5 harg5 arg6 harg6 arg7 harg7 arg8 harg8 hc0 x0 x1 x2 x3 x4 x5 = actG x0 x1 x2 x4 x5 σ := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  simp only [View.readAt_eq_ld, harg1.read_unread, harg2.read_unread, harg3.read_unread, harg4.read_unread,
    harg5.read_unread, harg6.read_unread, View.ld_unit_zero (S := S7168x512) hz, View.ld_unit_zero (S := S1x512) hz]
  funext y
  refine View.canon_apply_of_pieces _ _ (View.PiecesOf.mem (G := actG x0 x1 x2 x4 x5 σ) ?_) y ?_
  · exact ⟨chunk6 x0 x1 x2 x3 x4 x5 σ hσ 2048 (by decide) _ _ inb_S2560x512_S512x512_2048_0, chunk6 x0 x1 x2 x3 x4 x5 σ hσ 1536 (by decide) _ _ inb_S2560x512_S512x512_1536_0, chunk6 x0 x1 x2 x3 x4 x5 σ hσ 1024 (by decide) _ _ inb_S2560x512_S512x512_1024_0, chunk6 x0 x1 x2 x3 x4 x5 σ hσ 512 (by decide) _ _ inb_S2560x512_S512x512_512_0, chunk6 x0 x1 x2 x3 x4 x5 σ hσ 0 (by decide) _ _ inb_S2560x512_S512x512_0_0, trivial⟩
  · exact View.cover_of_tiledL (s := S2560x512) _ ![512, 512] (by rfl) y

/-- At a later point likewise. -/
theorem outB6 (c : Dev nD) (i : grid0.Coords) (arg1 : Memref sig .tc .vmem S2560x7168 .fp8e4m3) (harg1 : arg1.IsWhole) (arg2 : Memref sig .tc .vmem S7168x512 .fp8e4m3) (harg2 : arg2.IsWhole) (arg3 : Memref sig .tc .vmem S7168x512 .fp8e4m3) (harg3 : arg3.IsWhole) (arg4 : Memref sig .tc .vmem S2560x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole)
    (hc0 : ¬cond0_0 i) (x0 : Vec Ideal S2560x7168 .fp8e4m3) (x1 : Vec Ideal S7168x512 .fp8e4m3) (x2 : Vec Ideal S7168x512 .fp8e4m3) (x3 : Vec Ideal S2560x128 .f32) (x4 : Vec Ideal S1x512 .f32) (x5 : Vec Ideal S1x512 .f32) (xo7 : Vec Ideal S2560x128 .f32)
    (σ : Fin 2560 → EReal) (hσ : ∀ r l, x3 (ix2 r l) = σ r) :
    out0_B_6 (F := Ideal) c i arg1 harg1 arg2 harg2 arg3 harg3 arg4 harg4 arg5 harg5 arg6 harg6 arg7 harg7 arg8 harg8 hc0 x0 x1 x2 x3 x4 x5 xo7 = actG x0 x1 x2 x4 x5 σ := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xo7)]
  unfold kernelRun0_B
  dsimp only
  sl_unfold_words
  simp only [View.readAt_eq_ld, harg1.read_unread, harg2.read_unread, harg3.read_unread, harg4.read_unread,
    harg5.read_unread, harg6.read_unread, harg8.read_unread, View.ld_unit_zero (S := S7168x512) hz, View.ld_unit_zero (S := S1x512) hz]
  funext y
  refine View.canon_apply_of_pieces _ _ (View.PiecesOf.mem (G := actG x0 x1 x2 x4 x5 σ) ?_) y ?_
  · exact ⟨chunk6 x0 x1 x2 x3 x4 x5 σ hσ 2048 (by decide) _ _ inb_S2560x512_S512x512_2048_0, chunk6 x0 x1 x2 x3 x4 x5 σ hσ 1536 (by decide) _ _ inb_S2560x512_S512x512_1536_0, chunk6 x0 x1 x2 x3 x4 x5 σ hσ 1024 (by decide) _ _ inb_S2560x512_S512x512_1024_0, chunk6 x0 x1 x2 x3 x4 x5 σ hσ 512 (by decide) _ _ inb_S2560x512_S512x512_512_0, chunk6 x0 x1 x2 x3 x4 x5 σ hσ 0 (by decide) _ _ inb_S2560x512_S512x512_0_0, trivial⟩
  · exact View.cover_of_tiledL (s := S2560x512) _ ![512, 512] (by rfl) y

/-- At the first point the running maxima are those of this block's magnitudes, from zero. -/
theorem outA7 (c : Dev nD) (i : grid0.Coords) (arg1 : Memref sig .tc .vmem S2560x7168 .fp8e4m3) (harg1 : arg1.IsWhole) (arg2 : Memref sig .tc .vmem S7168x512 .fp8e4m3) (harg2 : arg2.IsWhole) (arg3 : Memref sig .tc .vmem S7168x512 .fp8e4m3) (harg3 : arg3.IsWhole) (arg4 : Memref sig .tc .vmem S2560x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole)
    (hc0 : cond0_0 i) (x0 : Vec Ideal S2560x7168 .fp8e4m3) (x1 : Vec Ideal S7168x512 .fp8e4m3) (x2 : Vec Ideal S7168x512 .fp8e4m3) (x3 : Vec Ideal S2560x128 .f32) (x4 : Vec Ideal S1x512 .f32) (x5 : Vec Ideal S1x512 .f32)
    (σ : Fin 2560 → EReal) (hσ : ∀ r l, x3 (ix2 r l) = σ r) :
    out0_A_7 (F := Ideal) c i arg1 harg1 arg2 harg2 arg3 harg3 arg4 harg4 arg5 harg5 arg6 harg6 arg7 harg7 arg8 harg8 hc0 x0 x1 x2 x3 x4 x5 = amaxG x0 x1 x2 x4 x5 σ (fun _ => 0) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5)]
  unfold kernelRun0_A
  dsimp only
  sl_unfold_words
  simp only [View.readAt_eq_ld, harg1.read_unread, harg2.read_unread, harg3.read_unread, harg4.read_unread,
    harg5.read_unread, harg6.read_unread, View.ld_unit_zero (S := S7168x512) hz, View.ld_unit_zero (S := S1x512) hz]
  simp (discharger := decide) only [View.readCov_skip]
  simp only [View.readCov_fill (s := S2560x128) _ _ _ _ _ hz0, pay1_eq]
  funext y
  refine View.canon_append_of_piecesOf (amaxG x0 x1 x2 x4 x5 σ (fun _ => 0)) [_] [_, _, _, _, _] ?_ y ?_
  · exact ⟨chunk7 x0 x1 x2 x3 x4 x5 σ hσ _ 2048 (by decide) _ _, chunk7 x0 x1 x2 x3 x4 x5 σ hσ _ 1536 (by decide) _ _, chunk7 x0 x1 x2 x3 x4 x5 σ hσ _ 1024 (by decide) _ _, chunk7 x0 x1 x2 x3 x4 x5 σ hσ _ 512 (by decide) _ _, chunk7 x0 x1 x2 x3 x4 x5 σ hσ _ 0 (by decide) _ _, trivial⟩
  · exact View.cover_of_tiledL (s := S2560x128) _ ![512, 128] (by rfl) y

/-- At a later point they are merged into what the point before left. -/
theorem outB7 (c : Dev nD) (i : grid0.Coords) (arg1 : Memref sig .tc .vmem S2560x7168 .fp8e4m3) (harg1 : arg1.IsWhole) (arg2 : Memref sig .tc .vmem S7168x512 .fp8e4m3) (harg2 : arg2.IsWhole) (arg3 : Memref sig .tc .vmem S7168x512 .fp8e4m3) (harg3 : arg3.IsWhole) (arg4 : Memref sig .tc .vmem S2560x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole)
    (hc0 : ¬cond0_0 i) (x0 : Vec Ideal S2560x7168 .fp8e4m3) (x1 : Vec Ideal S7168x512 .fp8e4m3) (x2 : Vec Ideal S7168x512 .fp8e4m3) (x3 : Vec Ideal S2560x128 .f32) (x4 : Vec Ideal S1x512 .f32) (x5 : Vec Ideal S1x512 .f32) (xo7 : Vec Ideal S2560x128 .f32)
    (σ : Fin 2560 → EReal) (hσ : ∀ r l, x3 (ix2 r l) = σ r) :
    out0_B_7 (F := Ideal) c i arg1 harg1 arg2 harg2 arg3 harg3 arg4 harg4 arg5 harg5 arg6 harg6 arg7 harg7 arg8 harg8 hc0 x0 x1 x2 x3 x4 x5 xo7 = amaxG x0 x1 x2 x4 x5 σ xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 x5 xo7)]
  unfold kernelRun0_B
  dsimp only
  sl_unfold_words
  simp only [View.readAt_eq_ld, harg1.read_unread, harg2.read_unread, harg3.read_unread, harg4.read_unread,
    harg5.read_unread, harg6.read_unread, harg8.read_unread, View.ld_unit_zero (S := S7168x512) hz, View.ld_unit_zero (S := S1x512) hz]
  funext y
  refine View.canon_apply_of_pieces _ _ (View.PiecesOf.mem (G := amaxG x0 x1 x2 x4 x5 σ xo7) ?_) y ?_
  · exact ⟨chunk7 x0 x1 x2 x3 x4 x5 σ hσ xo7 2048 (by decide) _ _, chunk7 x0 x1 x2 x3 x4 x5 σ hσ xo7 1536 (by decide) _ _, chunk7 x0 x1 x2 x3 x4 x5 σ hσ xo7 1024 (by decide) _ _, chunk7 x0 x1 x2 x3 x4 x5 σ hσ xo7 512 (by decide) _ _, chunk7 x0 x1 x2 x3 x4 x5 σ hσ xo7 0 (by decide) _ _, trivial⟩
  · exact View.cover_of_tiledL (s := S2560x128) _ ![512, 128] (by rfl) y

end Cert.Proof.GateUp
-- ==== Proof.GateUpKer.lean ====
/- GATE/UP, the kernel's two result arrays as functions of its six arguments: the gated product at every row and
   column, and per row and lane the largest magnitude among the row's 144 tiles. -/
module

public import proofs.«01_k».proof.Proof.GateUpOut
public import Idealize.ShloMosaic.Lib.StableHlo.Run

@[expose] public section

noncomputable section

namespace Cert.Proof.GateUp

open Idealize.ShloMosaic Idealize.ShloMosaic.TcCoe Idealize.SL.Sem
open Cert.GateUpIdeal Cert.GateUpIdeal.Gen
open Idealize.ShloMosaic.Pipeline (Dat)

variable (m : (ℓ : Loc nD τ sig) → Buf (Elt Ideal) ℓ) (c : Dev nD)

abbrev aH : S2560x7168.Idx → EReal := m ((c : Thread nD τ).loc main_arg0)
abbrev aSh : S2560.Idx → EReal := m ((c : Thread nD τ).loc main_arg1)
abbrev aWg : S7168x18432.Idx → EReal := m ((c : Thread nD τ).loc main_arg2)
abbrev aSg : S18432.Idx → EReal := m ((c : Thread nD τ).loc main_arg3)
abbrev aWu : S7168x18432.Idx → EReal := m ((c : Thread nD τ).loc main_arg4)
abbrev aSu : S18432.Idx → EReal := m ((c : Thread nD τ).loc main_arg5)
/-- The gated product of the arguments in memory. -/
abbrev aAct : Fin 2560 → Fin 18432 → EReal := actArr (aH m c) (aSh m c) (aWg m c) (aSg m c) (aWu m c) (aSu m c)

/-! ## The host's rearrangements of the scales -/

theorem V_v1 : V m c main_v1 = fun y : S2560x128.Idx => aSh m c (ix1 (y 0)) := by
  have h : V m c main_v1 = broadcastInDim S2560x128 ![0, 1] bcast_S2560x1_S2560x128_0_1
      (broadcastInDim S2560x1 ![0] bcast_S2560_S2560x1_0 (aSh m c)) := by
    unfold V hostOps0
    after_results
  rw [h]
  funext y
  pointwise

theorem V_v2 : V m c main_v2 = fun y : S1x18432.Idx => aSg m c (ix1 (y 1)) := by
  have h : V m c main_v2 = broadcastInDim S1x18432 ![1] bcast_S18432_S1x18432_1 (aSg m c) := by
    unfold V hostOps0
    after_results
  rw [h]
  funext y
  pointwise

theorem V_v3 : V m c main_v3 = fun y : S1x18432.Idx => aSu m c (ix1 (y 1)) := by
  have h : V m c main_v3 = broadcastInDim S1x18432 ![1] bcast_S18432_S1x18432_1 (aSu m c) := by
    unfold V hostOps0
    after_results
  rw [h]
  funext y
  pointwise

/-! ## The blocks of a grid point -/

theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = t.val :=
  (by decide +kernel : ∀ t : Fin grid0.N, win0_2.index t 0 = 0 ∧ win0_2.index t 1 = t.val)
theorem index4 : ∀ t : Fin cfg0.N, win0_4.index t 0 = 0 ∧ win0_4.index t 1 = t.val :=
  (by decide +kernel : ∀ t : Fin grid0.N, win0_4.index t 0 = 0 ∧ win0_4.index t 1 = t.val)
theorem index5 : ∀ t : Fin cfg0.N, win0_5.index t 0 = 0 ∧ win0_5.index t 1 = t.val :=
  (by decide +kernel : ∀ t : Fin grid0.N, win0_5.index t 0 = 0 ∧ win0_5.index t 1 = t.val)
theorem index6 : ∀ t : Fin cfg0.N, win0_6.index t 0 = 0 ∧ win0_6.index t 1 = t.val :=
  (by decide +kernel : ∀ t : Fin grid0.N, win0_6.index t 0 = 0 ∧ win0_6.index t 1 = t.val)
theorem tlt (t : Fin cfg0.N) : t.val < 36 := by have hN : cfg0.N = 36 := N_0; have := t.isLt; omega

theorem iblk0 (t : Fin cfg0.N) (r : Fin 2560) (k : Fin 7168) :
    (iblk m c 0 t : Vec Ideal S2560x7168 .fp8e4m3) (ix2 r k) = aH m c (ix2 r k) := by
  unfold iblk
  rw [View.read_apply]
  show V m c main_arg0 _ = m (c.tc.loc main_arg0) _
  rw [V_main_arg0]
  congr 1
  funext a; apply Fin.ext
  match a with
  | ⟨0, _⟩ => show 0 * 2560 + 1 * r.val = r.val; omega
  | ⟨1, _⟩ => show 0 * 7168 + 1 * k.val = k.val; omega

theorem iblk1 (t : Fin cfg0.N) (k : Fin 7168) (l : Fin 512) :
    (iblk m c 1 t : Vec Ideal S7168x512 .fp8e4m3) (ix2 k l) = aWg m c (ix2 k ⟨t.val * 512 + l.val, by have := tlt t; omega⟩) := by
  unfold iblk
  rw [View.read_apply]
  show V m c main_arg2 _ = m (c.tc.loc main_arg2) _
  rw [V_main_arg2]
  congr 1
  funext a; apply Fin.ext
  match a with
  | ⟨0, _⟩ => show win0_1.index t 0 * 7168 + 1 * k.val = k.val; rw [(index1 t).1]; omega
  | ⟨1, _⟩ => show win0_1.index t 1 * 512 + 1 * l.val = t.val * 512 + l.val; rw [(index1 t).2]; omega

theorem iblk2 (t : Fin cfg0.N) (k : Fin 7168) (l : Fin 512) :
    (iblk m c 2 t : Vec Ideal S7168x512 .fp8e4m3) (ix2 k l) = aWu m c (ix2 k ⟨t.val * 512 + l.val, by have := tlt t; omega⟩) := by
  unfold iblk
  rw [View.read_apply]
  show V m c main_arg4 _ = m (c.tc.loc main_arg4) _
  rw [V_main_arg4]
  congr 1
  funext a; apply Fin.ext
  match a with
  | ⟨0, _⟩ => show win0_2.index t 0 * 7168 + 1 * k.val = k.val; rw [(index2 t).1]; omega
  | ⟨1, _⟩ => show win0_2.index t 1 * 512 + 1 * l.val = t.val * 512 + l.val; rw [(index2 t).2]; omega

theorem iblk3 (t : Fin cfg0.N) (r : Fin 2560) (l : Fin 128) :
    (iblk m c 3 t : Vec Ideal S2560x128 .f32) (ix2 r l) = aSh m c (ix1 r) := by
  unfold iblk
  rw [View.read_apply]
  show V m c main_v1 _ = _
  rw [V_v1]
  refine congrArg (fun j => aSh m c (ix1 j)) (Fin.ext ?_)
  show 0 * 2560 + 1 * r.val = r.val; omega

theorem iblk4 (t : Fin cfg0.N) (l : Fin 512) :
    (iblk m c 4 t : Vec Ideal S1x512 .f32) (ix2 0 l) = aSg m c (ix1 ⟨t.val * 512 + l.val, by have := tlt t; omega⟩) := by
  unfold iblk
  rw [View.read_apply]
  show V m c main_v2 _ = _
  rw [V_v2]
  refine congrArg (fun j => aSg m c (ix1 j)) (Fin.ext ?_)
  show win0_4.index t 1 * 512 + 1 * l.val = t.val * 512 + l.val; rw [(index4 t).2]; omega

theorem iblk5 (t : Fin cfg0.N) (l : Fin 512) :
    (iblk m c 5 t : Vec Ideal S1x512 .f32) (ix2 0 l) = aSu m c (ix1 ⟨t.val * 512 + l.val, by have := tlt t; omega⟩) := by
  unfold iblk
  rw [View.read_apply]
  show V m c main_v3 _ = _
  rw [V_v3]
  refine congrArg (fun j => aSu m c (ix1 j)) (Fin.ext ?_)
  show win0_5.index t 1 * 512 + 1 * l.val = t.val * 512 + l.val; rw [(index5 t).2]; omega

/-- The gated product of a point's blocks is the arrays' at the point's columns. -/
theorem actG_blocks (t : Fin cfg0.N) (r : Fin 2560) (l : Fin 512) :
    actG (iblk m c 0 t) (iblk m c 1 t) (iblk m c 2 t) (iblk m c 4 t) (iblk m c 5 t) (fun r => aSh m c (ix1 r)) (ix2 r l)
      = aAct m c r ⟨t.val * 512 + l.val, by have := tlt t; omega⟩ := by
  unfold actG aAct actArr
  simp only [ix2_0, ix2_1, iblk0, iblk1, iblk2, iblk4, iblk5]

/-- A point's merge of its four tiles into the running maxima. -/
theorem amaxG_blocks (t : Fin cfg0.N) (o : Vec Ideal S2560x128 .f32) (r : Fin 2560) (l : Fin 128)
    (ho : o (ix2 r l) = runMax (aAct m c) r l (4 * t.val)) :
    amaxG (iblk m c 0 t) (iblk m c 1 t) (iblk m c 2 t) (iblk m c 4 t) (iblk m c 5 t) (fun r => aSh m c (ix1 r)) o (ix2 r l)
      = runMax (aAct m c) r l (4 * (t.val + 1)) := by
  rw [← merge4_runMax (aAct m c) r l t.val (tlt t) _ (fun c' => congrArg mag (actG_blocks m c t r c')), ← ho]
  rfl

/-- What the two output buffers hold after a point. -/
theorem outs_eq : ∀ (n : ℕ) (h : n < cfg0.N),
    outsAt0 m c n h = ((fun y => aAct m c (y 0) ⟨n * 512 + (y 1).val, by have := tlt ⟨n, h⟩; have : (y 1).val < 512 := (y 1).isLt; dsimp only at *; omega⟩ : Vec Ideal S2560x512 .bf16),
      (fun y => runMax (aAct m c) (y 0) (y 1) (4 * (n + 1)) : Vec Ideal S2560x128 .f32))
  | 0, h => by
    refine (outsAt0_A m c ⟨0, h⟩ rfl).trans ?_
    rw [outA6 _ _ _ _ _ _ _ _ _ _ _ _ _ _ _ _ _ _ _ _ _ _ _ _ _ (fun r => aSh m c (ix1 r)) (iblk3 m c ⟨0, h⟩),
      outA7 _ _ _ _ _ _ _ _ _ _ _ _ _ _ _ _ _ _ _ _ _ _ _ _ _ (fun r => aSh m c (ix1 r)) (iblk3 m c ⟨0, h⟩)]
    refine Prod.ext ?_ ?_
    · funext y
      obtain ⟨r, l, rfl⟩ : ∃ (r : Fin 2560) (l : Fin 512), y = ix2 r l := ⟨y 0, y 1, eq_ix2 y⟩
      exact actG_blocks m c ⟨0, h⟩ r l
    · funext y
      obtain ⟨r, l, rfl⟩ : ∃ (r : Fin 2560) (l : Fin 128), y = ix2 r l := ⟨y 0, y 1, eq_ix2 y⟩
      refine amaxG_blocks m c ⟨0, h⟩ (fun _ => 0) r l ?_
      show (0 : EReal) = runMax _ r l 0
      rw [runMax_zero]
  | n + 1, h => by
    have ih := outs_eq n (Nat.lt_of_succ_lt h)
    have ht := tlt ⟨n + 1, h⟩
    have hB : ¬(⟨n + 1, h⟩ : Fin cfg0.N).val % 36 = 0 := by dsimp only at *; omega
    refine (outsAt0_B m c ⟨n + 1, h⟩ hB).trans ?_
    rw [outB6 _ _ _ _ _ _ _ _ _ _ _ _ _ _ _ _ _ _ _ _ _ _ _ _ _ _ (fun r => aSh m c (ix1 r)) (iblk3 m c ⟨n + 1, h⟩),
      outB7 _ _ _ _ _ _ _ _ _ _ _ _ _ _ _ _ _ _ _ _ _ _ _ _ _ _ (fun r => aSh m c (ix1 r)) (iblk3 m c ⟨n + 1, h⟩)]
    refine Prod.ext ?_ ?_
    · funext y
      obtain ⟨r, l, rfl⟩ : ∃ (r : Fin 2560) (l : Fin 512), y = ix2 r l := ⟨y 0, y 1, eq_ix2 y⟩
      exact actG_blocks m c ⟨n + 1, h⟩ r l
    · funext y
      obtain ⟨r, l, rfl⟩ : ∃ (r : Fin 2560) (l : Fin 128), y = ix2 r l := ⟨y 0, y 1, eq_ix2 y⟩
      refine amaxG_blocks m c ⟨n + 1, h⟩ _ r l ?_
      show (outsAt0 m c n _).2 (ix2 r l) = _
      rw [ih]
      rfl

/-! ## The two result arrays -/

/-- The gated product, as contents of the first result array. -/
def resAct : Vec Ideal S2560x18432 .bf16 := fun y => aAct m c (y 0) (y 1)
/-- The row maxima, as contents of the second. -/
def resMax : Vec Ideal S2560x128 .f32 := fun y => runMax (aAct m c) (y 0) (y 1) 144

theorem final6 : (dats m 0 c).arrAt 6 cfg0.N = resAct m c := by
  refine (dats m 0 c).arrAt_eq_of_cover 6 (resAct m c) (fun t _ => ?_) fun i => ?_
  · rw [Cert.GateUpIdeal.Value.flushed6, outs_eq m c t.val t.isLt]
    funext y
    rw [View.read_apply]
    refine congrArg₂ (aAct m c) (Fin.ext ?_) (Fin.ext ?_)
    · show (y 0).val = win0_6.index t 0 * 2560 + 1 * (y 0).val
      rw [(index6 t).1]; omega
    · show t.val * 512 + (y 1).val = win0_6.index t 1 * 512 + 1 * (y 1).val
      rw [(index6 t).2]; omega
  · have h0 : (i 0 : Nat) < 2560 := (i 0).isLt
    have h1 : (i 1 : Nat) < 18432 := (i 1).isLt
    have hN : cfg0.N = 36 := N_0
    refine ⟨⟨(i 1 : Nat) / 512, by rw [hN]; omega⟩, flush0_6 _, ?_⟩
    generalize hT : (⟨(i 1 : Nat) / 512, _⟩ : Fin cfg0.N) = t
    have ht : t.val = (i 1 : Nat) / 512 := by rw [← hT]
    have hx : ∀ t : Fin cfg0.N, win0_6.xsize (grid0.coords t) 0 = 2560 ∧ win0_6.xsize (grid0.coords t) 1 = 512 :=
      (by decide +kernel : ∀ t : Fin grid0.N, win0_6.xsize (grid0.coords t) 0 = 2560 ∧ win0_6.xsize (grid0.coords t) 1 = 512)
    show i ∈ ((View.whole main_v4_0).slice (win0_6.rect t)).set
    rw [View.set_slice_whole, Rect.mem_set_unit]
    intro a
    match a with
    | ⟨0, _⟩ =>
      show win0_6.index t 0 * 2560 ≤ (i 0 : Nat) ∧ (i 0 : Nat) < win0_6.index t 0 * 2560 + win0_6.xsize (grid0.coords t) 0
      rw [(index6 t).1, (hx t).1]; omega
    | ⟨1, _⟩ =>
      show win0_6.index t 1 * 512 ≤ (i 1 : Nat) ∧ (i 1 : Nat) < win0_6.index t 1 * 512 + win0_6.xsize (grid0.coords t) 1
      rw [(index6 t).2, (hx t).2, ht]; omega

theorem final7 : (dats m 0 c).arrAt 7 cfg0.N = resMax m c := by
  have hN : cfg0.N = 36 := N_0
  refine (dats m 0 c).arrAt_eq_of_cover 7 (resMax m c) (fun t hf => ?_) fun i => ?_
  · have ht : t.val = 35 := by have := (flush0_7 t).mp hf; have := t.isLt; omega
    rw [Cert.GateUpIdeal.Value.flushed7, outs_eq m c t.val t.isLt]
    funext y
    rw [View.read_apply]
    show runMax (aAct m c) (y 0) (y 1) (4 * (t.val + 1)) = runMax (aAct m c) _ _ 144
    rw [ht]
    refine congrArg₂ (fun a b => runMax (aAct m c) a b 144) (Fin.ext ?_) (Fin.ext ?_)
    · show (y 0).val = 0 * 2560 + 1 * (y 0).val; omega
    · show (y 1).val = 0 * 128 + 1 * (y 1).val; omega
  · refine ⟨⟨35, by rw [hN]; decide⟩, (flush0_7 _).mpr rfl, ?_⟩
    generalize (⟨35, _⟩ : Fin cfg0.N) = t
    have h0 : (i 0 : Nat) < 2560 := (i 0).isLt
    have h1 : (i 1 : Nat) < 128 := (i 1).isLt
    show i ∈ ((View.whole main_v4_1).slice (win0_7.rect t)).set
    rw [View.set_slice_whole, Rect.mem_set_unit]
    intro a
    match a with
    | ⟨0, _⟩ => show 0 * 2560 ≤ (i 0 : Nat) ∧ (i 0 : Nat) < 0 * 2560 + 2560; omega
    | ⟨1, _⟩ => show 0 * 128 ≤ (i 1 : Nat) ∧ (i 1 : Nat) < 0 * 128 + 128; omega

end Cert.Proof.GateUp
-- ==== Proof.GateUpRef.lean ====
/- GATE/UP, the reference's two result arrays as functions of its six arguments. -/
module

public import proofs.«01_k».proof.Proof.Gen.GateUpReferenceIdeal.Value
public import proofs.«01_k».proof.Proof.GateUpSpec
public import Idealize.ShloMosaic.Lib.Pipeline.Value
public import Idealize.ShloMosaic.Lib.StableHlo.Run

@[expose] public section

noncomputable section

namespace Cert.Proof.GateUpRef

open Idealize.ShloMosaic Idealize.ShloMosaic.TcCoe Idealize.SL.Sem
open Cert.GateUpReferenceIdeal Cert.GateUpReferenceIdeal.Gen
open Idealize.ShloMosaic.Pipeline (Dat)
open Cert.Proof.GateUp (act mag actArr runMax runMax_all)

theorem hz : (![0, 0] : Fin 2 → Nat) = fun _ => 0 := funext fun a => by fin_cases a <;> rfl

theorem pay1_apply (h : Vec Ideal S2560x7168 .fp8e4m3) (wg wu : Vec Ideal S7168x18432 .fp8e4m3) (s : Vec Ideal S2560x1 .f32)
    (sg su : Vec Ideal S1x18432 .f32) (i : Fin 2560) (j : Fin 18432) :
    k0_pay1 (F := Ideal) h wg s sg h wu s su (ix2 i j)
      = act (fun k => h (ix2 i k)) (fun k => wg (ix2 k j)) (fun k => wu (ix2 k j)) (s (ix2 i 0)) (sg (ix2 0 j)) (su (ix2 0 j)) := by
  pointwise [k0_pay1, act]

/-- The word of minus infinity reads as the least element. -/
theorem ofBits_ninf : (Ideal.ofBits FTy.f32 4286578688#32 : EReal) = ⊥ := by
  simp [Ideal.ofBits, Ideal.ieee]

/-- The reference's maxima are folds over the 144 tiles. -/
theorem pay2_apply (h : Vec Ideal S2560x7168 .fp8e4m3) (wg wu : Vec Ideal S7168x18432 .fp8e4m3) (s : Vec Ideal S2560x1 .f32)
    (sg su : Vec Ideal S1x18432 .f32) (i : Fin 2560) (l : Fin 128) :
    k0_pay2 (F := Ideal) h wg s sg h wu s su (ix2 i l)
      = (Finset.univ : Finset (Fin 144)).fold max ⊥
          (fun q => mag (k0_pay1 (F := Ideal) h wg s sg h wu s su (ix2 i ⟨q.val * 128 + l.val, by omega⟩))) := by
  unfold k0_pay2
  generalize k0_pay1 (F := Ideal) h wg s sg h wu s su = Y
  pointwise [mag, Ideal.absf_def]
  rw [show (Ideal.ofBits FTy.f32 4286578688#32 : EReal) = ⊥ from ofBits_ninf]

variable (m : (ℓ : Loc nD τ sig) → Buf (Elt Ideal) ℓ) (c : Dev nD)

/-- The six arguments. -/
abbrev aH : Vec Ideal S2560x7168 .fp8e4m3 := m (c.tc.loc main_arg0)
abbrev aSh : Vec Ideal S2560 .f32 := m (c.tc.loc main_arg1)
abbrev aWg : Vec Ideal S7168x18432 .fp8e4m3 := m (c.tc.loc main_arg2)
abbrev aSg : Vec Ideal S18432 .f32 := m (c.tc.loc main_arg3)
abbrev aWu : Vec Ideal S7168x18432 .fp8e4m3 := m (c.tc.loc main_arg4)
abbrev aSu : Vec Ideal S18432 .f32 := m (c.tc.loc main_arg5)
/-- The gated product of the reference's arguments. -/
abbrev aAct : Fin 2560 → Fin 18432 → EReal := actArr (aH m c) (aSh m c) (aWg m c) (aSg m c) (aWu m c) (aSu m c)

theorem V_v0 : V m c main_v0 = fun y : S2560x1.Idx => aSh m c (ix1 (y 0)) := by
  have h : V m c main_v0 = broadcastInDim S2560x1 ![0] bcast_S2560_S2560x1_0 (aSh m c) := by
    unfold V hostOps0
    after_results
  rw [h]
  funext y
  pointwise
theorem V_v1 : V m c main_v1 = fun y : S1x18432.Idx => aSg m c (ix1 (y 1)) := by
  have h : V m c main_v1 = broadcastInDim S1x18432 ![1] bcast_S18432_S1x18432_1 (aSg m c) := by
    unfold V hostOps0
    after_results
  rw [h]
  funext y
  pointwise
theorem V_v2 : V m c main_v2 = fun y : S1x18432.Idx => aSu m c (ix1 (y 1)) := by
  have h : V m c main_v2 = broadcastInDim S1x18432 ![1] bcast_S18432_S1x18432_1 (aSu m c) := by
    unfold V hostOps0
    after_results
  rw [h]
  funext y
  pointwise

/-! ## The one point's input blocks are the whole arrays -/

theorem iblk0 (t : Fin cfg0.N) : (iblk m c 0 t : Vec Ideal S2560x7168 .fp8e4m3) = aH m c := by
  funext y
  unfold iblk
  rw [View.read_apply]
  show V m c main_arg0 _ = _
  rw [V_main_arg0]
  refine congrArg (aH m c) (funext fun a => Fin.ext ?_)
  match a with
  | ⟨0, _⟩ => show 0 * 2560 + 1 * (y 0).val = (y 0).val; omega
  | ⟨1, _⟩ => show 0 * 7168 + 1 * (y 1).val = (y 1).val; omega
theorem iblk1 (t : Fin cfg0.N) : (iblk m c 1 t : Vec Ideal S2560x1 .f32) = fun y : S2560x1.Idx => aSh m c (ix1 (y 0)) := by
  funext y
  unfold iblk
  rw [View.read_apply]
  show V m c main_v0 _ = _
  rw [V_v0]
  refine congrArg (fun y : S2560x1.Idx => aSh m c (ix1 (y 0))) (funext fun a => Fin.ext ?_)
  match a with
  | ⟨0, _⟩ => show 0 * 2560 + 1 * (y 0).val = (y 0).val; omega
  | ⟨1, _⟩ => show 0 * 1 + 1 * (y 1).val = (y 1).val; omega
theorem iblk2 (t : Fin cfg0.N) : (iblk m c 2 t : Vec Ideal S7168x18432 .fp8e4m3) = aWg m c := by
  funext y
  unfold iblk
  rw [View.read_apply]
  show V m c main_arg2 _ = _
  rw [V_main_arg2]
  refine congrArg (aWg m c) (funext fun a => Fin.ext ?_)
  match a with
  | ⟨0, _⟩ => show 0 * 7168 + 1 * (y 0).val = (y 0).val; omega
  | ⟨1, _⟩ => show 0 * 18432 + 1 * (y 1).val = (y 1).val; omega
theorem iblk3 (t : Fin cfg0.N) : (iblk m c 3 t : Vec Ideal S1x18432 .f32) = fun y : S1x18432.Idx => aSg m c (ix1 (y 1)) := by
  funext y
  unfold iblk
  rw [View.read_apply]
  show V m c main_v1 _ = _
  rw [V_v1]
  refine congrArg (fun y : S1x18432.Idx => aSg m c (ix1 (y 1))) (funext fun a => Fin.ext ?_)
  match a with
  | ⟨0, _⟩ => show 0 * 1 + 1 * (y 0).val = (y 0).val; omega
  | ⟨1, _⟩ => show 0 * 18432 + 1 * (y 1).val = (y 1).val; omega
theorem iblk4 (t : Fin cfg0.N) : (iblk m c 4 t : Vec Ideal S7168x18432 .fp8e4m3) = aWu m c := by
  funext y
  unfold iblk
  rw [View.read_apply]
  show V m c main_arg4 _ = _
  rw [V_main_arg4]
  refine congrArg (aWu m c) (funext fun a => Fin.ext ?_)
  match a with
  | ⟨0, _⟩ => show 0 * 7168 + 1 * (y 0).val = (y 0).val; omega
  | ⟨1, _⟩ => show 0 * 18432 + 1 * (y 1).val = (y 1).val; omega
theorem iblk5 (t : Fin cfg0.N) : (iblk m c 5 t : Vec Ideal S1x18432 .f32) = fun y : S1x18432.Idx => aSu m c (ix1 (y 1)) := by
  funext y
  unfold iblk
  rw [View.read_apply]
  show V m c main_v2 _ = _
  rw [V_v2]
  refine congrArg (fun y : S1x18432.Idx => aSu m c (ix1 (y 1))) (funext fun a => Fin.ext ?_)
  match a with
  | ⟨0, _⟩ => show 0 * 1 + 1 * (y 0).val = (y 0).val; omega
  | ⟨1, _⟩ => show 0 * 18432 + 1 * (y 1).val = (y 1).val; omega

/-- The gated product, as contents of the first result array. -/
def resAct : Vec Ideal S2560x18432 .bf16 := fun y => aAct m c (y 0) (y 1)
/-- The row maxima, as contents of the second. -/
def resMax : Vec Ideal S2560x128 .f32 := fun y => runMax (aAct m c) (y 0) (y 1) 144

theorem out6_eq (t : Fin cfg0.N) :
    out0_6 (iblk m c 0 t) (iblk m c 1 t) (iblk m c 2 t) (iblk m c 3 t) (iblk m c 4 t) (iblk m c 5 t) = resAct m c := by
  rw [iblk0, iblk1, iblk2, iblk3, iblk4, iblk5]
  unfold out0_6
  rw [View.canon_unit_zero hz]
  simp only [View.ld_unit_zero (S := S2560x7168) hz, View.ld_unit_zero (S := S7168x18432) hz, View.ld_unit_zero (S := S2560x1) hz,
    View.ld_unit_zero (S := S1x18432) hz]
  funext y
  obtain ⟨r, l, rfl⟩ : ∃ (r : Fin 2560) (l : Fin 18432), y = ix2 r l := ⟨y 0, y 1, eq_ix2 y⟩
  exact pay1_apply _ _ _ _ _ _ r l

theorem out7_eq (t : Fin cfg0.N) :
    out0_7 (iblk m c 0 t) (iblk m c 1 t) (iblk m c 2 t) (iblk m c 3 t) (iblk m c 4 t) (iblk m c 5 t) = resMax m c := by
  rw [iblk0, iblk1, iblk2, iblk3, iblk4, iblk5]
  unfold out0_7
  rw [View.canon_unit_zero hz]
  simp only [View.ld_unit_zero (S := S2560x7168) hz, View.ld_unit_zero (S := S7168x18432) hz, View.ld_unit_zero (S := S2560x1) hz,
    View.ld_unit_zero (S := S1x18432) hz]
  funext y
  obtain ⟨r, l, rfl⟩ : ∃ (r : Fin 2560) (l : Fin 128), y = ix2 r l := ⟨y 0, y 1, eq_ix2 y⟩
  rw [pay2_apply]
  simp only [pay1_apply]
  exact runMax_all (aAct m c) r l

theorem final6 : (dats m 0 c).arrAt 6 cfg0.N = resAct m c := by
  refine (dats m 0 c).arrAt_eq_of_cover 6 (resAct m c) (fun t _ => ?_) fun i => ?_
  · rw [Cert.GateUpReferenceIdeal.Value.flushed6, out6_eq]
    funext y
    rw [View.read_apply]
    refine congrArg (resAct m c) (funext fun a => Fin.ext ?_)
    match a with
    | ⟨0, _⟩ => show (y 0).val = 0 * 2560 + 1 * (y 0).val; omega
    | ⟨1, _⟩ => show (y 1).val = 0 * 18432 + 1 * (y 1).val; omega
  · have h0 : (i 0 : Nat) < 2560 := (i 0).isLt
    have h1 : (i 1 : Nat) < 18432 := (i 1).isLt
    refine ⟨t0_0, rfl, ?_⟩
    show i ∈ ((View.whole main_v3_0).slice (win0_6.rect t0_0)).set
    rw [View.set_slice_whole, Rect.mem_set_unit]
    intro a
    match a with
    | ⟨0, _⟩ => show 0 * 2560 ≤ (i 0 : Nat) ∧ (i 0 : Nat) < 0 * 2560 + 2560; omega
    | ⟨1, _⟩ => show 0 * 18432 ≤ (i 1 : Nat) ∧ (i 1 : Nat) < 0 * 18432 + 18432; omega

theorem final7 : (dats m 0 c).arrAt 7 cfg0.N = resMax m c := by
  refine (dats m 0 c).arrAt_eq_of_cover 7 (resMax m c) (fun t _ => ?_) fun i => ?_
  · rw [Cert.GateUpReferenceIdeal.Value.flushed7, out7_eq]
    funext y
    rw [View.read_apply]
    refine congrArg (resMax m c) (funext fun a => Fin.ext ?_)
    match a with
    | ⟨0, _⟩ => show (y 0).val = 0 * 2560 + 1 * (y 0).val; omega
    | ⟨1, _⟩ => show (y 1).val = 0 * 128 + 1 * (y 1).val; omega
  · have h0 : (i 0 : Nat) < 2560 := (i 0).isLt
    have h1 : (i 1 : Nat) < 128 := (i 1).isLt
    refine ⟨t0_0, rfl, ?_⟩
    show i ∈ ((View.whole main_v3_1).slice (win0_7.rect t0_0)).set
    rw [View.set_slice_whole, Rect.mem_set_unit]
    intro a
    match a with
    | ⟨0, _⟩ => show 0 * 2560 ≤ (i 0 : Nat) ∧ (i 0 : Nat) < 0 * 2560 + 2560; omega
    | ⟨1, _⟩ => show 0 * 128 ≤ (i 1 : Nat) ∧ (i 1 : Nat) < 0 * 128 + 128; omega

end Cert.Proof.GateUpRef
-- ==== Proof.GateUpThm.lean ====
/- GATE/UP: kernel and reference, read over the extended reals, return the same two arrays. -/
module

public import proofs.«01_k».proof.Defs
public import proofs.«01_k».proof.Proof.GateUpKer
public import proofs.«01_k».proof.Proof.GateUpRef

@[expose] public section

noncomputable section

namespace Cert.Proof

open Idealize.ShloMosaic Idealize.ShloMosaic.TcCoe Idealize.SL.Sem

theorem gateUp_algebraic [hK : Cert.GateUpIdeal.Facts] [hR : Cert.GateUpReferenceIdeal.Facts] :
    Cert.algebraic_GateUpIdeal_GateUpReferenceIdeal := by
  intro m g m' g' _ hagree
  refine ⟨fun c => Cert.Proof.GateUp.resAct m c, fun c => Cert.Proof.GateUp.resMax m c, ?_, ?_⟩
  · refine (θ_run (Cert.GateUpIdeal.defs (F := Ideal)) _ _).mono (fun r h c => ?_) (Cert.GateUpIdeal.Value.run_blocks m g)
    refine ⟨(h c).1.trans (Cert.Proof.GateUp.final6 m c), (h c).2.1.trans (Cert.Proof.GateUp.final7 m c), (h c).2.2⟩
  · refine (θ_run (Cert.GateUpReferenceIdeal.defs (F := Ideal)) _ _).mono (fun r h c => ?_) (Cert.GateUpReferenceIdeal.Value.run_blocks m' g')
    obtain ⟨e0, e1, e2, e3, e4, e5⟩ := hagree c
    have hA : Cert.Proof.GateUpRef.aAct m' c = Cert.Proof.GateUp.aAct m c := by
      unfold Cert.Proof.GateUpRef.aAct Cert.Proof.GateUp.aAct
      exact congr (congr (congr (congr (congr (congrArg _ e0) e1) e2) e3) e4) e5
    refine ⟨(h c).1.trans ((Cert.Proof.GateUpRef.final6 m' c).trans ?_), (h c).2.1.trans ((Cert.Proof.GateUpRef.final7 m' c).trans ?_), (h c).2.2⟩
    · unfold Cert.Proof.GateUpRef.resAct Cert.Proof.GateUp.resAct; rw [hA]
    · unfold Cert.Proof.GateUpRef.resMax Cert.Proof.GateUp.resMax; rw [hA]

end Cert.Proof
-- ==== Proof.DownIdealRun.lean ====
module

public import Idealize.ShloMosaic.Lib.VecWindow
public import proofs.«01_k».proof.Proof.Gen.DownIdeal.Skeleton
public import proofs.«01_k».proof.Proof.Gen.DownIdeal.Frame

/-! The body of the down projection, run once per combination of its four conditions. Each run states what every
buffer holds afterwards as a plain function of what the buffers held before. -/

@[expose] public section
set_option maxRecDepth 16384
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem off1_eq (i : grid0.Coords) :
    k0_off1 i = ![(i 0).val % 2, 0, 0] := (by decide +kernel : ∀ i : grid0.Coords, k0_off1 i = ![(i 0).val % 2, 0, 0]) i
theorem off2_eq (i : grid0.Coords) :
    k0_off2 i = ![(i 0).val % 2, 0, 1536 * min (i 1).val 11] := (by decide +kernel : ∀ i : grid0.Coords, k0_off2 i = ![(i 0).val % 2, 0, 1536 * min (i 1).val 11]) i
theorem off3_eq (i : grid0.Coords) :
    k0_off3 i = ![(i 0).val % 2, 0, 1536 * min (i 1).val 11] := (by decide +kernel : ∀ i : grid0.Coords, k0_off3 i = ![(i 0).val % 2, 0, 1536 * min (i 1).val 11]) i
theorem off4_eq (i : grid0.Coords) :
    k0_off4 i = ![((i 0).val + 1) % 2, 0, 0] := (by decide +kernel : ∀ i : grid0.Coords, k0_off4 i = ![((i 0).val + 1) % 2, 0, 0]) i
theorem off5_eq (i : grid0.Coords) :
    k0_off5 i = ![((i 0).val + 1) % 2, 0, 0] := (by decide +kernel : ∀ i : grid0.Coords, k0_off5 i = ![((i 0).val + 1) % 2, 0, 0]) i
theorem off6_eq (i : grid0.Coords) :
    k0_off6 i = ![((i 0).val + 1) % 2, 0, 0] := (by decide +kernel : ∀ i : grid0.Coords, k0_off6 i = ![((i 0).val + 1) % 2, 0, 0]) i
theorem off7_eq (i : grid0.Coords) :
    k0_off7 i = ![((i 0).val + 1) % 2, 0, 0] := (by decide +kernel : ∀ i : grid0.Coords, k0_off7 i = ![((i 0).val + 1) % 2, 0, 0]) i

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩
instance (i : grid0.Coords) : ClosedOff (k0_off5 i) := ⟨_, off5_eq i⟩
instance (i : grid0.Coords) : ClosedOff (k0_off6 i) := ⟨_, off6_eq i⟩
instance (i : grid0.Coords) : ClosedOff (k0_off7 i) := ⟨_, off7_eq i⟩

/-! ## What the body computes from its blocks -/

/-- The exponent of the rows' quantisation scale, from the block of chunk maxima. -/
def expo (x0 : Vec F S640x128 .f32) : IVec S640x1 32 := k0_pay5 (k0_pay3 x0) (k0_pay4 x0) 8#32
/-- The plane of row scales the body keeps, from the block of chunk maxima. -/
def scl (x0 : Vec F S640x128 .f32) : Vec F S1x640x128 .f32 := k0_pay10 (k0_pay6 (k0_pay3 x0) (k0_pay4 x0) 8#32) 23#32
/-- The inverse row scales the body keeps. -/
def inv (x0 : Vec F S640x128 .f32) : Vec F S640x128 .f32 := k0_pay11 (expo x0)
/-- The row of scales the body stores as a result. -/
def row (x0 : Vec F S640x128 .f32) : Vec F S1x640 .f32 := k0_pay12 (expo x0)

theorem inbS (i : grid0.Coords) : ∀ a, (![((i 0).val + 1) % 2, 0, 0] : Fin 3 → ℕ) a + S1x640x128.size a ≤ S2x640x128.size a :=
  (by decide +kernel : ∀ i : grid0.Coords, ∀ a, (![((i 0).val + 1) % 2, 0, 0] : Fin 3 → ℕ) a + S1x640x128.size a ≤ S2x640x128.size a) i
theorem inbA (i : grid0.Coords) : ∀ a, (![((i 0).val + 1) % 2, 0, 0] : Fin 3 → ℕ) a + S1x640x18432.size a ≤ S2x640x18432.size a :=
  (by decide +kernel : ∀ i : grid0.Coords, ∀ a, (![((i 0).val + 1) % 2, 0, 0] : Fin 3 → ℕ) a + S1x640x18432.size a ≤ S2x640x18432.size a) i

/-- The plane of scales the multiplication of this grid row reads. -/
def otherS (i : grid0.Coords) (ss : Vec F S2x640x128 .f32) : Vec F S1x640x128 .f32 :=
  VecWindow.window ss ![((i 0).val + 1) % 2, 0, 0] S1x640x128.size (inbS i)
/-- The plane of codes the multiplication of this grid row reads. -/
def otherA (i : grid0.Coords) (sa : Vec F S2x640x18432 .fp8e4m3) : Vec F S1x640x18432 .fp8e4m3 :=
  VecWindow.window sa ![((i 0).val + 1) % 2, 0, 0] S1x640x18432.size (inbA i)
/-- The scales after this grid row's own plane is stored. -/
def putS (i : grid0.Coords) (ss : Vec F S2x640x128 .f32) (w : Vec F S1x640x128 .f32) : Vec F S2x640x128 .f32 :=
  VecWindow.put ss ![(i 0).val % 2, 0, 0] S1x640x128.size w
/-- The codes after this grid point's chunk is stored. -/
def putA (i : grid0.Coords) (sa : Vec F S2x640x18432 .fp8e4m3) (w : Vec F S1x640x1536 .fp8e4m3) : Vec F S2x640x18432 .fp8e4m3 :=
  VecWindow.put sa ![(i 0).val % 2, 0, 1536 * min (i 1).val 11] S1x640x1536.size w
/-- The block of the projection a grid point stores. -/
def outB (i : grid0.Coords) (ss : Vec F S2x640x128 .f32) (sa : Vec F S2x640x18432 .fp8e4m3) (x2 : Vec F S18432x512 .fp8e4m3)
    (x3 : Vec F S1x512 .f32) (x4 : Vec F S640x512 .bf16) : Vec F S640x512 .bf16 :=
  k0_pay1 (k0_pay9 (otherS i ss) (otherA i sa) x2 x3 x4)

section Loads
variable {s : Shape} {e : EltTy} {mr : Memref sig .tc .vmem s e} (h : mr.IsWhole)

/-- A load of a whole buffer reads its contents. -/
theorem ld_full (x : s.Idx → Elt F e) {off : Fin s.rank → ℕ} (inb : ∀ a, off a + s.size a ≤ s.size a) :
    View.readAt (Elt F) mr.view (Rect.unit off s.size inb).toLoadRect (h.unread x) = x :=
  (View.readAt_full _ _ inb).trans (h.read_unread x)

/-- A load of part of a buffer reads that window of its contents. -/
theorem ld_win {f : mr.view.ty.Contents (Elt F)} {x : s.Idx → Elt F e} (hf : mr.view.read (Elt F) f = x) {off off' size : Fin s.rank → ℕ}
    (inb : ∀ a, off a + size a ≤ s.size a) (ho : off = off') (inb' : ∀ a, off' a + size a ≤ s.size a) :
    View.readAt (Elt F) mr.view (Rect.unit off size inb).toLoadRect f = VecWindow.window x off' size inb' := by
  subst hf; exact View.readAt_unit _ _ inb ho inb'

/-- A store of part of a buffer puts the payload over that window. -/
theorem st_put (x : s.Idx → Elt F e) {off off' size : Fin s.rank → ℕ} (inb : ∀ a, off a + size a ≤ s.size a)
    (w w' : (Rect.unit off size inb).shape.Idx → Elt F e) (ho : off = off') (hw : w = w') :
    mr.view.read (Elt F) (mr.view.writes (Elt F) (h.unread x) [⟨Rect.unit off size inb, w⟩]) = VecWindow.put x off' size w' := by
  subst hw
  refine (View.read_writes_cons_put _ _ inb w [] ho).trans ?_
  rw [View.writes_nil, h.read_unread]

/-- A store of a whole buffer leaves the payload. -/
theorem st_full (f : mr.view.ty.Contents (Elt F)) {off : Fin s.rank → ℕ} (inb : ∀ a, off a + s.size a ≤ s.size a)
    (w w' : (Rect.unit off s.size inb).shape.Idx → Elt F e) (hw : w = w') :
    mr.view.read (Elt F) (mr.view.writes (Elt F) f [⟨Rect.unit off s.size inb, w⟩]) = w' :=
  (View.read_writes_full _ _ inb w []).trans hw
end Loads

/-- The block a grid point stores, from equal readings of its operands. -/
theorem pay9_congr {a a' : Vec F S1x640x128 .f32} {b b' : Vec F S1x640x18432 .fp8e4m3} {x x' : Vec F S18432x512 .fp8e4m3} {y y' : Vec F S1x512 .f32}
    {z z' : Vec F S640x512 .bf16} (ha : a = a') (hb : b = b') (hx : x = x') (hy : y = y') (hz : z = z') :
    k0_pay1 (k0_pay9 a b x y z) = k0_pay1 (k0_pay9 a' b' x' y' z') := by subst ha hb hx hy hz; rfl

set_option maxHeartbeats 1000000 in
/-- The first point: the first row tile's scales and its first chunk of codes. -/
theorem runA (c : Dev nD) (i : grid0.Coords) (h1 : k0_cond1 i = 1#1) (h2 : k0_cond2 i = 1#1) (h3 : ¬ k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 (inv x0) x1) ∗ owns (c : Thread nD τ) arg8 fullShare (row x0) ∗ owns (c : Thread nD τ) arg9 fullShare y7 ∗ owns (c : Thread nD τ) arg10 fullShare (putA i sa (k0_pay8 (inv x0) x1)) ∗ owns (c : Thread nD τ) arg11 fullShare (putS i ss (scl x0)) ∗ owns (c : Thread nD τ) arg12 fullShare (inv x0)) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact st_full _ _ _ _ (congrArg₂ (k0_pay7 (F := F)) ((View.readCov_full _ _ _ _ _).trans (congrArg (k0_pay11 (F := F)) (congrArg (fun v => k0_pay5 (k0_pay3 v) (k0_pay4 v) 8#32) (ld_full harg2 x0 _)))) (ld_full harg3 x1 _))
  isplitl [H6]
  · iexists _; isplitr; swap; · iexact H6
    ipureintro
    exact st_full _ _ _ _ (congrArg (k0_pay12 (F := F)) (congrArg (fun v => k0_pay5 (k0_pay3 v) (k0_pay4 v) 8#32) (ld_full harg2 x0 _)))
  isplitl [H7]
  · iexists _; isplitr; swap; · iexact H7
    ipureintro
    exact harg9.read_unread y7
  isplitl [Ha]
  · iexists _; isplitr; swap; · iexact Ha
    ipureintro
    exact st_put harg10 sa _ _ _ (off2_eq i) (congrArg₂ (k0_pay8 (F := F)) ((View.readCov_full _ _ _ _ _).trans (congrArg (k0_pay11 (F := F)) (congrArg (fun v => k0_pay5 (k0_pay3 v) (k0_pay4 v) 8#32) (ld_full harg2 x0 _)))) (ld_full harg3 x1 _))
  isplitl [Hs]
  · iexists _; isplitr; swap; · iexact Hs
    ipureintro
    exact st_put harg11 ss _ _ _ (off1_eq i) (congrArg (fun v => k0_pay10 (F := F) (k0_pay6 (k0_pay3 v) (k0_pay4 v) 8#32) 23#32) (ld_full harg2 x0 _))
  iexists _; isplitr; swap; · iexact Hi
  ipureintro
  exact st_full _ _ _ _ (congrArg (k0_pay11 (F := F)) (congrArg (fun v => k0_pay5 (k0_pay3 v) (k0_pay4 v) 8#32) (ld_full harg2 x0 _)))

set_option maxHeartbeats 1000000 in
/-- A point of the first grid row: one chunk of codes of the first row tile. -/
theorem runB (c : Dev nD) (i : grid0.Coords) (h1 : ¬ k0_cond1 i = 1#1) (h2 : k0_cond2 i = 1#1) (h3 : ¬ k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 si x1) ∗ owns (c : Thread nD τ) arg8 fullShare y6 ∗ owns (c : Thread nD τ) arg9 fullShare y7 ∗ owns (c : Thread nD τ) arg10 fullShare (putA i sa (k0_pay8 si x1)) ∗ owns (c : Thread nD τ) arg11 fullShare ss ∗ owns (c : Thread nD τ) arg12 fullShare si) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact st_full _ _ _ _ (congrArg₂ (k0_pay7 (F := F)) (ld_full harg12 si _) (ld_full harg3 x1 _))
  isplitl [H6]
  · iexists _; isplitr; swap; · iexact H6
    ipureintro
    exact harg8.read_unread y6
  isplitl [H7]
  · iexists _; isplitr; swap; · iexact H7
    ipureintro
    exact harg9.read_unread y7
  isplitl [Ha]
  · iexists _; isplitr; swap; · iexact Ha
    ipureintro
    exact st_put harg10 sa _ _ _ (off2_eq i) (congrArg₂ (k0_pay8 (F := F)) (ld_full harg12 si _) (ld_full harg3 x1 _))
  isplitl [Hs]
  · iexists _; isplitr; swap; · iexact Hs
    ipureintro
    exact harg11.read_unread ss
  iexists _; isplitr; swap; · iexact Hi
  ipureintro
  exact harg12.read_unread si

set_option maxHeartbeats 1000000 in
/-- A point with nothing to do. -/
theorem runC (c : Dev nD) (i : grid0.Coords) (h1 : ¬ k0_cond1 i = 1#1) (h2 : ¬ k0_cond2 i = 1#1) (h3 : ¬ k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact harg7.read_unread y5
  isplitl [H6]
  · iexists _; isplitr; swap; · iexact H6
    ipureintro
    exact harg8.read_unread y6
  isplitl [H7]
  · iexists _; isplitr; swap; · iexact H7
    ipureintro
    exact harg9.read_unread y7
  isplitl [Ha]
  · iexists _; isplitr; swap; · iexact Ha
    ipureintro
    exact harg10.read_unread sa
  isplitl [Hs]
  · iexists _; isplitr; swap; · iexact Hs
    ipureintro
    exact harg11.read_unread ss
  iexists _; isplitr; swap; · iexact Hi
  ipureintro
  exact harg12.read_unread si

set_option maxHeartbeats 1000000 in
/-- The first point of a middle grid row: the row tile's scales, its first chunk of codes, and a block of the projection of the tile before. -/
theorem runD (c : Dev nD) (i : grid0.Coords) (h1 : k0_cond1 i = 1#1) (h2 : ¬ k0_cond2 i = 1#1) (h3 : k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 (inv x0) x1) ∗ owns (c : Thread nD τ) arg8 fullShare (row x0) ∗ owns (c : Thread nD τ) arg9 fullShare (outB i (putS i ss (scl x0)) (putA i sa (k0_pay8 (inv x0) x1)) x2 x3 x4) ∗ owns (c : Thread nD τ) arg10 fullShare (putA i sa (k0_pay8 (inv x0) x1)) ∗ owns (c : Thread nD τ) arg11 fullShare (putS i ss (scl x0)) ∗ owns (c : Thread nD τ) arg12 fullShare (inv x0)) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact st_full _ _ _ _ (congrArg₂ (k0_pay7 (F := F)) ((View.readCov_full _ _ _ _ _).trans (congrArg (k0_pay11 (F := F)) (congrArg (fun v => k0_pay5 (k0_pay3 v) (k0_pay4 v) 8#32) (ld_full harg2 x0 _)))) (ld_full harg3 x1 _))
  isplitl [H6]
  · iexists _; isplitr; swap; · iexact H6
    ipureintro
    exact st_full _ _ _ _ (congrArg (k0_pay12 (F := F)) (congrArg (fun v => k0_pay5 (k0_pay3 v) (k0_pay4 v) 8#32) (ld_full harg2 x0 _)))
  isplitl [H7]
  · iexists _; isplitr; swap; · iexact H7
    ipureintro
    exact st_full _ _ _ _ (pay9_congr (ld_win (st_put harg11 ss _ _ _ (off1_eq i) (congrArg (fun v => k0_pay10 (F := F) (k0_pay6 (k0_pay3 v) (k0_pay4 v) 8#32) 23#32) (ld_full harg2 x0 _))) _ (off4_eq i) (inbS i)) (ld_win (st_put harg10 sa _ _ _ (off3_eq i) (congrArg₂ (k0_pay8 (F := F)) ((View.readCov_full _ _ _ _ _).trans (congrArg (k0_pay11 (F := F)) (congrArg (fun v => k0_pay5 (k0_pay3 v) (k0_pay4 v) 8#32) (ld_full harg2 x0 _)))) (ld_full harg3 x1 _))) _ (off5_eq i) (inbA i))
        (ld_full harg4 x2 _) (ld_full harg5 x3 _) (ld_full harg6 x4 _))
  isplitl [Ha]
  · iexists _; isplitr; swap; · iexact Ha
    ipureintro
    exact st_put harg10 sa _ _ _ (off3_eq i) (congrArg₂ (k0_pay8 (F := F)) ((View.readCov_full _ _ _ _ _).trans (congrArg (k0_pay11 (F := F)) (congrArg (fun v => k0_pay5 (k0_pay3 v) (k0_pay4 v) 8#32) (ld_full harg2 x0 _)))) (ld_full harg3 x1 _))
  isplitl [Hs]
  · iexists _; isplitr; swap; · iexact Hs
    ipureintro
    exact st_put harg11 ss _ _ _ (off1_eq i) (congrArg (fun v => k0_pay10 (F := F) (k0_pay6 (k0_pay3 v) (k0_pay4 v) 8#32) 23#32) (ld_full harg2 x0 _))
  iexists _; isplitr; swap; · iexact Hi
  ipureintro
  exact st_full _ _ _ _ (congrArg (k0_pay11 (F := F)) (congrArg (fun v => k0_pay5 (k0_pay3 v) (k0_pay4 v) 8#32) (ld_full harg2 x0 _)))

set_option maxHeartbeats 1000000 in
/-- A later point of a middle grid row: a chunk of codes, and a block of the projection of the tile before. -/
theorem runE (c : Dev nD) (i : grid0.Coords) (h1 : ¬ k0_cond1 i = 1#1) (h2 : ¬ k0_cond2 i = 1#1) (h3 : k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 si x1) ∗ owns (c : Thread nD τ) arg8 fullShare y6 ∗ owns (c : Thread nD τ) arg9 fullShare (outB i ss (putA i sa (k0_pay8 si x1)) x2 x3 x4) ∗ owns (c : Thread nD τ) arg10 fullShare (putA i sa (k0_pay8 si x1)) ∗ owns (c : Thread nD τ) arg11 fullShare ss ∗ owns (c : Thread nD τ) arg12 fullShare si) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact st_full _ _ _ _ (congrArg₂ (k0_pay7 (F := F)) (ld_full harg12 si _) (ld_full harg3 x1 _))
  isplitl [H6]
  · iexists _; isplitr; swap; · iexact H6
    ipureintro
    exact harg8.read_unread y6
  isplitl [H7]
  · iexists _; isplitr; swap; · iexact H7
    ipureintro
    exact st_full _ _ _ _ (pay9_congr (ld_win (harg11.read_unread ss) _ (off4_eq i) (inbS i)) (ld_win (st_put harg10 sa _ _ _ (off3_eq i) (congrArg₂ (k0_pay8 (F := F)) (ld_full harg12 si _) (ld_full harg3 x1 _))) _ (off5_eq i) (inbA i))
        (ld_full harg4 x2 _) (ld_full harg5 x3 _) (ld_full harg6 x4 _))
  isplitl [Ha]
  · iexists _; isplitr; swap; · iexact Ha
    ipureintro
    exact st_put harg10 sa _ _ _ (off3_eq i) (congrArg₂ (k0_pay8 (F := F)) (ld_full harg12 si _) (ld_full harg3 x1 _))
  isplitl [Hs]
  · iexists _; isplitr; swap; · iexact Hs
    ipureintro
    exact harg11.read_unread ss
  iexists _; isplitr; swap; · iexact Hi
  ipureintro
  exact harg12.read_unread si

set_option maxHeartbeats 1000000 in
/-- A point of the last grid row: a block of the projection of the last tile. -/
theorem runF (c : Dev nD) (i : grid0.Coords) (h1 : ¬ k0_cond1 i = 1#1) (h2 : ¬ k0_cond2 i = 1#1) (h3 : ¬ k0_cond3 i = 1#1) (h4 : k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (outB i ss sa x2 x3 x4) ∗ owns (c : Thread nD τ) arg10 fullShare sa ∗ owns (c : Thread nD τ) arg11 fullShare ss ∗ owns (c : Thread nD τ) arg12 fullShare si) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact harg7.read_unread y5
  isplitl [H6]
  · iexists _; isplitr; swap; · iexact H6
    ipureintro
    exact harg8.read_unread y6
  isplitl [H7]
  · iexists _; isplitr; swap; · iexact H7
    ipureintro
    exact st_full _ _ _ _ (pay9_congr (ld_win (harg11.read_unread ss) _ (off6_eq i) (inbS i)) (ld_win (harg10.read_unread sa) _ (off7_eq i) (inbA i))
        (ld_full harg4 x2 _) (ld_full harg5 x3 _) (ld_full harg6 x4 _))
  isplitl [Ha]
  · iexists _; isplitr; swap; · iexact Ha
    ipureintro
    exact harg10.read_unread sa
  isplitl [Hs]
  · iexists _; isplitr; swap; · iexact Hs
    ipureintro
    exact harg11.read_unread ss
  iexists _; isplitr; swap; · iexact Hi
  ipureintro
  exact harg12.read_unread si

end Cert.DownIdeal.Hand
end
-- ==== Proof.DownIdealBody.lean ====
/- The down projection's pipeline: what its scratch buffers hold before each grid point, what each point leaves in the
   three output blocks, and the run of the whole pipeline with these. -/
module

public import proofs.«01_k».proof.Proof.DownIdealRun
public import Idealize.ShloMosaic.Lib.Pointwise
public import Idealize.ShloMosaic.Lib.Pipeline.ArrRel
public import Idealize.ShloMosaic.Lib.Claim

@[expose] public section
set_option maxRecDepth 16384
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The grid -/

theorem tlt (t : Fin cfg0.N) : t.val < 70 := by have hN : cfg0.N = 70 := N_0; have := t.isLt; omega
theorem coords0 : ∀ t : Fin cfg0.N, ((grid0.coords t) 0).val = t.val / 14 :=
  (by decide +kernel : ∀ t : Fin grid0.N, ((grid0.coords t) 0).val = t.val / 14)
theorem coords1 : ∀ t : Fin cfg0.N, ((grid0.coords t) 1).val = t.val % 14 :=
  (by decide +kernel : ∀ t : Fin grid0.N, ((grid0.coords t) 1).val = t.val % 14)
theorem cond1_iff : ∀ t : Fin cfg0.N, k0_cond1 (grid0.coords t) = 1#1 ↔ t.val / 14 < 4 ∧ t.val % 14 = 0 :=
  (by decide +kernel : ∀ t : Fin grid0.N, k0_cond1 (grid0.coords t) = 1#1 ↔ t.val / 14 < 4 ∧ t.val % 14 = 0)
theorem cond2_iff : ∀ t : Fin cfg0.N, k0_cond2 (grid0.coords t) = 1#1 ↔ t.val / 14 = 0 ∧ t.val % 14 < 12 :=
  (by decide +kernel : ∀ t : Fin grid0.N, k0_cond2 (grid0.coords t) = 1#1 ↔ t.val / 14 = 0 ∧ t.val % 14 < 12)
theorem cond3_iff : ∀ t : Fin cfg0.N, k0_cond3 (grid0.coords t) = 1#1 ↔ 0 < t.val / 14 ∧ t.val / 14 < 4 :=
  (by decide +kernel : ∀ t : Fin grid0.N, k0_cond3 (grid0.coords t) = 1#1 ↔ 0 < t.val / 14 ∧ t.val / 14 < 4)
theorem cond4_iff : ∀ t : Fin cfg0.N, k0_cond4 (grid0.coords t) = 1#1 ↔ t.val / 14 = 4 :=
  (by decide +kernel : ∀ t : Fin grid0.N, k0_cond4 (grid0.coords t) = 1#1 ↔ t.val / 14 = 4)

theorem index0 : ∀ t : Fin cfg0.N, win0_0.index t 0 = min (t.val / 14) 3 ∧ win0_0.index t 1 = 0 :=
  (by decide +kernel : ∀ t : Fin grid0.N, win0_0.index t 0 = min (t.val / 14) 3 ∧ win0_0.index t 1 = 0)
theorem index1 : ∀ t : Fin cfg0.N, win0_1.index t 0 = min (t.val / 14) 3 ∧ win0_1.index t 1 = if t.val / 14 = 4 then 11 else min (t.val % 14) 11 :=
  (by decide +kernel : ∀ t : Fin grid0.N, win0_1.index t 0 = min (t.val / 14) 3 ∧ win0_1.index t 1 = if t.val / 14 = 4 then 11 else min (t.val % 14) 11)
theorem index2 : ∀ t : Fin cfg0.N, win0_2.index t 0 = 0 ∧ win0_2.index t 1 = if t.val / 14 = 0 then 0 else t.val % 14 :=
  (by decide +kernel : ∀ t : Fin grid0.N, win0_2.index t 0 = 0 ∧ win0_2.index t 1 = if t.val / 14 = 0 then 0 else t.val % 14)
theorem index3 : ∀ t : Fin cfg0.N, win0_3.index t 0 = 0 ∧ win0_3.index t 1 = if t.val / 14 = 0 then 0 else t.val % 14 :=
  (by decide +kernel : ∀ t : Fin grid0.N, win0_3.index t 0 = 0 ∧ win0_3.index t 1 = if t.val / 14 = 0 then 0 else t.val % 14)
theorem index4 : ∀ t : Fin cfg0.N, win0_4.index t 0 = t.val / 14 - 1 ∧ win0_4.index t 1 = if t.val / 14 = 0 then 0 else t.val % 14 :=
  (by decide +kernel : ∀ t : Fin grid0.N, win0_4.index t 0 = t.val / 14 - 1 ∧ win0_4.index t 1 = if t.val / 14 = 0 then 0 else t.val % 14)

/-! ## The blocks of the arguments -/

abbrev aAM : S2560x128.Idx → Elt F .f32 := m ((c : Thread nD τ).loc main_arg0)
abbrev aAct : S2560x18432.Idx → Elt F .bf16 := m ((c : Thread nD τ).loc main_arg1)
abbrev aW : S18432x7168.Idx → Elt F .fp8e4m3 := m ((c : Thread nD τ).loc main_arg2)
abbrev aSw : S1x7168.Idx → Elt F .f32 := V m c main_v0
abbrev aHm : S2560x7168.Idx → Elt F .bf16 := m ((c : Thread nD τ).loc main_arg4)

/-- The chunk maxima of row tile `j`. -/
def AMX (j : ℕ) : Vec F S640x128 .f32 := fun y => aAM m c (ix2 (Fin.ofNat 2560 (j * 640 + (y 0).val)) (y 1))
/-- Chunk `ch` of the activations of row tile `j`. -/
def ACT (j ch : ℕ) : Vec F S640x1536 .bf16 := fun y => aAct m c (ix2 (Fin.ofNat 2560 (j * 640 + (y 0).val)) (Fin.ofNat 18432 (ch * 1536 + (y 1).val)))
/-- Column block `n` of the weights. -/
def WB (n : ℕ) : Vec F S18432x512 .fp8e4m3 := fun y => aW m c (ix2 (y 0) (Fin.ofNat 7168 (n * 512 + (y 1).val)))
/-- Column block `n` of the weights' scales. -/
def SWB (n : ℕ) : Vec F S1x512 .f32 := fun y => aSw m c (ix2 0 (Fin.ofNat 7168 (n * 512 + (y 1).val)))
/-- Block `(j, n)` of the residual. -/
def HMB (j n : ℕ) : Vec F S640x512 .bf16 := fun y => aHm m c (ix2 (Fin.ofNat 2560 (j * 640 + (y 0).val)) (Fin.ofNat 7168 (n * 512 + (y 1).val)))

theorem iblk0 (t : Fin cfg0.N) (h : t.val / 14 < 4) : (iblk m c 0 t : Vec F S640x128 .f32) = AMX m c (t.val / 14) := by
  funext y
  have h0 : (y 0).val < 640 := (y 0).isLt
  unfold iblk AMX
  rw [View.read_apply]
  show V m c main_arg0 _ = m (c.tc.loc main_arg0) _
  rw [V_main_arg0]
  congr 1
  funext a; apply Fin.ext
  match a with
  | ⟨0, _⟩ => show win0_0.index t 0 * 640 + 1 * (y 0).val = (t.val / 14 * 640 + (y 0).val) % 2560; rw [(index0 t).1]; omega
  | ⟨1, _⟩ => show win0_0.index t 1 * 128 + 1 * (y 1).val = (y 1).val; rw [(index0 t).2]; omega

theorem iblk1 (t : Fin cfg0.N) (h : t.val / 14 < 4) :
    (iblk m c 1 t : Vec F S640x1536 .bf16) = ACT m c (t.val / 14) (min (t.val % 14) 11) := by
  funext y
  have h0 : (y 0).val < 640 := (y 0).isLt
  have h1 : (y 1).val < 1536 := (y 1).isLt
  unfold iblk ACT
  rw [View.read_apply]
  show V m c main_arg1 _ = m (c.tc.loc main_arg1) _
  rw [V_main_arg1]
  congr 1
  funext a; apply Fin.ext
  match a with
  | ⟨0, _⟩ => show win0_1.index t 0 * 640 + 1 * (y 0).val = (t.val / 14 * 640 + (y 0).val) % 2560; rw [(index1 t).1]; omega
  | ⟨1, _⟩ =>
    show win0_1.index t 1 * 1536 + 1 * (y 1).val = (min (t.val % 14) 11 * 1536 + (y 1).val) % 18432
    rw [(index1 t).2, if_neg (by omega)]; omega

theorem iblk2 (t : Fin cfg0.N) (h : 0 < t.val / 14) : (iblk m c 2 t : Vec F S18432x512 .fp8e4m3) = WB m c (t.val % 14) := by
  funext y
  have h1 : (y 1).val < 512 := (y 1).isLt
  unfold iblk WB
  rw [View.read_apply]
  show V m c main_arg2 _ = m (c.tc.loc main_arg2) _
  rw [V_main_arg2]
  congr 1
  funext a; apply Fin.ext
  match a with
  | ⟨0, _⟩ => show win0_2.index t 0 * 18432 + 1 * (y 0).val = (y 0).val; rw [(index2 t).1]; omega
  | ⟨1, _⟩ =>
    show win0_2.index t 1 * 512 + 1 * (y 1).val = (t.val % 14 * 512 + (y 1).val) % 7168
    rw [(index2 t).2, if_neg (by omega)]; omega

theorem iblk3 (t : Fin cfg0.N) (h : 0 < t.val / 14) : (iblk m c 3 t : Vec F S1x512 .f32) = SWB m c (t.val % 14) := by
  funext y
  have h0 : (y 0).val < 1 := (y 0).isLt
  have h1 : (y 1).val < 512 := (y 1).isLt
  unfold iblk SWB
  rw [View.read_apply]
  show V m c main_v0 _ = V m c main_v0 _
  congr 1
  funext a; apply Fin.ext
  match a with
  | ⟨0, _⟩ => show win0_3.index t 0 * 1 + 1 * (y 0).val = 0; rw [(index3 t).1]; omega
  | ⟨1, _⟩ =>
    show win0_3.index t 1 * 512 + 1 * (y 1).val = (t.val % 14 * 512 + (y 1).val) % 7168
    rw [(index3 t).2, if_neg (by omega)]; omega

theorem iblk4 (t : Fin cfg0.N) (h : 0 < t.val / 14) :
    (iblk m c 4 t : Vec F S640x512 .bf16) = HMB m c (t.val / 14 - 1) (t.val % 14) := by
  funext y
  have ht := tlt t
  have h0 : (y 0).val < 640 := (y 0).isLt
  have h1 : (y 1).val < 512 := (y 1).isLt
  unfold iblk HMB
  rw [View.read_apply]
  show V m c main_arg4 _ = m (c.tc.loc main_arg4) _
  rw [V_main_arg4]
  congr 1
  funext a; apply Fin.ext
  match a with
  | ⟨0, _⟩ => show win0_4.index t 0 * 640 + 1 * (y 0).val = ((t.val / 14 - 1) * 640 + (y 0).val) % 2560; rw [(index4 t).1]; omega
  | ⟨1, _⟩ =>
    show win0_4.index t 1 * 512 + 1 * (y 1).val = (t.val % 14 * 512 + (y 1).val) % 7168
    rw [(index4 t).2, if_neg (by omega)]; omega

/-! ## What the pipeline keeps and what it stores -/

/-- The codes of chunk `ch` of row tile `j`. -/
def CODE (j ch : ℕ) : Vec F S640x1536 .fp8e4m3 := k0_pay7 (inv (AMX m c j)) (ACT m c j ch)
/-- All codes of row tile `j`. -/
def PA (j : ℕ) : Vec F S1x640x18432 .fp8e4m3 := fun y => CODE m c j ((y 2).val / 1536) (ix2 (y 1) (Fin.ofNat 1536 (y 2).val))
/-- The row scales of row tile `j`. -/
def PS (j : ℕ) : Vec F S1x640x128 .f32 := scl (AMX m c j)
/-- Block `(j, n)` of the projection. -/
def OUT (j n : ℕ) : Vec F S640x512 .bf16 := k0_pay1 (k0_pay9 (PS m c j) (PA m c j) (WB m c n) (SWB m c n) (HMB m c j n))

theorem putA_apply (i : grid0.Coords) (sa : Vec F S2x640x18432 .fp8e4m3) (w : Vec F S1x640x1536 .fp8e4m3) (b : Fin 2) (r : Fin 640) (l : Fin 18432) :
    putA i sa w (ix3 b r l) = if b.val = (i 0).val % 2 ∧ l.val / 1536 = min (i 1).val 11 then w (ix3 0 r (Fin.ofNat 1536 l.val)) else sa (ix3 b r l) := by
  unfold putA VecWindow.put
  have hr := r.isLt
  by_cases h : b.val = (i 0).val % 2 ∧ l.val / 1536 = min (i 1).val 11
  · rw [if_pos h, dif_pos (fun a => by
      match a with
      | ⟨0, _⟩ => show (i 0).val % 2 ≤ b.val ∧ b.val < (i 0).val % 2 + 1; omega
      | ⟨1, _⟩ => show 0 ≤ r.val ∧ r.val < 0 + 640; omega
      | ⟨2, _⟩ => show 1536 * min (i 1).val 11 ≤ l.val ∧ l.val < 1536 * min (i 1).val 11 + 1536; omega)]
    congr 1
    funext a; apply Fin.ext
    match a with
    | ⟨0, _⟩ => show b.val - (i 0).val % 2 = 0; omega
    | ⟨1, _⟩ => show r.val - 0 = r.val; omega
    | ⟨2, _⟩ => show l.val - 1536 * min (i 1).val 11 = l.val % 1536; omega
  · rw [if_neg h, dif_neg]
    intro hall
    have h0 : (i 0).val % 2 ≤ b.val ∧ b.val < (i 0).val % 2 + 1 := hall 0
    have h2 : 1536 * min (i 1).val 11 ≤ l.val ∧ l.val < 1536 * min (i 1).val 11 + 1536 := hall 2
    exact h ⟨by omega, by omega⟩

theorem putS_apply (i : grid0.Coords) (ss : Vec F S2x640x128 .f32) (w : Vec F S1x640x128 .f32) (b : Fin 2) (r : Fin 640) (l : Fin 128) :
    putS i ss w (ix3 b r l) = if b.val = (i 0).val % 2 then w (ix3 0 r l) else ss (ix3 b r l) := by
  unfold putS VecWindow.put
  have hr := r.isLt
  have hl := l.isLt
  by_cases h : b.val = (i 0).val % 2
  · rw [if_pos h, dif_pos (fun a => by
      match a with
      | ⟨0, _⟩ => show (i 0).val % 2 ≤ b.val ∧ b.val < (i 0).val % 2 + 1; omega
      | ⟨1, _⟩ => show 0 ≤ r.val ∧ r.val < 0 + 640; omega
      | ⟨2, _⟩ => show 0 ≤ l.val ∧ l.val < 0 + 128; omega)]
    congr 1
    funext a; apply Fin.ext
    match a with
    | ⟨0, _⟩ => show b.val - (i 0).val % 2 = 0; omega
    | ⟨1, _⟩ => show r.val - 0 = r.val; omega
    | ⟨2, _⟩ => show l.val - 0 = l.val; omega
  · rw [if_neg h, dif_neg]
    intro hall
    have h0 : (i 0).val % 2 ≤ b.val ∧ b.val < (i 0).val % 2 + 1 := hall 0
    exact h (by omega)

theorem pay8_apply (a : Vec F S640x128 .f32) (b : Vec F S640x1536 .bf16) (r : Fin 640) (l : Fin 1536) :
    k0_pay8 a b (ix3 0 r l) = k0_pay7 a b (ix2 r l) := by
  unfold k0_pay8
  pointwise

/-- What the scratch buffers hold before grid point `k`: the codes and scales of the row tile being quantised as far as
    the points before went, and all those of the tile before it. -/
structure Inv (k : ℕ) (sa : Vec F S2x640x18432 .fp8e4m3) (ss : Vec F S2x640x128 .f32) (si : Vec F S640x128 .f32) : Prop where
  codes : ∀ j < 4, ∀ ch < 12, 14 * j + ch < k → k ≤ 14 * (j + 2) → ∀ (r : Fin 640) (l : Fin 18432), l.val / 1536 = ch →
    sa (ix3 (Fin.ofNat 2 j) r l) = PA m c j (ix3 0 r l)
  scales : ∀ j < 4, 14 * j < k → k ≤ 14 * (j + 2) → ∀ (r : Fin 640) (l : Fin 128), ss (ix3 (Fin.ofNat 2 j) r l) = PS m c j (ix3 0 r l)
  invs : ∀ j < 4, 14 * j < k → k ≤ 14 * (j + 1) → si = inv (AMX m c j)

variable {m c}

theorem Inv.init (sa : Vec F S2x640x18432 .fp8e4m3) (ss : Vec F S2x640x128 .f32) (si : Vec F S640x128 .f32) : Inv m c 0 sa ss si :=
  ⟨fun _ _ _ _ h => absurd h (Nat.not_lt_zero _), fun _ _ h => absurd h (Nat.not_lt_zero _), fun _ _ h => absurd h (Nat.not_lt_zero _)⟩

/-- One grid point's effect on the scratch buffers keeps what is said of them. -/
theorem Inv.next (t : Fin cfg0.N) {sa sa' : Vec F S2x640x18432 .fp8e4m3} {ss ss' : Vec F S2x640x128 .f32} {si si' : Vec F S640x128 .f32}
    (h : Inv m c t.val sa ss si)
    (hs : (t.val / 14 < 4 ∧ t.val % 14 = 0 ∧ ss' = putS (grid0.coords t) ss (PS m c (t.val / 14)) ∧ si' = inv (AMX m c (t.val / 14)))
      ∨ (¬ (t.val / 14 < 4 ∧ t.val % 14 = 0) ∧ ss' = ss ∧ si' = si))
    (ha : (t.val / 14 < 4 ∧ sa' = putA (grid0.coords t) sa (k0_pay8 (inv (AMX m c (t.val / 14))) (ACT m c (t.val / 14) (min (t.val % 14) 11))))
      ∨ (¬ (t.val / 14 < 4 ∧ t.val % 14 < 12) ∧ sa' = sa)) : Inv m c (t.val + 1) sa' ss' si' := by
  have ht := tlt t
  refine ⟨fun j hj ch hch h1 h2 r l hl => ?_, fun j hj h1 h2 r l => ?_, fun j hj h1 h2 => ?_⟩
  · rcases ha with ⟨hq, rfl⟩ | ⟨hq, rfl⟩
    · rw [putA_apply, coords0, coords1]
      have hb : (Fin.ofNat 2 j).val = j % 2 := rfl
      rw [hb]
      by_cases hin : j % 2 = t.val / 14 % 2 ∧ l.val / 1536 = min (t.val % 14) 11
      · have e : t.val / 14 = j := by omega
        rw [if_pos hin, pay8_apply, e, ← hin.2]
        rfl
      · rw [if_neg hin]
        exact h.codes j hj ch hch (by omega) (by omega) r l hl
    · exact h.codes j hj ch hch (by omega) (by omega) r l hl
  · rcases hs with ⟨hq, hz, rfl, rfl⟩ | ⟨hq, rfl, rfl⟩
    · rw [putS_apply, coords0]
      have hb : (Fin.ofNat 2 j).val = j % 2 := rfl
      rw [hb]
      by_cases hin : j % 2 = t.val / 14 % 2
      · have e : t.val / 14 = j := by omega
        rw [if_pos hin, e]
      · rw [if_neg hin]
        exact h.scales j hj (by omega) (by omega) r l
    · exact h.scales j hj (by omega) (by omega) r l
  · rcases hs with ⟨hq, hz, rfl, rfl⟩ | ⟨hq, rfl, rfl⟩
    · have e : t.val / 14 = j := by omega
      rw [e]
    · exact h.invs j hj (by omega) (by omega)

/-- After a point of a later grid row the other planes hold the tile before. -/
theorem Inv.other (t : Fin cfg0.N) {sa : Vec F S2x640x18432 .fp8e4m3} {ss : Vec F S2x640x128 .f32} {si : Vec F S640x128 .f32}
    (h : Inv m c (t.val + 1) sa ss si) (hq : 0 < t.val / 14) :
    otherS (grid0.coords t) ss = PS m c (t.val / 14 - 1) ∧ otherA (grid0.coords t) sa = PA m c (t.val / 14 - 1) := by
  have ht := tlt t
  constructor
  · funext y
    obtain ⟨b, r, l, rfl⟩ : ∃ (b : Fin 1) (r : Fin 640) (l : Fin 128), y = ix3 b r l := ⟨y 0, y 1, y 2, eq_ix3 y⟩
    obtain rfl : b = 0 := Subsingleton.elim _ _
    rw [← h.scales (t.val / 14 - 1) (by omega) (by omega) (by omega) r l]
    unfold otherS VecWindow.window
    congr 1
    funext a; apply Fin.ext
    match a with
    | ⟨0, _⟩ => show (((grid0.coords t) 0).val + 1) % 2 + 1 * 0 = (t.val / 14 - 1) % 2; rw [coords0]; omega
    | ⟨1, _⟩ => show 0 + 1 * r.val = r.val; omega
    | ⟨2, _⟩ => show 0 + 1 * l.val = l.val; omega
  · funext y
    obtain ⟨b, r, l, rfl⟩ : ∃ (b : Fin 1) (r : Fin 640) (l : Fin 18432), y = ix3 b r l := ⟨y 0, y 1, y 2, eq_ix3 y⟩
    obtain rfl : b = 0 := Subsingleton.elim _ _
    have hl := l.isLt
    rw [← h.codes (t.val / 14 - 1) (by omega) (l.val / 1536) (by omega) (by omega) (by omega) r l rfl]
    unfold otherA VecWindow.window
    congr 1
    funext a; apply Fin.ext
    match a with
    | ⟨0, _⟩ => show (((grid0.coords t) 0).val + 1) % 2 + 1 * 0 = (t.val / 14 - 1) % 2; rw [coords0]; omega
    | ⟨1, _⟩ => show 0 + 1 * r.val = r.val; omega
    | ⟨2, _⟩ => show 0 + 1 * l.val = l.val; omega

theorem outB_eq (t : Fin cfg0.N) {sa : Vec F S2x640x18432 .fp8e4m3} {ss : Vec F S2x640x128 .f32} {si : Vec F S640x128 .f32}
    (h : Inv m c (t.val + 1) sa ss si) (hq : 0 < t.val / 14) :
    outB (grid0.coords t) ss sa (iblk m c 2 t) (iblk m c 3 t) (iblk m c 4 t) = OUT m c (t.val / 14 - 1) (t.val % 14) := by
  unfold outB OUT
  rw [(h.other t hq).1, (h.other t hq).2, iblk2 m c t hq, iblk3 m c t hq, iblk4 m c t hq]

end Cert.DownIdeal.Hand
end
-- ==== Proof.DownIdealPipe.lean ====
/- The down projection's run: the proof data of its pipeline, the body at every grid point, and what the machine's memory
   holds at the end. -/
module

public import proofs.«01_k».proof.Proof.DownIdealBody

@[expose] public section
set_option maxRecDepth 16384
noncomputable section
namespace Cert.DownIdeal.Hand
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The scratch buffers the body is handed. -/
abbrev scA : Memref sig .tc .vmem S2x640x18432 .fp8e4m3 := Memref.whole cc0_scratch0
abbrev scS : Memref sig .tc .vmem S2x640x128 .f32 := Memref.whole cc0_scratch1
abbrev scI : Memref sig .tc .vmem S640x128 .f32 := Memref.whole cc0_scratch2

theorem PhiA0_eq (c : Dev nD) :
    (Pipeline.ΦA spec0 c : sProp 𝕄)
      = iprop(iprop((∃ d, owns (c : Thread nD τ) scA fullShare d) ∗ (∃ d, owns (c : Thread nD τ) scS fullShare d) ∗ (∃ d, owns (c : Thread nD τ) scI fullShare d))
          ∗ (∃ r, prngReg c r)) := by
  unfold Pipeline.ΦA; rw [scopedRest0_eq]; simp only [scA, scS, scI, owns_whole]; try rfl

/-- Whether grid point `t` quantises a chunk. -/
def quant (t : ℕ) : Prop := t / 14 < 4 ∧ (0 < t / 14 ∨ t % 14 < 12)

/-- The proof data: an input's buffer is left as found; an output's holds its point's result where the point stores
    one, and is left as found elsewhere; the scratch buffers hold what `Inv` says. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => (quant t.val ∧ X = CODE m c (t.val / 14) (min (t.val % 14) 11)) ∨ (¬ quant t.val ∧ X = Y)
    | ⟨6, _⟩ => ((t.val / 14 < 4 ∧ t.val % 14 = 0) ∧ X = row (AMX m c (t.val / 14))) ∨ (¬ (t.val / 14 < 4 ∧ t.val % 14 = 0) ∧ X = Y)
    | ⟨7, _⟩ => (0 < t.val / 14 ∧ X = OUT m c (t.val / 14 - 1) (t.val % 14)) ∨ (¬ 0 < t.val / 14 ∧ X = Y)
  Φ k := iprop((∃ sa ss si, ⌜Inv m c k.val sa ss si⌝ ∗ owns (c : Thread nD τ) scA fullShare sa ∗ owns (c : Thread nD τ) scS fullShare ss
    ∗ owns (c : Thread nD τ) scI fullShare si) ∗ (∃ r, prngReg c r))
  q _ := fullShare
  owed _ := 0

theorem A_eq (c : Dev nD) (w : Fin cfg0.W) : (rdat m c).A w = V m c (Pipeline.arrRef spec0 w) := by dsimp only [rdat]

/-- An input's buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rw [A_eq]; try rfl

/-! ## The body at a grid point -/

abbrev ms0 (t : Fin cfg0.N) : Memref sig .tc .vmem S640x128 .f32 := win0_0.stage (cfg0.slots t 0)
abbrev ms1 (t : Fin cfg0.N) : Memref sig .tc .vmem S640x1536 .bf16 := win0_1.stage (cfg0.slots t 1)
abbrev ms2 (t : Fin cfg0.N) : Memref sig .tc .vmem S18432x512 .fp8e4m3 := win0_2.stage (cfg0.slots t 2)
abbrev ms3 (t : Fin cfg0.N) : Memref sig .tc .vmem S1x512 .f32 := win0_3.stage (cfg0.slots t 3)
abbrev ms4 (t : Fin cfg0.N) : Memref sig .tc .vmem S640x512 .bf16 := win0_4.stage (cfg0.slots t 4)
abbrev ms5 (t : Fin cfg0.N) : Memref sig .tc .vmem S640x1536 .fp8e4m3 := win0_5.stage (cfg0.slots t 5)
abbrev ms6 (t : Fin cfg0.N) : Memref sig .tc .vmem S1x640 .f32 := win0_6.stage (cfg0.slots t 6)
abbrev ms7 (t : Fin cfg0.N) : Memref sig .tc .vmem S640x512 .bf16 := win0_7.stage (cfg0.slots t 7)

/-- What the body is called with at point `t`. -/
def bodyPre (c : Dev nD) (t : Fin cfg0.N) (y5 : Vec F S640x1536 .fp8e4m3) (y6 : Vec F S1x640 .f32) (y7 : Vec F S640x512 .bf16) : sProp 𝕄 :=
  iprop((rdat m c).Φ t.castSucc ∗ (rdat m c).owesAt () t.castSucc
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ owns (c : Thread nD τ) (ms5 t) fullShare y5
    ∗ owns (c : Thread nD τ) (ms6 t) fullShare y6 ∗ owns (c : Thread nD τ) (ms7 t) fullShare y7)

/-- What it returns. -/
def bodyPost (c : Dev nD) (t : Fin cfg0.N) (y5 : Vec F S640x1536 .fp8e4m3) (y6 : Vec F S1x640 .f32) (y7 : Vec F S640x512 .bf16) : sProp 𝕄 :=
  iprop((rdat m c).Φ t.succ ∗ (rdat m c).owesAt () t.succ
    ∗ (∃ X, ⌜X = iblk m c 0 t⌝ ∗ owns (c : Thread nD τ) (ms0 t) fullShare X) ∗ (∃ X, ⌜X = iblk m c 1 t⌝ ∗ owns (c : Thread nD τ) (ms1 t) fullShare X)
    ∗ (∃ X, ⌜X = iblk m c 2 t⌝ ∗ owns (c : Thread nD τ) (ms2 t) fullShare X) ∗ (∃ X, ⌜X = iblk m c 3 t⌝ ∗ owns (c : Thread nD τ) (ms3 t) fullShare X)
    ∗ (∃ X, ⌜X = iblk m c 4 t⌝ ∗ owns (c : Thread nD τ) (ms4 t) fullShare X)
    ∗ (∃ X, ⌜(rdat m c).after 5 t y5 X⌝ ∗ owns (c : Thread nD τ) (ms5 t) fullShare X)
    ∗ (∃ X, ⌜(rdat m c).after 6 t y6 X⌝ ∗ owns (c : Thread nD τ) (ms6 t) fullShare X)
    ∗ (∃ X, ⌜(rdat m c).after 7 t y7 X⌝ ∗ owns (c : Thread nD τ) (ms7 t) fullShare X))

/-- The body at a point, from a run with the contents it leaves and what they are. -/
theorem sound_of (c : Dev nD) (t : Fin cfg0.N) (y5 : Vec F S640x1536 .fp8e4m3) (y6 : Vec F S1x640 .f32) (y7 : Vec F S640x512 .bf16)
    (x5 : Vec F S2x640x18432 .fp8e4m3 → Vec F S2x640x128 .f32 → Vec F S640x128 .f32 → Vec F S640x1536 .fp8e4m3)
    (x6 : Vec F S1x640 .f32)
    (x7 : Vec F S2x640x18432 .fp8e4m3 → Vec F S2x640x128 .f32 → Vec F S640x128 .f32 → Vec F S640x512 .bf16)
    (ga : Vec F S2x640x18432 .fp8e4m3 → Vec F S640x128 .f32 → Vec F S2x640x18432 .fp8e4m3)
    (gs : Vec F S2x640x128 .f32 → Vec F S2x640x128 .f32) (gi : Vec F S640x128 .f32 → Vec F S640x128 .f32)
    (hrun : ∀ (sa : Vec F S2x640x18432 .fp8e4m3) (ss : Vec F S2x640x128 .f32) (si : Vec F S640x128 .f32) (K : PUnit → sProp 𝕄),
      iprop(owns (c : Thread nD τ) (ms0 t) fullShare (iblk m c 0 t) ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ owns (c : Thread nD τ) (ms4 t) fullShare (iblk m c 4 t) ∗ owns (c : Thread nD τ) (ms5 t) fullShare y5
        ∗ owns (c : Thread nD τ) (ms6 t) fullShare y6 ∗ owns (c : Thread nD τ) (ms7 t) fullShare y7
        ∗ owns (c : Thread nD τ) scA fullShare sa ∗ owns (c : Thread nD τ) scS fullShare ss ∗ owns (c : Thread nD τ) scI fullShare si
        ∗ (iprop(owns (c : Thread nD τ) (ms0 t) fullShare (iblk m c 0 t) ∗ owns (c : Thread nD τ) (ms1 t) fullShare (iblk m c 1 t)
          ∗ owns (c : Thread nD τ) (ms2 t) fullShare (iblk m c 2 t) ∗ owns (c : Thread nD τ) (ms3 t) fullShare (iblk m c 3 t)
          ∗ owns (c : Thread nD τ) (ms4 t) fullShare (iblk m c 4 t) ∗ owns (c : Thread nD τ) (ms5 t) fullShare (x5 sa ss si)
          ∗ owns (c : Thread nD τ) (ms6 t) fullShare x6 ∗ owns (c : Thread nD τ) (ms7 t) fullShare (x7 sa ss si)
          ∗ owns (c : Thread nD τ) scA fullShare (ga sa si) ∗ owns (c : Thread nD τ) scS fullShare (gs ss) ∗ owns (c : Thread nD τ) scI fullShare (gi si)) -∗ K ⟨⟩))
        ⊢ wp frame (wpE (defs₀ (F := F)) Variants.none c none) Set.univ (bodyAt0 t) K)
    (h5 : ∀ sa ss si, Inv m c t.val sa ss si → (rdat m c).after 5 t y5 (x5 sa ss si))
    (h6 : (rdat m c).after 6 t y6 x6)
    (h7 : ∀ sa ss si, Inv m c t.val sa ss si → Inv m c (t.val + 1) (ga sa si) (gs ss) (gi si) → (rdat m c).after 7 t y7 (x7 sa ss si))
    (hi : ∀ sa ss si, Inv m c t.val sa ss si → Inv m c (t.val + 1) (ga sa si) (gs ss) (gi si)) :
    bodyPre m c t y5 y6 y7 ⊢ wp frame (wpE (defs₀ (F := F)) Variants.none c none) Set.univ (bodyAt0 t) (fun _ => bodyPost m c t y5 y6 y7) := by
  unfold bodyPre bodyPost
  rw [show (rdat m c).owesAt () t.succ = (rdat m c).owesAt () t.castSucc from rfl]
  dsimp only [rdat]
  iintro ⟨⟨⟨%sa, %ss, %si, %hinv, Ha, Hs, Hi⟩, Hg⟩, Ho, H0, H1, H2, H3, H4, H5, H6, H7⟩
  iapply (hrun sa ss si _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha]; · iexact Ha
  isplitl [Hs]; · iexact Hs
  isplitl [Hi]; · iexact Hi
  iintro ⟨H0, H1, H2, H3, H4, H5, H6, H7, Ha, Hs, Hi⟩
  isplitl [Ha Hs Hi Hg]
  · isplitl [Ha Hs Hi]
    · iexists _, _, _; isplitr
      swap
      · isplitl [Ha]; · iexact Ha
        isplitl [Hs]; · iexact Hs
        iexact Hi
      ipureintro; exact hi sa ss si hinv
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact h5 sa ss si hinv
  isplitl [H6]
  · iexists _; isplitr; swap; · iexact H6
    ipureintro; exact h6
  iexists _; isplitr; swap; · iexact H7
  ipureintro; exact h7 sa ss si hinv (hi sa ss si hinv)

/-- The body at any point. -/
theorem sound_body (c : Dev nD) (t : Fin cfg0.N) (y5 : Vec F S640x1536 .fp8e4m3) (y6 : Vec F S1x640 .f32) (y7 : Vec F S640x512 .bf16) :
    bodyPre m c t y5 y6 y7 ⊢ wp frame (wpE (defs₀ (F := F)) Variants.none c none) Set.univ (bodyAt0 t) (fun _ => bodyPost m c t y5 y6 y7) := by
  have ht := tlt t
  have i1 := cond1_iff t
  have i2 := cond2_iff t
  have i3 := cond3_iff t
  have i4 := cond4_iff t
  by_cases c4 : t.val / 14 = 4
  · -- the last grid row
    have nq : ¬ quant t.val := fun h => by have := h.1; omega
    refine sound_of m c t y5 y6 y7 (fun _ _ _ => y5) y6 (fun sa ss _ => outB (grid0.coords t) ss sa (iblk m c 2 t) (iblk m c 3 t) (iblk m c 4 t))
      (fun sa _ => sa) (fun ss => ss) (fun si => si)
      (fun sa ss si K => runF c (grid0.coords t) (by rw [i1]; omega) (by rw [i2]; omega) (by rw [i3]; omega) (by rw [i4]; omega)
        _ _ _ _ _ _ _ _ _ _ _ _ _ _ _ _ _ _ _ _ _ _ _ _ _ _ _ _ _ _ _ _ _ Set.univ K)
      (fun _ _ _ _ => .inr ⟨nq, rfl⟩) (.inr ⟨by omega, rfl⟩)
      (fun sa ss si h h' => .inl ⟨by omega, outB_eq t h' (by omega)⟩)
      (fun sa ss si h => h.next t (.inr ⟨by omega, rfl, rfl⟩) (.inr ⟨by omega, rfl⟩))
  by_cases c0 : t.val / 14 = 0
  · by_cases n0 : t.val % 14 = 0
    · -- the first point
      have hq : quant t.val := ⟨by omega, by omega⟩
      refine sound_of m c t y5 y6 y7 (fun _ _ _ => k0_pay7 (inv (iblk m c 0 t)) (iblk m c 1 t)) (row (iblk m c 0 t)) (fun _ _ _ => y7)
        (fun sa _ => putA (grid0.coords t) sa (k0_pay8 (inv (iblk m c 0 t)) (iblk m c 1 t)))
        (fun ss => putS (grid0.coords t) ss (scl (iblk m c 0 t))) (fun _ => inv (iblk m c 0 t))
        (fun sa ss si K => runA c (grid0.coords t) (by rw [i1]; omega) (by rw [i2]; omega) (by rw [i3]; omega) (by rw [i4]; omega)
          _ _ _ _ _ _ _ _ _ _ _ _ _ _ _ _ _ _ _ _ _ _ _ _ _ _ _ _ _ _ _ _ _ Set.univ K)
        (fun _ _ _ _ => .inl ⟨hq, by rw [iblk0 m c t (by omega), iblk1 m c t (by omega)]; rfl⟩)
        (.inl ⟨by omega, by rw [iblk0 m c t (by omega)]⟩)
        (fun sa ss si h h' => .inr ⟨by omega, rfl⟩)
        (fun sa ss si h => h.next t (.inl ⟨by omega, by omega, by rw [iblk0 m c t (by omega)]; rfl, by rw [iblk0 m c t (by omega)]⟩)
          (.inl ⟨by omega, by rw [iblk0 m c t (by omega), iblk1 m c t (by omega)]⟩))
    by_cases n12 : t.val % 14 < 12
    · -- a later chunk of the first row tile
      have hq : quant t.val := ⟨by omega, by omega⟩
      have e : ∀ {sa ss si}, Inv m c t.val sa ss si → si = inv (AMX m c (t.val / 14)) := fun h => h.invs (t.val / 14) (by omega) (by omega) (by omega)
      refine sound_of m c t y5 y6 y7 (fun _ _ si => k0_pay7 si (iblk m c 1 t)) y6 (fun _ _ _ => y7)
        (fun sa si => putA (grid0.coords t) sa (k0_pay8 si (iblk m c 1 t))) (fun ss => ss) (fun si => si)
        (fun sa ss si K => runB c (grid0.coords t) (by rw [i1]; omega) (by rw [i2]; omega) (by rw [i3]; omega) (by rw [i4]; omega)
          _ _ _ _ _ _ _ _ _ _ _ _ _ _ _ _ _ _ _ _ _ _ _ _ _ _ _ _ _ _ _ _ _ Set.univ K)
        (fun _ _ _ h => .inl ⟨hq, by rw [e h, iblk1 m c t (by omega)]; rfl⟩)
        (.inr ⟨by omega, rfl⟩)
        (fun sa ss si h h' => .inr ⟨by omega, rfl⟩)
        (fun sa ss si h => h.next t (.inr ⟨by omega, rfl, rfl⟩) (.inl ⟨by omega, by rw [e h, iblk1 m c t (by omega)]⟩))
    · -- the two idle points
      have nq : ¬ quant t.val := fun h => by have := h.2; omega
      refine sound_of m c t y5 y6 y7 (fun _ _ _ => y5) y6 (fun _ _ _ => y7) (fun sa _ => sa) (fun ss => ss) (fun si => si)
        (fun sa ss si K => runC c (grid0.coords t) (by rw [i1]; omega) (by rw [i2]; omega) (by rw [i3]; omega) (by rw [i4]; omega)
          _ _ _ _ _ _ _ _ _ _ _ _ _ _ _ _ _ _ _ _ _ _ _ _ _ _ _ _ _ _ _ _ _ Set.univ K)
        (fun _ _ _ _ => .inr ⟨nq, rfl⟩) (.inr ⟨by omega, rfl⟩)
        (fun sa ss si h h' => .inr ⟨by omega, rfl⟩)
        (fun sa ss si h => h.next t (.inr ⟨by omega, rfl, rfl⟩) (.inr ⟨by omega, rfl⟩))
  have hq : quant t.val := ⟨by omega, by omega⟩
  by_cases n0 : t.val % 14 = 0
  · -- the first point of a middle grid row
    refine sound_of m c t y5 y6 y7 (fun _ _ _ => k0_pay7 (inv (iblk m c 0 t)) (iblk m c 1 t)) (row (iblk m c 0 t))
      (fun sa ss _ => outB (grid0.coords t) (putS (grid0.coords t) ss (scl (iblk m c 0 t))) (putA (grid0.coords t) sa (k0_pay8 (inv (iblk m c 0 t)) (iblk m c 1 t)))
        (iblk m c 2 t) (iblk m c 3 t) (iblk m c 4 t))
      (fun sa _ => putA (grid0.coords t) sa (k0_pay8 (inv (iblk m c 0 t)) (iblk m c 1 t)))
      (fun ss => putS (grid0.coords t) ss (scl (iblk m c 0 t))) (fun _ => inv (iblk m c 0 t))
      (fun sa ss si K => runD c (grid0.coords t) (by rw [i1]; omega) (by rw [i2]; omega) (by rw [i3]; omega) (by rw [i4]; omega)
        _ _ _ _ _ _ _ _ _ _ _ _ _ _ _ _ _ _ _ _ _ _ _ _ _ _ _ _ _ _ _ _ _ Set.univ K)
      (fun _ _ _ _ => .inl ⟨hq, by rw [iblk0 m c t (by omega), iblk1 m c t (by omega)]; rfl⟩)
      (.inl ⟨by omega, by rw [iblk0 m c t (by omega)]⟩)
      (fun sa ss si h h' => .inl ⟨by omega, outB_eq t h' (by omega)⟩)
      (fun sa ss si h => h.next t (.inl ⟨by omega, by omega, by rw [iblk0 m c t (by omega)]; rfl, by rw [iblk0 m c t (by omega)]⟩)
        (.inl ⟨by omega, by rw [iblk0 m c t (by omega), iblk1 m c t (by omega)]⟩))
  · -- a later point of a middle grid row
    have e : ∀ {sa ss si}, Inv m c t.val sa ss si → si = inv (AMX m c (t.val / 14)) := fun h => h.invs (t.val / 14) (by omega) (by omega) (by omega)
    refine sound_of m c t y5 y6 y7 (fun _ _ si => k0_pay7 si (iblk m c 1 t)) y6
      (fun sa ss si => outB (grid0.coords t) ss (putA (grid0.coords t) sa (k0_pay8 si (iblk m c 1 t))) (iblk m c 2 t) (iblk m c 3 t) (iblk m c 4 t))
      (fun sa si => putA (grid0.coords t) sa (k0_pay8 si (iblk m c 1 t))) (fun ss => ss) (fun si => si)
      (fun sa ss si K => runE c (grid0.coords t) (by rw [i1]; omega) (by rw [i2]; omega) (by rw [i3]; omega) (by rw [i4]; omega)
        _ _ _ _ _ _ _ _ _ _ _ _ _ _ _ _ _ _ _ _ _ _ _ _ _ _ _ _ _ _ _ _ _ Set.univ K)
      (fun _ _ _ h => .inl ⟨hq, by rw [e h, iblk1 m c t (by omega)]; rfl⟩)
      (.inr ⟨by omega, rfl⟩)
      (fun sa ss si h h' => .inl ⟨by omega, outB_eq t h' (by omega)⟩)
      (fun sa ss si h => h.next t (.inr ⟨by omega, rfl, rfl⟩) (.inl ⟨by omega, by rw [e h, iblk1 m c t (by omega)]⟩))

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [e0, e1, e2, e3, e4]
  exact triple_restated (sound_body m c t (Y 5) (Y 6) (Y 7)) rfl .rfl fun _ => .rfl

set_option backward.isDefEq.respectTransparency.types false in
/-- Every run ends with the arrays at contents the proof data allow, the other buffers as found and every semaphore at zero. -/
theorem run_main : θ_run defs (onTc (τ := τ) (main (F := F))) (s₀ m ρ)
    (fun r => (RDat.FramePost cfg0 (rdat m) (V m)) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m)
    (hin := fun c => by
      rw [PhiA0_eq]
      dsimp only [rdat]
      iintro ⟨⟨⟨%sa, Ha⟩, ⟨%ss, Hs⟩, ⟨%si, Hi⟩⟩, Hg⟩
      isplitl [Ha Hs Hi]
      · iexists sa, ss, si; isplitr
        · ipureintro; exact Inv.init sa ss si
        isplitl [Ha]; · iexact Ha
        isplitl [Hs]; · iexact Hs
        iexact Hi
      iexact Hg)
    (hout := fun c => by
      rw [PhiA0_eq]
      dsimp only [rdat]
      iintro ⟨⟨%sa, %ss, %si, %hinv, Ha, Hs, Hi⟩, Hg⟩
      isplitl [Ha Hs Hi]
      · isplitl [Ha]; · iexists _; iexact Ha
        isplitl [Hs]; · iexists _; iexact Hs
        iexists _; iexact Hi
      iexact Hg)

/-- The argument arrays end as they were. -/
theorem args_kept (r : PUnit × MemSt nD τ sig (Elt F)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans ((A_eq m c 0).trans (V_main_arg0 m c)),
   (RDat.FramePost.arr_in h c 1 rfl).trans ((A_eq m c 1).trans (V_main_arg1 m c)),
   (RDat.FramePost.arr_in h c 2 rfl).trans ((A_eq m c 2).trans (V_main_arg2 m c)),
   ((h c).2 main_arg3 (Pipeline.mem_restRefs_of main_arg3 (by decide) (by decide))).trans (V_main_arg3 m c),
   (RDat.FramePost.arr_in h c 4 rfl).trans ((A_eq m c 4).trans (V_main_arg4 m c))⟩

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m r h.1 c, h.2⟩) (run_main m ρ)

end Cert.DownIdeal.Hand
end
-- ==== Proof.QuantSpec.lean ====
/- The quantisation scale of a row. The kernels find the exponent field of `amax / 448` by a binary search over the powers of
   two and build the scale and its inverse from that field; the references take the least power of two above
   `amax / 448`. Over the extended reals the two agree for every `amax` up to the largest f32 number. -/
module

public import Idealize.ShloMosaic.PureOps.Ideal
public import Mathlib.Tactic.NormNum
public import Mathlib.Tactic.Ring
public import Mathlib.Tactic.Positivity

@[expose] public section

noncomputable section

namespace Cert.Proof.Quant

open Idealize.ShloMosaic

/-! ## Words that are powers of two -/

/-- The word whose exponent field is `k` and whose other bits are zero, read as a number. -/
def pat (k : ℕ) : EReal := Ideal.ofBits .f32 (BitVec.ofNat 32 k <<< 23)

theorem fields : ∀ k : Fin 256, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  decide +kernel

theorem pat_eq (k : ℕ) (h0 : 0 < k) (h1 : k < 255) : pat k = (((2 : ℝ) ^ ((k : ℤ) - 127) : ℝ) : EReal) := by
  obtain ⟨e0, e1, e2⟩ := fields ⟨k, by omega⟩
  dsimp only at e0 e1 e2
  unfold pat
  dsimp only [Ideal.ofBits, Ideal.ieee]
  simp only [Nat.reduceAdd]
  rw [e0, e1, e2]
  rw [if_neg (by omega), if_neg (by omega)]
  refine congrArg (fun r : ℝ => (r : EReal)) ?_
  have hz : ((k : ℤ) - 127) = ((k : ℤ) - (2 ^ (8 - 1) - 1) - (23 : ℕ)) + 23 := by norm_num
  rw [hz, zpow_add₀ (by norm_num)]
  push_cast
  norm_num
  ring

theorem pat_255 : pat 255 = ⊤ := by
  have e0 : (BitVec.extractLsb' (8 + 23) 1 (BitVec.ofNat 32 255 <<< 23) == 1#1) = false := by decide
  have e1 : (BitVec.extractLsb' 23 8 (BitVec.ofNat 32 255 <<< 23)).toNat = 255 := by decide
  have e2 : (BitVec.extractLsb' 0 23 (BitVec.ofNat 32 255 <<< 23)).toNat = 0 := by decide
  unfold pat Ideal.ofBits Ideal.ieee
  simp only [e0, e1, e2]
  norm_num

theorem pat_mono {j k : ℕ} (h0 : 0 < j) (hjk : j ≤ k) (hk : k ≤ 255) : pat j ≤ pat k := by
  rcases Nat.lt_or_ge k 255 with h | h
  · rw [pat_eq j h0 (by omega), pat_eq k (by omega) h]
    exact EReal.coe_le_coe_iff.mpr (zpow_le_zpow_right₀ (by norm_num) (by omega))
  · obtain rfl : k = 255 := by omega
    rw [pat_255]; exact le_top

/-! ## The binary search -/

/-- One step of the search. -/
def bstep (y : EReal) (v b : BitVec 32) : BitVec 32 :=
  if Ideal.ofBits .f32 (IntOp.shli .vector (IntOp.addi v b) 23#32) ≤ y then IntOp.addi v b else v
/-- The first four steps. -/
def field4 (y : EReal) : BitVec 32 := bstep y (bstep y (bstep y (bstep y 0#32 128#32) 64#32) 32#32) 16#32
/-- The last four steps. -/
def field8 (y : EReal) (v : BitVec 32) : BitVec 32 := bstep y (bstep y (bstep y (bstep y v 8#32) 4#32) 2#32) 1#32
/-- The exponent of the scale. -/
def expo (y : EReal) : BitVec 32 := if y = 0 then 0#32 else IntOp.subi (field8 y (field4 y)) 126#32

theorem ofBits_shl (k : ℕ) : Ideal.ofBits .f32 (IntOp.shli .vector (BitVec.ofNat 32 k) 23#32) = pat k := by
  unfold pat IntOp.shli
  rw [if_pos (by decide)]
  rfl

theorem bstep_spec (y : EReal) (f b : ℕ) (lo : f = 0 ∨ pat f ≤ y) (le : f + 2 * b ≤ 256) (hi : f + 2 * b = 256 ∨ y < pat (f + 2 * b)) :
    ∃ f' : ℕ, bstep y (BitVec.ofNat 32 f) (BitVec.ofNat 32 b) = BitVec.ofNat 32 f' ∧ (f' = 0 ∨ pat f' ≤ y) ∧ f' + b ≤ 256
      ∧ (f' + b = 256 ∨ y < pat (f' + b)) := by
  have e : IntOp.addi (BitVec.ofNat 32 f) (BitVec.ofNat 32 b) = BitVec.ofNat 32 (f + b) := by
    unfold IntOp.addi; exact (BitVec.ofNat_add f b).symm
  unfold bstep
  rw [e, ofBits_shl]
  by_cases h : pat (f + b) ≤ y
  · rw [if_pos h]
    exact ⟨f + b, rfl, .inr h, by omega, by rw [show f + b + b = f + 2 * b by ring]; exact hi⟩
  · rw [if_neg h]
    exact ⟨f, rfl, lo, by omega, .inr (not_le.mp h)⟩

/-- The search finds the last power of two that does not exceed `y`. -/
theorem field_spec (y : EReal) : ∃ f : ℕ, field8 y (field4 y) = BitVec.ofNat 32 f ∧ (f = 0 ∨ pat f ≤ y) ∧ f + 1 ≤ 256
    ∧ (f + 1 = 256 ∨ y < pat (f + 1)) := by
  unfold field8 field4
  obtain ⟨f1, e1, lo, le, hi⟩ := bstep_spec y 0 128 (.inl rfl) (by omega) (.inl rfl)
  rw [show (0#32) = BitVec.ofNat 32 0 from rfl, show (128#32) = BitVec.ofNat 32 128 from rfl, e1]
  obtain ⟨f2, e2, lo, le, hi⟩ := bstep_spec y f1 64 lo le hi
  rw [e2]
  obtain ⟨f3, e3, lo, le, hi⟩ := bstep_spec y f2 32 lo le hi
  rw [e3]
  obtain ⟨f4, e4, lo, le, hi⟩ := bstep_spec y f3 16 lo le hi
  rw [e4]
  obtain ⟨f5, e5, lo, le, hi⟩ := bstep_spec y f4 8 lo le hi
  rw [e5]
  obtain ⟨f6, e6, lo, le, hi⟩ := bstep_spec y f5 4 lo le hi
  rw [e6]
  obtain ⟨f7, e7, lo, le, hi⟩ := bstep_spec y f6 2 lo le hi
  rw [e7]
  obtain ⟨f8, e8, lo, le, hi⟩ := bstep_spec y f7 1 lo le hi
  exact ⟨f8, e8, lo, le, hi⟩

/-! ## The reference's scale -/

/-- The `k`-th power of two of the references' list. -/
def pw (k : ℕ) : EReal := (((2 : ℝ) ^ ((k : ℤ) - 126) : ℝ) : EReal)
/-- The factor that stands for division by 448. -/
def c448 : EReal := Ideal.ofBits .f32 991054117#32
/-- The largest f32 number. -/
def largest : EReal := Ideal.ofBits .f32 0x7F7FFFFF#32
/-- The scale of a row whose largest magnitude is `a`. -/
def scale (a : EReal) : EReal :=
  if a = 0 then 1 else (Finset.univ : Finset (Fin 254)).fold min ⊤ (fun k => if a * c448 < pw k.val then pw k.val else ⊤)
/-- A number quantised at a scale. -/
def code (h s : EReal) : EReal :=
  min (Ideal.ofBits .f32 1138753536#32) (max (Ideal.ofBits .f32 3286237184#32) (h * Ideal.div 1 s))

theorem c448_eq : c448 = ((9586981 * (2 : ℝ) ^ (-32 : ℤ) : ℝ) : EReal) := by
  unfold c448
  dsimp only [Ideal.ofBits, Ideal.ieee]
  rw [show (BitVec.extractLsb' (8 + 23) 1 991054117#32 == 1#1) = false by decide,
    show (BitVec.extractLsb' 23 8 991054117#32).toNat = 118 by decide,
    show (BitVec.extractLsb' 0 23 991054117#32).toNat = 1198373 by decide]
  rw [if_neg (by norm_num), if_neg (by norm_num)]
  congr 1
  norm_num

theorem largest_eq : largest = ((16777215 * (2 : ℝ) ^ (104 : ℤ) : ℝ) : EReal) := by
  unfold largest
  dsimp only [Ideal.ofBits, Ideal.ieee]
  rw [show (BitVec.extractLsb' (8 + 23) 1 0x7F7FFFFF#32 == 1#1) = false by decide,
    show (BitVec.extractLsb' 23 8 0x7F7FFFFF#32).toNat = 254 by decide,
    show (BitVec.extractLsb' 0 23 0x7F7FFFFF#32).toNat = 8388607 by decide]
  rw [if_neg (by norm_num), if_neg (by norm_num)]
  congr 1
  norm_num

theorem c448_pos : 0 < c448 := by
  rw [c448_eq]; exact EReal.coe_pos.mpr (by positivity)

theorem mul_c448_eq_zero (a : EReal) : a * c448 = 0 ↔ a = 0 := by
  rw [mul_eq_zero]
  exact or_iff_left c448_pos.ne'

/-- Up to the largest f32 number the quotient stays below the power of two of field 253. -/
theorem mul_c448_lt {a : EReal} (h : a ≤ largest) : a * c448 < pat 253 := by
  refine lt_of_le_of_lt (mul_le_mul_of_nonneg_right h c448_pos.le) ?_
  rw [c448_eq, largest_eq, pat_eq 253 (by omega) (by omega), ← EReal.coe_mul]
  refine EReal.coe_lt_coe_iff.mpr ?_
  norm_num

theorem scale_of_field {a : EReal} (ha : a ≠ 0) (f : ℕ) (hf : f ≤ 253) (lo : f = 0 ∨ pat f ≤ a * c448) (hi : a * c448 < pat (f + 1)) :
    scale a = pat (f + 1) := by
  have epw : ∀ k : ℕ, k ≤ 253 → pw k = pat (k + 1) := fun k hk => by
    rw [pat_eq (k + 1) (by omega) (by omega)]; unfold pw; congr 2; push_cast; ring
  unfold scale
  rw [if_neg ha]
  refine le_antisymm ?_ ?_
  · rw [Finset.fold_min_le]
    refine .inr ⟨⟨f, by omega⟩, Finset.mem_univ _, ?_⟩
    dsimp only
    rw [epw f hf, if_pos hi]
  · rw [Finset.le_fold_min]
    refine ⟨le_top, fun k _ => ?_⟩
    split
    · next hk =>
      rw [epw k.val (by omega)] at hk ⊢
      refine pat_mono (by omega) ?_ (by omega)
      by_contra hlt
      rcases lo with h0 | h
      · omega
      · exact absurd (lt_of_lt_of_le hk (le_trans (pat_mono (by omega) (by omega) (by omega)) h)) (lt_irrefl _)
    · exact le_top

/-- The word the kernels build for the scale, and the one for its inverse. -/
theorem words {a : EReal} (h : a ≤ largest) :
    Ideal.ofBits .f32 (IntOp.shli .vector (IntOp.addi (expo (a * c448)) 127#32) 23#32) = scale a
      ∧ Ideal.ofBits .f32 (IntOp.shli .vector (IntOp.addi (IntOp.subi 0#32 (expo (a * c448))) 127#32) 23#32) = Ideal.div 1 (scale a) := by
  unfold expo
  by_cases ha : a = 0
  · rw [if_pos ((mul_c448_eq_zero a).mpr ha)]
    have e1 : pat 127 = 1 := by rw [pat_eq 127 (by omega) (by omega)]; norm_num
    have es : scale a = 1 := by unfold scale; rw [if_pos ha]
    rw [es]
    constructor
    · exact (ofBits_shl 127).trans e1
    · refine ((ofBits_shl 127).trans e1).trans ?_
      unfold Ideal.div
      rw [if_neg one_ne_zero]
      simp
  · rw [if_neg (fun e => ha ((mul_c448_eq_zero a).mp e))]
    obtain ⟨f, e, lo, le, hi⟩ := field_spec (a * c448)
    have hlt := mul_c448_lt h
    have hf : f ≤ 252 := by
      by_contra hgt
      rcases lo with h0 | h'
      · omega
      · exact absurd (lt_of_lt_of_le hlt (le_trans (pat_mono (by omega) (by omega) (by omega)) h')) (lt_irrefl _)
    have hi' : a * c448 < pat (f + 1) := hi.resolve_left (by omega)
    rw [e, scale_of_field ha f (by omega) lo hi']
    have s1 : IntOp.addi (IntOp.subi (BitVec.ofNat 32 f) 126#32) 127#32 = BitVec.ofNat 32 (f + 1) := by
      unfold IntOp.addi IntOp.subi
      apply BitVec.eq_of_toNat_eq
      simp only [BitVec.toNat_add, BitVec.toNat_sub, BitVec.toNat_ofNat]
      omega
    have s2 : IntOp.addi (IntOp.subi 0#32 (IntOp.subi (BitVec.ofNat 32 f) 126#32)) 127#32 = BitVec.ofNat 32 (253 - f) := by
      unfold IntOp.addi IntOp.subi
      apply BitVec.eq_of_toNat_eq
      simp only [BitVec.toNat_add, BitVec.toNat_sub, BitVec.toNat_ofNat]
      omega
    rw [s1, s2, ofBits_shl, ofBits_shl]
    refine ⟨rfl, ?_⟩
    rw [pat_eq (f + 1) (by omega) (by omega), pat_eq (253 - f) (by omega) (by omega)]
    unfold Ideal.div
    rw [if_neg (by
      intro h0
      have := EReal.coe_eq_zero.mp h0
      exact absurd this (by positivity)), one_mul, ← EReal.coe_inv, ← zpow_neg]
    congr 2
    push_cast [Nat.cast_sub (show f ≤ 253 by omega)]
    ring

/-- The list of the powers of two is computed as such: two to the power of `k - 126`. -/
theorem power_of_two (k : Fin 254) :
    (Ideal.pow (Ideal.ofBits FTy.f32 1073741824#32) (FloatOps.sitofp (F := Ideal) FTy.f32 (IntOp.addi 4294967170#32 (BitVec.ofNat 32 k.val))) : EReal) = pw k.val := by
  have h2 : (Ideal.ofBits FTy.f32 1073741824#32 : EReal) = ((2 : ℝ) : EReal) := by
    simp [Ideal.ofBits, Ideal.ieee]
    rw [← EReal.coe_mul]
    exact congrArg (fun r : ℝ => (r : EReal)) (by norm_num)
  have hi : (IntOp.addi 4294967170#32 (BitVec.ofNat 32 k.val)).toInt = (k.val : ℤ) - 126 := by
    revert k; decide +kernel
  have hs : FloatOps.sitofp (F := Ideal) FTy.f32 (IntOp.addi 4294967170#32 (BitVec.ofNat 32 k.val)) = (((((k.val : ℤ) - 126 : ℤ) : ℝ)) : EReal) := by
    rw [← hi]; rfl
  rw [h2, hs]
  simp only [Ideal.pow_coe_coe]
  unfold pw
  exact congrArg (fun r : ℝ => (r : EReal)) (Real.rpow_intCast 2 _)

end Cert.Proof.Quant
-- ==== Proof.DownSpec.lean ====
/- DOWN, the result arrays as functions of the arguments: per row the quantisation scale of its largest magnitude, the
   row's activations quantised at it, and the residual plus the codes' product with the weights, scaled. -/
module

public import proofs.«01_k».proof.Proof.QuantSpec
public import proofs.«01_k».proof.DownIdeal
public import Idealize.ShloMosaic.Lib.Pointwise

@[expose] public section

noncomputable section

namespace Cert.Proof.Down

open Idealize.ShloMosaic
open Cert.DownIdeal (S2560x128 S2560x18432 S18432x7168 S2560x7168 S7168 S1x2560)
open Cert.Proof.Quant (scale code)

/-- The word of minus infinity reads as the least element. -/
theorem ofBits_ninf : (Ideal.ofBits FTy.f32 4286578688#32 : EReal) = ⊥ := by
  simp [Ideal.ofBits, Ideal.ieee]
/-- The word of plus infinity reads as the greatest element. -/
theorem ofBits_pinf : (Ideal.ofBits FTy.f32 2139095040#32 : EReal) = ⊤ := by
  simp [Ideal.ofBits, Ideal.ieee]

/-- The largest of the lane maxima of row `i`. -/
def rowMax (am : S2560x128.Idx → EReal) (i : Fin 2560) : EReal :=
  (Finset.univ : Finset (Fin 128)).fold max ⊥ (fun l => am (ix2 i l))
/-- The codes. -/
def codes (am : S2560x128.Idx → EReal) (act : S2560x18432.Idx → EReal) (y : S2560x18432.Idx) : EReal :=
  code (act y) (scale (rowMax am (y 0)))
/-- The scales, as a row. -/
def scales (am : S2560x128.Idx → EReal) (y : S1x2560.Idx) : EReal := scale (rowMax am (y 1))
/-- The projection plus the residual. -/
def out (am : S2560x128.Idx → EReal) (act : S2560x18432.Idx → EReal) (w : S18432x7168.Idx → EReal) (sw : S7168.Idx → EReal)
    (hm : S2560x7168.Idx → EReal) (y : S2560x7168.Idx) : EReal :=
  hm y + (∑ k : Fin 18432, codes am act (ix2 (y 0) k) * w (ix2 k (y 1))) * scale (rowMax am (y 0)) * sw (ix1 (y 1))

end Cert.Proof.Down
-- ==== Proof.DownKer.lean ====
/- DOWN, the kernel's three result arrays as functions of its five arguments. -/
module

public import proofs.«01_k».proof.Proof.DownIdealPipe
public import proofs.«01_k».proof.Proof.DownSpec
public import Idealize.ShloMosaic.Lib.StableHlo.Run

@[expose] public section

noncomputable section

namespace Cert.Proof.Down

open Idealize.ShloMosaic Idealize.ShloMosaic.TcCoe Idealize.SL.Sem
open Cert.DownIdeal Cert.DownIdeal.Gen Cert.DownIdeal.Hand
open Idealize.ShloMosaic.Pipeline (Dat RDat)
open Cert.Proof.Quant (scale code c448 largest words)

/-! ## The payloads at an index -/

/-- The largest lane of a block's row. -/
def bMax (x : S640x128.Idx → EReal) (r : Fin 640) : EReal := (Finset.univ : Finset (Fin 128)).fold max ⊥ (fun l => x (ix2 r l))

theorem pay3_apply (x : Vec Ideal S640x128 .f32) (r : Fin 640) : k0_pay3 (F := Ideal) x (ix2 r 0) = bMax x r * c448 := by
  pointwise [k0_pay3, bMax, c448]
  rw [show (Ideal.ofBits FTy.f32 4286578688#32 : EReal) = ⊥ from ofBits_ninf]

theorem pay4_apply (x : Vec Ideal S640x128 .f32) (r : Fin 640) : k0_pay4 (F := Ideal) x (ix2 r 0) = Quant.field4 (bMax x r * c448) := by
  rw [← pay3_apply]
  unfold k0_pay4
  generalize k0_pay3 (F := Ideal) x = a
  pointwise [Quant.field4, Quant.bstep]

theorem pay5_apply (a : FVec Ideal S640x1 .f32) (v : IVec S640x1 32) (r : Fin 640) :
    k0_pay5 (F := Ideal) a v 8#32 (ix2 r 0) = if a (ix2 r 0) = 0 then 0#32 else IntOp.subi (Quant.field8 (a (ix2 r 0)) (v (ix2 r 0))) 126#32 := by
  pointwise [k0_pay5, Quant.field8, Quant.bstep]

theorem expo_apply (x : Vec Ideal S640x128 .f32) (r : Fin 640) : Hand.expo (F := Ideal) x (ix2 r 0) = Quant.expo (bMax x r * c448) := by
  unfold Hand.expo
  rw [pay5_apply, pay3_apply, pay4_apply]
  rfl

theorem scl_apply (x : Vec Ideal S640x128 .f32) (r : Fin 640) (l : Fin 128) (h : bMax x r ≤ largest) :
    scl (F := Ideal) x (ix3 0 r l) = scale (bMax x r) := by
  rw [← (words h).1, ← expo_apply]
  unfold scl Hand.expo
  pointwise [k0_pay10, k0_pay6]

theorem inv_apply (x : Vec Ideal S640x128 .f32) (r : Fin 640) (l : Fin 128) (h : bMax x r ≤ largest) :
    Hand.inv (F := Ideal) x (ix2 r l) = Ideal.div 1 (scale (bMax x r)) := by
  rw [← (words h).2, ← expo_apply]
  unfold Hand.inv
  pointwise [k0_pay11]

theorem row_apply (x : Vec Ideal S640x128 .f32) (r : Fin 640) (h : bMax x r ≤ largest) :
    row (F := Ideal) x (ix2 0 r) = scale (bMax x r) := by
  rw [← (words h).1, ← expo_apply]
  unfold row
  pointwise [k0_pay12]

theorem pay7_apply (a : Vec Ideal S640x128 .f32) (b : Vec Ideal S640x1536 .bf16) (s : EReal) (r : Fin 640) (l : Fin 1536)
    (h : ∀ l, a (ix2 r l) = Ideal.div 1 s) : k0_pay7 (F := Ideal) a b (ix2 r l) = code (b (ix2 r l)) s := by
  pointwise [k0_pay7, code]
  simp only [h, dite_eq_ite, ite_self]

theorem pay9_apply (a : Vec Ideal S1x640x128 .f32) (q : Vec Ideal S1x640x18432 .fp8e4m3) (w : Vec Ideal S18432x512 .fp8e4m3) (sw : Vec Ideal S1x512 .f32)
    (hm : Vec Ideal S640x512 .bf16) (s : EReal) (r : Fin 640) (l : Fin 512) (h : ∀ l, a (ix3 0 r l) = s) :
    k0_pay1 (F := Ideal) (k0_pay9 a q w sw hm) (ix2 r l)
      = hm (ix2 r l) + (∑ x, q (ix3 0 r x) * w (ix2 x l)) * s * sw (ix2 0 l) := by
  pointwise [k0_pay9, k0_pay1]
  simp only [h, dite_eq_ite, ite_self]

/-! ## The blocks of the arrays -/

variable (m : (ℓ : Loc nD τ sig) → Buf (Elt Ideal) ℓ) (c : Dev nD)

abbrev aMax : S2560x128.Idx → EReal := m ((c : Thread nD τ).loc main_arg0)
abbrev aAct : S2560x18432.Idx → EReal := m ((c : Thread nD τ).loc main_arg1)
abbrev aW : S18432x7168.Idx → EReal := m ((c : Thread nD τ).loc main_arg2)
abbrev aSw : S7168.Idx → EReal := m ((c : Thread nD τ).loc main_arg3)
abbrev aHm : S2560x7168.Idx → EReal := m ((c : Thread nD τ).loc main_arg4)

theorem V_v0 : V m c main_v0 = fun y : S1x7168.Idx => aSw m c (ix1 (y 1)) := by
  have h : V m c main_v0 = broadcastInDim S1x7168 ![1] bcast_S7168_S1x7168_1 (aSw m c) := by
    unfold V hostOps0
    after_results
  rw [h]
  funext y
  pointwise

/-- No chunk maximum exceeds the largest f32 number. -/
def Small : Prop := ∀ y, aMax m c y ≤ largest

variable {m c}

theorem rowMax_le (hs : Small m c) (i : Fin 2560) : rowMax (aMax m c) i ≤ largest := by
  unfold rowMax
  rw [Finset.fold_max_le]
  exact ⟨bot_le, fun l _ => hs _⟩

theorem bMax_eq (j : ℕ) (r : Fin 640) : bMax (AMX m c j) r = rowMax (aMax m c) (Fin.ofNat 2560 (j * 640 + r.val)) := rfl

theorem code_eq (hs : Small m c) (j ch : ℕ) (r : Fin 640) (l : Fin 1536) :
    CODE m c j ch (ix2 r l) = codes (aMax m c) (aAct m c) (ix2 (Fin.ofNat 2560 (j * 640 + r.val)) (Fin.ofNat 18432 (ch * 1536 + l.val))) := by
  unfold CODE
  exact pay7_apply _ _ (scale (bMax (AMX m c j) r)) r l (fun l => inv_apply _ r l (rowMax_le hs _))

theorem row_eq (hs : Small m c) (j : ℕ) (r : Fin 640) :
    row (AMX m c j) (ix2 0 r) = scales (aMax m c) (ix2 0 (Fin.ofNat 2560 (j * 640 + r.val))) :=
  row_apply _ r (rowMax_le hs _)

theorem pa_eq (hs : Small m c) (j : ℕ) (r : Fin 640) (k : Fin 18432) :
    PA m c j (ix3 0 r k) = codes (aMax m c) (aAct m c) (ix2 (Fin.ofNat 2560 (j * 640 + r.val)) k) := by
  have hk := k.isLt
  unfold PA
  refine (code_eq hs j (k.val / 1536) r (Fin.ofNat 1536 k.val)).trans ?_
  congr 2
  apply Fin.ext
  show (k.val / 1536 * 1536 + k.val % 1536) % 18432 = k.val
  omega

theorem out_eq (hs : Small m c) (j n : ℕ) (r : Fin 640) (l : Fin 512) :
    OUT m c j n (ix2 r l) = out (aMax m c) (aAct m c) (aW m c) (aSw m c) (aHm m c)
      (ix2 (Fin.ofNat 2560 (j * 640 + r.val)) (Fin.ofNat 7168 (n * 512 + l.val))) := by
  have hp := pay9_apply (PS m c j) (PA m c j) (WB m c n) (SWB m c n) (HMB m c j n) (scale (bMax (AMX m c j) r)) r l
    (fun l => scl_apply _ r l (rowMax_le hs _))
  have hsw : SWB m c n (ix2 0 l) = aSw m c (ix1 (Fin.ofNat 7168 (n * 512 + l.val))) := by
    unfold SWB Hand.aSw
    rw [V_v0]
    rfl
  simp only [pa_eq hs, hsw] at hp
  exact hp

/-! ## What is written back -/

theorem leaves5 : ∀ (n : ℕ) (hn : n < cfg0.N) (X : Vec Ideal S640x1536 .fp8e4m3), (rdat m c).Leaves 5 ⟨n, hn⟩ X →
    X = CODE m c (min (n / 14) 3) (if n / 14 = 4 then 11 else min (n % 14) 11)
  | n, hn, X, ⟨Y, hY, ha⟩ => by
    have hlt := tlt ⟨n, hn⟩
    dsimp only at hlt
    rcases ha with ⟨hq, rfl⟩ | ⟨hq, rfl⟩
    · have h1 : n / 14 < 4 := hq.1
      show CODE m c (n / 14) (min (n % 14) 11) = _
      rw [if_neg (by omega), show min (n / 14) 3 = n / 14 by omega]
    · have h1 : n / 14 = 4 ∨ n = 12 ∨ n = 13 := by
        by_contra hc
        refine hq ⟨?_, ?_⟩
        · show n / 14 < 4; omega
        · show 0 < n / 14 ∨ n % 14 < 12; omega
      match n, hn, hY with
      | 0, _, _ => omega
      | n + 1, hn, hY =>
        have hfl : ∀ t : Fin cfg0.N, (t.val / 14 = 4 ∨ t.val = 12 ∨ t.val = 13) → win0_5.flush ⟨t.val - 1, Nat.lt_of_le_of_lt (Nat.sub_le _ _) t.isLt⟩ = false :=
          (by decide +kernel : ∀ t : Fin grid0.N, (t.val / 14 = 4 ∨ t.val = 12 ∨ t.val = 13) → win0_5.flush ⟨t.val - 1, Nat.lt_of_le_of_lt (Nat.sub_le _ _) t.isLt⟩ = false)
        rcases (RDat.finds_of_pos (rd := rdat m c) (w := 5) (t := ⟨n + 1, hn⟩) rfl (Nat.succ_ne_zero n) X).mp hY with h | h
        · exact absurd ((hfl ⟨n + 1, hn⟩ h1).symm.trans h) (by decide)
        · refine (leaves5 n (Nat.lt_of_succ_lt hn) X h).trans ?_
          congr 1
          · omega
          · split_ifs <;> omega

theorem leaves6 : ∀ (n : ℕ) (hn : n < cfg0.N) (X : Vec Ideal S1x640 .f32), (rdat m c).Leaves 6 ⟨n, hn⟩ X →
    X = row (AMX m c (min (n / 14) 3))
  | n, hn, X, ⟨Y, hY, ha⟩ => by
    have hlt := tlt ⟨n, hn⟩
    dsimp only at hlt
    rcases ha with ⟨hq, rfl⟩ | ⟨hq, rfl⟩
    · have h1 : n / 14 < 4 := hq.1
      show row (AMX m c (n / 14)) = _
      rw [show min (n / 14) 3 = n / 14 by omega]
    · have h1 : n / 14 = 4 ∨ n % 14 ≠ 0 := by
        by_contra hc
        refine hq ⟨?_, ?_⟩
        · show n / 14 < 4; omega
        · show n % 14 = 0; omega
      match n, hn, hY with
      | 0, _, _ => omega
      | n + 1, hn, hY =>
        have hfl : ∀ t : Fin cfg0.N, (t.val / 14 = 4 ∨ t.val % 14 ≠ 0) → win0_6.flush ⟨t.val - 1, Nat.lt_of_le_of_lt (Nat.sub_le _ _) t.isLt⟩ = false :=
          (by decide +kernel : ∀ t : Fin grid0.N, (t.val / 14 = 4 ∨ t.val % 14 ≠ 0) → win0_6.flush ⟨t.val - 1, Nat.lt_of_le_of_lt (Nat.sub_le _ _) t.isLt⟩ = false)
        rcases (RDat.finds_of_pos (rd := rdat m c) (w := 6) (t := ⟨n + 1, hn⟩) rfl (Nat.succ_ne_zero n) X).mp hY with h | h
        · exact absurd ((hfl ⟨n + 1, hn⟩ h1).symm.trans h) (by decide)
        · refine (leaves6 n (Nat.lt_of_succ_lt hn) X h).trans ?_
          congr 2
          omega

theorem flush7 : ∀ t : Fin cfg0.N, win0_7.flush t = true → 0 < t.val / 14 :=
  (by decide +kernel : ∀ t : Fin grid0.N, win0_7.flush t = true → 0 < t.val / 14)

theorem leaves7 (t : Fin cfg0.N) (h : win0_7.flush t = true) (X : Vec Ideal S640x512 .bf16) (hX : (rdat m c).Leaves 7 t X) :
    X = OUT m c (t.val / 14 - 1) (t.val % 14) := by
  obtain ⟨Y, hY, ha⟩ := hX
  rcases ha with ⟨hq, rfl⟩ | ⟨hq, rfl⟩
  · rfl
  · exact absurd (flush7 t h) hq

theorem index5 : ∀ t : Fin cfg0.N, win0_5.index t 0 = min (t.val / 14) 3 ∧ win0_5.index t 1 = if t.val / 14 = 4 then 11 else min (t.val % 14) 11 :=
  (by decide +kernel : ∀ t : Fin grid0.N, win0_5.index t 0 = min (t.val / 14) 3 ∧ win0_5.index t 1 = if t.val / 14 = 4 then 11 else min (t.val % 14) 11)
theorem index6 : ∀ t : Fin cfg0.N, win0_6.index t 0 = 0 ∧ win0_6.index t 1 = min (t.val / 14) 3 :=
  (by decide +kernel : ∀ t : Fin grid0.N, win0_6.index t 0 = 0 ∧ win0_6.index t 1 = min (t.val / 14) 3)
theorem index7 : ∀ t : Fin cfg0.N, win0_7.index t 0 = t.val / 14 - 1 ∧ win0_7.index t 1 = if t.val / 14 = 0 then 0 else t.val % 14 :=
  (by decide +kernel : ∀ t : Fin grid0.N, win0_7.index t 0 = t.val / 14 - 1 ∧ win0_7.index t 1 = if t.val / 14 = 0 then 0 else t.val % 14)

variable (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))

include hL

theorem final5 (hs : Small m c) : ((rdat m c).withAfter after).arrAt 5 cfg0.N = (codes (aMax m c) (aAct m c) : Vec Ideal S2560x18432 .fp8e4m3) := by
  refine ((rdat m c).withAfter after).arrAt_eq_of_covers 5 _ (by decide +kernel) fun t hf y => ?_
  have ht := tlt t
  have e := leaves5 t.val t.isLt _ (hL 5 t hf)
  have h0 : (y 0).val < 640 := (y 0).isLt
  have h1 : (y 1).val < 1536 := (y 1).isLt
  refine (congrFun e y).trans ((congrArg (CODE m c _ _) (eq_ix2 y)).trans ((code_eq hs _ _ (y 0) (y 1)).trans ?_))
  refine congrArg (codes (aMax m c) (aAct m c)) (funext fun a => Fin.ext ?_)
  match a with
  | ⟨0, _⟩ =>
    show (min (t.val / 14) 3 * 640 + (y 0).val) % 2560 = win0_5.index t 0 * 640 + 1 * (y 0).val
    rw [(index5 t).1]; omega
  | ⟨1, _⟩ =>
    show ((if t.val / 14 = 4 then 11 else min (t.val % 14) 11) * 1536 + (y 1).val) % 18432 = win0_5.index t 1 * 1536 + 1 * (y 1).val
    rw [(index5 t).2]; split_ifs <;> omega

theorem final6 (hs : Small m c) : ((rdat m c).withAfter after).arrAt 6 cfg0.N = (scales (aMax m c) : Vec Ideal S1x2560 .f32) := by
  refine ((rdat m c).withAfter after).arrAt_eq_of_covers 6 _ (by decide +kernel) fun t hf y => ?_
  have ht := tlt t
  have e := leaves6 t.val t.isLt _ (hL 6 t hf)
  have h0 : (y 0).val < 1 := (y 0).isLt
  have h1 : (y 1).val < 640 := (y 1).isLt
  have hy : (y : S1x640.Idx) = ix2 0 (y 1) := (eq_ix2 (y : S1x640.Idx)).trans (congrArg (fun k : Fin 1 => ix2 k (y 1)) (Fin.ext (by show (y 0).val = 0; omega)))
  refine (congrFun e y).trans ((congrArg (row (AMX m c _)) hy).trans ((row_eq hs _ (y 1)).trans ?_))
  refine congrArg (scales (aMax m c)) (funext fun a => Fin.ext ?_)
  match a with
  | ⟨0, _⟩ =>
    show 0 = win0_6.index t 0 * 1 + 1 * (y 0).val
    rw [(index6 t).1]; omega
  | ⟨1, _⟩ =>
    show (min (t.val / 14) 3 * 640 + (y 1).val) % 2560 = win0_6.index t 1 * 640 + 1 * (y 1).val
    rw [(index6 t).2]; omega

theorem final7 (hs : Small m c) : ((rdat m c).withAfter after).arrAt 7 cfg0.N
    = (out (aMax m c) (aAct m c) (aW m c) (aSw m c) (aHm m c) : Vec Ideal S2560x7168 .bf16) := by
  refine ((rdat m c).withAfter after).arrAt_eq_of_covers 7 _ (by decide +kernel) fun t hf y => ?_
  have ht := tlt t
  have hp := flush7 t hf
  have e := leaves7 t hf _ (hL 7 t hf)
  have h0 : (y 0).val < 640 := (y 0).isLt
  have h1 : (y 1).val < 512 := (y 1).isLt
  refine (congrFun e y).trans ((congrArg (OUT m c _ _) (eq_ix2 y)).trans ((out_eq hs _ _ (y 0) (y 1)).trans ?_))
  refine congrArg (out (aMax m c) (aAct m c) (aW m c) (aSw m c) (aHm m c)) (funext fun a => Fin.ext ?_)
  match a with
  | ⟨0, _⟩ =>
    show ((t.val / 14 - 1) * 640 + (y 0).val) % 2560 = win0_7.index t 0 * 640 + 1 * (y 0).val
    rw [(index7 t).1]; omega
  | ⟨1, _⟩ =>
    show (t.val % 14 * 512 + (y 1).val) % 7168 = win0_7.index t 1 * 512 + 1 * (y 1).val
    rw [(index7 t).2, if_neg (by omega)]; omega

omit hL

/-- The kernel's run at small maxima. -/
theorem run (m : (ℓ : Loc nD τ sig) → Buf (Elt Ideal) ℓ) (g : Dev nD → PrngReg) (hs : ∀ c, Small m c) :
    θ_run (defs (F := Ideal)) (onTc (τ := τ) (main (F := Ideal))) ⟨m, fun _ => 0, g⟩ (fun r => ∀ c : Dev nD,
      r.2.mem ((c.tc : Thread nD τ).loc main_v1_0) = codes (aMax m c) (aAct m c)
      ∧ r.2.mem ((c.tc : Thread nD τ).loc main_v1_1) = scales (aMax m c)
      ∧ r.2.mem ((c.tc : Thread nD τ).loc main_v1_2) = out (aMax m c) (aAct m c) (aW m c) (aSw m c) (aHm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ?_) (run_main m g)
  obtain ⟨after, hL, hA⟩ := h.1.exists_exact c
  exact ⟨(hA 5).trans (final5 after hL (hs c)), (hA 6).trans (final6 after hL (hs c)), (hA 7).trans (final7 after hL (hs c)), args_kept m r h.1 c⟩

end Cert.Proof.Down
-- ==== Proof.DownRef.lean ====
/- DOWN, the reference's three result arrays as functions of its five arguments. -/
module

public import proofs.«01_k».proof.Proof.Gen.DownReferenceIdeal.Value
public import proofs.«01_k».proof.Proof.DownSpec
public import Idealize.ShloMosaic.Lib.Pipeline.Value
public import Idealize.ShloMosaic.Lib.StableHlo.Run

@[expose] public section

noncomputable section

namespace Cert.Proof.DownRef

open Idealize.ShloMosaic Idealize.ShloMosaic.TcCoe Idealize.SL.Sem
open Cert.DownReferenceIdeal Cert.DownReferenceIdeal.Gen
open Idealize.ShloMosaic.Pipeline (Dat)
open Cert.Proof.Down (rowMax codes scales out ofBits_ninf ofBits_pinf)
open Cert.Proof.Quant (scale code c448 pw)

theorem hz : (![0, 0] : Fin 2 → Nat) = fun _ => 0 := funext fun a => by fin_cases a <;> rfl

/-! ## The payloads at an index -/

/-- The powers of two, as the contents of the list argument. -/
def powers : Vec Ideal S1x254 .f32 := fun y => pw (y 1).val

theorem pay2_apply (a : Vec Ideal S2560x128 .f32) (i : Fin 2560) :
    k0_pay2 (F := Ideal) a powers (ix2 i 0) = scale (rowMax a i) := by
  pointwise [k0_pay2, scale, rowMax, c448, powers]
  simp only [ofBits_ninf, ofBits_pinf]
  rfl

theorem pay3_apply (h : Vec Ideal S2560x18432 .bf16) (a : Vec Ideal S2560x128 .f32) (i : Fin 2560) (k : Fin 18432) :
    k0_pay3 (F := Ideal) h a powers (ix2 i k) = codes a h (ix2 i k) := by
  have e := pay2_apply a i
  unfold k0_pay3
  generalize k0_pay2 (F := Ideal) a powers = s at e ⊢
  pointwise [codes, code]
  rw [e]

theorem pay4_apply (a : Vec Ideal S2560x128 .f32) (i : Fin 2560) :
    k0_pay4 (F := Ideal) a powers (ix2 0 i) = scales a (ix2 0 i) := by
  have e := pay2_apply a i
  unfold k0_pay4
  generalize k0_pay2 (F := Ideal) a powers = s at e ⊢
  pointwise [scales]
  rw [e]

theorem pay1_apply (h : Vec Ideal S2560x18432 .bf16) (a : Vec Ideal S2560x128 .f32) (x : Vec Ideal S2560x7168 .bf16)
    (w : Vec Ideal S18432x7168 .fp8e4m3) (sw : Vec Ideal S7168 .f32) (i : Fin 2560) (n : Fin 7168) :
    k0_pay1 (F := Ideal) (k0_pay2 a powers) (k0_pay3 h a powers) (k0_pay5 x) w (fun y : S1x7168.Idx => sw (ix1 (y 1))) (ix2 i n)
      = out a h w sw x (ix2 i n) := by
  have e := pay2_apply a i
  have e3 := fun k => pay3_apply h a i k
  generalize k0_pay2 (F := Ideal) a powers = s at e ⊢
  generalize k0_pay3 (F := Ideal) h a powers = q at e3 ⊢
  pointwise [k0_pay1, k0_pay5, out]
  simp only [e, e3]

variable (m : (ℓ : Loc nD τ sig) → Buf (Elt Ideal) ℓ) (c : Dev nD)

/-- The five arguments. -/
abbrev aMax : Vec Ideal S2560x128 .f32 := m (c.tc.loc main_arg0)
abbrev aAct : Vec Ideal S2560x18432 .bf16 := m (c.tc.loc main_arg1)
abbrev aW : Vec Ideal S18432x7168 .fp8e4m3 := m (c.tc.loc main_arg2)
abbrev aSw : Vec Ideal S7168 .f32 := m (c.tc.loc main_arg3)
abbrev aHm : Vec Ideal S2560x7168 .bf16 := m (c.tc.loc main_arg4)

theorem V_main_v7 : V m c main_v7 = fun y : S1x7168.Idx => aSw m c (ix1 (y 1)) := by
  have h : V m c main_v7 = broadcastInDim S1x7168 ![1] bcast_S7168_S1x7168_1 (aSw m c) := by
    unfold V hostOps0
    after_results
  rw [h]
  funext y
  pointwise

/-- The list of the powers of two. -/
theorem V_main_v6 : V m c main_v6 = powers := by
  have h : V m c main_v6 = broadcastInDim S1x254 ![1] bcast_S254_S1x254_1
      (Host.powf (F := Ideal) (broadcastInDim S254 ![] bcast_S_S254 (constant S_ .f32 0x40000000#32))
        (sitofp .f32 (addi (broadcastInDim S254 ![] bcast_S_S254 (constantI S_ 32 4294967170#32)) (iotaInDim S254 32 0)))) := by
    unfold V hostOps0
    after_results
  rw [h]
  funext y
  obtain ⟨r, k, rfl⟩ : ∃ (r : Fin 1) (k : Fin 254), y = ix2 r k := ⟨y 0, y 1, eq_ix2 y⟩
  pointwise [powers]
  exact Quant.power_of_two k

/-! ## The one point's input blocks are the whole arrays -/

theorem iblk0 (t : Fin cfg0.N) : (iblk m c 0 t : Vec Ideal S1x254 .f32) = powers := by
  funext y
  unfold iblk
  rw [View.read_apply]
  show V m c main_v6 _ = _
  rw [V_main_v6]
  refine congrArg (powers) (funext fun a => Fin.ext ?_)
  match a with
  | ⟨0, _⟩ => show 0 * 1 + 1 * (y 0).val = (y 0).val; omega
  | ⟨1, _⟩ => show 0 * 254 + 1 * (y 1).val = (y 1).val; omega
theorem iblk1 (t : Fin cfg0.N) : (iblk m c 1 t : Vec Ideal S2560x128 .f32) = aMax m c := by
  funext y
  unfold iblk
  rw [View.read_apply]
  show V m c main_arg0 _ = _
  rw [V_main_arg0]
  refine congrArg (aMax m c) (funext fun a => Fin.ext ?_)
  match a with
  | ⟨0, _⟩ => show 0 * 2560 + 1 * (y 0).val = (y 0).val; omega
  | ⟨1, _⟩ => show 0 * 128 + 1 * (y 1).val = (y 1).val; omega
theorem iblk2 (t : Fin cfg0.N) : (iblk m c 2 t : Vec Ideal S2560x18432 .bf16) = aAct m c := by
  funext y
  unfold iblk
  rw [View.read_apply]
  show V m c main_arg1 _ = _
  rw [V_main_arg1]
  refine congrArg (aAct m c) (funext fun a => Fin.ext ?_)
  match a with
  | ⟨0, _⟩ => show 0 * 2560 + 1 * (y 0).val = (y 0).val; omega
  | ⟨1, _⟩ => show 0 * 18432 + 1 * (y 1).val = (y 1).val; omega
theorem iblk3 (t : Fin cfg0.N) : (iblk m c 3 t : Vec Ideal S18432x7168 .fp8e4m3) = aW m c := by
  funext y
  unfold iblk
  rw [View.read_apply]
  show V m c main_arg2 _ = _
  rw [V_main_arg2]
  refine congrArg (aW m c) (funext fun a => Fin.ext ?_)
  match a with
  | ⟨0, _⟩ => show 0 * 18432 + 1 * (y 0).val = (y 0).val; omega
  | ⟨1, _⟩ => show 0 * 7168 + 1 * (y 1).val = (y 1).val; omega
theorem iblk4 (t : Fin cfg0.N) : (iblk m c 4 t : Vec Ideal S1x7168 .f32) = fun y : S1x7168.Idx => aSw m c (ix1 (y 1)) := by
  funext y
  unfold iblk
  rw [View.read_apply]
  show V m c main_v7 _ = _
  rw [V_main_v7]
  refine congrArg (fun y : S1x7168.Idx => aSw m c (ix1 (y 1))) (funext fun a => Fin.ext ?_)
  match a with
  | ⟨0, _⟩ => show 0 * 1 + 1 * (y 0).val = (y 0).val; omega
  | ⟨1, _⟩ => show 0 * 7168 + 1 * (y 1).val = (y 1).val; omega
theorem iblk5 (t : Fin cfg0.N) : (iblk m c 5 t : Vec Ideal S2560x7168 .bf16) = aHm m c := by
  funext y
  unfold iblk
  rw [View.read_apply]
  show V m c main_arg4 _ = _
  rw [V_main_arg4]
  refine congrArg (aHm m c) (funext fun a => Fin.ext ?_)
  match a with
  | ⟨0, _⟩ => show 0 * 2560 + 1 * (y 0).val = (y 0).val; omega
  | ⟨1, _⟩ => show 0 * 7168 + 1 * (y 1).val = (y 1).val; omega

theorem out6_eq (t : Fin cfg0.N) :
    out0_6 (iblk m c 0 t) (iblk m c 1 t) (iblk m c 2 t) (iblk m c 3 t) (iblk m c 4 t) (iblk m c 5 t) = (codes (aMax m c) (aAct m c) : Vec Ideal S2560x18432 .fp8e4m3) := by
  rw [iblk0, iblk1, iblk2, iblk3, iblk4, iblk5]
  unfold out0_6
  rw [View.canon_unit_zero hz]
  simp only [View.ld_unit_zero (S := S1x254) hz, View.ld_unit_zero (S := S2560x128) hz, View.ld_unit_zero (S := S2560x18432) hz, View.ld_unit_zero (S := S18432x7168) hz, View.ld_unit_zero (S := S1x7168) hz, View.ld_unit_zero (S := S2560x7168) hz]
  funext y
  obtain ⟨r, l, rfl⟩ : ∃ (r : Fin 2560) (l : Fin 18432), y = ix2 r l := ⟨y 0, y 1, eq_ix2 y⟩
  exact pay3_apply _ _ r l

theorem final6 : (dats m 0 c).arrAt 6 cfg0.N = (codes (aMax m c) (aAct m c) : Vec Ideal S2560x18432 .fp8e4m3) := by
  refine (dats m 0 c).arrAt_eq_of_cover 6 (codes (aMax m c) (aAct m c) : Vec Ideal S2560x18432 .fp8e4m3) (fun t _ => ?_) fun i => ?_
  · rw [Cert.DownReferenceIdeal.Value.flushed6, out6_eq]
    funext y
    rw [View.read_apply]
    refine congrArg (codes (aMax m c) (aAct m c) : Vec Ideal S2560x18432 .fp8e4m3) (funext fun a => Fin.ext ?_)
    match a with
    | ⟨0, _⟩ => show (y 0).val = 0 * 2560 + 1 * (y 0).val; omega
    | ⟨1, _⟩ => show (y 1).val = 0 * 18432 + 1 * (y 1).val; omega
  · have h0 : (i 0 : Nat) < 2560 := (i 0).isLt
    have h1 : (i 1 : Nat) < 18432 := (i 1).isLt
    refine ⟨t0_0, rfl, ?_⟩
    show i ∈ ((View.whole main_v8_0).slice (win0_6.rect t0_0)).set
    rw [View.set_slice_whole, Rect.mem_set_unit]
    intro a
    match a with
    | ⟨0, _⟩ => show 0 * 2560 ≤ (i 0 : Nat) ∧ (i 0 : Nat) < 0 * 2560 + 2560; omega
    | ⟨1, _⟩ => show 0 * 18432 ≤ (i 1 : Nat) ∧ (i 1 : Nat) < 0 * 18432 + 18432; omega

theorem out7_eq (t : Fin cfg0.N) :
    out0_7 (iblk m c 0 t) (iblk m c 1 t) (iblk m c 2 t) (iblk m c 3 t) (iblk m c 4 t) (iblk m c 5 t) = (scales (aMax m c) : Vec Ideal S1x2560 .f32) := by
  rw [iblk0, iblk1, iblk2, iblk3, iblk4, iblk5]
  unfold out0_7
  rw [View.canon_unit_zero hz]
  simp only [View.ld_unit_zero (S := S1x254) hz, View.ld_unit_zero (S := S2560x128) hz, View.ld_unit_zero (S := S2560x18432) hz, View.ld_unit_zero (S := S18432x7168) hz, View.ld_unit_zero (S := S1x7168) hz, View.ld_unit_zero (S := S2560x7168) hz]
  funext y
  obtain ⟨r, l, rfl⟩ : ∃ (r : Fin 1) (l : Fin 2560), y = ix2 r l := ⟨y 0, y 1, eq_ix2 y⟩
  obtain rfl : r = 0 := Subsingleton.elim _ _
  exact pay4_apply _ l

theorem final7 : (dats m 0 c).arrAt 7 cfg0.N = (scales (aMax m c) : Vec Ideal S1x2560 .f32) := by
  refine (dats m 0 c).arrAt_eq_of_cover 7 (scales (aMax m c) : Vec Ideal S1x2560 .f32) (fun t _ => ?_) fun i => ?_
  · rw [Cert.DownReferenceIdeal.Value.flushed7, out7_eq]
    funext y
    rw [View.read_apply]
    refine congrArg (scales (aMax m c) : Vec Ideal S1x2560 .f32) (funext fun a => Fin.ext ?_)
    match a with
    | ⟨0, _⟩ => show (y 0).val = 0 * 1 + 1 * (y 0).val; omega
    | ⟨1, _⟩ => show (y 1).val = 0 * 2560 + 1 * (y 1).val; omega
  · have h0 : (i 0 : Nat) < 1 := (i 0).isLt
    have h1 : (i 1 : Nat) < 2560 := (i 1).isLt
    refine ⟨t0_0, rfl, ?_⟩
    show i ∈ ((View.whole main_v8_1).slice (win0_7.rect t0_0)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 2560 ≤ (i 1 : Nat) ∧ (i 1 : Nat) < 0 * 2560 + 2560; omega

theorem out8_eq (t : Fin cfg0.N) :
    out0_8 (iblk m c 0 t) (iblk m c 1 t) (iblk m c 2 t) (iblk m c 3 t) (iblk m c 4 t) (iblk m c 5 t) = (out (aMax m c) (aAct m c) (aW m c) (aSw m c) (aHm m c) : Vec Ideal S2560x7168 .bf16) := by
  rw [iblk0, iblk1, iblk2, iblk3, iblk4, iblk5]
  unfold out0_8
  rw [View.canon_unit_zero hz]
  simp only [View.ld_unit_zero (S := S1x254) hz, View.ld_unit_zero (S := S2560x128) hz, View.ld_unit_zero (S := S2560x18432) hz, View.ld_unit_zero (S := S18432x7168) hz, View.ld_unit_zero (S := S1x7168) hz, View.ld_unit_zero (S := S2560x7168) hz]
  funext y
  obtain ⟨r, l, rfl⟩ : ∃ (r : Fin 2560) (l : Fin 7168), y = ix2 r l := ⟨y 0, y 1, eq_ix2 y⟩
  exact pay1_apply _ _ _ _ _ r l

theorem final8 : (dats m 0 c).arrAt 8 cfg0.N = (out (aMax m c) (aAct m c) (aW m c) (aSw m c) (aHm m c) : Vec Ideal S2560x7168 .bf16) := by
  refine (dats m 0 c).arrAt_eq_of_cover 8 (out (aMax m c) (aAct m c) (aW m c) (aSw m c) (aHm m c) : Vec Ideal S2560x7168 .bf16) (fun t _ => ?_) fun i => ?_
  · rw [Cert.DownReferenceIdeal.Value.flushed8, out8_eq]
    funext y
    rw [View.read_apply]
    refine congrArg (out (aMax m c) (aAct m c) (aW m c) (aSw m c) (aHm m c) : Vec Ideal S2560x7168 .bf16) (funext fun a => Fin.ext ?_)
    match a with
    | ⟨0, _⟩ => show (y 0).val = 0 * 2560 + 1 * (y 0).val; omega
    | ⟨1, _⟩ => show (y 1).val = 0 * 7168 + 1 * (y 1).val; omega
  · have h0 : (i 0 : Nat) < 2560 := (i 0).isLt
    have h1 : (i 1 : Nat) < 7168 := (i 1).isLt
    refine ⟨t0_0, rfl, ?_⟩
    show i ∈ ((View.whole main_v8_2).slice (win0_8.rect t0_0)).set
    rw [View.set_slice_whole, Rect.mem_set_unit]
    intro a
    match a with
    | ⟨0, _⟩ => show 0 * 2560 ≤ (i 0 : Nat) ∧ (i 0 : Nat) < 0 * 2560 + 2560; omega
    | ⟨1, _⟩ => show 0 * 7168 ≤ (i 1 : Nat) ∧ (i 1 : Nat) < 0 * 7168 + 7168; omega

end Cert.Proof.DownRef
-- ==== Proof.DownThm.lean ====
/- DOWN: kernel and reference, read over the extended reals, return the same three arrays when no chunk maximum exceeds the
   largest f32 number. -/
module

public import proofs.«01_k».proof.Defs
public import proofs.«01_k».proof.Proof.DownKer
public import proofs.«01_k».proof.Proof.DownRef

@[expose] public section

noncomputable section

namespace Cert.Proof

open Idealize.ShloMosaic Idealize.ShloMosaic.TcCoe Idealize.SL.Sem

/-- The one shape fact the precondition's printed function takes. -/
theorem down_pre_facts : Cert.Pre_maxima_finite.Facts := ⟨by decide⟩

/-- The precondition, read index by index. -/
theorem down_small [hP : Cert.Pre_maxima_finite.Facts] (m : (ℓ : Loc Cert.DownIdeal.nD Cert.DownIdeal.τ Cert.DownIdeal.sig) → Buf (Elt Ideal) ℓ)
    (h : Pre_DownIdeal_maxima_finite m) (c : Dev Cert.DownIdeal.nD) : Cert.Proof.Down.Small m c := by
  intro y
  have e := congrFun (h c) y
  unfold Cert.Pre_maxima_finite.fn at e
  have e : BitVec.ofBool (decide (Cert.Proof.Down.aMax m c y ≤ Cert.Proof.Quant.largest)) = 1#1 := e
  by_contra hc
  rw [decide_eq_false hc] at e
  exact absurd e (by decide)

theorem down_algebraic [hK : Cert.DownIdeal.Facts] [hR : Cert.DownReferenceIdeal.Facts] [hP : Cert.Pre_maxima_finite.Facts] :
    Cert.algebraic_DownIdeal_DownReferenceIdeal_pre_maxima_finite := by
  intro m g m' g' hpre hagree
  have hs := down_small m hpre
  refine ⟨fun c => Cert.Proof.Down.codes (Cert.Proof.Down.aMax m c) (Cert.Proof.Down.aAct m c), fun c => Cert.Proof.Down.scales (Cert.Proof.Down.aMax m c),
    fun c => Cert.Proof.Down.out (Cert.Proof.Down.aMax m c) (Cert.Proof.Down.aAct m c) (Cert.Proof.Down.aW m c) (Cert.Proof.Down.aSw m c) (Cert.Proof.Down.aHm m c), ?_, ?_⟩
  · exact Cert.Proof.Down.run m g hs
  · refine (θ_run (Cert.DownReferenceIdeal.defs (F := Ideal)) _ _).mono (fun r h c => ?_) (Cert.DownReferenceIdeal.Value.run_blocks m' g')
    obtain ⟨e0, e1, e2, e3, e4⟩ := hagree c
    refine ⟨(h c).1.trans ((Cert.Proof.DownRef.final6 m' c).trans ?_), (h c).2.1.trans ((Cert.Proof.DownRef.final7 m' c).trans ?_),
      (h c).2.2.1.trans ((Cert.Proof.DownRef.final8 m' c).trans ?_), (h c).2.2.2⟩
    · exact congr (congrArg Cert.Proof.Down.codes e0) e1
    · exact congrArg Cert.Proof.Down.scales e0
    · exact congr (congr (congr (congr (congrArg Cert.Proof.Down.out e0) e1) e2) e3) e4

end Cert.Proof
-- ==== Proof.OprojIdealRun.lean ====
module

public import Idealize.ShloMosaic.Lib.VecWindow
public import proofs.«01_k».proof.Proof.Gen.OprojIdeal.Skeleton
public import proofs.«01_k».proof.Proof.Gen.OprojIdeal.Frame

/-! The body of the output projection, run once at a quantising grid point and once at a multiplying one. Each run
states what every buffer holds afterwards as a plain function of what the buffers held before. -/

@[expose] public section
set_option maxRecDepth 16384
noncomputable section
namespace Cert.OprojIdeal.Hand
open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem off1_eq (i : grid0.Coords) (h : k0_cond1 i = 1#1) : k0_off1 i = ![256 * (i 0).val, 0] :=
  (by decide +kernel : ∀ i : grid0.Coords, k0_off1 i = ![256 * (i 0).val, 0]) i
theorem off2_eq (i : grid0.Coords) (h : k0_cond1 i = 1#1) : k0_off2 i = ![256 * (i 0).val, 0] :=
  (by decide +kernel : ∀ i : grid0.Coords, k0_off2 i = ![256 * (i 0).val, 0]) i

instance (i : grid0.Coords) : ClosedOff (k0_off1 i) := ⟨_, (by decide +kernel : ∀ i : grid0.Coords, k0_off1 i = ![256 * (i 0).val, 0]) i⟩
instance (i : grid0.Coords) : ClosedOff (k0_off2 i) := ⟨_, (by decide +kernel : ∀ i : grid0.Coords, k0_off2 i = ![256 * (i 0).val, 0]) i⟩

/-! ## What the body computes from its blocks -/

/-- The exponent of each column's quantisation scale. -/
def expo (x0 : Vec F S5376x256 .bf16) : IVec S1x256 32 := k0_pay6 (k0_pay2 x0) (k0_pay3 x0) (k0_pay4 x0) (k0_pay5 x0)
/-- The block of codes. -/
def cod (x0 : Vec F S5376x256 .bf16) : Vec F S256x5376 .fp8e4m3 := k0_pay10 x0 (expo x0)
/-- The codes as the body keeps them. -/
def codS (x0 : Vec F S5376x256 .bf16) : Vec F S256x5376 .fp8e4m3 := k0_pay11 x0 (expo x0)
/-- The scales the body keeps. -/
def scl (x0 : Vec F S5376x256 .bf16) : Vec F S256x128 .f32 := k0_pay12 (expo x0)
/-- The row of scales the body stores as a result. -/
def row (x0 : Vec F S5376x256 .bf16) : Vec F S1x256 .f32 := k0_pay8 (expo x0) k0_pay7

/-- The scales after this grid point's own are stored. -/
def putS (i : grid0.Coords) (ss : Vec F S2560x128 .f32) (w : Vec F S256x128 .f32) : Vec F S2560x128 .f32 :=
  VecWindow.put ss ![256 * (i 0).val, 0] S256x128.size w
/-- The codes after this grid point's own are stored. -/
def putA (i : grid0.Coords) (sa : Vec F S2560x5376 .fp8e4m3) (w : Vec F S256x5376 .fp8e4m3) : Vec F S2560x5376 .fp8e4m3 :=
  VecWindow.put sa ![256 * (i 0).val, 0] S256x5376.size w

/-- Rows `512 q` to `512 q + 511` of the projection's column block. -/
def mul (q : Fin 5) (ss : Vec F S2560x128 .f32) (sa : Vec F S2560x5376 .fp8e4m3) (x1 : Vec F S5376x512 .fp8e4m3) (x2 : Vec F S1x512 .f32)
    (x3 : Vec F S2560x512 .bf16) : Vec F S512x512 .bf16 :=
  k0_pay13 (VecWindow.window ss ![512 * q.val, 0] S512x128.size ((by decide +kernel : ∀ q : Fin 5, ∀ a, (![512 * q.val, 0] : Fin 2 → ℕ) a + S512x128.size a ≤ S2560x128.size a) q))
    (VecWindow.window sa ![512 * q.val, 0] S512x5376.size ((by decide +kernel : ∀ q : Fin 5, ∀ a, (![512 * q.val, 0] : Fin 2 → ℕ) a + S512x5376.size a ≤ S2560x5376.size a) q))
    x1 x2
    (VecWindow.window x3 ![512 * q.val, 0] S512x512.size ((by decide +kernel : ∀ q : Fin 5, ∀ a, (![512 * q.val, 0] : Fin 2 → ℕ) a + S512x512.size a ≤ S2560x512.size a) q))

/-- The result block after one chunk of rows is stored. -/
def putO (q : Fin 5) (y : Vec F S2560x512 .bf16) (w : Vec F S512x512 .bf16) : Vec F S2560x512 .bf16 :=
  VecWindow.put y ![512 * q.val, 0] S512x512.size w

/-- The result block after the first `n` chunks of rows are stored. -/
def outUpto (n : ℕ) (ss : Vec F S2560x128 .f32) (sa : Vec F S2560x5376 .fp8e4m3) (x1 : Vec F S5376x512 .fp8e4m3) (x2 : Vec F S1x512 .f32)
    (x3 y6 : Vec F S2560x512 .bf16) : Vec F S2560x512 .bf16 :=
  match n with
  | 0 => y6
  | n + 1 => putO (Fin.ofNat 5 n) (outUpto n ss sa x1 x2 x3 y6) (mul (Fin.ofNat 5 n) ss sa x1 x2 x3)

section Loads
variable {s : Shape} {e : EltTy} {mr : Memref sig .tc .vmem s e} (h : mr.IsWhole)

/-- A load of a whole buffer reads its contents. -/
theorem ld_full (x : s.Idx → Elt F e) {off : Fin s.rank → ℕ} (inb : ∀ a, off a + s.size a ≤ s.size a) :
    View.readAt (Elt F) mr.view (Rect.unit off s.size inb).toLoadRect (h.unread x) = x :=
  (View.readAt_full _ _ inb).trans (h.read_unread x)

/-- A load of part of a buffer reads that window of its contents. -/
theorem ld_win {f : mr.view.ty.Contents (Elt F)} {x : s.Idx → Elt F e} (hf : mr.view.read (Elt F) f = x) {off off' size : Fin s.rank → ℕ}
    (inb : ∀ a, off a + size a ≤ s.size a) (ho : off = off') (inb' : ∀ a, off' a + size a ≤ s.size a) :
    View.readAt (Elt F) mr.view (Rect.unit off size inb).toLoadRect f = VecWindow.window x off' size inb' := by
  subst hf; exact View.readAt_unit _ _ inb ho inb'

/-- A store of part of a buffer puts the payload over that window. -/
theorem st_put (x : s.Idx → Elt F e) {off off' size : Fin s.rank → ℕ} (inb : ∀ a, off a + size a ≤ s.size a)
    (w w' : (Rect.unit off size inb).shape.Idx → Elt F e) (ho : off = off') (hw : w = w') :
    mr.view.read (Elt F) (mr.view.writes (Elt F) (h.unread x) [⟨Rect.unit off size inb, w⟩]) = VecWindow.put x off' size w' := by
  subst hw
  refine (View.read_writes_cons_put _ _ inb w [] ho).trans ?_
  rw [View.writes_nil, h.read_unread]

/-- A store of a whole buffer leaves the payload. -/
theorem st_full (f : mr.view.ty.Contents (Elt F)) {off : Fin s.rank → ℕ} (inb : ∀ a, off a + s.size a ≤ s.size a)
    (w w' : (Rect.unit off s.size inb).shape.Idx → Elt F e) (hw : w = w') :
    mr.view.read (Elt F) (mr.view.writes (Elt F) f [⟨Rect.unit off s.size inb, w⟩]) = w' :=
  (View.read_writes_full _ _ inb w []).trans hw
end Loads

/-- A further store of part of a buffer puts its payload over that window. -/
theorem st_cons {s : Shape} {e : EltTy} {mr : Memref sig .tc .vmem s e} {f : mr.view.ty.Contents (Elt F)} {off off' size : Fin s.rank → ℕ}
    (inb : ∀ a, off a + size a ≤ s.size a) (w w' : (Rect.unit off size inb).shape.Idx → Elt F e) {L : List ((r : Rect s) × (r.shape.Idx → Elt F e))} {z : s.Idx → Elt F e}
    (ho : off = off') (hw : w = w') (hz : mr.view.read (Elt F) (mr.view.writes (Elt F) f L) = z) :
    mr.view.read (Elt F) (mr.view.writes (Elt F) f (⟨Rect.unit off size inb, w⟩ :: L)) = VecWindow.put z off' size w' := by
  subst hw hz; exact View.read_writes_cons_put _ _ inb w L ho

/-- A chunk of the projection, from equal readings of its operands. -/
theorem pay13_congr {a a' : Vec F S512x128 .f32} {b b' : Vec F S512x5376 .fp8e4m3} {x x' : Vec F S5376x512 .fp8e4m3} {y y' : Vec F S1x512 .f32}
    {z z' : Vec F S512x512 .bf16} (ha : a = a') (hb : b = b') (hx : x = x') (hy : y = y') (hz : z = z') :
    k0_pay13 a b x y z = k0_pay13 a' b' x' y' z' := by subst ha hb hx hy hz; rfl

set_option maxHeartbeats 1000000 in
/-- A quantising point: one block of codes and its scales. -/
theorem runA (c : Dev nD) (i : grid0.Coords) (h1 : k0_cond1 i = 1#1) (h2 : ¬ k0_cond2 i = 1#1)
    (arg1 : Memref sig .tc .vmem S5376x256 .bf16) (harg1 : arg1.IsWhole) (arg2 : Memref sig .tc .vmem S5376x512 .fp8e4m3) (harg2 : arg2.IsWhole) (arg3 : Memref sig .tc .vmem S1x512 .f32) (harg3 : arg3.IsWhole) (arg4 : Memref sig .tc .vmem S2560x512 .bf16) (harg4 : arg4.IsWhole) (arg5 : Memref sig .tc .vmem S256x5376 .fp8e4m3) (harg5 : arg5.IsWhole) (arg6 : Memref sig .tc .vmem S1x256 .f32) (harg6 : arg6.IsWhole) (arg7 : Memref sig .tc .vmem S2560x512 .bf16) (harg7 : arg7.IsWhole) (arg8 : Memref sig .tc .vmem S2560x5376 .fp8e4m3) (harg8 : arg8.IsWhole) (arg9 : Memref sig .tc .vmem S2560x128 .f32) (harg9 : arg9.IsWhole)
    (x0 : Vec F S5376x256 .bf16) (x1 : Vec F S5376x512 .fp8e4m3) (x2 : Vec F S1x512 .f32) (x3 : Vec F S2560x512 .bf16) (y4 : Vec F S256x5376 .fp8e4m3) (y5 : Vec F S1x256 .f32) (y6 : Vec F S2560x512 .bf16) (sa : Vec F S2560x5376 .fp8e4m3) (ss : Vec F S2560x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare sa ∗ owns (c : Thread nD τ) arg9 fullShare ss
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (cod x0) ∗ owns (c : Thread nD τ) arg6 fullShare (row x0) ∗ owns (c : Thread nD τ) arg7 fullShare y6 ∗ owns (c : Thread nD τ) arg8 fullShare (putA i sa (codS x0)) ∗ owns (c : Thread nD τ) arg9 fullShare (putS i ss (scl x0))) -∗ K ⟨⟩))
      ⊢ wp frame (wpE (defs₀ (F := F)) Variants.none c none) E
          (cc0_oproj i arg1 harg1 arg2 harg2 arg3 harg3 arg4 harg4 arg5 harg5 arg6 harg6 arg7 harg7 arg8 harg8 arg9 harg9) K := by
  simp only [cc0_oproj_eq_skeleton]; unfold cc0_oproj_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, Ha⟩, ⟨%f8, %hf8, Hs⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h1 | sl_exact h2)
  sl_step
  iapply Hk
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact st_full _ _ _ _ (congrArg (cod (F := F)) (ld_full harg1 x0 _))
  isplitl [H5]
  · iexists _; isplitr; swap; · iexact H5
    ipureintro
    exact st_full _ _ _ _ (congrArg (row (F := F)) (ld_full harg1 x0 _))
  isplitl [H6]
  · iexists _; isplitr; swap; · iexact H6
    ipureintro
    exact harg7.read_unread y6
  isplitl [Ha]
  · iexists _; isplitr; swap; · iexact Ha
    ipureintro
    exact st_put harg8 sa _ _ _ (off1_eq i h1) (congrArg (codS (F := F)) (ld_full harg1 x0 _))
  iexists _; isplitr; swap; · iexact Hs
  ipureintro
  exact st_put harg9 ss _ _ _ (off2_eq i h1) (congrArg (scl (F := F)) (ld_full harg1 x0 _))

set_option maxHeartbeats 1000000 in
/-- A multiplying point: one column block of the projection. -/
theorem runB (c : Dev nD) (i : grid0.Coords) (h1 : ¬ k0_cond1 i = 1#1) (h2 : k0_cond2 i = 1#1)
    (arg1 : Memref sig .tc .vmem S5376x256 .bf16) (harg1 : arg1.IsWhole) (arg2 : Memref sig .tc .vmem S5376x512 .fp8e4m3) (harg2 : arg2.IsWhole) (arg3 : Memref sig .tc .vmem S1x512 .f32) (harg3 : arg3.IsWhole) (arg4 : Memref sig .tc .vmem S2560x512 .bf16) (harg4 : arg4.IsWhole) (arg5 : Memref sig .tc .vmem S256x5376 .fp8e4m3) (harg5 : arg5.IsWhole) (arg6 : Memref sig .tc .vmem S1x256 .f32) (harg6 : arg6.IsWhole) (arg7 : Memref sig .tc .vmem S2560x512 .bf16) (harg7 : arg7.IsWhole) (arg8 : Memref sig .tc .vmem S2560x5376 .fp8e4m3) (harg8 : arg8.IsWhole) (arg9 : Memref sig .tc .vmem S2560x128 .f32) (harg9 : arg9.IsWhole)
    (x0 : Vec F S5376x256 .bf16) (x1 : Vec F S5376x512 .fp8e4m3) (x2 : Vec F S1x512 .f32) (x3 : Vec F S2560x512 .bf16) (y4 : Vec F S256x5376 .fp8e4m3) (y5 : Vec F S1x256 .f32) (y6 : Vec F S2560x512 .bf16) (sa : Vec F S2560x5376 .fp8e4m3) (ss : Vec F S2560x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare sa ∗ owns (c : Thread nD τ) arg9 fullShare ss
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare (outUpto 5 ss sa x1 x2 x3 y6) ∗ owns (c : Thread nD τ) arg8 fullShare sa ∗ owns (c : Thread nD τ) arg9 fullShare ss) -∗ K ⟨⟩))
      ⊢ wp frame (wpE (defs₀ (F := F)) Variants.none c none) E
          (cc0_oproj i arg1 harg1 arg2 harg2 arg3 harg3 arg4 harg4 arg5 harg5 arg6 harg6 arg7 harg7 arg8 harg8 arg9 harg9) K := by
  simp only [cc0_oproj_eq_skeleton]; unfold cc0_oproj_skel
  simp only [k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, Ha⟩, ⟨%f8, %hf8, Hs⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h1 | sl_exact h2)
  sl_step
  iapply Hk
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact harg5.read_unread y4
  isplitl [H5]
  · iexists _; isplitr; swap; · iexact H5
    ipureintro
    exact harg6.read_unread y5
  isplitl [H6]
  · iexists _; isplitr; swap; · iexact H6
    ipureintro
    exact st_cons _ _ _ rfl (pay13_congr (ld_win (harg9.read_unread ss) _ rfl _) (ld_win (harg8.read_unread sa) _ rfl _) (ld_full harg2 x1 _) (ld_full harg3 x2 _) (ld_win (harg4.read_unread x3) _ rfl _)) (st_cons _ _ _ rfl (pay13_congr (ld_win (harg9.read_unread ss) _ rfl _) (ld_win (harg8.read_unread sa) _ rfl _) (ld_full harg2 x1 _) (ld_full harg3 x2 _) (ld_win (harg4.read_unread x3) _ rfl _)) (st_cons _ _ _ rfl (pay13_congr (ld_win (harg9.read_unread ss) _ rfl _) (ld_win (harg8.read_unread sa) _ rfl _) (ld_full harg2 x1 _) (ld_full harg3 x2 _) (ld_win (harg4.read_unread x3) _ rfl _)) (st_cons _ _ _ rfl (pay13_congr (ld_win (harg9.read_unread ss) _ rfl _) (ld_win (harg8.read_unread sa) _ rfl _) (ld_full harg2 x1 _) (ld_full harg3 x2 _) (ld_win (harg4.read_unread x3) _ rfl _)) (st_cons _ _ _ rfl (pay13_congr (ld_win (harg9.read_unread ss) _ rfl _) (ld_win (harg8.read_unread sa) _ rfl _) (ld_full harg2 x1 _) (ld_full harg3 x2 _) (ld_win (harg4.read_unread x3) _ rfl _)) (by rw [View.writes_nil]; exact harg7.read_unread y6)))))
  isplitl [Ha]
  · iexists _; isplitr; swap; · iexact Ha
    ipureintro
    exact harg8.read_unread sa
  iexists _; isplitr; swap; · iexact Hs
  ipureintro
  exact harg9.read_unread ss

end Cert.OprojIdeal.Hand
end
-- ==== Proof.OprojIdealBody.lean ====
/- The output projection's pipeline: what its scratch buffers hold before each grid point and what each point leaves in
   the three output blocks. -/
module

public import proofs.«01_k».proof.Proof.OprojIdealRun
public import Idealize.ShloMosaic.Lib.Pointwise
public import Idealize.ShloMosaic.Lib.Pipeline.ArrRel
public import Idealize.ShloMosaic.Lib.Claim

@[expose] public section
set_option maxRecDepth 16384
noncomputable section
namespace Cert.OprojIdeal.Hand
open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The grid -/

theorem tlt (t : Fin cfg0.N) : t.val < 24 := by have hN : cfg0.N = 24 := N_0; have := t.isLt; omega
theorem coords0 : ∀ t : Fin cfg0.N, ((grid0.coords t) 0).val = t.val :=
  (by decide +kernel : ∀ t : Fin grid0.N, ((grid0.coords t) 0).val = t.val)
theorem cond1_iff : ∀ t : Fin cfg0.N, k0_cond1 (grid0.coords t) = 1#1 ↔ t.val < 10 :=
  (by decide +kernel : ∀ t : Fin grid0.N, k0_cond1 (grid0.coords t) = 1#1 ↔ t.val < 10)
theorem cond2_iff : ∀ t : Fin cfg0.N, k0_cond2 (grid0.coords t) = 1#1 ↔ 10 ≤ t.val :=
  (by decide +kernel : ∀ t : Fin grid0.N, k0_cond2 (grid0.coords t) = 1#1 ↔ 10 ≤ t.val)

theorem index0 : ∀ t : Fin cfg0.N, win0_0.index t 0 = 0 ∧ win0_0.index t 1 = min t.val 9 :=
  (by decide +kernel : ∀ t : Fin grid0.N, win0_0.index t 0 = 0 ∧ win0_0.index t 1 = min t.val 9)
theorem index1 : ∀ t : Fin cfg0.N, win0_1.index t 0 = 0 ∧ win0_1.index t 1 = t.val - 10 :=
  (by decide +kernel : ∀ t : Fin grid0.N, win0_1.index t 0 = 0 ∧ win0_1.index t 1 = t.val - 10)
theorem index2 : ∀ t : Fin cfg0.N, win0_2.index t 0 = 0 ∧ win0_2.index t 1 = t.val - 10 :=
  (by decide +kernel : ∀ t : Fin grid0.N, win0_2.index t 0 = 0 ∧ win0_2.index t 1 = t.val - 10)
theorem index3 : ∀ t : Fin cfg0.N, win0_3.index t 0 = 0 ∧ win0_3.index t 1 = t.val - 10 :=
  (by decide +kernel : ∀ t : Fin grid0.N, win0_3.index t 0 = 0 ∧ win0_3.index t 1 = t.val - 10)

/-! ## The blocks of the arguments -/

abbrev aAt : S5376x2560.Idx → Elt F .bf16 := m ((c : Thread nD τ).loc main_arg0)
abbrev aW : S5376x7168.Idx → Elt F .fp8e4m3 := m ((c : Thread nD τ).loc main_arg1)
abbrev aSw : S1x7168.Idx → Elt F .f32 := V m c main_v0
abbrev aX : S2560x7168.Idx → Elt F .bf16 := m ((c : Thread nD τ).loc main_arg3)

/-- Column block `j` of the attention's output. -/
def AT (j : ℕ) : Vec F S5376x256 .bf16 := fun y => aAt m c (ix2 (y 0) (Fin.ofNat 2560 (j * 256 + (y 1).val)))
/-- Column block `n` of the weights. -/
def WB (n : ℕ) : Vec F S5376x512 .fp8e4m3 := fun y => aW m c (ix2 (y 0) (Fin.ofNat 7168 (n * 512 + (y 1).val)))
/-- Column block `n` of the weights' scales. -/
def SWB (n : ℕ) : Vec F S1x512 .f32 := fun y => aSw m c (ix2 0 (Fin.ofNat 7168 (n * 512 + (y 1).val)))
/-- Column block `n` of the residual. -/
def XB (n : ℕ) : Vec F S2560x512 .bf16 := fun y => aX m c (ix2 (y 0) (Fin.ofNat 7168 (n * 512 + (y 1).val)))

theorem iblk0 (t : Fin cfg0.N) (h : t.val < 10) : (iblk m c 0 t : Vec F S5376x256 .bf16) = AT m c t.val := by
  funext y
  have h1 : (y 1).val < 256 := (y 1).isLt
  unfold iblk AT
  rw [View.read_apply]
  show V m c main_arg0 _ = m (c.tc.loc main_arg0) _
  rw [V_main_arg0]
  congr 1
  funext a; apply Fin.ext
  match a with
  | ⟨0, _⟩ => show win0_0.index t 0 * 5376 + 1 * (y 0).val = (y 0).val; rw [(index0 t).1]; omega
  | ⟨1, _⟩ => show win0_0.index t 1 * 256 + 1 * (y 1).val = (t.val * 256 + (y 1).val) % 2560; rw [(index0 t).2]; omega

theorem iblk1 (t : Fin cfg0.N) (h : 10 ≤ t.val) : (iblk m c 1 t : Vec F S5376x512 .fp8e4m3) = WB m c (t.val - 10) := by
  funext y
  have ht := tlt t
  have h1 : (y 1).val < 512 := (y 1).isLt
  unfold iblk WB
  rw [View.read_apply]
  show V m c main_arg1 _ = m (c.tc.loc main_arg1) _
  rw [V_main_arg1]
  congr 1
  funext a; apply Fin.ext
  match a with
  | ⟨0, _⟩ => show win0_1.index t 0 * 5376 + 1 * (y 0).val = (y 0).val; rw [(index1 t).1]; omega
  | ⟨1, _⟩ => show win0_1.index t 1 * 512 + 1 * (y 1).val = ((t.val - 10) * 512 + (y 1).val) % 7168; rw [(index1 t).2]; omega

theorem iblk2 (t : Fin cfg0.N) (h : 10 ≤ t.val) : (iblk m c 2 t : Vec F S1x512 .f32) = SWB m c (t.val - 10) := by
  funext y
  have ht := tlt t
  have h0 : (y 0).val < 1 := (y 0).isLt
  have h1 : (y 1).val < 512 := (y 1).isLt
  unfold iblk SWB
  rw [View.read_apply]
  show V m c main_v0 _ = V m c main_v0 _
  congr 1
  funext a; apply Fin.ext
  match a with
  | ⟨0, _⟩ => show win0_2.index t 0 * 1 + 1 * (y 0).val = 0; rw [(index2 t).1]; omega
  | ⟨1, _⟩ => show win0_2.index t 1 * 512 + 1 * (y 1).val = ((t.val - 10) * 512 + (y 1).val) % 7168; rw [(index2 t).2]; omega

theorem iblk3 (t : Fin cfg0.N) (h : 10 ≤ t.val) : (iblk m c 3 t : Vec F S2560x512 .bf16) = XB m c (t.val - 10) := by
  funext y
  have ht := tlt t
  have h1 : (y 1).val < 512 := (y 1).isLt
  unfold iblk XB
  rw [View.read_apply]
  show V m c main_arg3 _ = m (c.tc.loc main_arg3) _
  rw [V_main_arg3]
  congr 1
  funext a; apply Fin.ext
  match a with
  | ⟨0, _⟩ => show win0_3.index t 0 * 2560 + 1 * (y 0).val = (y 0).val; rw [(index3 t).1]; omega
  | ⟨1, _⟩ => show win0_3.index t 1 * 512 + 1 * (y 1).val = ((t.val - 10) * 512 + (y 1).val) % 7168; rw [(index3 t).2]; omega

/-! ## What the pipeline keeps and what it stores -/

/-- The codes of column block `j`. -/
def CODE (j : ℕ) : Vec F S256x5376 .fp8e4m3 := cod (AT m c j)
/-- The row of scales of column block `j`. -/
def ROW (j : ℕ) : Vec F S1x256 .f32 := row (AT m c j)
/-- All codes. -/
def PA : Vec F S2560x5376 .fp8e4m3 := fun y => CODE m c ((y 0).val / 256) (ix2 (Fin.ofNat 256 (y 0).val) (y 1))
/-- All scales, as the body keeps them. -/
def PS : Vec F S2560x128 .f32 := fun y => scl (AT m c ((y 0).val / 256)) (ix2 (Fin.ofNat 256 (y 0).val) (y 1))
/-- Column block `n` of the projection. -/
def OUT (n : ℕ) : Vec F S2560x512 .bf16 := fun y =>
  mul (Fin.ofNat 5 ((y 0).val / 512)) (PS m c) (PA m c) (WB m c n) (SWB m c n) (XB m c n) (ix2 (Fin.ofNat 512 (y 0).val) (y 1))

theorem putA_apply (i : grid0.Coords) (sa : Vec F S2560x5376 .fp8e4m3) (w : Vec F S256x5376 .fp8e4m3) (r : Fin 2560) (l : Fin 5376) :
    putA i sa w (ix2 r l) = if r.val / 256 = (i 0).val then w (ix2 (Fin.ofNat 256 r.val) l) else sa (ix2 r l) := by
  unfold putA VecWindow.put
  have hr := r.isLt
  have hl := l.isLt
  by_cases h : r.val / 256 = (i 0).val
  · rw [if_pos h, dif_pos (fun a => by
      match a with
      | ⟨0, _⟩ => show 256 * (i 0).val ≤ r.val ∧ r.val < 256 * (i 0).val + 256; omega
      | ⟨1, _⟩ => show 0 ≤ l.val ∧ l.val < 0 + 5376; omega)]
    congr 1
    funext a; apply Fin.ext
    match a with
    | ⟨0, _⟩ => show r.val - 256 * (i 0).val = r.val % 256; omega
    | ⟨1, _⟩ => show l.val - 0 = l.val; omega
  · rw [if_neg h, dif_neg]
    intro hall
    have h0 : 256 * (i 0).val ≤ r.val ∧ r.val < 256 * (i 0).val + 256 := hall 0
    exact h (by omega)

theorem putS_apply (i : grid0.Coords) (ss : Vec F S2560x128 .f32) (w : Vec F S256x128 .f32) (r : Fin 2560) (l : Fin 128) :
    putS i ss w (ix2 r l) = if r.val / 256 = (i 0).val then w (ix2 (Fin.ofNat 256 r.val) l) else ss (ix2 r l) := by
  unfold putS VecWindow.put
  have hr := r.isLt
  have hl := l.isLt
  by_cases h : r.val / 256 = (i 0).val
  · rw [if_pos h, dif_pos (fun a => by
      match a with
      | ⟨0, _⟩ => show 256 * (i 0).val ≤ r.val ∧ r.val < 256 * (i 0).val + 256; omega
      | ⟨1, _⟩ => show 0 ≤ l.val ∧ l.val < 0 + 128; omega)]
    congr 1
    funext a; apply Fin.ext
    match a with
    | ⟨0, _⟩ => show r.val - 256 * (i 0).val = r.val % 256; omega
    | ⟨1, _⟩ => show l.val - 0 = l.val; omega
  · rw [if_neg h, dif_neg]
    intro hall
    have h0 : 256 * (i 0).val ≤ r.val ∧ r.val < 256 * (i 0).val + 256 := hall 0
    exact h (by omega)

theorem putO_apply (q : Fin 5) (y : Vec F S2560x512 .bf16) (w : Vec F S512x512 .bf16) (r : Fin 2560) (l : Fin 512) :
    putO q y w (ix2 r l) = if r.val / 512 = q.val then w (ix2 (Fin.ofNat 512 r.val) l) else y (ix2 r l) := by
  unfold putO VecWindow.put
  have hr := r.isLt
  have hl := l.isLt
  by_cases h : r.val / 512 = q.val
  · rw [if_pos h, dif_pos (fun a => by
      match a with
      | ⟨0, _⟩ => show 512 * q.val ≤ r.val ∧ r.val < 512 * q.val + 512; omega
      | ⟨1, _⟩ => show 0 ≤ l.val ∧ l.val < 0 + 512; omega)]
    congr 1
    funext a; apply Fin.ext
    match a with
    | ⟨0, _⟩ => show r.val - 512 * q.val = r.val % 512; omega
    | ⟨1, _⟩ => show l.val - 0 = l.val; omega
  · rw [if_neg h, dif_neg]
    intro hall
    have h0 : 512 * q.val ≤ r.val ∧ r.val < 512 * q.val + 512 := hall 0
    exact h (by omega)

theorem codS_apply (x : Vec F S5376x256 .bf16) (r : Fin 256) (l : Fin 5376) : codS x (ix2 r l) = cod x (ix2 r l) := by
  unfold codS cod k0_pay11
  pointwise

/-- The first `n` chunks of rows of the result block hold the projection. -/
theorem outUpto_apply (n : ℕ) (hn : n ≤ 5) (ss : Vec F S2560x128 .f32) (sa : Vec F S2560x5376 .fp8e4m3) (x1 : Vec F S5376x512 .fp8e4m3) (x2 : Vec F S1x512 .f32)
    (x3 y6 : Vec F S2560x512 .bf16) (r : Fin 2560) (l : Fin 512) (h : r.val / 512 < n) :
    outUpto n ss sa x1 x2 x3 y6 (ix2 r l) = mul (Fin.ofNat 5 (r.val / 512)) ss sa x1 x2 x3 (ix2 (Fin.ofNat 512 r.val) l) := by
  induction n with
  | zero => exact absurd h (Nat.not_lt_zero _)
  | succ n ih =>
    show putO (Fin.ofNat 5 n) _ _ (ix2 r l) = _
    have hv : (Fin.ofNat 5 n).val = n := by show n % 5 = n; omega
    rw [putO_apply, hv]
    by_cases e : r.val / 512 = n
    · rw [if_pos e, e]
    · rw [if_neg e]; exact ih (by omega) (by omega)

/-- What the scratch buffers hold before grid point `k`: the codes and scales of the column blocks quantised so far. -/
structure Inv (k : ℕ) (sa : Vec F S2560x5376 .fp8e4m3) (ss : Vec F S2560x128 .f32) : Prop where
  codes : ∀ (r : Fin 2560) (l : Fin 5376), r.val / 256 < k → sa (ix2 r l) = PA m c (ix2 r l)
  scales : ∀ (r : Fin 2560) (l : Fin 128), r.val / 256 < k → ss (ix2 r l) = PS m c (ix2 r l)

variable {m c}

theorem Inv.init (sa : Vec F S2560x5376 .fp8e4m3) (ss : Vec F S2560x128 .f32) : Inv m c 0 sa ss :=
  ⟨fun _ _ h => absurd h (Nat.not_lt_zero _), fun _ _ h => absurd h (Nat.not_lt_zero _)⟩

/-- A quantising point extends what is held. -/
theorem Inv.quant (t : Fin cfg0.N) {sa : Vec F S2560x5376 .fp8e4m3} {ss : Vec F S2560x128 .f32} (h : Inv m c t.val sa ss) :
    Inv m c (t.val + 1) (putA (grid0.coords t) sa (codS (AT m c t.val))) (putS (grid0.coords t) ss (scl (AT m c t.val))) := by
  refine ⟨fun r l hr => ?_, fun r l hr => ?_⟩
  · rw [putA_apply, coords0]
    by_cases e : r.val / 256 = t.val
    · rw [if_pos e, codS_apply, ← e]; rfl
    · rw [if_neg e]; exact h.codes r l (by omega)
  · rw [putS_apply, coords0]
    by_cases e : r.val / 256 = t.val
    · rw [if_pos e, ← e]; rfl
    · rw [if_neg e]; exact h.scales r l (by omega)

/-- Once ten blocks are quantised everything is held. -/
theorem Inv.all {k : ℕ} {sa : Vec F S2560x5376 .fp8e4m3} {ss : Vec F S2560x128 .f32} (h : Inv m c k sa ss) (hk : 10 ≤ k) :
    sa = PA m c ∧ ss = PS m c := by
  constructor
  · funext y
    have h0 : (y 0).val < 2560 := (y 0).isLt
    have e := h.codes (y 0) (y 1) (by omega)
    exact (congrArg sa (eq_ix2 y)).trans (e.trans (congrArg (PA m c) (eq_ix2 y).symm))
  · funext y
    have h0 : (y 0).val < 2560 := (y 0).isLt
    have e := h.scales (y 0) (y 1) (by omega)
    exact (congrArg ss (eq_ix2 y)).trans (e.trans (congrArg (PS m c) (eq_ix2 y).symm))

theorem Inv.keep {k : ℕ} {sa : Vec F S2560x5376 .fp8e4m3} {ss : Vec F S2560x128 .f32} (h : Inv m c k sa ss) (hk : 10 ≤ k) : Inv m c (k + 1) sa ss := by
  obtain ⟨rfl, rfl⟩ := h.all hk
  exact ⟨fun _ _ _ => rfl, fun _ _ _ => rfl⟩

/-- A multiplying point leaves a column block of the projection. -/
theorem out_eq (t : Fin cfg0.N) {sa : Vec F S2560x5376 .fp8e4m3} {ss : Vec F S2560x128 .f32} (h : Inv m c t.val sa ss) (ht : 10 ≤ t.val)
    (y6 : Vec F S2560x512 .bf16) :
    outUpto 5 ss sa (iblk m c 1 t) (iblk m c 2 t) (iblk m c 3 t) y6 = OUT m c (t.val - 10) := by
  obtain ⟨rfl, rfl⟩ := h.all ht
  rw [iblk1 m c t ht, iblk2 m c t ht, iblk3 m c t ht]
  funext y
  have h0 : (y 0).val < 2560 := (y 0).isLt
  have e := outUpto_apply 5 (le_refl 5) (PS m c) (PA m c) (WB m c (t.val - 10)) (SWB m c (t.val - 10)) (XB m c (t.val - 10)) y6 (y 0) (y 1) (by omega)
  exact (congrArg _ (eq_ix2 y)).trans e

end Cert.OprojIdeal.Hand
end
-- ==== Proof.OprojIdealPipe.lean ====
/- The output projection's run: the proof data of its pipeline, the body at every grid point, and what the machine's memory
   holds at the end. -/
module

public import proofs.«01_k».proof.Proof.OprojIdealBody

@[expose] public section
set_option maxRecDepth 16384
noncomputable section
namespace Cert.OprojIdeal.Hand
open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The scratch buffers the body is handed. -/
abbrev scA : Memref sig .tc .vmem S2560x5376 .fp8e4m3 := Memref.whole cc0_scratch0
abbrev scS : Memref sig .tc .vmem S2560x128 .f32 := Memref.whole cc0_scratch1

theorem PhiA0_eq (c : Dev nD) :
    (Pipeline.ΦA spec0 c : sProp 𝕄)
      = iprop(iprop((∃ d, owns (c : Thread nD τ) scA fullShare d) ∗ (∃ d, owns (c : Thread nD τ) scS fullShare d))
          ∗ (∃ r, prngReg c r)) := by
  unfold Pipeline.ΦA; rw [scopedRest0_eq]; simp only [scA, scS, owns_whole]; try rfl

/-- The proof data: an input's buffer is left as found; an output's holds its point's result where the point stores
    one, and is left as found elsewhere; the scratch buffers hold what `Inv` says. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => (t.val < 10 ∧ X = CODE m c t.val) ∨ (10 ≤ t.val ∧ X = Y)
    | ⟨5, _⟩ => (t.val < 10 ∧ X = ROW m c t.val) ∨ (10 ≤ t.val ∧ X = Y)
    | ⟨6, _⟩ => (10 ≤ t.val ∧ X = OUT m c (t.val - 10)) ∨ (t.val < 10 ∧ X = Y)
  Φ k := iprop((∃ sa ss, ⌜Inv m c k.val sa ss⌝ ∗ owns (c : Thread nD τ) scA fullShare sa ∗ owns (c : Thread nD τ) scS fullShare ss) ∗ (∃ r, prngReg c r))
  q _ := fullShare
  owed _ := 0

theorem A_eq (c : Dev nD) (w : Fin cfg0.W) : (rdat m c).A w = V m c (Pipeline.arrRef spec0 w) := by dsimp only [rdat]

/-- An input's buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl

/-! ## The body at a grid point -/

abbrev ms0 (t : Fin cfg0.N) : Memref sig .tc .vmem S5376x256 .bf16 := win0_0.stage (cfg0.slots t 0)
abbrev ms1 (t : Fin cfg0.N) : Memref sig .tc .vmem S5376x512 .fp8e4m3 := win0_1.stage (cfg0.slots t 1)
abbrev ms2 (t : Fin cfg0.N) : Memref sig .tc .vmem S1x512 .f32 := win0_2.stage (cfg0.slots t 2)
abbrev ms3 (t : Fin cfg0.N) : Memref sig .tc .vmem S2560x512 .bf16 := win0_3.stage (cfg0.slots t 3)
abbrev ms4 (t : Fin cfg0.N) : Memref sig .tc .vmem S256x5376 .fp8e4m3 := win0_4.stage (cfg0.slots t 4)
abbrev ms5 (t : Fin cfg0.N) : Memref sig .tc .vmem S1x256 .f32 := win0_5.stage (cfg0.slots t 5)
abbrev ms6 (t : Fin cfg0.N) : Memref sig .tc .vmem S2560x512 .bf16 := win0_6.stage (cfg0.slots t 6)

/-- What the body is called with at point `t`. -/
def bodyPre (c : Dev nD) (t : Fin cfg0.N) (y4 : Vec F S256x5376 .fp8e4m3) (y5 : Vec F S1x256 .f32) (y6 : Vec F S2560x512 .bf16) : sProp 𝕄 :=
  iprop((rdat m c).Φ t.castSucc ∗ (rdat m c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare y4 ∗ owns (c : Thread nD τ) (ms5 t) fullShare y5 ∗ owns (c : Thread nD τ) (ms6 t) fullShare y6)

/-- What it returns. -/
def bodyPost (c : Dev nD) (t : Fin cfg0.N) (y4 : Vec F S256x5376 .fp8e4m3) (y5 : Vec F S1x256 .f32) (y6 : Vec F S2560x512 .bf16) : sProp 𝕄 :=
  iprop((rdat m c).Φ t.succ ∗ (rdat m c).owesAt () t.succ ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X) ∗ (∃ X, ⌜(rdat m c).after 4 t y4 X⌝ ∗ owns (c : Thread nD τ) (ms4 t) fullShare X) ∗ (∃ X, ⌜(rdat m c).after 5 t y5 X⌝ ∗ owns (c : Thread nD τ) (ms5 t) fullShare X) ∗ (∃ X, ⌜(rdat m c).after 6 t y6 X⌝ ∗ owns (c : Thread nD τ) (ms6 t) fullShare X))

/-- The body at a point, from a run with the contents it leaves and what they are. -/
theorem sound_of (c : Dev nD) (t : Fin cfg0.N) (y4 : Vec F S256x5376 .fp8e4m3) (y5 : Vec F S1x256 .f32) (y6 : Vec F S2560x512 .bf16)
    (x4 : Vec F S256x5376 .fp8e4m3) (x5 : Vec F S1x256 .f32)
    (x6 : Vec F S2560x5376 .fp8e4m3 → Vec F S2560x128 .f32 → Vec F S2560x512 .bf16)
    (ga : Vec F S2560x5376 .fp8e4m3 → Vec F S2560x5376 .fp8e4m3) (gs : Vec F S2560x128 .f32 → Vec F S2560x128 .f32)
    (hrun : ∀ (sa : Vec F S2560x5376 .fp8e4m3) (ss : Vec F S2560x128 .f32) (K : PUnit → sProp 𝕄),
      iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare y4 ∗ owns (c : Thread nD τ) (ms5 t) fullShare y5 ∗ owns (c : Thread nD τ) (ms6 t) fullShare y6 ∗ owns (c : Thread nD τ) scA fullShare sa ∗ owns (c : Thread nD τ) scS fullShare ss
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare x4 ∗ owns (c : Thread nD τ) (ms5 t) fullShare x5 ∗ owns (c : Thread nD τ) (ms6 t) fullShare (x6 sa ss)
          ∗ owns (c : Thread nD τ) scA fullShare (ga sa) ∗ owns (c : Thread nD τ) scS fullShare (gs ss)) -∗ K ⟨⟩))
        ⊢ wp frame (wpE (defs₀ (F := F)) Variants.none c none) Set.univ (bodyAt0 t) K)
    (h4 : (rdat m c).after 4 t y4 x4) (h5 : (rdat m c).after 5 t y5 x5)
    (h6 : ∀ sa ss, Inv m c t.val sa ss → (rdat m c).after 6 t y6 (x6 sa ss))
    (hi : ∀ sa ss, Inv m c t.val sa ss → Inv m c (t.val + 1) (ga sa) (gs ss)) :
    bodyPre m c t y4 y5 y6 ⊢ wp frame (wpE (defs₀ (F := F)) Variants.none c none) Set.univ (bodyAt0 t) (fun _ => bodyPost m c t y4 y5 y6) := by
  unfold bodyPre bodyPost
  rw [show (rdat m c).owesAt () t.succ = (rdat m c).owesAt () t.castSucc from rfl]
  dsimp only [rdat]
  iintro ⟨⟨⟨%sa, %ss, %hinv, Ha, Hs⟩, Hg⟩, Ho, H0, H1, H2, H3, H4, H5, H6⟩
  iapply (hrun sa ss _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Ha]; · iexact Ha
  isplitl [Hs]; · iexact Hs
  iintro ⟨H0, H1, H2, H3, H4, H5, H6, Ha, Hs⟩
  isplitl [Ha Hs Hg]
  · isplitl [Ha Hs]
    · iexists _, _; isplitr
      swap
      · isplitl [Ha]; · iexact Ha
        iexact Hs
      ipureintro; exact hi sa ss hinv
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact h4
  isplitl [H5]
  · iexists _; isplitr; swap; · iexact H5
    ipureintro; exact h5
  iexists _; isplitr; swap; · iexact H6
  ipureintro; exact h6 sa ss hinv

/-- The body at any point. -/
theorem sound_body (c : Dev nD) (t : Fin cfg0.N) (y4 : Vec F S256x5376 .fp8e4m3) (y5 : Vec F S1x256 .f32) (y6 : Vec F S2560x512 .bf16) :
    bodyPre m c t y4 y5 y6 ⊢ wp frame (wpE (defs₀ (F := F)) Variants.none c none) Set.univ (bodyAt0 t) (fun _ => bodyPost m c t y4 y5 y6) := by
  have i1 := cond1_iff t
  have i2 := cond2_iff t
  by_cases h : t.val < 10
  · refine sound_of m c t y4 y5 y6 (cod (iblk m c 0 t)) (row (iblk m c 0 t)) (fun _ _ => y6)
      (fun sa => putA (grid0.coords t) sa (codS (iblk m c 0 t))) (fun ss => putS (grid0.coords t) ss (scl (iblk m c 0 t)))
      (fun sa ss K => runA c (grid0.coords t) (by rw [i1]; omega) (by rw [i2]; omega) _ _ _ _ _ _ _ _ _ _ _ _ _ _ _ _ _ _ _ _ _ _ _ _ _ _ _ Set.univ K)
      (.inl ⟨h, by rw [iblk0 m c t h]; rfl⟩) (.inl ⟨h, by rw [iblk0 m c t h]; rfl⟩) (fun _ _ _ => .inr ⟨h, rfl⟩)
      (fun sa ss hi => ?_)
    rw [iblk0 m c t h]; exact hi.quant t
  · have h' : 10 ≤ t.val := by omega
    exact sound_of m c t y4 y5 y6 y4 y5 (fun sa ss => outUpto 5 ss sa (iblk m c 1 t) (iblk m c 2 t) (iblk m c 3 t) y6)
      (fun sa => sa) (fun ss => ss)
      (fun sa ss K => runB c (grid0.coords t) (by rw [i1]; omega) (by rw [i2]; omega) _ _ _ _ _ _ _ _ _ _ _ _ _ _ _ _ _ _ _ _ _ _ _ _ _ _ _ Set.univ K)
      (.inr ⟨h', rfl⟩) (.inr ⟨h', rfl⟩) (fun sa ss hi => .inl ⟨h', out_eq t hi h' y6⟩) (fun sa ss hi => hi.keep h')

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have e0 := finds0 m c t (Y 0) (hY 0)
  have e1 := finds1 m c t (Y 1) (hY 1)
  have e2 := finds2 m c t (Y 2) (hY 2)
  have e3 := finds3 m c t (Y 3) (hY 3)
  rw [e0, e1, e2, e3]
  exact triple_restated (sound_body m c t (Y 4) (Y 5) (Y 6)) rfl .rfl fun _ => .rfl

set_option backward.isDefEq.respectTransparency.types false in
/-- Every run ends with the arrays at contents the proof data allow, the other buffers as found and every semaphore at zero. -/
theorem run_main : θ_run defs (onTc (τ := τ) (main (F := F))) (s₀ m ρ)
    (fun r => (RDat.FramePost cfg0 (rdat m) (V m)) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m)
    (hin := fun c => by
      rw [PhiA0_eq]
      dsimp only [rdat]
      iintro ⟨⟨⟨%sa, Ha⟩, ⟨%ss, Hs⟩⟩, Hg⟩
      isplitl [Ha Hs]
      · iexists sa, ss; isplitr
        · ipureintro; exact Inv.init sa ss
        isplitl [Ha]; · iexact Ha
        iexact Hs
      iexact Hg)
    (hout := fun c => by
      rw [PhiA0_eq]
      dsimp only [rdat]
      iintro ⟨⟨%sa, %ss, %hinv, Ha, Hs⟩, Hg⟩
      isplitl [Ha Hs]
      · isplitl [Ha]; · iexists _; iexact Ha
        iexists _; iexact Hs
      iexact Hg)

/-- The argument arrays end as they were. -/
theorem args_kept (r : PUnit × MemSt nD τ sig (Elt F)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((A_eq m c 0).trans (V_main_arg0 m c)),
   (RDat.FramePost.arr_in h c 1 rfl).trans ((A_eq m c 1).trans (V_main_arg1 m c)),
   ((h c).2 main_arg2 (Pipeline.mem_restRefs_of main_arg2 (by decide) (by decide))).trans (V_main_arg2 m c),
   (RDat.FramePost.arr_in h c 3 rfl).trans ((A_eq m c 3).trans (V_main_arg3 m c))⟩

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m r h.1 c, h.2⟩) (run_main m ρ)

end Cert.OprojIdeal.Hand
end
-- ==== Proof.OprojSpec.lean ====
/- OPROJ, the result arrays as functions of the arguments: per column of the attention's output the quantisation scale of
   its largest magnitude, the column's entries quantised at it, and the residual plus the codes' product with the weights,
   scaled. -/
module

public import proofs.«01_k».proof.Proof.QuantSpec
public import proofs.«01_k».proof.Proof.DownSpec
public import proofs.«01_k».proof.OprojIdeal
public import Idealize.ShloMosaic.Lib.Pointwise

@[expose] public section

noncomputable section

namespace Cert.Proof.Oproj

open Idealize.ShloMosaic
open Cert.OprojIdeal (S5376x2560 S2560x5376 S5376x7168 S2560x7168 S7168 S1x2560)
open Cert.Proof.Quant (scale code)

/-- The magnitude. -/
def mag (x : EReal) : EReal := max x (-x)
theorem absf_bf16 (x : EReal) : FloatOps.absf (F := Ideal) (φ := .bf16) x = mag x := rfl
theorem absf_f32 (x : EReal) : FloatOps.absf (F := Ideal) (φ := .f32) x = mag x := rfl
/-- The largest magnitude of column `i`. -/
def colMax (at' : S5376x2560.Idx → EReal) (i : Fin 2560) : EReal :=
  (Finset.univ : Finset (Fin 5376)).fold max ⊥ (fun k => mag (at' (ix2 k i)))
/-- The codes, a row for each column of the attention's output. -/
def codes (at' : S5376x2560.Idx → EReal) (y : S2560x5376.Idx) : EReal := code (at' (ix2 (y 1) (y 0))) (scale (colMax at' (y 0)))
/-- The scales, as a row. -/
def scales (at' : S5376x2560.Idx → EReal) (y : S1x2560.Idx) : EReal := scale (colMax at' (y 1))
/-- The projection plus the residual. -/
def out (at' : S5376x2560.Idx → EReal) (w : S5376x7168.Idx → EReal) (sw : S7168.Idx → EReal) (x : S2560x7168.Idx → EReal)
    (y : S2560x7168.Idx) : EReal :=
  x y + (∑ k : Fin 5376, codes at' (ix2 (y 0) k) * w (ix2 k (y 1))) * scale (colMax at' (y 0)) * sw (ix1 (y 1))

theorem codes_apply (at' : S5376x2560.Idx → EReal) (i : Fin 2560) (k : Fin 5376) :
    codes at' (ix2 i k) = code (at' (ix2 k i)) (scale (colMax at' i)) := rfl
theorem scales_apply (at' : S5376x2560.Idx → EReal) (i : Fin 2560) : scales at' (ix2 0 i) = scale (colMax at' i) := rfl
theorem out_apply (at' : S5376x2560.Idx → EReal) (w : S5376x7168.Idx → EReal) (sw : S7168.Idx → EReal) (x : S2560x7168.Idx → EReal)
    (i : Fin 2560) (n : Fin 7168) : out at' w sw x (ix2 i n)
      = x (ix2 i n) + (∑ k : Fin 5376, codes at' (ix2 i k) * w (ix2 k n)) * scale (colMax at' i) * sw (ix1 n) := rfl

attribute [irreducible] colMax

end Cert.Proof.Oproj
-- ==== Proof.OprojPay.lean ====
/- OPROJ, the kernel's arithmetic at an index: a column's exponent, its scale, its codes and an entry of the projection. -/
module

public import proofs.«01_k».proof.Proof.OprojIdealPipe
public import proofs.«01_k».proof.Proof.OprojSpec
public import Idealize.ShloMosaic.Lib.StableHlo.Run

@[expose] public section

noncomputable section

namespace Cert.Proof.Oproj

open Idealize.ShloMosaic Idealize.ShloMosaic.TcCoe Idealize.SL.Sem
open Cert.OprojIdeal Cert.OprojIdeal.Gen Cert.OprojIdeal.Hand
open Idealize.ShloMosaic.Pipeline (Dat RDat)
open Cert.Proof.Down (ofBits_ninf)
open Cert.Proof.Quant (scale code c448 largest words)

/-! ## The payloads at an index -/

/-- The largest magnitude of a block's column. -/
def bMax (x : S5376x256.Idx → EReal) (r : Fin 256) : EReal := (Finset.univ : Finset (Fin 5376)).fold max ⊥ (fun k => mag (x (ix2 k r)))

theorem pay2_apply (x : Vec Ideal S5376x256 .bf16) (r : Fin 256) : k0_pay2 (F := Ideal) x (ix2 0 r) = bMax x r * c448 := by
  pointwise [k0_pay2, bMax, c448]
  simp only [ofBits_ninf, absf_bf16]

/-- The search as far as the step of sixteen. -/
theorem pay345_apply (x : Vec Ideal S5376x256 .bf16) (r : Fin 256) :
    Scalar.select (k0_pay4 (F := Ideal) x (ix2 0 r)) (k0_pay5 (F := Ideal) x (ix2 0 r)) (k0_pay3 (F := Ideal) x (ix2 0 r)) = Quant.field4 (bMax x r * c448) := by
  rw [← pay2_apply]
  unfold k0_pay4 k0_pay5 k0_pay3
  generalize k0_pay2 (F := Ideal) x = a
  pointwise [Quant.field4, Quant.bstep]

theorem pay6_apply (a : FVec Ideal S1x256 .f32) (v : IVec S1x256 32) (b : IVec S1x256 1) (w : IVec S1x256 32) (r : Fin 256) :
    k0_pay6 (F := Ideal) a v b w (ix2 0 r) = if a (ix2 0 r) = 0 then 0#32
      else IntOp.subi (Quant.field8 (a (ix2 0 r)) (Scalar.select (b (ix2 0 r)) (w (ix2 0 r)) (v (ix2 0 r)))) 126#32 := by
  pointwise [k0_pay6, Quant.field8, Quant.bstep]

theorem expo_apply (x : Vec Ideal S5376x256 .bf16) (r : Fin 256) : Hand.expo (F := Ideal) x (ix2 0 r) = Quant.expo (bMax x r * c448) := by
  unfold Hand.expo
  rw [pay6_apply, pay2_apply, pay345_apply]
  rfl

theorem scl_apply (x : Vec Ideal S5376x256 .bf16) (r : Fin 256) (l : Fin 128) (h : bMax x r ≤ largest) :
    scl (F := Ideal) x (ix2 r l) = scale (bMax x r) := by
  rw [← (words h).1, ← expo_apply]
  unfold scl
  generalize Hand.expo (F := Ideal) x = e
  pointwise [k0_pay12, k0_pay9]

theorem row_apply (x : Vec Ideal S5376x256 .bf16) (r : Fin 256) (h : bMax x r ≤ largest) :
    row (F := Ideal) x (ix2 0 r) = scale (bMax x r) := by
  rw [← (words h).1, ← expo_apply]
  unfold row
  generalize Hand.expo (F := Ideal) x = e
  pointwise [k0_pay8, k0_pay7]

theorem cod_apply (x : Vec Ideal S5376x256 .bf16) (r : Fin 256) (l : Fin 5376) (h : bMax x r ≤ largest) :
    cod (F := Ideal) x (ix2 r l) = code (x (ix2 l r)) (scale (bMax x r)) := by
  have hw := (words h).2
  rw [← expo_apply] at hw
  unfold cod
  generalize Hand.expo (F := Ideal) x = e at hw ⊢
  unfold code
  rw [← hw]
  pointwise [k0_pay10, k0_pay9]
  simp only [dite_eq_ite, ite_self]

theorem pay13_apply (a : Vec Ideal S512x128 .f32) (q : Vec Ideal S512x5376 .fp8e4m3) (w : Vec Ideal S5376x512 .fp8e4m3) (sw : Vec Ideal S1x512 .f32)
    (x : Vec Ideal S512x512 .bf16) (s : EReal) (r : Fin 512) (l : Fin 512) (h : ∀ l, a (ix2 r l) = s) :
    k0_pay13 (F := Ideal) a q w sw x (ix2 r l) = x (ix2 r l) + (∑ k, q (ix2 r k) * w (ix2 k l)) * s * sw (ix2 0 l) := by
  pointwise [k0_pay13]
  simp only [h, dite_eq_ite, ite_self]

end Cert.Proof.Oproj
-- ==== Proof.OprojKer.lean ====
/- OPROJ, the kernel's three result arrays as functions of its four arguments. -/
module

public import proofs.«01_k».proof.Proof.OprojIdealPipe
public import proofs.«01_k».proof.Proof.OprojPay
public import Idealize.ShloMosaic.Lib.StableHlo.Run

@[expose] public section

noncomputable section

namespace Cert.Proof.Oproj

open Idealize.ShloMosaic Idealize.ShloMosaic.TcCoe Idealize.SL.Sem
open Cert.OprojIdeal Cert.OprojIdeal.Gen Cert.OprojIdeal.Hand
open Idealize.ShloMosaic.Pipeline (Dat RDat)
open Cert.Proof.Down (ofBits_ninf)
open Cert.Proof.Quant (scale code c448 largest words)

/-! ## The blocks of the arrays -/

variable (m : (ℓ : Loc nD τ sig) → Buf (Elt Ideal) ℓ) (c : Dev nD)

abbrev aAt : S5376x2560.Idx → EReal := m ((c : Thread nD τ).loc main_arg0)
abbrev aW : S5376x7168.Idx → EReal := m ((c : Thread nD τ).loc main_arg1)
abbrev aSw : S7168.Idx → EReal := m ((c : Thread nD τ).loc main_arg2)
abbrev aX : S2560x7168.Idx → EReal := m ((c : Thread nD τ).loc main_arg3)

theorem V_v0 : V m c main_v0 = fun y : S1x7168.Idx => aSw m c (ix1 (y 1)) := by
  have h : V m c main_v0 = broadcastInDim S1x7168 ![1] bcast_S7168_S1x7168_1 (aSw m c) := by
    unfold V hostOps0
    after_results
  rw [h]
  funext y
  pointwise

/-- No entry of the attention's output exceeds the largest f32 number in magnitude. -/
def Small : Prop := ∀ y, mag (aAt m c y) ≤ largest

variable {m c}

theorem colMax_le (hs : Small m c) (i : Fin 2560) : colMax (aAt m c) i ≤ largest := by
  unfold colMax
  rw [Finset.fold_max_le]
  exact ⟨bot_le, fun l _ => hs _⟩

theorem bMax_eq (j : ℕ) (r : Fin 256) : bMax (AT m c j) r = colMax (aAt m c) (Fin.ofNat 2560 (j * 256 + r.val)) := by
  unfold bMax colMax
  refine congrArg (fun f : Fin 5376 → EReal => (Finset.univ : Finset (Fin 5376)).fold max ⊥ f) (funext fun k => ?_)
  rfl

theorem bMax_le (hs : Small m c) (j : ℕ) (r : Fin 256) : bMax (AT m c j) r ≤ largest := by
  rw [bMax_eq]
  exact colMax_le hs _

theorem code_eq (hs : Small m c) (j : ℕ) (r : Fin 256) (k : Fin 5376) :
    CODE m c j (ix2 r k) = codes (aAt m c) (ix2 (Fin.ofNat 2560 (j * 256 + r.val)) k) := by
  have e := cod_apply (AT m c j) r k (bMax_le hs j r)
  rw [bMax_eq] at e
  rw [codes_apply]
  exact e

theorem row_eq (hs : Small m c) (j : ℕ) (r : Fin 256) :
    ROW m c j (ix2 0 r) = scales (aAt m c) (ix2 0 (Fin.ofNat 2560 (j * 256 + r.val))) := by
  have e := row_apply (AT m c j) r (bMax_le hs j r)
  rw [bMax_eq] at e
  rw [scales_apply]
  exact e

/-- Row `i` is a row of its block of 256. -/
theorem in_block (i : Fin 2560) : Fin.ofNat 2560 (i.val / 256 * 256 + (Fin.ofNat 256 i.val).val) = i := by
  have hi := i.isLt
  apply Fin.ext
  show (i.val / 256 * 256 + i.val % 256) % 2560 = i.val
  omega

theorem pa_eq (hs : Small m c) (i : Fin 2560) (k : Fin 5376) : PA m c (ix2 i k) = codes (aAt m c) (ix2 i k) := by
  have e := code_eq hs (i.val / 256) (Fin.ofNat 256 i.val) k
  rw [in_block] at e
  exact e

theorem ps_eq (hs : Small m c) (i : Fin 2560) (l : Fin 128) : PS m c (ix2 i l) = scale (colMax (aAt m c) i) := by
  have e := scl_apply (AT m c (i.val / 256)) (Fin.ofNat 256 i.val) l (bMax_le hs _ _)
  rw [bMax_eq, in_block] at e
  exact e

/-- Row `r` of chunk `q` of 512 rows. -/
theorem chunk_lt (q : Fin 5) (r : Fin 512) : 512 * q.val + r.val < 2560 := by have := q.isLt; have := r.isLt; omega

/-- A chunk of rows of an array of 2560 rows. -/
theorem window_apply {C : ℕ} {t : EltTy} (x : Vec Ideal ⟨2, ![2560, C]⟩ t) (q : Fin 5) (h) (r : Fin 512) (l : Fin C) :
    VecWindow.window x ![512 * q.val, 0] (⟨2, ![512, C]⟩ : Shape).size h (ix2 r l) = x (ix2 ⟨512 * q.val + r.val, chunk_lt q r⟩ l) := by
  unfold VecWindow.window
  congr 1
  funext a; apply Fin.ext
  match a with
  | ⟨0, _⟩ => show 512 * q.val + 1 * r.val = 512 * q.val + r.val; omega
  | ⟨1, _⟩ => show 0 + 1 * l.val = l.val; omega

theorem mul_apply (hs : Small m c) (n : ℕ) (q : Fin 5) (r l : Fin 512) :
    Hand.mul q (PS m c) (PA m c) (WB m c n) (SWB m c n) (XB m c n) (ix2 r l)
      = out (aAt m c) (aW m c) (aSw m c) (aX m c) (ix2 ⟨512 * q.val + r.val, chunk_lt q r⟩ (Fin.ofNat 7168 (n * 512 + l.val))) := by
  unfold Hand.mul
  have e := fun a b x h => pay13_apply a b (WB m c n) (SWB m c n) x (scale (colMax (aAt m c) ⟨512 * q.val + r.val, chunk_lt q r⟩)) r l h
  rw [e _ _ _ (fun l' => (window_apply (C := 128) (t := .f32) (PS m c) q _ r l').trans (ps_eq hs _ l'))]
  have hc : ∀ h k, VecWindow.window (PA m c) ![512 * q.val, 0] S512x5376.size h (ix2 r k) = codes (aAt m c) (ix2 ⟨512 * q.val + r.val, chunk_lt q r⟩ k) :=
    fun h k => (window_apply (C := 5376) (t := .fp8e4m3) (PA m c) q h r k).trans (pa_eq hs _ k)
  have hx : ∀ h, VecWindow.window (XB m c n) ![512 * q.val, 0] S512x512.size h (ix2 r l) = aX m c (ix2 ⟨512 * q.val + r.val, chunk_lt q r⟩ (Fin.ofNat 7168 (n * 512 + l.val))) :=
    fun h => (window_apply (C := 512) (t := .bf16) (XB m c n) q h r l).trans rfl
  have hsw : SWB m c n (ix2 0 l) = aSw m c (ix1 (Fin.ofNat 7168 (n * 512 + l.val))) := by
    unfold SWB Hand.aSw
    rw [V_v0]
    rfl
  have hw : ∀ k, WB m c n (ix2 k l) = aW m c (ix2 k (Fin.ofNat 7168 (n * 512 + l.val))) := fun k => rfl
  rw [out_apply]
  simp only [hc, hx, hsw, hw]

theorem out_eq (hs : Small m c) (n : ℕ) (i : Fin 2560) (l : Fin 512) :
    OUT m c n (ix2 i l) = out (aAt m c) (aW m c) (aSw m c) (aX m c) (ix2 i (Fin.ofNat 7168 (n * 512 + l.val))) := by
  have hi := i.isLt
  have e := mul_apply hs n (Fin.ofNat 5 (i.val / 512)) (Fin.ofNat 512 i.val) l
  have hc : (⟨512 * (Fin.ofNat 5 (i.val / 512)).val + (Fin.ofNat 512 i.val).val, chunk_lt _ _⟩ : Fin 2560) = i := by
    apply Fin.ext
    show 512 * (i.val / 512 % 5) + i.val % 512 = i.val
    omega
  rw [hc] at e
  exact e

/-! ## What is written back -/

theorem leaves4 : ∀ (n : ℕ) (hn : n < cfg0.N) (X : Vec Ideal S256x5376 .fp8e4m3), (rdat m c).Leaves 4 ⟨n, hn⟩ X → X = CODE m c (min n 9)
  | n, hn, X, ⟨Y, hY, ha⟩ => by
    have hlt := tlt ⟨n, hn⟩
    dsimp only at hlt
    rcases ha with ⟨hq, rfl⟩ | ⟨hq, rfl⟩
    · have h1 : n < 10 := hq
      show CODE m c n = _
      rw [show min n 9 = n by omega]
    · have h1 : 10 ≤ n := hq
      match n, hn, hY with
      | 0, _, _ => omega
      | n + 1, hn, hY =>
        have hfl : ∀ t : Fin cfg0.N, 10 ≤ t.val → win0_4.flush ⟨t.val - 1, Nat.lt_of_le_of_lt (Nat.sub_le _ _) t.isLt⟩ = false :=
          (by decide +kernel : ∀ t : Fin grid0.N, 10 ≤ t.val → win0_4.flush ⟨t.val - 1, Nat.lt_of_le_of_lt (Nat.sub_le _ _) t.isLt⟩ = false)
        rcases (RDat.finds_of_pos (rd := rdat m c) (w := 4) (t := ⟨n + 1, hn⟩) rfl (Nat.succ_ne_zero n) X).mp hY with h | h
        · exact absurd ((hfl ⟨n + 1, hn⟩ h1).symm.trans h) (by decide)
        · refine (leaves4 n (Nat.lt_of_succ_lt hn) X h).trans ?_
          congr 1
          omega

theorem leaves5 : ∀ (n : ℕ) (hn : n < cfg0.N) (X : Vec Ideal S1x256 .f32), (rdat m c).Leaves 5 ⟨n, hn⟩ X → X = ROW m c (min n 9)
  | n, hn, X, ⟨Y, hY, ha⟩ => by
    have hlt := tlt ⟨n, hn⟩
    dsimp only at hlt
    rcases ha with ⟨hq, rfl⟩ | ⟨hq, rfl⟩
    · have h1 : n < 10 := hq
      show ROW m c n = _
      rw [show min n 9 = n by omega]
    · have h1 : 10 ≤ n := hq
      match n, hn, hY with
      | 0, _, _ => omega
      | n + 1, hn, hY =>
        have hfl : ∀ t : Fin cfg0.N, 10 ≤ t.val → win0_5.flush ⟨t.val - 1, Nat.lt_of_le_of_lt (Nat.sub_le _ _) t.isLt⟩ = false :=
          (by decide +kernel : ∀ t : Fin grid0.N, 10 ≤ t.val → win0_5.flush ⟨t.val - 1, Nat.lt_of_le_of_lt (Nat.sub_le _ _) t.isLt⟩ = false)
        rcases (RDat.finds_of_pos (rd := rdat m c) (w := 5) (t := ⟨n + 1, hn⟩) rfl (Nat.succ_ne_zero n) X).mp hY with h | h
        · exact absurd ((hfl ⟨n + 1, hn⟩ h1).symm.trans h) (by decide)
        · refine (leaves5 n (Nat.lt_of_succ_lt hn) X h).trans ?_
          congr 1
          omega

theorem flush6 : ∀ t : Fin cfg0.N, win0_6.flush t = true → 10 ≤ t.val :=
  (by decide +kernel : ∀ t : Fin grid0.N, win0_6.flush t = true → 10 ≤ t.val)

theorem leaves6 (t : Fin cfg0.N) (h : win0_6.flush t = true) (X : Vec Ideal S2560x512 .bf16) (hX : (rdat m c).Leaves 6 t X) :
    X = OUT m c (t.val - 10) := by
  obtain ⟨Y, hY, ha⟩ := hX
  have hf := flush6 t h
  rcases ha with ⟨hq, rfl⟩ | ⟨hq, rfl⟩
  · rfl
  · exact absurd hq (by omega)

theorem index4 : ∀ t : Fin cfg0.N, win0_4.index t 0 = min t.val 9 ∧ win0_4.index t 1 = 0 :=
  (by decide +kernel : ∀ t : Fin grid0.N, win0_4.index t 0 = min t.val 9 ∧ win0_4.index t 1 = 0)
theorem index5 : ∀ t : Fin cfg0.N, win0_5.index t 0 = 0 ∧ win0_5.index t 1 = min t.val 9 :=
  (by decide +kernel : ∀ t : Fin grid0.N, win0_5.index t 0 = 0 ∧ win0_5.index t 1 = min t.val 9)
theorem index6 : ∀ t : Fin cfg0.N, win0_6.index t 0 = 0 ∧ win0_6.index t 1 = t.val - 10 :=
  (by decide +kernel : ∀ t : Fin grid0.N, win0_6.index t 0 = 0 ∧ win0_6.index t 1 = t.val - 10)

variable (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))

include hL

theorem final4 (hs : Small m c) : ((rdat m c).withAfter after).arrAt 4 cfg0.N = (codes (aAt m c) : Vec Ideal S2560x5376 .fp8e4m3) := by
  refine ((rdat m c).withAfter after).arrAt_eq_of_covers 4 _ (by decide +kernel) fun t hf y => ?_
  have ht := tlt t
  have e := leaves4 t.val t.isLt _ (hL 4 t hf)
  have h0 : (y 0).val < 256 := (y 0).isLt
  have h1 : (y 1).val < 5376 := (y 1).isLt
  refine (congrFun e y).trans ((congrArg (CODE m c _) (eq_ix2 y)).trans ((code_eq hs _ (y 0) (y 1)).trans ?_))
  refine congrArg (codes (aAt m c)) (funext fun a => Fin.ext ?_)
  match a with
  | ⟨0, _⟩ =>
    show (min t.val 9 * 256 + (y 0).val) % 2560 = win0_4.index t 0 * 256 + 1 * (y 0).val
    rw [(index4 t).1]; omega
  | ⟨1, _⟩ =>
    show (y 1).val = win0_4.index t 1 * 5376 + 1 * (y 1).val
    rw [(index4 t).2]; omega

theorem final5 (hs : Small m c) : ((rdat m c).withAfter after).arrAt 5 cfg0.N = (scales (aAt m c) : Vec Ideal S1x2560 .f32) := by
  refine ((rdat m c).withAfter after).arrAt_eq_of_covers 5 _ (by decide +kernel) fun t hf y => ?_
  have ht := tlt t
  have e := leaves5 t.val t.isLt _ (hL 5 t hf)
  have h0 : (y 0).val < 1 := (y 0).isLt
  have h1 : (y 1).val < 256 := (y 1).isLt
  have hy : (y : S1x256.Idx) = ix2 0 (y 1) := (eq_ix2 (y : S1x256.Idx)).trans (congrArg (fun k : Fin 1 => ix2 k (y 1)) (Fin.ext (by show (y 0).val = 0; omega)))
  refine (congrFun e y).trans ((congrArg (ROW m c _) hy).trans ((row_eq hs _ (y 1)).trans ?_))
  refine congrArg (scales (aAt m c)) (funext fun a => Fin.ext ?_)
  match a with
  | ⟨0, _⟩ =>
    show 0 = win0_5.index t 0 * 1 + 1 * (y 0).val
    rw [(index5 t).1]; omega
  | ⟨1, _⟩ =>
    show (min t.val 9 * 256 + (y 1).val) % 2560 = win0_5.index t 1 * 256 + 1 * (y 1).val
    rw [(index5 t).2]; omega

theorem final6 (hs : Small m c) : ((rdat m c).withAfter after).arrAt 6 cfg0.N
    = (out (aAt m c) (aW m c) (aSw m c) (aX m c) : Vec Ideal S2560x7168 .bf16) := by
  refine ((rdat m c).withAfter after).arrAt_eq_of_covers 6 _ (by decide +kernel) fun t hf y => ?_
  have ht := tlt t
  have hp := flush6 t hf
  have e := leaves6 t hf _ (hL 6 t hf)
  have h0 : (y 0).val < 2560 := (y 0).isLt
  have h1 : (y 1).val < 512 := (y 1).isLt
  refine (congrFun e y).trans ((congrArg (OUT m c _) (eq_ix2 y)).trans ((out_eq hs _ (y 0) (y 1)).trans ?_))
  refine congrArg (out (aAt m c) (aW m c) (aSw m c) (aX m c)) (funext fun a => Fin.ext ?_)
  match a with
  | ⟨0, _⟩ =>
    show (y 0).val = win0_6.index t 0 * 2560 + 1 * (y 0).val
    rw [(index6 t).1]; omega
  | ⟨1, _⟩ =>
    show ((t.val - 10) * 512 + (y 1).val) % 7168 = win0_6.index t 1 * 512 + 1 * (y 1).val
    rw [(index6 t).2]; omega

omit hL

/-- The kernel's run at small entries. -/
theorem run (m : (ℓ : Loc nD τ sig) → Buf (Elt Ideal) ℓ) (g : Dev nD → PrngReg) (hs : ∀ c, Small m c) :
    θ_run (defs (F := Ideal)) (onTc (τ := τ) (main (F := Ideal))) ⟨m, fun _ => 0, g⟩ (fun r => ∀ c : Dev nD,
      r.2.mem ((c.tc : Thread nD τ).loc main_v1_0) = codes (aAt m c)
      ∧ r.2.mem ((c.tc : Thread nD τ).loc main_v1_1) = scales (aAt m c)
      ∧ r.2.mem ((c.tc : Thread nD τ).loc main_v1_2) = out (aAt m c) (aW m c) (aSw m c) (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ?_) (run_main m g)
  obtain ⟨after, hL, hA⟩ := h.1.exists_exact c
  exact ⟨(hA 4).trans (final4 after hL (hs c)), (hA 5).trans (final5 after hL (hs c)), (hA 6).trans (final6 after hL (hs c)), args_kept m r h.1 c⟩

end Cert.Proof.Oproj
-- ==== Proof.OprojRef.lean ====
/- OPROJ, the reference's three result arrays as functions of its four arguments. -/
module

public import proofs.«01_k».proof.Proof.Gen.OprojReferenceIdeal.Value
public import proofs.«01_k».proof.Proof.OprojSpec
public import Idealize.ShloMosaic.Lib.Pipeline.Value
public import Idealize.ShloMosaic.Lib.StableHlo.Run

@[expose] public section

noncomputable section

namespace Cert.Proof.OprojRef

open Idealize.ShloMosaic Idealize.ShloMosaic.TcCoe Idealize.SL.Sem
open Cert.OprojReferenceIdeal Cert.OprojReferenceIdeal.Gen
open Idealize.ShloMosaic.Pipeline (Dat)
open Cert.Proof.Down (ofBits_ninf ofBits_pinf)
open Cert.Proof.Oproj (absf_f32 mag colMax codes scales out codes_apply scales_apply out_apply)
open Cert.Proof.Quant (scale code c448 pw)

theorem hz : (![0, 0] : Fin 2 → Nat) = fun _ => 0 := funext fun a => by fin_cases a <;> rfl

/-! ## The payloads at an index -/

/-- The powers of two, as the contents of the list argument. -/
def powers : Vec Ideal S1x254 .f32 := fun y => pw (y 1).val

theorem pay2_apply (a : Vec Ideal S5376x2560 .bf16) (i : Fin 2560) (k : Fin 5376) : k0_pay2 (F := Ideal) a (ix2 i k) = a (ix2 k i) := by
  pointwise [k0_pay2]

/-- The largest magnitude of each row, as a column. -/
def amax (b : FVec Ideal S2560x5376 .f32) : FVec Ideal S2560x1 .f32 :=
  shapeCast S2560x1 (multiReduction .maximumf [1] S2560 (absf b) 0xFF800000#32 reduces_S2560x5376_S2560 (.inl rfl) rfl) shapeCasts_S2560_S2560x1

/-- The scales of a column of magnitudes. -/
def scal (v5 : FVec Ideal S2560x1 .f32) (v6 : FVec Ideal S1x254 .f32) : FVec Ideal S2560x1 .f32 :=
  have v7 : FVec Ideal S1x254 .f32 := shapeCast S1x254 v6 shapeCasts_S1x254_S1x254
  have cst_3 : Ideal .f32 := Scalar.ofBits .f32 0x3B124925#32
  have v8 : FVec Ideal S2560x1 .f32 := broadcast S2560x1 cst_3
  have v9 : FVec Ideal S2560x1 .f32 := mulf v5 v8
  have v10 : FVec Ideal S2560x254 .f32 := broadcastTo S2560x254 v7 broadcasts_S1x254_S2560x254
  have v11 : FVec Ideal S2560x254 .f32 := broadcastTo S2560x254 v9 broadcasts_S2560x1_S2560x254
  have v12 : IVec S2560x254 1 := cmpf .ogt v10 v11
  have cst_4 : Ideal .f32 := Scalar.ofBits .f32 0x7F800000#32
  have v13 : FVec Ideal S1x254 .f32 := shapeCast S1x254 v7 shapeCasts_S1x254_S1x254
  have v14 : FVec Ideal S2560x254 .f32 := broadcastTo S2560x254 v13 broadcasts_S1x254_S2560x254
  have v15 : FVec Ideal S2560x254 .f32 := broadcast S2560x254 cst_4
  have v16 : FVec Ideal S2560x254 .f32 := select v12 v14 v15
  have v17 : FVec Ideal S2560 .f32 := multiReduction .minimumf [1] S2560 v16 0x7F800000#32 reduces_S2560x254_S2560 (.inl rfl) rfl
  have v18 : FVec Ideal S2560x1 .f32 := shapeCast S2560x1 v17 shapeCasts_S2560_S2560x1
  have cst_6 : Ideal .f32 := Scalar.ofBits .f32 0x00000000#32
  have v19 : FVec Ideal S2560x1 .f32 := broadcast S2560x1 cst_6
  have v20 : IVec S2560x1 1 := cmpf .oeq v5 v19
  have cst_7 : Ideal .f32 := Scalar.ofBits .f32 0x3F800000#32
  have v21 : FVec Ideal S2560x1 .f32 := broadcast S2560x1 cst_7
  have v22 : FVec Ideal S2560x1 .f32 := select v20 v21 v18
  v22

theorem pay3_eq (a : Vec Ideal S5376x2560 .bf16) (p : Vec Ideal S1x254 .f32) : k0_pay3 (F := Ideal) a p = scal (amax (k0_pay2 (F := Ideal) a)) p := rfl

theorem scal_apply (v : FVec Ideal S2560x1 .f32) (i : Fin 2560) : scal v powers (ix2 i 0) = scale (v (ix2 i 0)) := by
  pointwise [scal, scale, c448, powers]
  simp only [ofBits_pinf]
  rfl

theorem amax_apply (b : FVec Ideal S2560x5376 .f32) (i : Fin 2560) :
    amax b (ix2 i 0) = (Finset.univ : Finset (Fin 5376)).fold max ⊥ (fun k => mag (b (ix2 i k))) := by
  pointwise [amax]
  simp only [ofBits_ninf, absf_f32]

theorem pay3_apply (a : Vec Ideal S5376x2560 .bf16) (i : Fin 2560) :
    k0_pay3 (F := Ideal) a powers (ix2 i 0) = scale (colMax a i) := by
  rw [pay3_eq, scal_apply, amax_apply]
  refine congrArg scale ?_
  simp only [pay2_apply]
  unfold colMax
  rfl

/-- The codes of the rows of an array from the rows' scales. -/
def codV (b : FVec Ideal S2560x5376 .f32) (s : FVec Ideal S2560x1 .f32) : FVec Ideal S2560x5376 .fp8e4m3 :=
  have v23 : FVec Ideal S2560x1 .f32 := broadcast S2560x1 (Scalar.ofBits .f32 0x3F800000#32)
  have v24 : FVec Ideal S2560x1 .f32 := divf v23 s
  have v25 : FVec Ideal S2560x5376 .f32 := broadcastTo S2560x5376 v24 broadcasts_S2560x1_S2560x5376
  have v26 : FVec Ideal S2560x5376 .f32 := mulf b v25
  have v27 : FVec Ideal S2560x5376 .f32 := broadcast S2560x5376 (Scalar.ofBits .f32 0xC3E00000#32)
  have v28 : FVec Ideal S2560x5376 .f32 := maximumf v27 v26
  have v29 : FVec Ideal S2560x5376 .f32 := broadcast S2560x5376 (Scalar.ofBits .f32 0x43E00000#32)
  have v30 : FVec Ideal S2560x5376 .f32 := minimumf v29 v28
  have v31 : FVec Ideal S2560x5376 .fp8e4m3 := truncf .fp8e4m3 v30 bitsLt_fp8e4m3_f32
  v31

theorem pay4_eq (a : Vec Ideal S5376x2560 .bf16) (p : Vec Ideal S1x254 .f32) :
    k0_pay4 (F := Ideal) a p = codV (k0_pay2 (F := Ideal) a) (k0_pay3 (F := Ideal) a p) := rfl

theorem codV_apply (b : FVec Ideal S2560x5376 .f32) (s : FVec Ideal S2560x1 .f32) (i : Fin 2560) (k : Fin 5376) :
    codV b s (ix2 i k) = code (b (ix2 i k)) (s (ix2 i 0)) := by
  pointwise [codV, code]

theorem pay4_apply (a : Vec Ideal S5376x2560 .bf16) (i : Fin 2560) (k : Fin 5376) :
    k0_pay4 (F := Ideal) a powers (ix2 i k) = codes a (ix2 i k) := by
  rw [pay4_eq, codV_apply, pay2_apply, pay3_apply, codes_apply]

theorem row_apply (s : FVec Ideal S2560x1 .f32) (i : Fin 2560) :
    transpose S1x2560 [1, 0] s transposes_S2560x1_p1_0_S1x2560 (ix2 0 i) = s (ix2 i 0) := by
  pointwise

theorem pay5_eq (a : Vec Ideal S5376x2560 .bf16) (p : Vec Ideal S1x254 .f32) :
    k0_pay5 (F := Ideal) a p = transpose S1x2560 [1, 0] (k0_pay3 (F := Ideal) a p) transposes_S2560x1_p1_0_S1x2560 := rfl

theorem pay5_apply (a : Vec Ideal S5376x2560 .bf16) (i : Fin 2560) :
    k0_pay5 (F := Ideal) a powers (ix2 0 i) = scales a (ix2 0 i) := by
  rw [pay5_eq, row_apply, pay3_apply, scales_apply]

theorem pay1_entry (q : FVec Ideal S2560x5376 .fp8e4m3) (s : FVec Ideal S2560x1 .f32) (x : Vec Ideal S2560x7168 .bf16)
    (w : Vec Ideal S5376x7168 .fp8e4m3) (sw : Vec Ideal S7168 .f32) (i : Fin 2560) (n : Fin 7168) :
    k0_pay1 (F := Ideal) s q (k0_pay6 x) w (fun y : S1x7168.Idx => sw (ix1 (y 1))) (ix2 i n)
      = x (ix2 i n) + (∑ k : Fin 5376, q (ix2 i k) * w (ix2 k n)) * s (ix2 i 0) * sw (ix1 n) := by
  pointwise [k0_pay1, k0_pay6]

theorem pay1_apply (a : Vec Ideal S5376x2560 .bf16) (x : Vec Ideal S2560x7168 .bf16)
    (w : Vec Ideal S5376x7168 .fp8e4m3) (sw : Vec Ideal S7168 .f32) (i : Fin 2560) (n : Fin 7168) :
    k0_pay1 (F := Ideal) (k0_pay3 a powers) (k0_pay4 a powers) (k0_pay6 x) w (fun y : S1x7168.Idx => sw (ix1 (y 1))) (ix2 i n)
      = out a w sw x (ix2 i n) := by
  rw [pay1_entry, pay3_apply, out_apply]
  simp only [pay4_apply]

variable (m : (ℓ : Loc nD τ sig) → Buf (Elt Ideal) ℓ) (c : Dev nD)

/-- The four arguments. -/
abbrev aAt : Vec Ideal S5376x2560 .bf16 := m (c.tc.loc main_arg0)
abbrev aW : Vec Ideal S5376x7168 .fp8e4m3 := m (c.tc.loc main_arg1)
abbrev aSw : Vec Ideal S7168 .f32 := m (c.tc.loc main_arg2)
abbrev aX : Vec Ideal S2560x7168 .bf16 := m (c.tc.loc main_arg3)

theorem V_main_v7 : V m c main_v7 = fun y : S1x7168.Idx => aSw m c (ix1 (y 1)) := by
  have h : V m c main_v7 = broadcastInDim S1x7168 ![1] bcast_S7168_S1x7168_1 (aSw m c) := by
    unfold V hostOps0
    after_results
  rw [h]
  funext y
  pointwise

/-- The list of the powers of two. -/
theorem V_main_v6 : V m c main_v6 = powers := by
  have h : V m c main_v6 = broadcastInDim S1x254 ![1] bcast_S254_S1x254_1
      (Host.powf (F := Ideal) (broadcastInDim S254 ![] bcast_S_S254 (constant S_ .f32 0x40000000#32))
        (sitofp .f32 (addi (broadcastInDim S254 ![] bcast_S_S254 (constantI S_ 32 4294967170#32)) (iotaInDim S254 32 0)))) := by
    unfold V hostOps0
    after_results
  rw [h]
  funext y
  obtain ⟨r, k, rfl⟩ : ∃ (r : Fin 1) (k : Fin 254), y = ix2 r k := ⟨y 0, y 1, eq_ix2 y⟩
  pointwise [powers]
  exact Quant.power_of_two k

/-! ## The one point's input blocks are the whole arrays -/

theorem iblk0 (t : Fin cfg0.N) : (iblk m c 0 t : Vec Ideal S1x254 .f32) = powers := by
  funext y
  unfold iblk
  rw [View.read_apply]
  show V m c main_v6 _ = _
  rw [V_main_v6]
  refine congrArg (powers) (funext fun a => Fin.ext ?_)
  match a with
  | ⟨0, _⟩ => show 0 * 1 + 1 * (y 0).val = (y 0).val; omega
  | ⟨1, _⟩ => show 0 * 254 + 1 * (y 1).val = (y 1).val; omega
theorem iblk1 (t : Fin cfg0.N) : (iblk m c 1 t : Vec Ideal S5376x2560 .bf16) = aAt m c := by
  funext y
  unfold iblk
  rw [View.read_apply]
  show V m c main_arg0 _ = _
  rw [V_main_arg0]
  refine congrArg (aAt m c) (funext fun a => Fin.ext ?_)
  match a with
  | ⟨0, _⟩ => show 0 * 5376 + 1 * (y 0).val = (y 0).val; omega
  | ⟨1, _⟩ => show 0 * 2560 + 1 * (y 1).val = (y 1).val; omega
theorem iblk2 (t : Fin cfg0.N) : (iblk m c 2 t : Vec Ideal S5376x7168 .fp8e4m3) = aW m c := by
  funext y
  unfold iblk
  rw [View.read_apply]
  show V m c main_arg1 _ = _
  rw [V_main_arg1]
  refine congrArg (aW m c) (funext fun a => Fin.ext ?_)
  match a with
  | ⟨0, _⟩ => show 0 * 5376 + 1 * (y 0).val = (y 0).val; omega
  | ⟨1, _⟩ => show 0 * 7168 + 1 * (y 1).val = (y 1).val; omega
theorem iblk3 (t : Fin cfg0.N) : (iblk m c 3 t : Vec Ideal S1x7168 .f32) = fun y : S1x7168.Idx => aSw m c (ix1 (y 1)) := by
  funext y
  unfold iblk
  rw [View.read_apply]
  show V m c main_v7 _ = _
  rw [V_main_v7]
  refine congrArg (fun y : S1x7168.Idx => aSw m c (ix1 (y 1))) (funext fun a => Fin.ext ?_)
  match a with
  | ⟨0, _⟩ => show 0 * 1 + 1 * (y 0).val = (y 0).val; omega
  | ⟨1, _⟩ => show 0 * 7168 + 1 * (y 1).val = (y 1).val; omega
theorem iblk4 (t : Fin cfg0.N) : (iblk m c 4 t : Vec Ideal S2560x7168 .bf16) = aX m c := by
  funext y
  unfold iblk
  rw [View.read_apply]
  show V m c main_arg3 _ = _
  rw [V_main_arg3]
  refine congrArg (aX m c) (funext fun a => Fin.ext ?_)
  match a with
  | ⟨0, _⟩ => show 0 * 2560 + 1 * (y 0).val = (y 0).val; omega
  | ⟨1, _⟩ => show 0 * 7168 + 1 * (y 1).val = (y 1).val; omega

theorem out5_eq (t : Fin cfg0.N) :
    out0_5 (iblk m c 0 t) (iblk m c 1 t) (iblk m c 2 t) (iblk m c 3 t) (iblk m c 4 t) = (codes (aAt m c) : Vec Ideal S2560x5376 .fp8e4m3) := by
  rw [iblk0, iblk1, iblk2, iblk3, iblk4]
  unfold out0_5
  rw [View.canon_unit_zero hz]
  simp only [View.ld_unit_zero (S := S1x254) hz, View.ld_unit_zero (S := S5376x2560) hz, View.ld_unit_zero (S := S5376x7168) hz, View.ld_unit_zero (S := S1x7168) hz, View.ld_unit_zero (S := S2560x7168) hz]
  funext y
  obtain ⟨r, l, rfl⟩ : ∃ (r : Fin 2560) (l : Fin 5376), y = ix2 r l := ⟨y 0, y 1, eq_ix2 y⟩
  exact pay4_apply _ r l

theorem final5 : (dats m 0 c).arrAt 5 cfg0.N = (codes (aAt m c) : Vec Ideal S2560x5376 .fp8e4m3) := by
  refine (dats m 0 c).arrAt_eq_of_cover 5 (codes (aAt m c) : Vec Ideal S2560x5376 .fp8e4m3) (fun t _ => ?_) fun i => ?_
  · rw [Cert.OprojReferenceIdeal.Value.flushed5, out5_eq]
    funext y
    rw [View.read_apply]
    refine congrArg (codes (aAt m c) : Vec Ideal S2560x5376 .fp8e4m3) (funext fun a => Fin.ext ?_)
    match a with
    | ⟨0, _⟩ => show (y 0).val = 0 * 2560 + 1 * (y 0).val; omega
    | ⟨1, _⟩ => show (y 1).val = 0 * 5376 + 1 * (y 1).val; omega
  · have h0 : (i 0 : Nat) < 2560 := (i 0).isLt
    have h1 : (i 1 : Nat) < 5376 := (i 1).isLt
    refine ⟨t0_0, rfl, ?_⟩
    show i ∈ ((View.whole main_v8_0).slice (win0_5.rect t0_0)).set
    rw [View.set_slice_whole, Rect.mem_set_unit]
    intro a
    match a with
    | ⟨0, _⟩ => show 0 * 2560 ≤ (i 0 : Nat) ∧ (i 0 : Nat) < 0 * 2560 + 2560; omega
    | ⟨1, _⟩ => show 0 * 5376 ≤ (i 1 : Nat) ∧ (i 1 : Nat) < 0 * 5376 + 5376; omega

theorem out6_eq (t : Fin cfg0.N) :
    out0_6 (iblk m c 0 t) (iblk m c 1 t) (iblk m c 2 t) (iblk m c 3 t) (iblk m c 4 t) = (scales (aAt m c) : Vec Ideal S1x2560 .f32) := by
  rw [iblk0, iblk1, iblk2, iblk3, iblk4]
  unfold out0_6
  rw [View.canon_unit_zero hz]
  simp only [View.ld_unit_zero (S := S1x254) hz, View.ld_unit_zero (S := S5376x2560) hz, View.ld_unit_zero (S := S5376x7168) hz, View.ld_unit_zero (S := S1x7168) hz, View.ld_unit_zero (S := S2560x7168) hz]
  funext y
  obtain ⟨r, l, rfl⟩ : ∃ (r : Fin 1) (l : Fin 2560), y = ix2 r l := ⟨y 0, y 1, eq_ix2 y⟩
  obtain rfl : r = 0 := Subsingleton.elim _ _
  exact pay5_apply _ l

theorem final6 : (dats m 0 c).arrAt 6 cfg0.N = (scales (aAt m c) : Vec Ideal S1x2560 .f32) := by
  refine (dats m 0 c).arrAt_eq_of_cover 6 (scales (aAt m c) : Vec Ideal S1x2560 .f32) (fun t _ => ?_) fun i => ?_
  · rw [Cert.OprojReferenceIdeal.Value.flushed6, out6_eq]
    funext y
    rw [View.read_apply]
    refine congrArg (scales (aAt m c) : Vec Ideal S1x2560 .f32) (funext fun a => Fin.ext ?_)
    match a with
    | ⟨0, _⟩ => show (y 0).val = 0 * 1 + 1 * (y 0).val; omega
    | ⟨1, _⟩ => show (y 1).val = 0 * 2560 + 1 * (y 1).val; omega
  · have h0 : (i 0 : Nat) < 1 := (i 0).isLt
    have h1 : (i 1 : Nat) < 2560 := (i 1).isLt
    refine ⟨t0_0, rfl, ?_⟩
    show i ∈ ((View.whole main_v8_1).slice (win0_6.rect t0_0)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 2560 ≤ (i 1 : Nat) ∧ (i 1 : Nat) < 0 * 2560 + 2560; omega

theorem out7_eq (t : Fin cfg0.N) :
    out0_7 (iblk m c 0 t) (iblk m c 1 t) (iblk m c 2 t) (iblk m c 3 t) (iblk m c 4 t) = (out (aAt m c) (aW m c) (aSw m c) (aX m c) : Vec Ideal S2560x7168 .bf16) := by
  rw [iblk0, iblk1, iblk2, iblk3, iblk4]
  unfold out0_7
  rw [View.canon_unit_zero hz]
  simp only [View.ld_unit_zero (S := S1x254) hz, View.ld_unit_zero (S := S5376x2560) hz, View.ld_unit_zero (S := S5376x7168) hz, View.ld_unit_zero (S := S1x7168) hz, View.ld_unit_zero (S := S2560x7168) hz]
  funext y
  obtain ⟨r, l, rfl⟩ : ∃ (r : Fin 2560) (l : Fin 7168), y = ix2 r l := ⟨y 0, y 1, eq_ix2 y⟩
  exact pay1_apply _ _ _ _ r l

theorem final7 : (dats m 0 c).arrAt 7 cfg0.N = (out (aAt m c) (aW m c) (aSw m c) (aX m c) : Vec Ideal S2560x7168 .bf16) := by
  refine (dats m 0 c).arrAt_eq_of_cover 7 (out (aAt m c) (aW m c) (aSw m c) (aX m c) : Vec Ideal S2560x7168 .bf16) (fun t _ => ?_) fun i => ?_
  · rw [Cert.OprojReferenceIdeal.Value.flushed7, out7_eq]
    funext y
    rw [View.read_apply]
    refine congrArg (out (aAt m c) (aW m c) (aSw m c) (aX m c) : Vec Ideal S2560x7168 .bf16) (funext fun a => Fin.ext ?_)
    match a with
    | ⟨0, _⟩ => show (y 0).val = 0 * 2560 + 1 * (y 0).val; omega
    | ⟨1, _⟩ => show (y 1).val = 0 * 7168 + 1 * (y 1).val; omega
  · have h0 : (i 0 : Nat) < 2560 := (i 0).isLt
    have h1 : (i 1 : Nat) < 7168 := (i 1).isLt
    refine ⟨t0_0, rfl, ?_⟩
    show i ∈ ((View.whole main_v8_2).slice (win0_7.rect t0_0)).set
    rw [View.set_slice_whole, Rect.mem_set_unit]
    intro a
    match a with
    | ⟨0, _⟩ => show 0 * 2560 ≤ (i 0 : Nat) ∧ (i 0 : Nat) < 0 * 2560 + 2560; omega
    | ⟨1, _⟩ => show 0 * 7168 ≤ (i 1 : Nat) ∧ (i 1 : Nat) < 0 * 7168 + 7168; omega

end Cert.Proof.OprojRef
-- ==== Proof.OprojThm.lean ====
/- OPROJ: kernel and reference, read over the extended reals, return the same three arrays when no entry of the attention's
   output exceeds the largest f32 number in magnitude. -/
module

public import proofs.«01_k».proof.Defs
public import proofs.«01_k».proof.Proof.OprojKer
public import proofs.«01_k».proof.Proof.OprojRef

@[expose] public section

noncomputable section

namespace Cert.Proof

open Idealize.ShloMosaic Idealize.ShloMosaic.TcCoe Idealize.SL.Sem

/-- The shape facts the precondition's printed function takes. -/
theorem oproj_pre_facts : Cert.Pre_attn_finite.Facts := ⟨by decide, by decide⟩

/-- The precondition, read index by index. -/
theorem oproj_small [hP : Cert.Pre_attn_finite.Facts] (m : (ℓ : Loc Cert.OprojIdeal.nD Cert.OprojIdeal.τ Cert.OprojIdeal.sig) → Buf (Elt Ideal) ℓ)
    (h : Pre_OprojIdeal_attn_finite m) (c : Dev Cert.OprojIdeal.nD) : Cert.Proof.Oproj.Small m c := by
  intro y
  have e := congrFun (h c) y
  unfold Cert.Pre_attn_finite.fn at e
  have e : BitVec.ofBool (decide (Cert.Proof.Oproj.mag (Cert.Proof.Oproj.aAt m c y) ≤ Cert.Proof.Quant.largest)) = 1#1 := e
  by_contra hc
  rw [decide_eq_false hc] at e
  exact absurd e (by decide)

theorem oproj_algebraic [hK : Cert.OprojIdeal.Facts] [hR : Cert.OprojReferenceIdeal.Facts] [hP : Cert.Pre_attn_finite.Facts] :
    Cert.algebraic_OprojIdeal_OprojReferenceIdeal_pre_attn_finite := by
  intro m g m' g' hpre hagree
  have hs := oproj_small m hpre
  refine ⟨fun c => Cert.Proof.Oproj.codes (Cert.Proof.Oproj.aAt m c), fun c => Cert.Proof.Oproj.scales (Cert.Proof.Oproj.aAt m c),
    fun c => Cert.Proof.Oproj.out (Cert.Proof.Oproj.aAt m c) (Cert.Proof.Oproj.aW m c) (Cert.Proof.Oproj.aSw m c) (Cert.Proof.Oproj.aX m c), ?_, ?_⟩
  · exact Cert.Proof.Oproj.run m g hs
  · refine (θ_run (Cert.OprojReferenceIdeal.defs (F := Ideal)) _ _).mono (fun r h c => ?_) (Cert.OprojReferenceIdeal.Value.run_blocks m' g')
    obtain ⟨e0, e1, e2, e3⟩ := hagree c
    refine ⟨(h c).1.trans ((Cert.Proof.OprojRef.final5 m' c).trans ?_), (h c).2.1.trans ((Cert.Proof.OprojRef.final6 m' c).trans ?_),
      (h c).2.2.1.trans ((Cert.Proof.OprojRef.final7 m' c).trans ?_), (h c).2.2.2⟩
    · exact congrArg Cert.Proof.Oproj.codes e0
    · exact congrArg Cert.Proof.Oproj.scales e0
    · exact congr (congr (congr (congrArg Cert.Proof.Oproj.out e0) e1) e2) e3

end Cert.Proof
-- ==== Proof.QkvIdealRun.lean ====
module

public import Idealize.ShloMosaic.Lib.VecWindow
public import proofs.«01_k».proof.Proof.Gen.QkvIdeal.Skeleton
public import proofs.«01_k».proof.Proof.Gen.QkvIdeal.Frame

/-! The body of the q/k/v projection, run once at a grid point of each kind. Each run states what every buffer holds
afterwards as a plain function of what the buffers held before. -/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## What the body computes from its blocks -/

/-- The lower half of one head, rotated. -/
def lo (y : FVec F S768x512 .f32) (c s : FVec F S48x512 .f32) (a b : ℕ) (ha : S768x512.Slices ![a, 0] S48x512) (hb : S768x512.Slices ![b, 0] S48x512) :
    FVec F S48x512 .f32 :=
  addf (mulf (extractStridedSlice S48x512 ![a, 0] y ha) c)
    (mulf (subf (broadcast S48x512 (Scalar.ofBits .f32 0x00000000#32)) (extractStridedSlice S48x512 ![b, 0] y hb)) s)
/-- The upper half of one head, rotated. -/
def hi (y : FVec F S768x512 .f32) (c s : FVec F S48x512 .f32) (a b : ℕ) (ha : S768x512.Slices ![a, 0] S48x512) (hb : S768x512.Slices ![b, 0] S48x512) :
    FVec F S48x512 .f32 :=
  addf (mulf (extractStridedSlice S48x512 ![b, 0] y hb) c) (mulf (extractStridedSlice S48x512 ![a, 0] y ha) s)
/-- Eight heads rotated. -/
def rope (y : FVec F S768x512 .f32) (c s : FVec F S48x512 .f32) : FVec F S768x512 .f32 :=
  concatenate S768x512 0 [⟨S48x512, lo y c s 0 48 slices_S768x512_o0_0_S48x512 slices_S768x512_o48_0_S48x512⟩, ⟨S48x512, hi y c s 0 48 slices_S768x512_o0_0_S48x512 slices_S768x512_o48_0_S48x512⟩, ⟨S48x512, lo y c s 96 144 slices_S768x512_o96_0_S48x512 slices_S768x512_o144_0_S48x512⟩, ⟨S48x512, hi y c s 96 144 slices_S768x512_o96_0_S48x512 slices_S768x512_o144_0_S48x512⟩, ⟨S48x512, lo y c s 192 240 slices_S768x512_o192_0_S48x512 slices_S768x512_o240_0_S48x512⟩, ⟨S48x512, hi y c s 192 240 slices_S768x512_o192_0_S48x512 slices_S768x512_o240_0_S48x512⟩, ⟨S48x512, lo y c s 288 336 slices_S768x512_o288_0_S48x512 slices_S768x512_o336_0_S48x512⟩, ⟨S48x512, hi y c s 288 336 slices_S768x512_o288_0_S48x512 slices_S768x512_o336_0_S48x512⟩, ⟨S48x512, lo y c s 384 432 slices_S768x512_o384_0_S48x512 slices_S768x512_o432_0_S48x512⟩, ⟨S48x512, hi y c s 384 432 slices_S768x512_o384_0_S48x512 slices_S768x512_o432_0_S48x512⟩, ⟨S48x512, lo y c s 480 528 slices_S768x512_o480_0_S48x512 slices_S768x512_o528_0_S48x512⟩, ⟨S48x512, hi y c s 480 528 slices_S768x512_o480_0_S48x512 slices_S768x512_o528_0_S48x512⟩, ⟨S48x512, lo y c s 576 624 slices_S768x512_o576_0_S48x512 slices_S768x512_o624_0_S48x512⟩, ⟨S48x512, hi y c s 576 624 slices_S768x512_o576_0_S48x512 slices_S768x512_o624_0_S48x512⟩, ⟨S48x512, lo y c s 672 720 slices_S768x512_o672_0_S48x512 slices_S768x512_o720_0_S48x512⟩, ⟨S48x512, hi y c s 672 720 slices_S768x512_o672_0_S48x512 slices_S768x512_o720_0_S48x512⟩]
    concatenates_S48x512_S48x512_S48x512_S48x512_S48x512_S48x512_S48x512_S48x512_S48x512_S48x512_S48x512_S48x512_S48x512_S48x512_S48x512_S48x512_S768x512_d0

/-- A chunk of the rotated queries. -/
def qChunk (a : Vec F S512x7168 .fp8e4m3) (b : Vec F S7168x768 .fp8e4m3) (c : Vec F S512x128 .f32) (d : Vec F S1x768 .f32) (e f : Vec F S48x512 .f32) :
    Vec F S768x512 .bf16 := truncf .bf16 (rope (k0_pay7 a b c d) (k0_pay8 e) (k0_pay9 f)) bitsLt_bf16_f32
/-- A chunk of the keys' codes. -/
def kChunk (a : Vec F S512x7168 .fp8e4m3) (b : Vec F S7168x768 .fp8e4m3) (c : Vec F S512x128 .f32) (d : Vec F S1x768 .f32) (e f : Vec F S48x512 .f32)
    (g : Elt F .f32) : Vec F S768x512 .fp8e4m3 := k0_pay5 (rope (k0_pay7 a b c d) (k0_pay8 e) (k0_pay9 f)) g

/-- The number a scalar buffer holds. -/
def one (x : Vec F S1 .f32) : Elt F .f32 := x (Shape.Idx.first (by decide : 0 < S1.numel))

/-- Rows `512 q` to `512 q + 511` of the activations' codes. -/
def wh (q : Fin 5) (x : Vec F S2560x7168 .fp8e4m3) : Vec F S512x7168 .fp8e4m3 :=
  VecWindow.window x ![512 * q.val, 0] S512x7168.size ((by decide +kernel : ∀ q : Fin 5, ∀ a, (![512 * q.val, 0] : Fin 2 → ℕ) a + S512x7168.size a ≤ S2560x7168.size a) q)
/-- The same rows of the activations' scales. -/
def wsh (q : Fin 5) (x : Vec F S2560x128 .f32) : Vec F S512x128 .f32 :=
  VecWindow.window x ![512 * q.val, 0] S512x128.size ((by decide +kernel : ∀ q : Fin 5, ∀ a, (![512 * q.val, 0] : Fin 2 → ℕ) a + S512x128.size a ≤ S2560x128.size a) q)
/-- The same rows' angles. -/
def wc (q : Fin 5) (x : Vec F S48x2560 .f32) : Vec F S48x512 .f32 :=
  VecWindow.window x ![0, 512 * q.val] S48x512.size ((by decide +kernel : ∀ q : Fin 5, ∀ a, (![0, 512 * q.val] : Fin 2 → ℕ) a + S48x512.size a ≤ S48x2560.size a) q)

/-- A result block after one chunk of columns is stored. -/
def putC {e : EltTy} (q : Fin 5) (y : Vec F S768x2560 e) (w : Vec F S768x512 e) : Vec F S768x2560 e :=
  VecWindow.put y ![0, 512 * q.val] S768x512.size w
/-- A result block after the first `n` chunks of columns are stored. -/
def upto {e : EltTy} (f : Fin 5 → Vec F S768x512 e) (y : Vec F S768x2560 e) : ℕ → Vec F S768x2560 e
  | 0 => y
  | n + 1 => putC (Fin.ofNat 5 n) (upto f y n) (f (Fin.ofNat 5 n))

/-- The chunks of the rotated queries. -/
def qF (x2 : Vec F S2560x7168 .fp8e4m3) (x3 : Vec F S7168x768 .fp8e4m3) (x4 : Vec F S2560x128 .f32) (x5 : Vec F S1x768 .f32) (x6 x7 : Vec F S48x2560 .f32)
    (q : Fin 5) : Vec F S768x512 .bf16 := qChunk (wh q x2) x3 (wsh q x4) x5 (wc q x6) (wc q x7)
/-- The chunks of the keys' codes. -/
def kF (x0 : Vec F S1 .f32) (x2 : Vec F S2560x7168 .fp8e4m3) (x3 : Vec F S7168x768 .fp8e4m3) (x4 : Vec F S2560x128 .f32) (x5 : Vec F S1x768 .f32) (x6 x7 : Vec F S48x2560 .f32)
    (q : Fin 5) : Vec F S768x512 .fp8e4m3 := kChunk (wh q x2) x3 (wsh q x4) x5 (wc q x6) (wc q x7) (one x0)
/-- The chunks of the values' codes. -/
def vF (x1 : Vec F S1 .f32) (x2 : Vec F S2560x7168 .fp8e4m3) (x3 : Vec F S7168x768 .fp8e4m3) (x4 : Vec F S2560x128 .f32) (x5 : Vec F S1x768 .f32)
    (q : Fin 5) : Vec F S768x512 .fp8e4m3 := k0_pay6 (wh q x2) x3 (wsh q x4) x5 (one x1)

section Loads
variable {s : Shape} {e : EltTy} {mr : Memref sig .tc .vmem s e} (h : mr.IsWhole)

/-- A load of a whole buffer reads its contents. -/
theorem ld_full (x : s.Idx → Elt F e) {off : Fin s.rank → ℕ} (inb : ∀ a, off a + s.size a ≤ s.size a) :
    View.readAt (Elt F) mr.view (Rect.unit off s.size inb).toLoadRect (h.unread x) = x :=
  (View.readAt_full _ _ inb).trans (h.read_unread x)

/-- A load of part of a buffer reads that window of its contents. -/
theorem ld_win {f : mr.view.ty.Contents (Elt F)} {x : s.Idx → Elt F e} (hf : mr.view.read (Elt F) f = x) {off off' size : Fin s.rank → ℕ}
    (inb : ∀ a, off a + size a ≤ s.size a) (ho : off = off') (inb' : ∀ a, off' a + size a ≤ s.size a) :
    View.readAt (Elt F) mr.view (Rect.unit off size inb).toLoadRect f = VecWindow.window x off' size inb' := by
  subst hf; exact View.readAt_unit _ _ inb ho inb'

/-- A store of part of a buffer puts the payload over that window. -/
theorem st_put (x : s.Idx → Elt F e) {off off' size : Fin s.rank → ℕ} (inb : ∀ a, off a + size a ≤ s.size a)
    (w w' : (Rect.unit off size inb).shape.Idx → Elt F e) (ho : off = off') (hw : w = w') :
    mr.view.read (Elt F) (mr.view.writes (Elt F) (h.unread x) [⟨Rect.unit off size inb, w⟩]) = VecWindow.put x off' size w' := by
  subst hw
  refine (View.read_writes_cons_put _ _ inb w [] ho).trans ?_
  rw [View.writes_nil, h.read_unread]

/-- A store of a whole buffer leaves the payload. -/
theorem st_full (f : mr.view.ty.Contents (Elt F)) {off : Fin s.rank → ℕ} (inb : ∀ a, off a + s.size a ≤ s.size a)
    (w w' : (Rect.unit off s.size inb).shape.Idx → Elt F e) (hw : w = w') :
    mr.view.read (Elt F) (mr.view.writes (Elt F) f [⟨Rect.unit off s.size inb, w⟩]) = w' :=
  (View.read_writes_full _ _ inb w []).trans hw
end Loads

/-- A further store of part of a buffer puts its payload over that window. -/
theorem st_cons {s : Shape} {e : EltTy} {mr : Memref sig .tc .vmem s e} {f : mr.view.ty.Contents (Elt F)} {off off' size : Fin s.rank → ℕ}
    (inb : ∀ a, off a + size a ≤ s.size a) (w w' : (Rect.unit off size inb).shape.Idx → Elt F e) {L : List ((r : Rect s) × (r.shape.Idx → Elt F e))} {z : s.Idx → Elt F e}
    (ho : off = off') (hw : w = w') (hz : mr.view.read (Elt F) (mr.view.writes (Elt F) f L) = z) :
    mr.view.read (Elt F) (mr.view.writes (Elt F) f (⟨Rect.unit off size inb, w⟩ :: L)) = VecWindow.put z off' size w' := by
  subst hw hz; exact View.read_writes_cons_put _ _ inb w L ho

/-- A chunk of the rotated queries, from equal readings of its operands. -/
theorem q_of {w : Vec F S768x512 .bf16} {a a' : Vec F S512x7168 .fp8e4m3} {b b' : Vec F S7168x768 .fp8e4m3} {c c' : Vec F S512x128 .f32} {d d' : Vec F S1x768 .f32} {e e' f f' : Vec F S48x512 .f32}
    (ha : a = a') (hb : b = b') (hc : c = c') (hd : d = d') (he : e = e') (hf : f = f') (hw : w = qChunk a b c d e f) : w = qChunk a' b' c' d' e' f' := by
  subst ha hb hc hd he hf; exact hw
/-- A chunk of the keys' codes, likewise. -/
theorem k_of {w : Vec F S768x512 .fp8e4m3} {a a' : Vec F S512x7168 .fp8e4m3} {b b' : Vec F S7168x768 .fp8e4m3} {c c' : Vec F S512x128 .f32} {d d' : Vec F S1x768 .f32} {e e' f f' : Vec F S48x512 .f32} {g g' : Elt F .f32}
    (ha : a = a') (hb : b = b') (hc : c = c') (hd : d = d') (he : e = e') (hf : f = f') (hg : g = g') (hw : w = kChunk a b c d e f g) : w = kChunk a' b' c' d' e' f' g' := by
  subst ha hb hc hd he hf hg; exact hw
/-- A chunk of the values' codes, likewise. -/
theorem v_of {a a' : Vec F S512x7168 .fp8e4m3} {b b' : Vec F S7168x768 .fp8e4m3} {c c' : Vec F S512x128 .f32} {d d' : Vec F S1x768 .f32} {g g' : Elt F .f32}
    (ha : a = a') (hb : b = b') (hc : c = c') (hd : d = d') (hg : g = g') : k0_pay6 a b c d g = k0_pay6 a' b' c' d' g' := by
  subst ha hb hc hd hg; rfl

/-- The body's buffers. -/
def held (c : Dev nD) (arg1 : Memref sig .tc .smem S1 .f32) (arg2 : Memref sig .tc .smem S1 .f32) (arg3 : Memref sig .tc .vmem S2560x7168 .fp8e4m3) (arg4 : Memref sig .tc .vmem S7168x768 .fp8e4m3) (arg5 : Memref sig .tc .vmem S2560x128 .f32) (arg6 : Memref sig .tc .vmem S1x768 .f32) (arg7 : Memref sig .tc .vmem S48x2560 .f32) (arg8 : Memref sig .tc .vmem S48x2560 .f32) (arg9 : Memref sig .tc .vmem S768x2560 .bf16) (arg10 : Memref sig .tc .vmem S768x2560 .fp8e4m3) (arg11 : Memref sig .tc .vmem S768x2560 .fp8e4m3)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10)

/-- A scalar load reads the number the buffer holds. -/
theorem ld_one {m : Memref sig .tc .smem S1 .f32} (h : m.IsWhole) (x : Vec F S1 .f32) :
    View.readAt (Elt F) m.view (Rect.unit (s := S1) ![0] S1.size inb_S1_S1_0).toLoadRect (h.unread x) (Shape.Idx.first (by decide : 0 < S1.numel)) = one x :=
  congrFun ((View.readAt_full m.view (h.unread x) inb_S1_S1_0).trans (h.read_unread x)) _
theorem tlt1 (t : Fin k0_t1_loop.trips) : (Fin.ofNat 5 t.val).val = t.val := Nat.mod_eq_of_lt (lt_of_lt_of_le t.isLt k0_t1_abs.2.1)
theorem tlt2 (t : Fin k0_t2_loop.trips) : (Fin.ofNat 5 t.val).val = t.val := Nat.mod_eq_of_lt (lt_of_lt_of_le t.isLt k0_t2_abs.2.1)
theorem o1 (t : Fin k0_t1_loop.trips) : k0_off1 t = ![512 * (Fin.ofNat 5 t.val).val, 0] := by rw [tlt1]; exact k0_off1_eq t
theorem o2 (t : Fin k0_t1_loop.trips) : k0_off2 t = ![512 * (Fin.ofNat 5 t.val).val, 0] := by rw [tlt1]; exact k0_off2_eq t
theorem o3 (t : Fin k0_t1_loop.trips) : k0_off3 t = ![0, 512 * (Fin.ofNat 5 t.val).val] := by rw [tlt1]; exact k0_off3_eq t
theorem o4 (t : Fin k0_t1_loop.trips) : k0_off4 t = ![0, 512 * (Fin.ofNat 5 t.val).val] := by rw [tlt1]; exact k0_off4_eq t
theorem o5 (t : Fin k0_t2_loop.trips) : k0_off5 t = ![512 * (Fin.ofNat 5 t.val).val, 0] := by rw [tlt2]; exact k0_off5_eq t
theorem o6 (t : Fin k0_t2_loop.trips) : k0_off6 t = ![512 * (Fin.ofNat 5 t.val).val, 0] := by rw [tlt2]; exact k0_off6_eq t
theorem o7 (t : Fin k0_t2_loop.trips) : k0_off7 t = ![0, 512 * (Fin.ofNat 5 t.val).val] := by rw [tlt2]; exact k0_off7_eq t

set_option maxHeartbeats 1000000 in
/-- One trip of the loop at the key point: one chunk of columns. -/
theorem tripK (c : Dev nD) (i : grid0.Coords) (h : k0_cond2 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (t : Fin k0_t1_loop.trips) (u : Unit) :
    held c arg1 arg2 arg3 arg4 arg5 arg6 arg7 arg8 arg9 arg10 arg11 x0 x1 x2 x3 x4 x5 x6 x7 y8 y9 y10
      ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 h t u)
          (fun _ => held c arg1 arg2 arg3 arg4 arg5 arg6 arg7 arg8 arg9 arg10 arg11 x0 x1 x2 x3 x4 x5 x6 x7 y8 (putC (Fin.ofNat 5 t.val) y9 (kF x0 x2 x3 x4 x5 x6 x7 (Fin.ofNat 5 t.val))) y10) := by
  unfold k0_t1_body
  simp only [k0_part11_eq_skeleton, k0_part12_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec
  sl_step
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact harg5.read_unread x4
  isplitl [H5]
  · iexists _; isplitr; swap; · iexact H5
    ipureintro
    exact harg6.read_unread x5
  isplitl [H6]
  · iexists _; isplitr; swap; · iexact H6
    ipureintro
    exact harg7.read_unread x6
  isplitl [H7]
  · iexists _; isplitr; swap; · iexact H7
    ipureintro
    exact harg8.read_unread x7
  isplitl [H8]
  · iexists _; isplitr; swap; · iexact H8
    ipureintro
    exact harg9.read_unread y8
  isplitl [H9]
  · iexists _; isplitr; swap; · iexact H9
    ipureintro
    exact st_put harg10 y9 _ _ _ (o4 t) (k_of (ld_win (harg3.read_unread x2) (k0_off1_inb i t h) (o1 t) _) (ld_full harg4 x3 inb_S7168x768_S7168x768_0_0) (ld_win (harg5.read_unread x4) (k0_off2_inb i t h) (o2 t) _) (ld_full harg6 x5 inb_S1x768_S1x768_0_0) (ld_win (harg7.read_unread x6) (k0_off3_inb i t h) (o3 t) _) (ld_win (harg8.read_unread x7) (k0_off3_inb i t h) (o3 t) _) (ld_one harg1 x0) rfl)
  iexists _; isplitr; swap; · iexact H10
  ipureintro
  exact harg11.read_unread y10

set_option maxHeartbeats 1000000 in
/-- One trip of the loop at the value point: one chunk of columns. -/
theorem tripV (c : Dev nD) (i : grid0.Coords) (h : k0_cond3 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (t : Fin k0_t2_loop.trips) (u : Unit) :
    held c arg1 arg2 arg3 arg4 arg5 arg6 arg7 arg8 arg9 arg10 arg11 x0 x1 x2 x3 x4 x5 x6 x7 y8 y9 y10
      ⊢ wp frame (wpE (defs₀ (F := F)) Variants.none c none) E (k0_t2_body i arg1 harg1 arg2 harg2 arg3 harg3 arg4 harg4 arg5 harg5 arg6 harg6 arg7 harg7 arg8 harg8 arg9 harg9 arg10 harg10 arg11 harg11 h t u)
          (fun _ => held c arg1 arg2 arg3 arg4 arg5 arg6 arg7 arg8 arg9 arg10 arg11 x0 x1 x2 x3 x4 x5 x6 x7 y8 y9 (putC (Fin.ofNat 5 t.val) y10 (vF x1 x2 x3 x4 x5 (Fin.ofNat 5 t.val)))) := by
  unfold k0_t2_body
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec
  sl_step
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact harg5.read_unread x4
  isplitl [H5]
  · iexists _; isplitr; swap; · iexact H5
    ipureintro
    exact harg6.read_unread x5
  isplitl [H6]
  · iexists _; isplitr; swap; · iexact H6
    ipureintro
    exact harg7.read_unread x6
  isplitl [H7]
  · iexists _; isplitr; swap; · iexact H7
    ipureintro
    exact harg8.read_unread x7
  isplitl [H8]
  · iexists _; isplitr; swap; · iexact H8
    ipureintro
    exact harg9.read_unread y8
  isplitl [H9]
  · iexists _; isplitr; swap; · iexact H9
    ipureintro
    exact harg10.read_unread y9
  iexists _; isplitr; swap; · iexact H10
  ipureintro
  exact st_put harg11 y10 _ _ _ (o7 t) (v_of (ld_win (harg3.read_unread x2) (k0_off5_inb i t h) (o5 t) _) (ld_full harg4 x3 inb_S7168x768_S7168x768_0_0) (ld_win (harg5.read_unread x4) (k0_off6_inb i t h) (o6 t) _) (ld_full harg6 x5 inb_S1x768_S1x768_0_0) (ld_one harg2 x1))

end Cert.QkvIdeal.Hand
end
-- ==== Proof.QkvIdealRuns.lean ====
module

public import proofs.«01_k».proof.Proof.QkvIdealRun

/-! The body of the q/k/v projection, run once at a grid point of each kind. Each run states what every buffer holds
afterwards as a plain function of what the buffers held before. -/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The key point: the whole block of codes. -/
theorem runK (c : Dev nD) (i : grid0.Coords) (h1 : ¬ k0_cond1 i = 1#1) (h2 : k0_cond2 i = 1#1) (h3 : ¬ k0_cond3 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (K : PUnit → sProp 𝕄) :
    iprop(held c arg1 arg2 arg3 arg4 arg5 arg6 arg7 arg8 arg9 arg10 arg11 x0 x1 x2 x3 x4 x5 x6 x7 y8 y9 y10 ∗ (held c arg1 arg2 arg3 arg4 arg5 arg6 arg7 arg8 arg9 arg10 arg11 x0 x1 x2 x3 x4 x5 x6 x7 y8 (upto (kF x0 x2 x3 x4 x5 x6 x7) y9 5) y10 -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11) K := by
  simp only [cc0_qkv_eq_skeleton]; unfold cc0_qkv_skel
  iintro ⟨H, Hk⟩
  sl_exec (disch := first | sl_exact h1 | sl_exact h2 | sl_exact h3)
  sl_for (fun k _ => held c arg1 arg2 arg3 arg4 arg5 arg6 arg7 arg8 arg9 arg10 arg11 x0 x1 x2 x3 x4 x5 x6 x7 y8 (upto (kF x0 x2 x3 x4 x5 x6 x7) y9 k) y10) $$ [H]
  case region =>
    intro t u
    exact tripK c i h2 arg1 harg1 arg2 harg2 arg3 harg3 arg4 harg4 arg5 harg5 arg6 harg6 arg7 harg7 arg8 harg8 arg9 harg9 arg10 harg10 arg11 harg11 x0 x1 x2 x3 x4 x5 x6 x7 y8 (upto (kF x0 x2 x3 x4 x5 x6 x7) y9 t.val) y10 E t u
  · iexact H
  iintro %u H
  sl_exec (disch := first | sl_exact h1 | sl_exact h2 | sl_exact h3)
  sl_step
  iapply Hk
  iexact H

set_option maxHeartbeats 1000000 in
/-- The value point: the whole block of codes. -/
theorem runV (c : Dev nD) (i : grid0.Coords) (h1 : ¬ k0_cond1 i = 1#1) (h2 : ¬ k0_cond2 i = 1#1) (h3 : k0_cond3 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (K : PUnit → sProp 𝕄) :
    iprop(held c arg1 arg2 arg3 arg4 arg5 arg6 arg7 arg8 arg9 arg10 arg11 x0 x1 x2 x3 x4 x5 x6 x7 y8 y9 y10 ∗ (held c arg1 arg2 arg3 arg4 arg5 arg6 arg7 arg8 arg9 arg10 arg11 x0 x1 x2 x3 x4 x5 x6 x7 y8 y9 (upto (vF x1 x2 x3 x4 x5) y10 5) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11) K := by
  simp only [cc0_qkv_eq_skeleton]; unfold cc0_qkv_skel
  iintro ⟨H, Hk⟩
  sl_exec (disch := first | sl_exact h1 | sl_exact h2 | sl_exact h3)
  sl_for (fun k _ => held c arg1 arg2 arg3 arg4 arg5 arg6 arg7 arg8 arg9 arg10 arg11 x0 x1 x2 x3 x4 x5 x6 x7 y8 y9 (upto (vF x1 x2 x3 x4 x5) y10 k)) $$ [H]
  case region =>
    intro t u
    exact tripV c i h3 arg1 harg1 arg2 harg2 arg3 harg3 arg4 harg4 arg5 harg5 arg6 harg6 arg7 harg7 arg8 harg8 arg9 harg9 arg10 harg10 arg11 harg11 x0 x1 x2 x3 x4 x5 x6 x7 y8 y9 (upto (vF x1 x2 x3 x4 x5) y10 t.val) E t u
  · iexact H
  iintro %u H
  sl_exec (disch := first | sl_exact h1 | sl_exact h2 | sl_exact h3)
  sl_step
  iapply Hk
  iexact H

set_option maxHeartbeats 1000000 in
/-- A query point: the whole block of rotated queries. -/
theorem runQ (c : Dev nD) (i : grid0.Coords) (h1 : k0_cond1 i = 1#1) (h2 : ¬ k0_cond2 i = 1#1) (h3 : ¬ k0_cond3 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (K : PUnit → sProp 𝕄) :
    iprop(held c arg1 arg2 arg3 arg4 arg5 arg6 arg7 arg8 arg9 arg10 arg11 x0 x1 x2 x3 x4 x5 x6 x7 y8 y9 y10 ∗ (held c arg1 arg2 arg3 arg4 arg5 arg6 arg7 arg8 arg9 arg10 arg11 x0 x1 x2 x3 x4 x5 x6 x7 (upto (qF x2 x3 x4 x5 x6 x7) y8 5) y9 y10 -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11) K := by
  simp only [cc0_qkv_eq_skeleton]; unfold cc0_qkv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact h1 | sl_exact h2 | sl_exact h3)
  sl_step
  iapply Hk
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact harg5.read_unread x4
  isplitl [H5]
  · iexists _; isplitr; swap; · iexact H5
    ipureintro
    exact harg6.read_unread x5
  isplitl [H6]
  · iexists _; isplitr; swap; · iexact H6
    ipureintro
    exact harg7.read_unread x6
  isplitl [H7]
  · iexists _; isplitr; swap; · iexact H7
    ipureintro
    exact harg8.read_unread x7
  isplitl [H8]
  · iexists _; isplitr; swap; · iexact H8
    ipureintro
    exact st_cons _ _ _ rfl (q_of (ld_win (harg3.read_unread x2) inb_S2560x7168_S512x7168_2048_0 rfl _) (ld_full harg4 x3 inb_S7168x768_S7168x768_0_0) (ld_win (harg5.read_unread x4) inb_S2560x128_S512x128_2048_0 rfl _) (ld_full harg6 x5 inb_S1x768_S1x768_0_0) (ld_win (harg7.read_unread x6) inb_S48x2560_S48x512_0_2048 rfl _) (ld_win (harg8.read_unread x7) inb_S48x2560_S48x512_0_2048 rfl _) rfl) (st_cons _ _ _ rfl (q_of (ld_win (harg3.read_unread x2) inb_S2560x7168_S512x7168_1536_0 rfl _) (ld_full harg4 x3 inb_S7168x768_S7168x768_0_0) (ld_win (harg5.read_unread x4) inb_S2560x128_S512x128_1536_0 rfl _) (ld_full harg6 x5 inb_S1x768_S1x768_0_0) (ld_win (harg7.read_unread x6) inb_S48x2560_S48x512_0_1536 rfl _) (ld_win (harg8.read_unread x7) inb_S48x2560_S48x512_0_1536 rfl _) rfl) (st_cons _ _ _ rfl (q_of (ld_win (harg3.read_unread x2) inb_S2560x7168_S512x7168_1024_0 rfl _) (ld_full harg4 x3 inb_S7168x768_S7168x768_0_0) (ld_win (harg5.read_unread x4) inb_S2560x128_S512x128_1024_0 rfl _) (ld_full harg6 x5 inb_S1x768_S1x768_0_0) (ld_win (harg7.read_unread x6) inb_S48x2560_S48x512_0_1024 rfl _) (ld_win (harg8.read_unread x7) inb_S48x2560_S48x512_0_1024 rfl _) rfl) (st_cons _ _ _ rfl (q_of (ld_win (harg3.read_unread x2) inb_S2560x7168_S512x7168_512_0 rfl _) (ld_full harg4 x3 inb_S7168x768_S7168x768_0_0) (ld_win (harg5.read_unread x4) inb_S2560x128_S512x128_512_0 rfl _) (ld_full harg6 x5 inb_S1x768_S1x768_0_0) (ld_win (harg7.read_unread x6) inb_S48x2560_S48x512_0_512 rfl _) (ld_win (harg8.read_unread x7) inb_S48x2560_S48x512_0_512 rfl _) rfl) (st_put harg9 y8 _ _ _ rfl (q_of (ld_win (harg3.read_unread x2) inb_S2560x7168_S512x7168_0_0 rfl _) (ld_full harg4 x3 inb_S7168x768_S7168x768_0_0) (ld_win (harg5.read_unread x4) inb_S2560x128_S512x128_0_0 rfl _) (ld_full harg6 x5 inb_S1x768_S1x768_0_0) (ld_win (harg7.read_unread x6) inb_S48x2560_S48x512_0_0 rfl _) (ld_win (harg8.read_unread x7) inb_S48x2560_S48x512_0_0 rfl _) rfl)))))
  isplitl [H9]
  · iexists _; isplitr; swap; · iexact H9
    ipureintro
    exact harg10.read_unread y9
  iexists _; isplitr; swap; · iexact H10
  ipureintro
  exact harg11.read_unread y10

end Cert.QkvIdeal.Hand
end
-- ==== Proof.QkvIdealBody.lean ====
/- The q/k/v projection's pipeline: the blocks each grid point reads and what it leaves in the three output blocks. -/
module

public import proofs.«01_k».proof.Proof.QkvIdealRuns
public import Idealize.ShloMosaic.Lib.Pointwise
public import Idealize.ShloMosaic.Lib.Pipeline.ArrRel
public import Idealize.ShloMosaic.Lib.Claim

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The grid -/

theorem tlt (t : Fin cfg0.N) : t.val < 9 := by have hN : cfg0.N = 9 := N_0; have := t.isLt; omega
theorem cond1_iff : ∀ t : Fin cfg0.N, k0_cond1 (grid0.coords t) = 1#1 ↔ t.val < 7 :=
  (by decide +kernel : ∀ t : Fin grid0.N, k0_cond1 (grid0.coords t) = 1#1 ↔ t.val < 7)
theorem cond2_iff : ∀ t : Fin cfg0.N, k0_cond2 (grid0.coords t) = 1#1 ↔ t.val = 7 :=
  (by decide +kernel : ∀ t : Fin grid0.N, k0_cond2 (grid0.coords t) = 1#1 ↔ t.val = 7)
theorem cond3_iff : ∀ t : Fin cfg0.N, k0_cond3 (grid0.coords t) = 1#1 ↔ t.val = 8 :=
  (by decide +kernel : ∀ t : Fin grid0.N, k0_cond3 (grid0.coords t) = 1#1 ↔ t.val = 8)
theorem index0 : ∀ t : Fin cfg0.N, win0_0.index t 0 = 0 :=
  (by decide +kernel : ∀ t : Fin grid0.N, win0_0.index t 0 = 0)
theorem index1 : ∀ t : Fin cfg0.N, win0_1.index t 0 = 0 :=
  (by decide +kernel : ∀ t : Fin grid0.N, win0_1.index t 0 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = t.val :=
  (by decide +kernel : ∀ t : Fin grid0.N, win0_3.index t 0 = 0 ∧ win0_3.index t 1 = t.val)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = t.val :=
  (by decide +kernel : ∀ t : Fin grid0.N, win0_5.index t 0 = 0 ∧ win0_5.index t 1 = t.val)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

/-! ## The arguments and their blocks -/

abbrev aKs : S1.Idx → Elt F .f32 := m ((c : Thread nD τ).loc main_arg5)
abbrev aVs : S1.Idx → Elt F .f32 := m ((c : Thread nD τ).loc main_arg6)
abbrev aH : S2560x7168.Idx → Elt F .fp8e4m3 := m ((c : Thread nD τ).loc main_arg0)
abbrev aW : S7168x6912.Idx → Elt F .fp8e4m3 := m ((c : Thread nD τ).loc main_arg2)
abbrev aSh : S2560x128.Idx → Elt F .f32 := V m c main_v15
abbrev aSw : S1x6912.Idx → Elt F .f32 := V m c main_v18
abbrev aC : S48x2560.Idx → Elt F .f32 := V m c main_v16
abbrev aS : S48x2560.Idx → Elt F .f32 := V m c main_v17

/-- Column block `n` of the weights. -/
def WB (n : ℕ) : Vec F S7168x768 .fp8e4m3 := fun y => aW m c (ix2 (y 0) (Fin.ofNat 6912 (n * 768 + (y 1).val)))
/-- Column block `n` of the weights' scales. -/
def SWB (n : ℕ) : Vec F S1x768 .f32 := fun y => aSw m c (ix2 0 (Fin.ofNat 6912 (n * 768 + (y 1).val)))

theorem iblk0 (t : Fin cfg0.N) : (iblk m c 0 t : Vec F S1 .f32) = aKs m c := by
  funext y
  have ht := tlt t
  have h0 : (y 0).val < 1 := (y 0).isLt
  unfold iblk
  rw [View.read_apply]
  show V m c main_arg5 _ = m (c.tc.loc main_arg5) _
  rw [V_main_arg5]
  congr 1
  funext a; apply Fin.ext
  match a with
  | ⟨0, _⟩ => show win0_0.index t 0 * 1 + 1 * (y 0).val = (y 0).val; rw [(index0 t)]; omega

theorem iblk1 (t : Fin cfg0.N) : (iblk m c 1 t : Vec F S1 .f32) = aVs m c := by
  funext y
  have ht := tlt t
  have h0 : (y 0).val < 1 := (y 0).isLt
  unfold iblk
  rw [View.read_apply]
  show V m c main_arg6 _ = m (c.tc.loc main_arg6) _
  rw [V_main_arg6]
  congr 1
  funext a; apply Fin.ext
  match a with
  | ⟨0, _⟩ => show win0_1.index t 0 * 1 + 1 * (y 0).val = (y 0).val; rw [(index1 t)]; omega

theorem iblk2 (t : Fin cfg0.N) : (iblk m c 2 t : Vec F S2560x7168 .fp8e4m3) = aH m c := by
  funext y
  have ht := tlt t
  have h0 : (y 0).val < 2560 := (y 0).isLt
  have h1 : (y 1).val < 7168 := (y 1).isLt
  unfold iblk
  rw [View.read_apply]
  show V m c main_arg0 _ = m (c.tc.loc main_arg0) _
  rw [V_main_arg0]
  congr 1
  funext a; apply Fin.ext
  match a with
  | ⟨0, _⟩ => show win0_2.index t 0 * 2560 + 1 * (y 0).val = (y 0).val; rw [(index2 t).1]; omega
  | ⟨1, _⟩ => show win0_2.index t 1 * 7168 + 1 * (y 1).val = (y 1).val; rw [(index2 t).2]; omega

theorem iblk3 (t : Fin cfg0.N) : (iblk m c 3 t : Vec F S7168x768 .fp8e4m3) = WB m c t.val := by
  funext y
  have ht := tlt t
  have h0 : (y 0).val < 7168 := (y 0).isLt
  have h1 : (y 1).val < 768 := (y 1).isLt
  unfold iblk WB
  rw [View.read_apply]
  show V m c main_arg2 _ = m (c.tc.loc main_arg2) _
  rw [V_main_arg2]
  congr 1
  funext a; apply Fin.ext
  match a with
  | ⟨0, _⟩ => show win0_3.index t 0 * 7168 + 1 * (y 0).val = (y 0).val; rw [(index3 t).1]; omega
  | ⟨1, _⟩ => show win0_3.index t 1 * 768 + 1 * (y 1).val = (t.val * 768 + (y 1).val) % 6912; rw [(index3 t).2]; omega

theorem iblk4 (t : Fin cfg0.N) : (iblk m c 4 t : Vec F S2560x128 .f32) = aSh m c := by
  funext y
  have ht := tlt t
  have h0 : (y 0).val < 2560 := (y 0).isLt
  have h1 : (y 1).val < 128 := (y 1).isLt
  unfold iblk
  rw [View.read_apply]
  show V m c main_v15 _ = V m c main_v15 _
  congr 1
  funext a; apply Fin.ext
  match a with
  | ⟨0, _⟩ => show win0_4.index t 0 * 2560 + 1 * (y 0).val = (y 0).val; rw [(index4 t).1]; omega
  | ⟨1, _⟩ => show win0_4.index t 1 * 128 + 1 * (y 1).val = (y 1).val; rw [(index4 t).2]; omega

theorem iblk5 (t : Fin cfg0.N) : (iblk m c 5 t : Vec F S1x768 .f32) = SWB m c t.val := by
  funext y
  have ht := tlt t
  have h0 : (y 0).val < 1 := (y 0).isLt
  have h1 : (y 1).val < 768 := (y 1).isLt
  unfold iblk SWB
  rw [View.read_apply]
  show V m c main_v18 _ = V m c main_v18 _
  congr 1
  funext a; apply Fin.ext
  match a with
  | ⟨0, _⟩ => show win0_5.index t 0 * 1 + 1 * (y 0).val = 0; rw [(index5 t).1]; omega
  | ⟨1, _⟩ => show win0_5.index t 1 * 768 + 1 * (y 1).val = (t.val * 768 + (y 1).val) % 6912; rw [(index5 t).2]; omega

theorem iblk6 (t : Fin cfg0.N) : (iblk m c 6 t : Vec F S48x2560 .f32) = aC m c := by
  funext y
  have ht := tlt t
  have h0 : (y 0).val < 48 := (y 0).isLt
  have h1 : (y 1).val < 2560 := (y 1).isLt
  unfold iblk
  rw [View.read_apply]
  show V m c main_v16 _ = V m c main_v16 _
  congr 1
  funext a; apply Fin.ext
  match a with
  | ⟨0, _⟩ => show win0_6.index t 0 * 48 + 1 * (y 0).val = (y 0).val; rw [(index6 t).1]; omega
  | ⟨1, _⟩ => show win0_6.index t 1 * 2560 + 1 * (y 1).val = (y 1).val; rw [(index6 t).2]; omega

theorem iblk7 (t : Fin cfg0.N) : (iblk m c 7 t : Vec F S48x2560 .f32) = aS m c := by
  funext y
  have ht := tlt t
  have h0 : (y 0).val < 48 := (y 0).isLt
  have h1 : (y 1).val < 2560 := (y 1).isLt
  unfold iblk
  rw [View.read_apply]
  show V m c main_v17 _ = V m c main_v17 _
  congr 1
  funext a; apply Fin.ext
  match a with
  | ⟨0, _⟩ => show win0_7.index t 0 * 48 + 1 * (y 0).val = (y 0).val; rw [(index7 t).1]; omega
  | ⟨1, _⟩ => show win0_7.index t 1 * 2560 + 1 * (y 1).val = (y 1).val; rw [(index7 t).2]; omega

/-! ## What the pipeline stores -/

/-- A result block from its chunks of 512 columns. -/
def glue {e : EltTy} (f : Fin 5 → Vec F S768x512 e) : Vec F S768x2560 e := fun y =>
  f (Fin.ofNat 5 ((y 1).val / 512)) (ix2 (y 0) (Fin.ofNat 512 (y 1).val))

theorem putC_apply {e : EltTy} (q : Fin 5) (y : Vec F S768x2560 e) (w : Vec F S768x512 e) (r : Fin 768) (l : Fin 2560) :
    putC q y w (ix2 r l) = if l.val / 512 = q.val then w (ix2 r (Fin.ofNat 512 l.val)) else y (ix2 r l) := by
  unfold putC VecWindow.put
  have hr := r.isLt
  have hl := l.isLt
  by_cases h : l.val / 512 = q.val
  · rw [if_pos h, dif_pos (fun a => by
      match a with
      | ⟨0, _⟩ => show 0 ≤ r.val ∧ r.val < 0 + 768; omega
      | ⟨1, _⟩ => show 512 * q.val ≤ l.val ∧ l.val < 512 * q.val + 512; omega)]
    congr 1
    funext a; apply Fin.ext
    match a with
    | ⟨0, _⟩ => show r.val - 0 = r.val; omega
    | ⟨1, _⟩ => show l.val - 512 * q.val = l.val % 512; omega
  · rw [if_neg h, dif_neg]
    intro hall
    have h0 : 512 * q.val ≤ l.val ∧ l.val < 512 * q.val + 512 := hall 1
    exact h (by omega)

theorem upto_apply {e : EltTy} (f : Fin 5 → Vec F S768x512 e) (y : Vec F S768x2560 e) (n : ℕ) (hn : n ≤ 5) (r : Fin 768) (l : Fin 2560)
    (h : l.val / 512 < n) : upto f y n (ix2 r l) = glue f (ix2 r l) := by
  induction n with
  | zero => exact absurd h (Nat.not_lt_zero _)
  | succ n ih =>
    show putC (Fin.ofNat 5 n) _ _ (ix2 r l) = f (Fin.ofNat 5 (l.val / 512)) (ix2 r (Fin.ofNat 512 l.val))
    have hv : (Fin.ofNat 5 n).val = n := by show n % 5 = n; omega
    rw [putC_apply, hv]
    by_cases e : l.val / 512 = n
    · rw [if_pos e, e]
    · rw [if_neg e]; exact ih (by omega) (by omega)

/-- The five chunks fill the block. -/
theorem upto_all {e : EltTy} (f : Fin 5 → Vec F S768x512 e) (y : Vec F S768x2560 e) : upto f y 5 = glue f := by
  funext i
  have h1 : (i 1).val < 2560 := (i 1).isLt
  have e := upto_apply f y 5 (le_refl 5) (i 0) (i 1) (by omega)
  exact (congrArg (upto f y 5) (eq_ix2 i)).trans (e.trans (congrArg (glue f) (eq_ix2 i).symm))

/-- Row block `n` of the rotated queries. -/
def QB (n : ℕ) : Vec F S768x2560 .bf16 := glue (qF (aH m c) (WB m c n) (aSh m c) (SWB m c n) (aC m c) (aS m c))
/-- The keys' codes. -/
def KB : Vec F S768x2560 .fp8e4m3 := glue (kF (aKs m c) (aH m c) (WB m c 7) (aSh m c) (SWB m c 7) (aC m c) (aS m c))
/-- The values' codes. -/
def VB : Vec F S768x2560 .fp8e4m3 := glue (vF (aVs m c) (aH m c) (WB m c 8) (aSh m c) (SWB m c 8))

end Cert.QkvIdeal.Hand
end
-- ==== Proof.QkvIdealPipe.lean ====
/- The q/k/v projection's run: the proof data of its pipeline, the body at every grid point, and what the machine's memory
   holds at the end. -/
module

public import proofs.«01_k».proof.Proof.QkvIdealBody

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The proof data: an input's buffer is left as found; an output's holds its point's result where the point stores
    one, and is left as found elsewhere. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => (t.val < 7 ∧ X = QB m c t.val) ∨ (7 ≤ t.val ∧ X = Y)
    | ⟨9, _⟩ => (t.val = 7 ∧ X = KB m c) ∨ (t.val ≠ 7 ∧ X = Y)
    | ⟨10, _⟩ => (t.val = 8 ∧ X = VB m c) ∨ (t.val ≠ 8 ∧ X = Y)
  Φ _ := Pipeline.ΦA spec0 c
  q _ := fullShare
  owed _ := 0

theorem A_eq (c : Dev nD) (w : Fin cfg0.W) : (rdat m c).A w = V m c (Pipeline.arrRef spec0 w) := by dsimp only [rdat]

/-- An input's buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rw [A_eq]; try rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rw [A_eq]; try rfl
theorem finds6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold RDat.fetched RDat.blockOf iblk; rw [A_eq]; try rfl
theorem finds7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  unfold RDat.fetched RDat.blockOf iblk; rw [A_eq]; try rfl

/-! ## The body at a grid point -/

abbrev ms0 (t : Fin cfg0.N) : Memref sig .tc .smem S1 .f32 := win0_0.stage (cfg0.slots t 0)
abbrev ms1 (t : Fin cfg0.N) : Memref sig .tc .smem S1 .f32 := win0_1.stage (cfg0.slots t 1)
abbrev ms2 (t : Fin cfg0.N) : Memref sig .tc .vmem S2560x7168 .fp8e4m3 := win0_2.stage (cfg0.slots t 2)
abbrev ms3 (t : Fin cfg0.N) : Memref sig .tc .vmem S7168x768 .fp8e4m3 := win0_3.stage (cfg0.slots t 3)
abbrev ms4 (t : Fin cfg0.N) : Memref sig .tc .vmem S2560x128 .f32 := win0_4.stage (cfg0.slots t 4)
abbrev ms5 (t : Fin cfg0.N) : Memref sig .tc .vmem S1x768 .f32 := win0_5.stage (cfg0.slots t 5)
abbrev ms6 (t : Fin cfg0.N) : Memref sig .tc .vmem S48x2560 .f32 := win0_6.stage (cfg0.slots t 6)
abbrev ms7 (t : Fin cfg0.N) : Memref sig .tc .vmem S48x2560 .f32 := win0_7.stage (cfg0.slots t 7)
abbrev ms8 (t : Fin cfg0.N) : Memref sig .tc .vmem S768x2560 .bf16 := win0_8.stage (cfg0.slots t 8)
abbrev ms9 (t : Fin cfg0.N) : Memref sig .tc .vmem S768x2560 .fp8e4m3 := win0_9.stage (cfg0.slots t 9)
abbrev ms10 (t : Fin cfg0.N) : Memref sig .tc .vmem S768x2560 .fp8e4m3 := win0_10.stage (cfg0.slots t 10)

/-- What the body is called with at point `t`. -/
def bodyPre (c : Dev nD) (t : Fin cfg0.N) (y8 : Vec F S768x2560 .bf16) (y9 y10 : Vec F S768x2560 .fp8e4m3) : sProp 𝕄 :=
  iprop((rdat m c).Φ t.castSucc ∗ (rdat m c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare y8 ∗ owns (c : Thread nD τ) (ms9 t) fullShare y9 ∗ owns (c : Thread nD τ) (ms10 t) fullShare y10)

/-- What it returns. -/
def bodyPost (c : Dev nD) (t : Fin cfg0.N) (y8 : Vec F S768x2560 .bf16) (y9 y10 : Vec F S768x2560 .fp8e4m3) : sProp 𝕄 :=
  iprop((rdat m c).Φ t.succ ∗ (rdat m c).owesAt () t.succ ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X) ∗ (∃ X, ⌜X = iblk m c 4 t⌝ ∗ owns (c : Thread nD τ) (ms4 t) fullShare X) ∗ (∃ X, ⌜X = iblk m c 5 t⌝ ∗ owns (c : Thread nD τ) (ms5 t) fullShare X) ∗ (∃ X, ⌜X = iblk m c 6 t⌝ ∗ owns (c : Thread nD τ) (ms6 t) fullShare X) ∗ (∃ X, ⌜X = iblk m c 7 t⌝ ∗ owns (c : Thread nD τ) (ms7 t) fullShare X) ∗ (∃ X, ⌜(rdat m c).after 8 t y8 X⌝ ∗ owns (c : Thread nD τ) (ms8 t) fullShare X) ∗ (∃ X, ⌜(rdat m c).after 9 t y9 X⌝ ∗ owns (c : Thread nD τ) (ms9 t) fullShare X) ∗ (∃ X, ⌜(rdat m c).after 10 t y10 X⌝ ∗ owns (c : Thread nD τ) (ms10 t) fullShare X))

/-- The body at a point, from a run with the contents it leaves and what they are. -/
theorem sound_of (c : Dev nD) (t : Fin cfg0.N) (y8 : Vec F S768x2560 .bf16) (y9 y10 : Vec F S768x2560 .fp8e4m3)
    (x8 : Vec F S768x2560 .bf16) (x9 x10 : Vec F S768x2560 .fp8e4m3)
    (hrun : ∀ (K : PUnit → sProp 𝕄),
      iprop(held c (ms0 t) (ms1 t) (ms2 t) (ms3 t) (ms4 t) (ms5 t) (ms6 t) (ms7 t) (ms8 t) (ms9 t) (ms10 t) (iblk m c 0 t) (iblk m c 1 t) (iblk m c 2 t) (iblk m c 3 t) (iblk m c 4 t) (iblk m c 5 t) (iblk m c 6 t) (iblk m c 7 t) y8 y9 y10 ∗ (held c (ms0 t) (ms1 t) (ms2 t) (ms3 t) (ms4 t) (ms5 t) (ms6 t) (ms7 t) (ms8 t) (ms9 t) (ms10 t) (iblk m c 0 t) (iblk m c 1 t) (iblk m c 2 t) (iblk m c 3 t) (iblk m c 4 t) (iblk m c 5 t) (iblk m c 6 t) (iblk m c 7 t) x8 x9 x10 -∗ K ⟨⟩))
        ⊢ wp frame (wpE (defs₀ (F := F)) Variants.none c none) Set.univ (bodyAt0 t) K)
    (h8 : (rdat m c).after 8 t y8 x8) (h9 : (rdat m c).after 9 t y9 x9) (h10 : (rdat m c).after 10 t y10 x10) :
    bodyPre m c t y8 y9 y10 ⊢ wp frame (wpE (defs₀ (F := F)) Variants.none c none) Set.univ (bodyAt0 t) (fun _ => bodyPost m c t y8 y9 y10) := by
  unfold bodyPre bodyPost
  rw [show (rdat m c).owesAt () t.succ = (rdat m c).owesAt () t.castSucc from rfl,
    show (rdat m c).Φ t.succ = (rdat m c).Φ t.castSucc from rfl]
  iintro ⟨Hg, Ho, H0, H1, H2, H3, H4, H5, H6, H7, H8, H9, H10⟩
  iapply (hrun _)
  unfold held
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [Hg]; · iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact h8
  isplitl [H9]
  · iexists _; isplitr; swap; · iexact H9
    ipureintro; exact h9
  iexists _; isplitr; swap; · iexact H10
  ipureintro; exact h10

/-- The body at any point. -/
theorem sound_body (c : Dev nD) (t : Fin cfg0.N) (y8 : Vec F S768x2560 .bf16) (y9 y10 : Vec F S768x2560 .fp8e4m3) :
    bodyPre m c t y8 y9 y10 ⊢ wp frame (wpE (defs₀ (F := F)) Variants.none c none) Set.univ (bodyAt0 t) (fun _ => bodyPost m c t y8 y9 y10) := by
  have i1 := cond1_iff t
  have i2 := cond2_iff t
  have i3 := cond3_iff t
  have ht := tlt t
  by_cases h : t.val < 7
  · exact sound_of m c t y8 y9 y10 _ y9 y10 (fun K => runQ c (grid0.coords t) (by rw [i1]; omega) (by rw [i2]; omega) (by rw [i3]; omega) _ _ _ _ _ _ _ _ _ _ _ _ _ _ _ _ _ _ _ _ _ _ _ _ _ _ _ _ _ _ _ _ _ Set.univ K)
      (.inl ⟨h, by rw [upto_all, iblk2, iblk3, iblk4, iblk5, iblk6, iblk7]; rfl⟩) (.inr ⟨by omega, rfl⟩) (.inr ⟨by omega, rfl⟩)
  · by_cases h' : t.val = 7
    · exact sound_of m c t y8 y9 y10 y8 _ y10 (fun K => runK c (grid0.coords t) (by rw [i1]; omega) (by rw [i2]; omega) (by rw [i3]; omega) _ _ _ _ _ _ _ _ _ _ _ _ _ _ _ _ _ _ _ _ _ _ _ _ _ _ _ _ _ _ _ _ _ Set.univ K)
        (.inr ⟨by omega, rfl⟩) (.inl ⟨h', by rw [upto_all, iblk0, iblk2, iblk3, iblk4, iblk5, iblk6, iblk7, h']; rfl⟩) (.inr ⟨by omega, rfl⟩)
    · exact sound_of m c t y8 y9 y10 y8 y9 _ (fun K => runV c (grid0.coords t) (by rw [i1]; omega) (by rw [i2]; omega) (by rw [i3]; omega) _ _ _ _ _ _ _ _ _ _ _ _ _ _ _ _ _ _ _ _ _ _ _ _ _ _ _ _ _ _ _ _ _ Set.univ K)
        (.inr ⟨by omega, rfl⟩) (.inr ⟨h', rfl⟩) (.inl ⟨by omega, by rw [upto_all, iblk1, iblk2, iblk3, iblk4, iblk5, show t.val = 8 by omega]; rfl⟩)

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have e6 := finds6 m c t (Y 6) (hY 6)
  have e7 := finds7 m c t (Y 7) (hY 7)
  rw [e0, e1, e2, e3, e4, e5, e6, e7]
  exact triple_restated (sound_body m c t (Y 8) (Y 9) (Y 10)) rfl .rfl fun _ => .rfl

set_option backward.isDefEq.respectTransparency.types false in
/-- Every run ends with the arrays at contents the proof data allow, the other buffers as found and every semaphore at zero. -/
theorem run_main : θ_run defs (onTc (τ := τ) (main (F := F))) (s₀ m ρ)
    (fun r => (RDat.FramePost cfg0 (rdat m) (V m)) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m)
    (hin := fun c => by dsimp only [rdat]; exact .rfl)
    (hout := fun c => by dsimp only [rdat]; exact .rfl)

/-- The argument arrays end as they were. -/
theorem args_kept (r : PUnit × MemSt nD τ sig (Elt F)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(RDat.FramePost.arr_in h c 2 rfl).trans ((A_eq m c 2).trans (V_main_arg0 m c)),
   ((h c).2 main_arg1 (Pipeline.mem_restRefs_of main_arg1 (by decide) (by decide))).trans (V_main_arg1 m c),
   (RDat.FramePost.arr_in h c 3 rfl).trans ((A_eq m c 3).trans (V_main_arg2 m c)),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   (RDat.FramePost.arr_in h c 0 rfl).trans ((A_eq m c 0).trans (V_main_arg5 m c)),
   (RDat.FramePost.arr_in h c 1 rfl).trans ((A_eq m c 1).trans (V_main_arg6 m c))⟩

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_kept m r h.1 c, h.2⟩) (run_main m ρ)

end Cert.QkvIdeal.Hand
end
-- ==== Proof.QkvSpec.lean ====
/- QKV, the result arrays as functions of the arguments: the projection of each row of the input to queries, keys and
   values, queries and keys rotated by their position's angles, keys and values quantised at a fixed scale. -/
module

public import proofs.«01_k».proof.QkvIdeal
public import Idealize.ShloMosaic.Lib.Pointwise

@[expose] public section

noncomputable section

namespace Cert.Proof.Qkv

open Idealize.ShloMosaic
open Cert.QkvIdeal (S1 S2560x7168 S7168x6912 S2560 S6912 S5376x2560 S768x2560)

/-- Column `n` of the projection of row `i`. -/
def proj (h : S2560x7168.Idx → EReal) (sh : S2560.Idx → EReal) (w : S7168x6912.Idx → EReal) (sw : S6912.Idx → EReal) (i : Fin 2560) (n : ℕ) : EReal :=
  (∑ k : Fin 7168, h (ix2 i k) * w (ix2 k (Fin.ofNat 6912 n))) * sh (ix1 i) * sw (ix1 (Fin.ofNat 6912 n))
/-- The angle's frequency for pair `k` of a head. -/
def freq (k : Fin 48) : EReal :=
  Ideal.pow (Ideal.ofBits .f32 1223959552#32)
    (Ideal.div (-(Ideal.ofBits .f32 1073741824#32 * FloatOps.sitofp (F := Ideal) .f32 (BitVec.ofNat 32 k.val))) (Ideal.ofBits .f32 1119879168#32))
/-- The angle of pair `k` at row `i`'s position. -/
def ang (p : S2560.Idx → BitVec 32) (k : Fin 48) (i : Fin 2560) : EReal := freq k * FloatOps.sitofp (F := Ideal) .f32 (p (ix1 i))
/-- Entry `n` of a row of heads of 96 entries each, rotated: entry `d < 48` of a head is paired with entry `d + 48`. -/
def rot (x : ℕ → EReal) (c s : Fin 48 → EReal) (n : ℕ) : EReal :=
  if n % 96 < 48 then x n * c (Fin.ofNat 48 n) + (0 - x (n + 48)) * s (Fin.ofNat 48 n)
  else x n * c (Fin.ofNat 48 n) + x (n - 48) * s (Fin.ofNat 48 n)
/-- A number as an fp8 code: held within ±448. -/
def clip (x : EReal) : EReal := min (Ideal.ofBits .f32 1138753536#32) (max (Ideal.ofBits .f32 3286237184#32) x)

/-- The queries. -/
def qOut (h : S2560x7168.Idx → EReal) (sh : S2560.Idx → EReal) (w : S7168x6912.Idx → EReal) (sw : S6912.Idx → EReal) (p : S2560.Idx → BitVec 32)
    (y : S5376x2560.Idx) : EReal :=
  rot (proj h sh w sw (y 1)) (fun k => Ideal.cos (ang p k (y 1))) (fun k => Ideal.sin (ang p k (y 1))) (y 0).val
/-- The keys' codes. -/
def kOut (h : S2560x7168.Idx → EReal) (sh : S2560.Idx → EReal) (w : S7168x6912.Idx → EReal) (sw : S6912.Idx → EReal) (p : S2560.Idx → BitVec 32)
    (ks : S1.Idx → EReal) (y : S768x2560.Idx) : EReal :=
  clip (Ideal.div (rot (proj h sh w sw (y 1)) (fun k => Ideal.cos (ang p k (y 1))) (fun k => Ideal.sin (ang p k (y 1))) (5376 + (y 0).val)) (ks (ix1 0)))
/-- The values' codes. -/
def vOut (h : S2560x7168.Idx → EReal) (sh : S2560.Idx → EReal) (w : S7168x6912.Idx → EReal) (sw : S6912.Idx → EReal)
    (vs : S1.Idx → EReal) (y : S768x2560.Idx) : EReal :=
  clip (Ideal.div (proj h sh w sw (y 1) (6144 + (y 0).val)) (vs (ix1 0)))

/-- Rotating a part of a row that starts at a head. -/
theorem rot_shift (x x' : ℕ → EReal) (c s : Fin 48 → EReal) (o N r : ℕ) (ho : o % 96 = 0) (hN : N % 96 = 0) (hr : r < N)
    (hx : ∀ n, n < N → x' n = x (o + n)) : rot x' c s r = rot x c s (o + r) := by
  have e1 : (o + r) % 96 = r % 96 := by omega
  have e2 : Fin.ofNat 48 (o + r) = Fin.ofNat 48 r := Fin.ext (by show (o + r) % 48 = r % 48; omega)
  unfold rot
  rw [e1, e2, hx r hr]
  by_cases h : r % 96 < 48
  · rw [if_pos h, if_pos h, hx (r + 48) (by omega), show o + (r + 48) = o + r + 48 by omega]
  · rw [if_neg h, if_neg h, hx (r - 48) (by omega), show o + (r - 48) = o + r - 48 by omega]

end Cert.Proof.Qkv
-- ==== Proof.QkvPay.lean ====
/- QKV, the kernel's arithmetic at an index: an entry of the projection, and the rotation of a chunk of heads. -/
module

public import proofs.«01_k».proof.Proof.QkvIdealPipe
public import proofs.«01_k».proof.Proof.QkvSpec
public import Idealize.ShloMosaic.Lib.Pipeline.Value
public import Idealize.ShloMosaic.Lib.StableHlo.Run

@[expose] public section

noncomputable section

namespace Cert.Proof.Qkv

open Idealize.ShloMosaic Idealize.ShloMosaic.TcCoe Idealize.SL.Sem
open Cert.QkvIdeal Cert.QkvIdeal.Gen Cert.QkvIdeal.Hand

theorem pay7_apply (a : Vec Ideal S512x7168 .fp8e4m3) (b : Vec Ideal S7168x768 .fp8e4m3) (c : Vec Ideal S512x128 .f32) (d : Vec Ideal S1x768 .f32)
    (s : EReal) (r : Fin 768) (l : Fin 512) (h : ∀ l', c (ix2 l l') = s) :
    k0_pay7 (F := Ideal) a b c d (ix2 r l) = (∑ k, a (ix2 l k) * b (ix2 k r)) * s * d (ix2 0 r) := by
  pointwise [k0_pay7]
  simp only [h, dite_eq_ite, ite_self]

theorem pay6_apply (a : Vec Ideal S512x7168 .fp8e4m3) (b : Vec Ideal S7168x768 .fp8e4m3) (c : Vec Ideal S512x128 .f32) (d : Vec Ideal S1x768 .f32) (g : EReal)
    (s : EReal) (r : Fin 768) (l : Fin 512) (h : ∀ l', c (ix2 l l') = s) :
    k0_pay6 (F := Ideal) a b c d g (ix2 r l) = clip (Ideal.div ((∑ k, a (ix2 l k) * b (ix2 k r)) * s * d (ix2 0 r)) g) := by
  pointwise [k0_pay6, clip]
  simp only [h, dite_eq_ite, ite_self]

theorem pay5_apply (y : FVec Ideal S768x512 .f32) (g : EReal) (r : Fin 768) (l : Fin 512) :
    k0_pay5 (F := Ideal) y g (ix2 r l) = clip (Ideal.div (y (ix2 r l)) g) := by
  pointwise [k0_pay5, clip]

theorem pay8_apply (x : Vec Ideal S48x512 .f32) : k0_pay8 (F := Ideal) x = x := by
  funext y
  pointwise [k0_pay8]

theorem pay9_apply (x : Vec Ideal S48x512 .f32) : k0_pay9 (F := Ideal) x = x := by
  funext y
  pointwise [k0_pay9]

theorem lo_apply (y : FVec Ideal S768x512 .f32) (c s : FVec Ideal S48x512 .f32) (a b : ℕ) (ha hb) (r : Fin 48) (l : Fin 512) (ha' : a + r.val < 768) (hb' : b + r.val < 768) :
    lo y c s a b ha hb (ix2 r l) = y (ix2 ⟨a + r.val, ha'⟩ l) * c (ix2 r l) + (0 - y (ix2 ⟨b + r.val, hb'⟩ l)) * s (ix2 r l) := by
  pointwise [lo]

theorem hi_apply (y : FVec Ideal S768x512 .f32) (c s : FVec Ideal S48x512 .f32) (a b : ℕ) (ha hb) (r : Fin 48) (l : Fin 512) (ha' : a + r.val < 768) (hb' : b + r.val < 768) :
    hi y c s a b ha hb (ix2 r l) = y (ix2 ⟨b + r.val, hb'⟩ l) * c (ix2 r l) + y (ix2 ⟨a + r.val, ha'⟩ l) * s (ix2 r l) := by
  pointwise [hi]

theorem sla : ∀ n : Fin 16, S768x512.Slices ![96 * (n.val / 2), 0] S48x512 := by decide +kernel
theorem slb : ∀ n : Fin 16, S768x512.Slices ![96 * (n.val / 2) + 48, 0] S48x512 := by decide +kernel

/-- Half a head, rotated. -/
def piece (y : FVec Ideal S768x512 .f32) (c s : FVec Ideal S48x512 .f32) (n : Fin 16) : FVec Ideal S48x512 .f32 :=
  if n.val % 2 = 0 then lo y c s (96 * (n.val / 2)) (96 * (n.val / 2) + 48) (sla n) (slb n)
  else hi y c s (96 * (n.val / 2)) (96 * (n.val / 2) + 48) (sla n) (slb n)

theorem pieces (y : FVec Ideal S768x512 .f32) (c s : FVec Ideal S48x512 .f32) :
    ∃ h, rope y c s = concatenate S768x512 0 (List.ofFn fun n : Fin 16 => (⟨S48x512, piece y c s n⟩ : (s : Shape) × (s.Idx → EReal))) h :=
  ⟨concatenates_S48x512_S48x512_S48x512_S48x512_S48x512_S48x512_S48x512_S48x512_S48x512_S48x512_S48x512_S48x512_S48x512_S48x512_S48x512_S48x512_S768x512_d0, rfl⟩

theorem rope_apply (y : FVec Ideal S768x512 .f32) (c s : FVec Ideal S48x512 .f32) (r : Fin 768) (l : Fin 512) :
    rope y c s (ix2 r l) = rot (fun n => y (ix2 (Fin.ofNat 768 n) l)) (fun k => c (ix2 k l)) (fun k => s (ix2 k l)) r.val := by
  have hr := r.isLt
  obtain ⟨h, e⟩ := pieces y c s
  rw [e, concatenate_ofFn_apply (0 : Fin S768x512.rank) (piece y c s) h rfl 48 rfl (ix2 r l) ⟨r.val / 48, by omega⟩ rfl
    (ix2 (Fin.ofNat 48 r.val) l) rfl (fun b hb => by
      match b with
      | ⟨0, _⟩ => exact absurd rfl hb
      | ⟨1, _⟩ => rfl)]
  unfold piece rot
  have hm : (Fin.ofNat 48 r.val).val = r.val % 48 := rfl
  by_cases hp : r.val % 96 < 48
  · rw [if_pos (by show r.val / 48 % 2 = 0; omega), if_pos hp,
      lo_apply _ _ _ _ _ _ _ _ _ (by show 96 * (r.val / 48 / 2) + r.val % 48 < 768; omega) (by show 96 * (r.val / 48 / 2) + 48 + r.val % 48 < 768; omega)]
    have e1 : (⟨96 * (r.val / 48 / 2) + r.val % 48, by omega⟩ : Fin 768) = Fin.ofNat 768 r.val := Fin.ext (by show _ = r.val % 768; dsimp only; omega)
    have e2 : (⟨96 * (r.val / 48 / 2) + 48 + r.val % 48, by omega⟩ : Fin 768) = Fin.ofNat 768 (r.val + 48) := Fin.ext (by show _ = (r.val + 48) % 768; dsimp only; omega)
    exact congrArg₂ (fun i j => y (ix2 i l) * c (ix2 (Fin.ofNat 48 r.val) l) + (0 - y (ix2 j l)) * s (ix2 (Fin.ofNat 48 r.val) l)) e1 e2
  · rw [if_neg (by show ¬ r.val / 48 % 2 = 0; omega), if_neg hp,
      hi_apply _ _ _ _ _ _ _ _ _ (by show 96 * (r.val / 48 / 2) + r.val % 48 < 768; omega) (by show 96 * (r.val / 48 / 2) + 48 + r.val % 48 < 768; omega)]
    have e1 : (⟨96 * (r.val / 48 / 2) + 48 + r.val % 48, by omega⟩ : Fin 768) = Fin.ofNat 768 r.val := Fin.ext (by show _ = r.val % 768; dsimp only; omega)
    have e2 : (⟨96 * (r.val / 48 / 2) + r.val % 48, by omega⟩ : Fin 768) = Fin.ofNat 768 (r.val - 48) := Fin.ext (by show _ = (r.val - 48) % 768; dsimp only; omega)
    exact congrArg₂ (fun i j => y (ix2 i l) * c (ix2 (Fin.ofNat 48 r.val) l) + y (ix2 j l) * s (ix2 (Fin.ofNat 48 r.val) l)) e1 e2

end Cert.Proof.Qkv
-- ==== Proof.QkvKer.lean ====
/- QKV, the kernel's three result arrays as functions of its seven arguments. -/
module

public import proofs.«01_k».proof.Proof.QkvPay

@[expose] public section

noncomputable section

namespace Cert.Proof.Qkv

open Idealize.ShloMosaic Idealize.ShloMosaic.TcCoe Idealize.SL.Sem
open Cert.QkvIdeal Cert.QkvIdeal.Gen Cert.QkvIdeal.Hand
open Idealize.ShloMosaic.Pipeline (Dat RDat)

variable (m : (ℓ : Loc nD τ sig) → Buf (Elt Ideal) ℓ) (c : Dev nD)

/-! ## The arguments, and the arrays computed from them before the kernel -/

abbrev xH : S2560x7168.Idx → EReal := m ((c : Thread nD τ).loc main_arg0)
abbrev xSh : S2560.Idx → EReal := m ((c : Thread nD τ).loc main_arg1)
abbrev xW : S7168x6912.Idx → EReal := m ((c : Thread nD τ).loc main_arg2)
abbrev xSw : S6912.Idx → EReal := m ((c : Thread nD τ).loc main_arg3)
abbrev xPos : S2560.Idx → BitVec 32 := m ((c : Thread nD τ).loc main_arg4)
abbrev xKs : S1.Idx → EReal := m ((c : Thread nD τ).loc main_arg5)
abbrev xVs : S1.Idx → EReal := m ((c : Thread nD τ).loc main_arg6)

theorem V_v15 : V m c main_v15 = fun y : S2560x128.Idx => xSh m c (ix1 (y 0)) := by
  unfold V hostOps0
  after_results
  funext y
  obtain ⟨r, k, rfl⟩ : ∃ (r : Fin 2560) (k : Fin 128), y = ix2 r k := ⟨y 0, y 1, eq_ix2 y⟩
  pointwise

theorem V_v18 : V m c main_v18 = fun y : S1x6912.Idx => xSw m c (ix1 (y 1)) := by
  unfold V hostOps0
  after_results
  funext y
  obtain ⟨r, k, rfl⟩ : ∃ (r : Fin 1) (k : Fin 6912), y = ix2 r k := ⟨y 0, y 1, eq_ix2 y⟩
  pointwise

theorem V_v16 : V m c main_v16 = fun y : S48x2560.Idx => Ideal.cos (ang (xPos m c) (y 0) (y 1)) := by
  unfold V hostOps0
  after_results
  funext y
  obtain ⟨r, k, rfl⟩ : ∃ (r : Fin 48) (k : Fin 2560), y = ix2 r k := ⟨y 0, y 1, eq_ix2 y⟩
  pointwise [ang, freq]

theorem V_v17 : V m c main_v17 = fun y : S48x2560.Idx => Ideal.sin (ang (xPos m c) (y 0) (y 1)) := by
  unfold V hostOps0
  after_results
  funext y
  obtain ⟨r, k, rfl⟩ : ∃ (r : Fin 48) (k : Fin 2560), y = ix2 r k := ⟨y 0, y 1, eq_ix2 y⟩
  pointwise [ang, freq]

variable {m c}

/-! ## A chunk of the projection -/

theorem chunk_lt (q : Fin 5) (r : Fin 512) : 512 * q.val + r.val < 2560 := by have := q.isLt; have := r.isLt; omega

/-- The row a column of the transposed results stands for. -/
abbrev rowOf (q : Fin 5) (r : Fin 512) : Fin 2560 := ⟨512 * q.val + r.val, chunk_lt q r⟩

theorem rowOf_self (i : Fin 2560) : rowOf (Fin.ofNat 5 (i.val / 512)) (Fin.ofNat 512 i.val) = i := by
  have hi := i.isLt
  apply Fin.ext
  show 512 * (i.val / 512 % 5) + i.val % 512 = i.val
  omega

theorem rows_apply {C : ℕ} {t : EltTy} (x : Vec Ideal ⟨2, ![2560, C]⟩ t) (q : Fin 5) (h) (r : Fin 512) (l : Fin C) :
    VecWindow.window x ![512 * q.val, 0] ![512, C] h (ix2 r l) = x (ix2 (rowOf q r) l) := by
  refine congrArg x (funext fun a => Fin.ext ?_)
  match a with
  | ⟨0, _⟩ => show 512 * q.val + 1 * r.val = 512 * q.val + r.val; omega
  | ⟨1, _⟩ => show 0 + 1 * l.val = l.val; omega

theorem wh_apply (x : Vec Ideal S2560x7168 .fp8e4m3) (q : Fin 5) (r : Fin 512) (l : Fin 7168) : wh q x (ix2 r l) = x (ix2 (rowOf q r) l) :=
  rows_apply (C := 7168) (t := .fp8e4m3) x q _ r l
theorem wsh_apply (x : Vec Ideal S2560x128 .f32) (q : Fin 5) (r : Fin 512) (l : Fin 128) : wsh q x (ix2 r l) = x (ix2 (rowOf q r) l) :=
  rows_apply (C := 128) (t := .f32) x q _ r l
theorem wc_apply (x : Vec Ideal S48x2560 .f32) (q : Fin 5) (k : Fin 48) (r : Fin 512) : wc q x (ix2 k r) = x (ix2 k (rowOf q r)) := by
  refine congrArg x (funext fun a => Fin.ext ?_)
  match a with
  | ⟨0, _⟩ => show 0 + 1 * k.val = k.val; omega
  | ⟨1, _⟩ => show 512 * q.val + 1 * r.val = 512 * q.val + r.val; omega

/-- The projection of row `i`. -/
abbrev P (m : (ℓ : Loc nD τ sig) → Buf (Elt Ideal) ℓ) (c : Dev nD) (i : Fin 2560) : ℕ → EReal := proj (xH m c) (xSh m c) (xW m c) (xSw m c) i

theorem swb (n : ℕ) (r : Fin 768) : SWB m c n (ix2 0 r) = xSw m c (ix1 (Fin.ofNat 6912 (n * 768 + r.val))) := by
  unfold SWB Hand.aSw
  rw [V_v18]
  rfl

theorem sh_apply (q : Fin 5) (l : Fin 512) (l' : Fin 128) : wsh q (Hand.aSh m c) (ix2 l l') = xSh m c (ix1 (rowOf q l)) := by
  rw [wsh_apply]
  unfold Hand.aSh
  rw [V_v15]
  rfl

theorem y_apply (n : ℕ) (q : Fin 5) (r : Fin 768) (l : Fin 512) :
    k0_pay7 (F := Ideal) (wh q (Hand.aH m c)) (WB m c n) (wsh q (Hand.aSh m c)) (SWB m c n) (ix2 r l) = P m c (rowOf q l) (n * 768 + r.val) := by
  rw [pay7_apply _ _ _ _ _ r l (fun l' => sh_apply q l l'), swb]
  simp only [wh_apply]
  rfl

theorem v_apply (n : ℕ) (q : Fin 5) (r : Fin 768) (l : Fin 512) (g : EReal) :
    k0_pay6 (F := Ideal) (wh q (Hand.aH m c)) (WB m c n) (wsh q (Hand.aSh m c)) (SWB m c n) g (ix2 r l)
      = clip (Ideal.div (P m c (rowOf q l) (n * 768 + r.val)) g) := by
  rw [pay6_apply _ _ _ _ _ _ r l (fun l' => sh_apply q l l'), swb]
  simp only [wh_apply]
  rfl

theorem shift (n : ℕ) : n * 768 % 96 = 0 := by omega

/-- The rotation of row `i`'s projection. -/
abbrev R (m : (ℓ : Loc nD τ sig) → Buf (Elt Ideal) ℓ) (c : Dev nD) (i : Fin 2560) : ℕ → EReal :=
  rot (P m c i) (fun k => Ideal.cos (ang (xPos m c) k i)) (fun k => Ideal.sin (ang (xPos m c) k i))

theorem r_apply (n : ℕ) (q : Fin 5) (r : Fin 768) (l : Fin 512) :
    rope (k0_pay7 (F := Ideal) (wh q (Hand.aH m c)) (WB m c n) (wsh q (Hand.aSh m c)) (SWB m c n)) (k0_pay8 (wc q (Hand.aC m c))) (k0_pay9 (wc q (Hand.aS m c))) (ix2 r l)
      = R m c (rowOf q l) (n * 768 + r.val) := by
  have hc : ∀ k, wc q (Hand.aC m c) (ix2 k l) = Ideal.cos (ang (xPos m c) k (rowOf q l)) := fun k => by
    rw [wc_apply]; unfold Hand.aC; rw [V_v16]; rfl
  have hs : ∀ k, wc q (Hand.aS m c) (ix2 k l) = Ideal.sin (ang (xPos m c) k (rowOf q l)) := fun k => by
    rw [wc_apply]; unfold Hand.aS; rw [V_v17]; rfl
  have hx : ∀ n', n' < 768 →
      k0_pay7 (F := Ideal) (wh q (Hand.aH m c)) (WB m c n) (wsh q (Hand.aSh m c)) (SWB m c n) (ix2 (Fin.ofNat 768 n') l) = P m c (rowOf q l) (n * 768 + n') := fun n' hn => by
    rw [y_apply, show (Fin.ofNat 768 n').val = n' from Nat.mod_eq_of_lt hn]
  rw [rope_apply, pay8_apply, pay9_apply]
  simp only [hc, hs]
  exact rot_shift (P m c (rowOf q l)) _ _ _ (n * 768) 768 r.val (shift n) rfl r.isLt hx

/-! ## The blocks -/

theorem qb_apply (n : ℕ) (r : Fin 768) (i : Fin 2560) : QB m c n (ix2 r i) = R m c i (n * 768 + r.val) := by
  refine (r_apply n (Fin.ofNat 5 (i.val / 512)) r (Fin.ofNat 512 i.val)).trans ?_
  rw [rowOf_self]

theorem one_eq (x : Vec Ideal S1 .f32) : one x = x (ix1 0) :=
  congrArg x (funext fun a => by
    match a with
    | ⟨0, _⟩ => rfl)

theorem kb_apply (r : Fin 768) (i : Fin 2560) : KB m c (ix2 r i) = clip (Ideal.div (R m c i (5376 + r.val)) (xKs m c (ix1 0))) := by
  have e := r_apply (m := m) (c := c) 7 (Fin.ofNat 5 (i.val / 512)) r (Fin.ofNat 512 i.val)
  rw [rowOf_self] at e
  refine (pay5_apply _ _ r (Fin.ofNat 512 i.val)).trans ?_
  rw [← one_eq (xKs m c)]
  exact congrArg (fun z : EReal => clip (Ideal.div z (one (F := Ideal) (xKs m c)))) e

theorem vb_apply (r : Fin 768) (i : Fin 2560) : VB m c (ix2 r i) = clip (Ideal.div (P m c i (6144 + r.val)) (xVs m c (ix1 0))) := by
  refine (v_apply 8 (Fin.ofNat 5 (i.val / 512)) r (Fin.ofNat 512 i.val) _).trans ?_
  rw [rowOf_self]
  exact congrArg (fun g => clip (Ideal.div (P m c i (6144 + r.val)) g)) (one_eq (xVs m c))

/-! ## What is written back -/

theorem leaves8 : ∀ (n : ℕ) (hn : n < cfg0.N) (X : Vec Ideal S768x2560 .bf16), (rdat m c).Leaves 8 ⟨n, hn⟩ X → X = QB m c (min n 6)
  | n, hn, X, ⟨Y, hY, ha⟩ => by
    have hlt := tlt ⟨n, hn⟩
    dsimp only at hlt
    rcases ha with ⟨hq, rfl⟩ | ⟨hq, rfl⟩
    · have h1 : n < 7 := hq
      show QB m c n = _
      rw [show min n 6 = n by omega]
    · have h1 : 7 ≤ n := hq
      match n, hn, hY with
      | 0, _, _ => omega
      | n + 1, hn, hY =>
        have hfl : ∀ t : Fin cfg0.N, 7 ≤ t.val → win0_8.flush ⟨t.val - 1, Nat.lt_of_le_of_lt (Nat.sub_le _ _) t.isLt⟩ = false :=
          (by decide +kernel : ∀ t : Fin grid0.N, 7 ≤ t.val → win0_8.flush ⟨t.val - 1, Nat.lt_of_le_of_lt (Nat.sub_le _ _) t.isLt⟩ = false)
        rcases (RDat.finds_of_pos (rd := rdat m c) (w := 8) (t := ⟨n + 1, hn⟩) rfl (Nat.succ_ne_zero n) X).mp hY with h | h
        · exact absurd ((hfl ⟨n + 1, hn⟩ h1).symm.trans h) (by decide)
        · refine (leaves8 n (Nat.lt_of_succ_lt hn) X h).trans ?_
          congr 1
          omega

theorem leaves9 : ∀ (n : ℕ) (hn : n < cfg0.N) (X : Vec Ideal S768x2560 .fp8e4m3), 7 ≤ n → (rdat m c).Leaves 9 ⟨n, hn⟩ X → X = KB m c
  | n, hn, X, hge, ⟨Y, hY, ha⟩ => by
    have hlt := tlt ⟨n, hn⟩
    dsimp only at hlt
    rcases ha with ⟨hq, rfl⟩ | ⟨hq, rfl⟩
    · rfl
    · have h1 : n ≠ 7 := hq
      match n, hn, hY with
      | 0, _, _ => omega
      | n + 1, hn, hY =>
        have hfl : ∀ t : Fin cfg0.N, 8 ≤ t.val → win0_9.flush ⟨t.val - 1, Nat.lt_of_le_of_lt (Nat.sub_le _ _) t.isLt⟩ = false :=
          (by decide +kernel : ∀ t : Fin grid0.N, 8 ≤ t.val → win0_9.flush ⟨t.val - 1, Nat.lt_of_le_of_lt (Nat.sub_le _ _) t.isLt⟩ = false)
        rcases (RDat.finds_of_pos (rd := rdat m c) (w := 9) (t := ⟨n + 1, hn⟩) rfl (Nat.succ_ne_zero n) X).mp hY with h | h
        · exact absurd ((hfl ⟨n + 1, hn⟩ (by show 8 ≤ n + 1; omega)).symm.trans h) (by decide)
        · exact leaves9 n (Nat.lt_of_succ_lt hn) X (by omega) h

theorem flush9 : ∀ t : Fin cfg0.N, win0_9.flush t = true → 7 ≤ t.val :=
  (by decide +kernel : ∀ t : Fin grid0.N, win0_9.flush t = true → 7 ≤ t.val)
theorem flush10 : ∀ t : Fin cfg0.N, win0_10.flush t = true → t.val = 8 :=
  (by decide +kernel : ∀ t : Fin grid0.N, win0_10.flush t = true → t.val = 8)

theorem leaves10 (t : Fin cfg0.N) (h : win0_10.flush t = true) (X : Vec Ideal S768x2560 .fp8e4m3) (hX : (rdat m c).Leaves 10 t X) :
    X = VB m c := by
  obtain ⟨Y, hY, ha⟩ := hX
  have hf := flush10 t h
  rcases ha with ⟨hq, rfl⟩ | ⟨hq, rfl⟩
  · rfl
  · exact absurd hf hq

theorem index8 : ∀ t : Fin cfg0.N, win0_8.index t 0 = min t.val 6 ∧ win0_8.index t 1 = 0 :=
  (by decide +kernel : ∀ t : Fin grid0.N, win0_8.index t 0 = min t.val 6 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)

/-- The three results at a device. -/
abbrev Q (m : (ℓ : Loc nD τ sig) → Buf (Elt Ideal) ℓ) (c : Dev nD) : S5376x2560.Idx → EReal := qOut (xH m c) (xSh m c) (xW m c) (xSw m c) (xPos m c)
abbrev K (m : (ℓ : Loc nD τ sig) → Buf (Elt Ideal) ℓ) (c : Dev nD) : S768x2560.Idx → EReal := kOut (xH m c) (xSh m c) (xW m c) (xSw m c) (xPos m c) (xKs m c)
abbrev W (m : (ℓ : Loc nD τ sig) → Buf (Elt Ideal) ℓ) (c : Dev nD) : S768x2560.Idx → EReal := vOut (xH m c) (xSh m c) (xW m c) (xSw m c) (xVs m c)

variable (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))

include hL

theorem final8 : ((rdat m c).withAfter after).arrAt 8 cfg0.N = (Q m c : Vec Ideal S5376x2560 .bf16) := by
  refine ((rdat m c).withAfter after).arrAt_eq_of_covers 8 _ (by decide +kernel) fun t hf y => ?_
  have ht := tlt t
  have e := leaves8 t.val t.isLt _ (hL 8 t hf)
  have h0 : (y 0).val < 768 := (y 0).isLt
  have h1 : (y 1).val < 2560 := (y 1).isLt
  refine (congrFun e y).trans ((congrArg (QB m c _) (eq_ix2 y)).trans ((qb_apply _ (y 0) (y 1)).trans ?_))
  show Q m c (ix2 (⟨min t.val 6 * 768 + (y 0).val, by omega⟩ : Fin 5376) (y 1)) = _
  refine congrArg (Q m c) (funext fun a => Fin.ext ?_)
  match a with
  | ⟨0, _⟩ =>
    show min t.val 6 * 768 + (y 0).val = win0_8.index t 0 * 768 + 1 * (y 0).val
    rw [(index8 t).1]; omega
  | ⟨1, _⟩ =>
    show (y 1).val = win0_8.index t 1 * 2560 + 1 * (y 1).val
    rw [(index8 t).2]; omega

theorem final9 : ((rdat m c).withAfter after).arrAt 9 cfg0.N = (K m c : Vec Ideal S768x2560 .fp8e4m3) := by
  refine ((rdat m c).withAfter after).arrAt_eq_of_covers 9 _ (by decide +kernel) fun t hf y => ?_
  have e := leaves9 t.val t.isLt _ (flush9 t hf) (hL 9 t hf)
  refine (congrFun e y).trans ((congrArg (KB m c) (eq_ix2 y)).trans ((kb_apply (y 0) (y 1)).trans ?_))
  show K m c (ix2 (y 0) (y 1)) = _
  refine congrArg (K m c) (funext fun a => Fin.ext ?_)
  match a with
  | ⟨0, _⟩ =>
    show (y 0).val = win0_9.index t 0 * 768 + 1 * (y 0).val
    rw [(index9 t).1]; omega
  | ⟨1, _⟩ =>
    show (y 1).val = win0_9.index t 1 * 2560 + 1 * (y 1).val
    rw [(index9 t).2]; omega

theorem final10 : ((rdat m c).withAfter after).arrAt 10 cfg0.N = (W m c : Vec Ideal S768x2560 .fp8e4m3) := by
  refine ((rdat m c).withAfter after).arrAt_eq_of_covers 10 _ (by decide +kernel) fun t hf y => ?_
  have e := leaves10 t hf _ (hL 10 t hf)
  refine (congrFun e y).trans ((congrArg (VB m c) (eq_ix2 y)).trans ((vb_apply (y 0) (y 1)).trans ?_))
  show W m c (ix2 (y 0) (y 1)) = _
  refine congrArg (W m c) (funext fun a => Fin.ext ?_)
  match a with
  | ⟨0, _⟩ =>
    show (y 0).val = win0_10.index t 0 * 768 + 1 * (y 0).val
    rw [(index10 t).1]; omega
  | ⟨1, _⟩ =>
    show (y 1).val = win0_10.index t 1 * 2560 + 1 * (y 1).val
    rw [(index10 t).2]; omega

omit hL

/-- The kernel's run. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v19_0) = Q m c
      ∧ r.2.mem ((c.tc : Thread nD τ).loc main_v19_1) = K m c
      ∧ r.2.mem ((c.tc : Thread nD τ).loc main_v19_2) = W m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono (fun r h c => ?_) (run_main m g)
  obtain ⟨after, hL, hA⟩ := h.1.exists_exact c
  exact ⟨(hA 8).trans (final8 after hL), (hA 9).trans (final9 after hL), (hA 10).trans (final10 after hL), args_kept m r h.1 c⟩

end Cert.Proof.Qkv
-- ==== Proof.QkvRefPay.lean ====
/- QKV, the reference's arithmetic at an index, and what its one point leaves in the three result blocks. -/
module

public import proofs.«01_k».proof.Proof.Gen.QkvReferenceIdeal.Value
public import proofs.«01_k».proof.Proof.QkvSpec
public import Idealize.ShloMosaic.Lib.Pipeline.Value
public import Idealize.ShloMosaic.Lib.Pipeline.ReadBack
public import Idealize.ShloMosaic.Lib.StableHlo.Run
public import Idealize.ShloMosaic.Lib.Tactic

@[expose] public section

noncomputable section

namespace Cert.Proof.QkvRef

open Idealize.ShloMosaic Idealize.ShloMosaic.TcCoe Idealize.SL.Sem
open Cert.QkvReferenceIdeal Cert.QkvReferenceIdeal.Gen
open Cert.Proof.Qkv (proj rot clip)

theorem hz : (![0, 0] : Fin 2 → Nat) = fun _ => 0 := funext fun a => by fin_cases a <;> rfl

/-! ## The payloads at an index -/

theorem pay4_apply (a : Vec Ideal S2560x7168 .fp8e4m3) (b : Vec Ideal S7168x6912 .fp8e4m3) (c : Vec Ideal S2560x1 .f32) (d : Vec Ideal S1x6912 .f32)
    (i : Fin 2560) (n : Fin 6912) : k0_pay4 (F := Ideal) a b c d (ix2 i n) = (∑ k, a (ix2 i k) * b (ix2 k n)) * c (ix2 i 0) * d (ix2 0 n) := by
  pointwise [k0_pay4]

/-- The rotation, in the shape the program's indices take, at column `o + r`. -/
theorem rot_ix (y : FVec Ideal S2560x6912 .f32) (X : ℕ → EReal) (e f : Vec Ideal S2560x48 .f32) (i : Fin 2560) (o r : ℕ) (ho : o % 96 = 0) (hr : o + r < 6912)
    (hX : ∀ n : Fin 6912, y (ix2 i n) = X n.val) (n0 : Fin 6912) (h0 : n0.val = o + r) (na nb : r % 96 < 48 → Fin 48) (ma mb : ¬ r % 96 < 48 → Fin 48)
    (hna : ∀ h, (na h).val = r % 96) (hma : ∀ h, (ma h).val = r % 96 - 48) (hnb : ∀ h, (nb h).val = r % 96) (hmb : ∀ h, (mb h).val = r % 96 - 48)
    (pa : r % 96 < 48 → Fin 6912) (pb : ¬ r % 96 < 48 → Fin 6912) (hpa : ∀ h, (pa h).val = o + (r / 96 * 96 + (48 + r % 96))) (hpb : ∀ h, (pb h).val = o + (r / 96 * 96 + (r % 96 - 48))) :
    ((y (ix2 i n0) * if h : r % 96 < 48 then e (ix2 i (na h)) else e (ix2 i (ma h))) +
      (if h : r % 96 < 48 then 0 - y (ix2 i (pa h)) else y (ix2 i (pb h))) *
        if h : r % 96 < 48 then f (ix2 i (nb h)) else f (ix2 i (mb h)))
    = rot X (fun k => e (ix2 i k)) (fun k => f (ix2 i k)) (o + r) := by
  have e1 : (o + r) % 96 = r % 96 := by omega
  unfold rot
  rw [e1]
  by_cases h : r % 96 < 48
  · rw [dif_pos h, dif_pos h, dif_pos h, if_pos h, hX, hX, h0, hpa,
      show na h = Fin.ofNat 48 (o + r) from Fin.ext (by rw [hna]; show _ = (o + r) % 48; omega),
      show nb h = Fin.ofNat 48 (o + r) from Fin.ext (by rw [hnb]; show _ = (o + r) % 48; omega),
      show o + (r / 96 * 96 + (48 + r % 96)) = o + r + 48 by omega]
  · rw [dif_neg h, dif_neg h, dif_neg h, if_neg h, hX, hX, h0, hpb,
      show ma h = Fin.ofNat 48 (o + r) from Fin.ext (by rw [hma]; show _ = (o + r) % 48; omega),
      show mb h = Fin.ofNat 48 (o + r) from Fin.ext (by rw [hmb]; show _ = (o + r) % 48; omega),
      show o + (r / 96 * 96 + (r % 96 - 48)) = o + r - 48 by omega]

theorem q_apply (a : Vec Ideal S2560x7168 .fp8e4m3) (b : Vec Ideal S7168x6912 .fp8e4m3) (c : Vec Ideal S2560x1 .f32) (d : Vec Ideal S1x6912 .f32)
    (e f : Vec Ideal S2560x48 .f32) (X : ℕ → EReal) (i : Fin 2560) (r : Fin 5376) (hX : ∀ n : Fin 6912, k0_pay4 (F := Ideal) a b c d (ix2 i n) = X n.val) :
    k0_pay1 (F := Ideal) (k0_pay9 a b c d e e f f) (ix2 r i) = rot X (fun k => e (ix2 i k)) (fun k => f (ix2 i k)) r.val := by
  have hr := r.isLt
  unfold k0_pay1 k0_pay9
  generalize k0_pay4 a b c d = y at hX ⊢
  pointwise [k0_pay7, k0_pay8]
  refine (rot_ix y X e f i 0 r.val rfl (by omega) hX ⟨r.val, by omega⟩ (by simp) (fun h => ⟨r.val % 96, h⟩) (fun h => ⟨r.val % 96, h⟩)
    (fun h => ⟨r.val % 96 - 48, by omega⟩) (fun h => ⟨r.val % 96 - 48, by omega⟩) (fun _ => rfl) (fun _ => rfl) (fun _ => rfl) (fun _ => rfl)
    (fun h => ⟨r.val / 96 * 96 + (48 + r.val % 96), by omega⟩) (fun h => ⟨r.val / 96 * 96 + (r.val % 96 - 48), by omega⟩)
    (fun _ => by simp) (fun _ => by simp)).trans ?_
  rw [Nat.zero_add]

theorem k_apply (a : Vec Ideal S2560x7168 .fp8e4m3) (b : Vec Ideal S7168x6912 .fp8e4m3) (c : Vec Ideal S2560x1 .f32) (d : Vec Ideal S1x6912 .f32)
    (e f : Vec Ideal S2560x48 .f32) (g : EReal) (X : ℕ → EReal) (i : Fin 2560) (r : Fin 768) (hX : ∀ n : Fin 6912, k0_pay4 (F := Ideal) a b c d (ix2 i n) = X n.val) :
    k0_pay2 (F := Ideal) (k0_pay5 a b c d) (k0_pay8 f f) (k0_pay10 a b c d e e) (k0_pay11 a b c d) g (ix2 r i)
      = clip (Ideal.div (rot X (fun k => e (ix2 i k)) (fun k => f (ix2 i k)) (5376 + r.val)) g) := by
  have hr := r.isLt
  unfold k0_pay2 k0_pay10 k0_pay11
  unfold k0_pay5
  generalize k0_pay4 a b c d = y at hX ⊢
  pointwise [k0_pay7, k0_pay8, clip]
  refine congrArg (fun z => min (Ideal.ofBits .f32 1138753536#32) (max (Ideal.ofBits .f32 3286237184#32) (Ideal.div z g))) ?_
  exact rot_ix y X e f i 5376 r.val rfl (by omega) hX ⟨5376 + r.val, by omega⟩ rfl (fun h => ⟨r.val % 96, h⟩) (fun h => ⟨r.val % 96, h⟩)
    (fun h => ⟨r.val % 96 - 48, by omega⟩) (fun h => ⟨r.val % 96 - 48, by omega⟩) (fun _ => rfl) (fun _ => rfl) (fun _ => rfl) (fun _ => rfl)
    (fun h => ⟨5376 + (r.val / 96 * 96 + (48 + r.val % 96)), by omega⟩) (fun h => ⟨5376 + (r.val / 96 * 96 + (r.val % 96 - 48)), by omega⟩)
    (fun _ => rfl) (fun _ => rfl)

theorem v_apply (a : Vec Ideal S2560x7168 .fp8e4m3) (b : Vec Ideal S7168x6912 .fp8e4m3) (c : Vec Ideal S2560x1 .f32) (d : Vec Ideal S1x6912 .f32)
    (g : EReal) (X : ℕ → EReal) (i : Fin 2560) (r : Fin 768) (hX : ∀ n : Fin 6912, k0_pay4 (F := Ideal) a b c d (ix2 i n) = X n.val) :
    k0_pay3 (F := Ideal) (k0_pay6 a b c d) g (ix2 r i) = clip (Ideal.div (X (6144 + r.val)) g) := by
  have hr := r.isLt
  unfold k0_pay3 k0_pay6
  generalize k0_pay4 a b c d = y at hX ⊢
  pointwise [clip]
  rw [hX]

/-! ## What the one point leaves in the result blocks -/

theorem first_eq (x : Vec Ideal S1 .f32) (h) :
    View.ld x (Rect.unit (s := S1) ![0] ![1] inb_S1_S1_0) (Shape.Idx.first h) = x (ix1 0) :=
  congrArg x (funext fun a => by
    match a with
    | ⟨0, _⟩ => rfl)

theorem out8_eq (c : Dev nD) (arg0 : Memref sig .tc .smem S1 .f32) (harg0 : arg0.IsWhole) (arg1 : Memref sig .tc .smem S1 .f32) (harg1 : arg1.IsWhole) (arg2 : Memref sig .tc .vmem S2560x7168 .fp8e4m3) (harg2 : arg2.IsWhole) (arg3 : Memref sig .tc .vmem S2560x1 .f32) (harg3 : arg3.IsWhole) (arg4 : Memref sig .tc .vmem S7168x6912 .fp8e4m3) (harg4 : arg4.IsWhole) (arg5 : Memref sig .tc .vmem S1x6912 .f32) (harg5 : arg5.IsWhole) (arg6 : Memref sig .tc .vmem S2560x48 .f32) (harg6 : arg6.IsWhole) (arg7 : Memref sig .tc .vmem S2560x48 .f32) (harg7 : arg7.IsWhole) (arg8 : Memref sig .tc .vmem S5376x2560 .bf16) (harg8 : arg8.IsWhole) (arg9 : Memref sig .tc .vmem S768x2560 .fp8e4m3) (harg9 : arg9.IsWhole) (arg10 : Memref sig .tc .vmem S768x2560 .fp8e4m3) (harg10 : arg10.IsWhole)
    (x0 x1 : Vec Ideal S1 .f32) (x2 : Vec Ideal S2560x7168 .fp8e4m3) (x3 : Vec Ideal S2560x1 .f32) (x4 : Vec Ideal S7168x6912 .fp8e4m3)
    (x5 : Vec Ideal S1x6912 .f32) (x6 x7 : Vec Ideal S2560x48 .f32) :
    out0_A_8 (F := Ideal) c arg0 harg0 arg1 harg1 arg2 harg2 arg3 harg3 arg4 harg4 arg5 harg5 arg6 harg6 arg7 harg7 arg8 harg8 arg9 harg9 arg10 harg10 x0 x1 x2 x3 x4 x5 x6 x7
      = k0_pay1 (F := Ideal) (k0_pay9 x2 x4 x3 x5 x6 x6 x7 x7) := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp only [View.readAt_eq_ld, harg0.read_unread, harg1.read_unread, harg2.read_unread, harg3.read_unread, harg4.read_unread, harg5.read_unread, harg6.read_unread, harg7.read_unread,
    View.ld_unit_zero (S := S2560x7168) hz, View.ld_unit_zero (S := S2560x1) hz, View.ld_unit_zero (S := S7168x6912) hz, View.ld_unit_zero (S := S1x6912) hz, View.ld_unit_zero (S := S2560x48) hz]
  rw [View.canon_unit_zero hz]

theorem out9_eq (c : Dev nD) (arg0 : Memref sig .tc .smem S1 .f32) (harg0 : arg0.IsWhole) (arg1 : Memref sig .tc .smem S1 .f32) (harg1 : arg1.IsWhole) (arg2 : Memref sig .tc .vmem S2560x7168 .fp8e4m3) (harg2 : arg2.IsWhole) (arg3 : Memref sig .tc .vmem S2560x1 .f32) (harg3 : arg3.IsWhole) (arg4 : Memref sig .tc .vmem S7168x6912 .fp8e4m3) (harg4 : arg4.IsWhole) (arg5 : Memref sig .tc .vmem S1x6912 .f32) (harg5 : arg5.IsWhole) (arg6 : Memref sig .tc .vmem S2560x48 .f32) (harg6 : arg6.IsWhole) (arg7 : Memref sig .tc .vmem S2560x48 .f32) (harg7 : arg7.IsWhole) (arg8 : Memref sig .tc .vmem S5376x2560 .bf16) (harg8 : arg8.IsWhole) (arg9 : Memref sig .tc .vmem S768x2560 .fp8e4m3) (harg9 : arg9.IsWhole) (arg10 : Memref sig .tc .vmem S768x2560 .fp8e4m3) (harg10 : arg10.IsWhole)
    (x0 x1 : Vec Ideal S1 .f32) (x2 : Vec Ideal S2560x7168 .fp8e4m3) (x3 : Vec Ideal S2560x1 .f32) (x4 : Vec Ideal S7168x6912 .fp8e4m3)
    (x5 : Vec Ideal S1x6912 .f32) (x6 x7 : Vec Ideal S2560x48 .f32) :
    out0_A_9 (F := Ideal) c arg0 harg0 arg1 harg1 arg2 harg2 arg3 harg3 arg4 harg4 arg5 harg5 arg6 harg6 arg7 harg7 arg8 harg8 arg9 harg9 arg10 harg10 x0 x1 x2 x3 x4 x5 x6 x7
      = k0_pay2 (F := Ideal) (k0_pay5 x2 x4 x3 x5) (k0_pay8 x7 x7) (k0_pay10 x2 x4 x3 x5 x6 x6) (k0_pay11 x2 x4 x3 x5) (x0 (ix1 0)) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp only [View.readAt_eq_ld, harg0.read_unread, harg1.read_unread, harg2.read_unread, harg3.read_unread, harg4.read_unread, harg5.read_unread, harg6.read_unread, harg7.read_unread,
    View.ld_unit_zero (S := S2560x7168) hz, View.ld_unit_zero (S := S2560x1) hz, View.ld_unit_zero (S := S7168x6912) hz, View.ld_unit_zero (S := S1x6912) hz, View.ld_unit_zero (S := S2560x48) hz]
  rw [View.canon_unit_zero hz]
  rw [first_eq x0]

theorem out10_eq (c : Dev nD) (arg0 : Memref sig .tc .smem S1 .f32) (harg0 : arg0.IsWhole) (arg1 : Memref sig .tc .smem S1 .f32) (harg1 : arg1.IsWhole) (arg2 : Memref sig .tc .vmem S2560x7168 .fp8e4m3) (harg2 : arg2.IsWhole) (arg3 : Memref sig .tc .vmem S2560x1 .f32) (harg3 : arg3.IsWhole) (arg4 : Memref sig .tc .vmem S7168x6912 .fp8e4m3) (harg4 : arg4.IsWhole) (arg5 : Memref sig .tc .vmem S1x6912 .f32) (harg5 : arg5.IsWhole) (arg6 : Memref sig .tc .vmem S2560x48 .f32) (harg6 : arg6.IsWhole) (arg7 : Memref sig .tc .vmem S2560x48 .f32) (harg7 : arg7.IsWhole) (arg8 : Memref sig .tc .vmem S5376x2560 .bf16) (harg8 : arg8.IsWhole) (arg9 : Memref sig .tc .vmem S768x2560 .fp8e4m3) (harg9 : arg9.IsWhole) (arg10 : Memref sig .tc .vmem S768x2560 .fp8e4m3) (harg10 : arg10.IsWhole)
    (x0 x1 : Vec Ideal S1 .f32) (x2 : Vec Ideal S2560x7168 .fp8e4m3) (x3 : Vec Ideal S2560x1 .f32) (x4 : Vec Ideal S7168x6912 .fp8e4m3)
    (x5 : Vec Ideal S1x6912 .f32) (x6 x7 : Vec Ideal S2560x48 .f32) :
    out0_A_10 (F := Ideal) c arg0 harg0 arg1 harg1 arg2 harg2 arg3 harg3 arg4 harg4 arg5 harg5 arg6 harg6 arg7 harg7 arg8 harg8 arg9 harg9 arg10 harg10 x0 x1 x2 x3 x4 x5 x6 x7
      = k0_pay3 (F := Ideal) (k0_pay6 x2 x4 x3 x5) (x1 (ix1 0)) := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp only [View.readAt_eq_ld, harg0.read_unread, harg1.read_unread, harg2.read_unread, harg3.read_unread, harg4.read_unread, harg5.read_unread, harg6.read_unread, harg7.read_unread,
    View.ld_unit_zero (S := S2560x7168) hz, View.ld_unit_zero (S := S2560x1) hz, View.ld_unit_zero (S := S7168x6912) hz, View.ld_unit_zero (S := S1x6912) hz, View.ld_unit_zero (S := S2560x48) hz]
  rw [View.canon_unit_zero hz]
  rw [first_eq x1]

end Cert.Proof.QkvRef
-- ==== Proof.QkvRef.lean ====
/- QKV, the reference's three result arrays as functions of its seven arguments. -/
module

public import proofs.«01_k».proof.Proof.QkvRefPay

@[expose] public section

noncomputable section

namespace Cert.Proof.QkvRef

open Idealize.ShloMosaic Idealize.ShloMosaic.TcCoe Idealize.SL.Sem
open Cert.QkvReferenceIdeal Cert.QkvReferenceIdeal.Gen
open Idealize.ShloMosaic.Pipeline (Dat)
open Cert.Proof.Qkv (proj rot clip ang freq qOut kOut vOut)

variable (m : (ℓ : Loc nD τ sig) → Buf (Elt Ideal) ℓ) (c : Dev nD)

/-! ## The arguments, and the arrays computed from them on the host -/

abbrev xH : S2560x7168.Idx → EReal := m (c.tc.loc main_arg0)
abbrev xSh : S2560.Idx → EReal := m (c.tc.loc main_arg1)
abbrev xW : S7168x6912.Idx → EReal := m (c.tc.loc main_arg2)
abbrev xSw : S6912.Idx → EReal := m (c.tc.loc main_arg3)
abbrev xPos : S2560.Idx → BitVec 32 := m (c.tc.loc main_arg4)
abbrev xKs : S1.Idx → EReal := m (c.tc.loc main_arg5)
abbrev xVs : S1.Idx → EReal := m (c.tc.loc main_arg6)

/-- The host's arrays: scales as a column and as a row, and the angles' cosines and sines. -/
abbrev colSh : S2560x1.Idx → EReal := fun y => xSh m c (ix1 (y 0))
abbrev rowSw : S1x6912.Idx → EReal := fun y => xSw m c (ix1 (y 1))
abbrev cosT : S2560x48.Idx → EReal := fun y => Ideal.cos (ang (xPos m c) (y 1) (y 0))
abbrev sinT : S2560x48.Idx → EReal := fun y => Ideal.sin (ang (xPos m c) (y 1) (y 0))

theorem V_v14 : V m c main_v14 = colSh m c := by
  unfold V hostOps0
  after_results
  funext y
  obtain ⟨r, k, rfl⟩ : ∃ (r : Fin 2560) (k : Fin 1), y = ix2 r k := ⟨y 0, y 1, eq_ix2 y⟩
  pointwise
  rfl

theorem V_v15 : V m c main_v15 = rowSw m c := by
  unfold V hostOps0
  after_results
  funext y
  obtain ⟨r, k, rfl⟩ : ∃ (r : Fin 1) (k : Fin 6912), y = ix2 r k := ⟨y 0, y 1, eq_ix2 y⟩
  pointwise
  rfl

theorem V_v16 : V m c main_v16 = cosT m c := by
  unfold V hostOps0
  after_results
  funext y
  obtain ⟨r, k, rfl⟩ : ∃ (r : Fin 2560) (k : Fin 48), y = ix2 r k := ⟨y 0, y 1, eq_ix2 y⟩
  pointwise [ang, freq]
  exact congrArg Ideal.cos (mul_comm _ _)

theorem V_v17 : V m c main_v17 = sinT m c := by
  unfold V hostOps0
  after_results
  funext y
  obtain ⟨r, k, rfl⟩ : ∃ (r : Fin 2560) (k : Fin 48), y = ix2 r k := ⟨y 0, y 1, eq_ix2 y⟩
  pointwise [ang, freq]
  exact congrArg Ideal.sin (mul_comm _ _)

/-! ## The one point's input blocks are the whole arrays -/

theorem iblk0 (t : Fin cfg0.N) : (iblk m c 0 t : Vec Ideal S1 .f32) = xKs m c := by
  funext y
  unfold iblk
  rw [View.read_apply]
  show V m c main_arg5 _ = _
  rw [V_main_arg5]
  refine congrArg (xKs m c) (funext fun a => Fin.ext ?_)
  match a with
  | ⟨0, _⟩ => show 0 * 1 + 1 * (y 0).val = (y 0).val; omega

theorem iblk1 (t : Fin cfg0.N) : (iblk m c 1 t : Vec Ideal S1 .f32) = xVs m c := by
  funext y
  unfold iblk
  rw [View.read_apply]
  show V m c main_arg6 _ = _
  rw [V_main_arg6]
  refine congrArg (xVs m c) (funext fun a => Fin.ext ?_)
  match a with
  | ⟨0, _⟩ => show 0 * 1 + 1 * (y 0).val = (y 0).val; omega

theorem iblk2 (t : Fin cfg0.N) : (iblk m c 2 t : Vec Ideal S2560x7168 .fp8e4m3) = xH m c := by
  funext y
  unfold iblk
  rw [View.read_apply]
  show V m c main_arg0 _ = _
  rw [V_main_arg0]
  refine congrArg (xH m c) (funext fun a => Fin.ext ?_)
  match a with
  | ⟨0, _⟩ => show 0 * 2560 + 1 * (y 0).val = (y 0).val; omega
  | ⟨1, _⟩ => show 0 * 7168 + 1 * (y 1).val = (y 1).val; omega

theorem iblk3 (t : Fin cfg0.N) : (iblk m c 3 t : Vec Ideal S2560x1 .f32) = colSh m c := by
  funext y
  unfold iblk
  rw [View.read_apply]
  show V m c main_v14 _ = _
  rw [V_v14]
  refine congrArg (colSh m c) (funext fun a => Fin.ext ?_)
  match a with
  | ⟨0, _⟩ => show 0 * 2560 + 1 * (y 0).val = (y 0).val; omega
  | ⟨1, _⟩ => show 0 * 1 + 1 * (y 1).val = (y 1).val; omega

theorem iblk4 (t : Fin cfg0.N) : (iblk m c 4 t : Vec Ideal S7168x6912 .fp8e4m3) = xW m c := by
  funext y
  unfold iblk
  rw [View.read_apply]
  show V m c main_arg2 _ = _
  rw [V_main_arg2]
  refine congrArg (xW m c) (funext fun a => Fin.ext ?_)
  match a with
  | ⟨0, _⟩ => show 0 * 7168 + 1 * (y 0).val = (y 0).val; omega
  | ⟨1, _⟩ => show 0 * 6912 + 1 * (y 1).val = (y 1).val; omega

theorem iblk5 (t : Fin cfg0.N) : (iblk m c 5 t : Vec Ideal S1x6912 .f32) = rowSw m c := by
  funext y
  unfold iblk
  rw [View.read_apply]
  show V m c main_v15 _ = _
  rw [V_v15]
  refine congrArg (rowSw m c) (funext fun a => Fin.ext ?_)
  match a with
  | ⟨0, _⟩ => show 0 * 1 + 1 * (y 0).val = (y 0).val; omega
  | ⟨1, _⟩ => show 0 * 6912 + 1 * (y 1).val = (y 1).val; omega

theorem iblk6 (t : Fin cfg0.N) : (iblk m c 6 t : Vec Ideal S2560x48 .f32) = cosT m c := by
  funext y
  unfold iblk
  rw [View.read_apply]
  show V m c main_v16 _ = _
  rw [V_v16]
  refine congrArg (cosT m c) (funext fun a => Fin.ext ?_)
  match a with
  | ⟨0, _⟩ => show 0 * 2560 + 1 * (y 0).val = (y 0).val; omega
  | ⟨1, _⟩ => show 0 * 48 + 1 * (y 1).val = (y 1).val; omega

theorem iblk7 (t : Fin cfg0.N) : (iblk m c 7 t : Vec Ideal S2560x48 .f32) = sinT m c := by
  funext y
  unfold iblk
  rw [View.read_apply]
  show V m c main_v17 _ = _
  rw [V_v17]
  refine congrArg (sinT m c) (funext fun a => Fin.ext ?_)
  match a with
  | ⟨0, _⟩ => show 0 * 2560 + 1 * (y 0).val = (y 0).val; omega
  | ⟨1, _⟩ => show 0 * 48 + 1 * (y 1).val = (y 1).val; omega

/-! ## The results -/

/-- Row `i` of the projection. -/
theorem p_apply (i : Fin 2560) (n : Fin 6912) :
    k0_pay4 (F := Ideal) (xH m c) (xW m c) (colSh m c) (rowSw m c) (ix2 i n) = proj (xH m c) (xSh m c) (xW m c) (xSw m c) i n.val := by
  rw [pay4_apply]
  unfold proj
  rw [show Fin.ofNat 6912 n.val = n from Fin.ext (Nat.mod_eq_of_lt n.isLt)]
  rfl

/-- The three results at a device. -/
abbrev Q : S5376x2560.Idx → EReal := qOut (xH m c) (xSh m c) (xW m c) (xSw m c) (xPos m c)
abbrev K : S768x2560.Idx → EReal := kOut (xH m c) (xSh m c) (xW m c) (xSw m c) (xPos m c) (xKs m c)
abbrev W : S768x2560.Idx → EReal := vOut (xH m c) (xSh m c) (xW m c) (xSw m c) (xVs m c)

theorem block8 (t : Fin cfg0.N) :
    out0_A_8 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) = (Q m c : Vec Ideal S5376x2560 .bf16) := by
  rw [out8_eq, iblk2, iblk3, iblk4, iblk5, iblk6, iblk7]
  funext y
  obtain ⟨r, l, rfl⟩ : ∃ (r : Fin 5376) (l : Fin 2560), y = ix2 r l := ⟨y 0, y 1, eq_ix2 y⟩
  exact q_apply _ _ _ _ _ _ _ l r (p_apply m c l)

theorem final8 : (dats m 0 c).arrAt 8 cfg0.N = (Q m c : Vec Ideal S5376x2560 .bf16) := by
  refine (dats m 0 c).arrAt_eq_of_cover 8 (Q m c : Vec Ideal S5376x2560 .bf16) (fun t _ => ?_) fun i => ?_
  · rw [Cert.QkvReferenceIdeal.Value.flushed8_A, block8]
    funext y
    rw [View.read_apply]
    refine congrArg (Q m c : Vec Ideal S5376x2560 .bf16) (funext fun a => Fin.ext ?_)
    match a with
    | ⟨0, _⟩ => show (y 0).val = 0 * 5376 + 1 * (y 0).val; omega
    | ⟨1, _⟩ => show (y 1).val = 0 * 2560 + 1 * (y 1).val; omega
  · have h0 : (i 0 : Nat) < 5376 := (i 0).isLt
    have h1 : (i 1 : Nat) < 2560 := (i 1).isLt
    refine ⟨t0_0, rfl, ?_⟩
    show i ∈ ((View.whole main_v18_0).slice (win0_8.rect t0_0)).set
    rw [View.set_slice_whole, Rect.mem_set_unit]
    intro a
    match a with
    | ⟨0, _⟩ => show 0 * 5376 ≤ (i 0 : Nat) ∧ (i 0 : Nat) < 0 * 5376 + 5376; omega
    | ⟨1, _⟩ => show 0 * 2560 ≤ (i 1 : Nat) ∧ (i 1 : Nat) < 0 * 2560 + 2560; omega

theorem block9 (t : Fin cfg0.N) :
    out0_A_9 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) = (K m c : Vec Ideal S768x2560 .fp8e4m3) := by
  rw [out9_eq, iblk0, iblk2, iblk3, iblk4, iblk5, iblk6, iblk7]
  funext y
  obtain ⟨r, l, rfl⟩ : ∃ (r : Fin 768) (l : Fin 2560), y = ix2 r l := ⟨y 0, y 1, eq_ix2 y⟩
  exact k_apply _ _ _ _ _ _ _ _ l r (p_apply m c l)

theorem final9 : (dats m 0 c).arrAt 9 cfg0.N = (K m c : Vec Ideal S768x2560 .fp8e4m3) := by
  refine (dats m 0 c).arrAt_eq_of_cover 9 (K m c : Vec Ideal S768x2560 .fp8e4m3) (fun t _ => ?_) fun i => ?_
  · rw [Cert.QkvReferenceIdeal.Value.flushed9_A, block9]
    funext y
    rw [View.read_apply]
    refine congrArg (K m c : Vec Ideal S768x2560 .fp8e4m3) (funext fun a => Fin.ext ?_)
    match a with
    | ⟨0, _⟩ => show (y 0).val = 0 * 768 + 1 * (y 0).val; omega
    | ⟨1, _⟩ => show (y 1).val = 0 * 2560 + 1 * (y 1).val; omega
  · have h0 : (i 0 : Nat) < 768 := (i 0).isLt
    have h1 : (i 1 : Nat) < 2560 := (i 1).isLt
    refine ⟨t0_0, rfl, ?_⟩
    show i ∈ ((View.whole main_v18_1).slice (win0_9.rect t0_0)).set
    rw [View.set_slice_whole, Rect.mem_set_unit]
    intro a
    match a with
    | ⟨0, _⟩ => show 0 * 768 ≤ (i 0 : Nat) ∧ (i 0 : Nat) < 0 * 768 + 768; omega
    | ⟨1, _⟩ => show 0 * 2560 ≤ (i 1 : Nat) ∧ (i 1 : Nat) < 0 * 2560 + 2560; omega

theorem block10 (t : Fin cfg0.N) :
    out0_A_10 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) = (W m c : Vec Ideal S768x2560 .fp8e4m3) := by
  rw [out10_eq, iblk1, iblk2, iblk3, iblk4, iblk5]
  funext y
  obtain ⟨r, l, rfl⟩ : ∃ (r : Fin 768) (l : Fin 2560), y = ix2 r l := ⟨y 0, y 1, eq_ix2 y⟩
  exact v_apply _ _ _ _ _ _ l r (p_apply m c l)

theorem final10 : (dats m 0 c).arrAt 10 cfg0.N = (W m c : Vec Ideal S768x2560 .fp8e4m3) := by
  refine (dats m 0 c).arrAt_eq_of_cover 10 (W m c : Vec Ideal S768x2560 .fp8e4m3) (fun t _ => ?_) fun i => ?_
  · rw [Cert.QkvReferenceIdeal.Value.flushed10_A, block10]
    funext y
    rw [View.read_apply]
    refine congrArg (W m c : Vec Ideal S768x2560 .fp8e4m3) (funext fun a => Fin.ext ?_)
    match a with
    | ⟨0, _⟩ => show (y 0).val = 0 * 768 + 1 * (y 0).val; omega
    | ⟨1, _⟩ => show (y 1).val = 0 * 2560 + 1 * (y 1).val; omega
  · have h0 : (i 0 : Nat) < 768 := (i 0).isLt
    have h1 : (i 1 : Nat) < 2560 := (i 1).isLt
    refine ⟨t0_0, rfl, ?_⟩
    show i ∈ ((View.whole main_v18_2).slice (win0_10.rect t0_0)).set
    rw [View.set_slice_whole, Rect.mem_set_unit]
    intro a
    match a with
    | ⟨0, _⟩ => show 0 * 768 ≤ (i 0 : Nat) ∧ (i 0 : Nat) < 0 * 768 + 768; omega
    | ⟨1, _⟩ => show 0 * 2560 ≤ (i 1 : Nat) ∧ (i 1 : Nat) < 0 * 2560 + 2560; omega

end Cert.Proof.QkvRef
-- ==== Proof.QkvThm.lean ====
/- QKV: kernel and reference, read over the extended reals, return the same three arrays, whatever their arguments hold. -/
module

public import proofs.«01_k».proof.Defs
public import proofs.«01_k».proof.Proof.QkvKer
public import proofs.«01_k».proof.Proof.QkvRef

@[expose] public section

noncomputable section

namespace Cert.Proof

open Idealize.ShloMosaic Idealize.ShloMosaic.TcCoe Idealize.SL.Sem

theorem qkv_algebraic [hK : Cert.QkvIdeal.Facts] [hR : Cert.QkvReferenceIdeal.Facts] : Cert.algebraic_QkvIdeal_QkvReferenceIdeal := by
  intro m g m' g' _ hagree
  refine ⟨fun c => Cert.Proof.Qkv.Q m c, fun c => Cert.Proof.Qkv.K m c, fun c => Cert.Proof.Qkv.W m c, ?_, ?_⟩
  · exact Cert.Proof.Qkv.run m g
  · refine (θ_run (Cert.QkvReferenceIdeal.defs (F := Ideal)) _ _).mono (fun r h c => ?_) (Cert.QkvReferenceIdeal.Value.run_blocks m' g')
    obtain ⟨e0, e1, e2, e3, e4, e5, e6⟩ := hagree c
    refine ⟨(h c).1.trans ((Cert.Proof.QkvRef.final8 m' c).trans ?_), (h c).2.1.trans ((Cert.Proof.QkvRef.final9 m' c).trans ?_),
      (h c).2.2.1.trans ((Cert.Proof.QkvRef.final10 m' c).trans ?_), (h c).2.2.2⟩
    · show Cert.Proof.Qkv.qOut _ _ _ _ _ = Cert.Proof.Qkv.qOut _ _ _ _ _
      exact congr (congr (congr (congr (congrArg Cert.Proof.Qkv.qOut e0) e1) e2) e3) e4
    · show Cert.Proof.Qkv.kOut _ _ _ _ _ _ = Cert.Proof.Qkv.kOut _ _ _ _ _ _
      exact congr (congr (congr (congr (congr (congrArg Cert.Proof.Qkv.kOut e0) e1) e2) e3) e4) e5
    · show Cert.Proof.Qkv.vOut _ _ _ _ _ = Cert.Proof.Qkv.vOut _ _ _ _ _
      exact congr (congr (congr (congr (congrArg Cert.Proof.Qkv.vOut e0) e1) e2) e3) e6

end Cert.Proof
-- ==== Proof.DownRun.lean ====
module

public import Idealize.ShloMosaic.Lib.VecWindow
public import proofs.«01_k».proof.Proof.Gen.Down.Skeleton
public import proofs.«01_k».proof.Proof.Gen.Down.Frame

/-! The body of the down projection, run once per combination of its four conditions. Each run states what every
buffer holds afterwards as a plain function of what the buffers held before. -/

@[expose] public section
set_option maxRecDepth 16384
noncomputable section
namespace Cert.Down.Hand
open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem off1_eq (i : grid0.Coords) :
    k0_off1 i = ![(i 0).val % 2, 0, 0] := (by decide +kernel : ∀ i : grid0.Coords, k0_off1 i = ![(i 0).val % 2, 0, 0]) i
theorem off2_eq (i : grid0.Coords) :
    k0_off2 i = ![(i 0).val % 2, 0, 1536 * min (i 1).val 11] := (by decide +kernel : ∀ i : grid0.Coords, k0_off2 i = ![(i 0).val % 2, 0, 1536 * min (i 1).val 11]) i
theorem off3_eq (i : grid0.Coords) :
    k0_off3 i = ![(i 0).val % 2, 0, 1536 * min (i 1).val 11] := (by decide +kernel : ∀ i : grid0.Coords, k0_off3 i = ![(i 0).val % 2, 0, 1536 * min (i 1).val 11]) i
theorem off4_eq (i : grid0.Coords) :
    k0_off4 i = ![((i 0).val + 1) % 2, 0, 0] := (by decide +kernel : ∀ i : grid0.Coords, k0_off4 i = ![((i 0).val + 1) % 2, 0, 0]) i
theorem off5_eq (i : grid0.Coords) :
    k0_off5 i = ![((i 0).val + 1) % 2, 0, 0] := (by decide +kernel : ∀ i : grid0.Coords, k0_off5 i = ![((i 0).val + 1) % 2, 0, 0]) i
theorem off6_eq (i : grid0.Coords) :
    k0_off6 i = ![((i 0).val + 1) % 2, 0, 0] := (by decide +kernel : ∀ i : grid0.Coords, k0_off6 i = ![((i 0).val + 1) % 2, 0, 0]) i
theorem off7_eq (i : grid0.Coords) :
    k0_off7 i = ![((i 0).val + 1) % 2, 0, 0] := (by decide +kernel : ∀ i : grid0.Coords, k0_off7 i = ![((i 0).val + 1) % 2, 0, 0]) i

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩
instance (i : grid0.Coords) : ClosedOff (k0_off5 i) := ⟨_, off5_eq i⟩
instance (i : grid0.Coords) : ClosedOff (k0_off6 i) := ⟨_, off6_eq i⟩
instance (i : grid0.Coords) : ClosedOff (k0_off7 i) := ⟨_, off7_eq i⟩

/-! ## What the body computes from its blocks -/

/-- The exponent of the rows' quantisation scale, from the block of chunk maxima. -/
def expo (x0 : Vec F S640x128 .f32) : IVec S640x1 32 := k0_pay5 (k0_pay3 x0) (k0_pay4 x0) 8#32
/-- The plane of row scales the body keeps, from the block of chunk maxima. -/
def scl (x0 : Vec F S640x128 .f32) : Vec F S1x640x128 .f32 := k0_pay10 (k0_pay6 (k0_pay3 x0) (k0_pay4 x0) 8#32) 23#32
/-- The inverse row scales the body keeps. -/
def inv (x0 : Vec F S640x128 .f32) : Vec F S640x128 .f32 := k0_pay11 (expo x0)
/-- The row of scales the body stores as a result. -/
def row (x0 : Vec F S640x128 .f32) : Vec F S1x640 .f32 := k0_pay12 (expo x0)

theorem inbS (i : grid0.Coords) : ∀ a, (![((i 0).val + 1) % 2, 0, 0] : Fin 3 → ℕ) a + S1x640x128.size a ≤ S2x640x128.size a :=
  (by decide +kernel : ∀ i : grid0.Coords, ∀ a, (![((i 0).val + 1) % 2, 0, 0] : Fin 3 → ℕ) a + S1x640x128.size a ≤ S2x640x128.size a) i
theorem inbA (i : grid0.Coords) : ∀ a, (![((i 0).val + 1) % 2, 0, 0] : Fin 3 → ℕ) a + S1x640x18432.size a ≤ S2x640x18432.size a :=
  (by decide +kernel : ∀ i : grid0.Coords, ∀ a, (![((i 0).val + 1) % 2, 0, 0] : Fin 3 → ℕ) a + S1x640x18432.size a ≤ S2x640x18432.size a) i

/-- The plane of scales the multiplication of this grid row reads. -/
def otherS (i : grid0.Coords) (ss : Vec F S2x640x128 .f32) : Vec F S1x640x128 .f32 :=
  VecWindow.window ss ![((i 0).val + 1) % 2, 0, 0] S1x640x128.size (inbS i)
/-- The plane of codes the multiplication of this grid row reads. -/
def otherA (i : grid0.Coords) (sa : Vec F S2x640x18432 .fp8e4m3) : Vec F S1x640x18432 .fp8e4m3 :=
  VecWindow.window sa ![((i 0).val + 1) % 2, 0, 0] S1x640x18432.size (inbA i)
/-- The scales after this grid row's own plane is stored. -/
def putS (i : grid0.Coords) (ss : Vec F S2x640x128 .f32) (w : Vec F S1x640x128 .f32) : Vec F S2x640x128 .f32 :=
  VecWindow.put ss ![(i 0).val % 2, 0, 0] S1x640x128.size w
/-- The codes after this grid point's chunk is stored. -/
def putA (i : grid0.Coords) (sa : Vec F S2x640x18432 .fp8e4m3) (w : Vec F S1x640x1536 .fp8e4m3) : Vec F S2x640x18432 .fp8e4m3 :=
  VecWindow.put sa ![(i 0).val % 2, 0, 1536 * min (i 1).val 11] S1x640x1536.size w
/-- The block of the projection a grid point stores. -/
def outB (i : grid0.Coords) (ss : Vec F S2x640x128 .f32) (sa : Vec F S2x640x18432 .fp8e4m3) (x2 : Vec F S18432x512 .fp8e4m3)
    (x3 : Vec F S1x512 .f32) (x4 : Vec F S640x512 .bf16) : Vec F S640x512 .bf16 :=
  k0_pay1 (k0_pay9 (otherS i ss) (otherA i sa) x2 x3 x4)

section Loads
variable {s : Shape} {e : EltTy} {mr : Memref sig .tc .vmem s e} (h : mr.IsWhole)

/-- A load of a whole buffer reads its contents. -/
theorem ld_full (x : s.Idx → Elt F e) {off : Fin s.rank → ℕ} (inb : ∀ a, off a + s.size a ≤ s.size a) :
    View.readAt (Elt F) mr.view (Rect.unit off s.size inb).toLoadRect (h.unread x) = x :=
  (View.readAt_full _ _ inb).trans (h.read_unread x)

/-- A load of part of a buffer reads that window of its contents. -/
theorem ld_win {f : mr.view.ty.Contents (Elt F)} {x : s.Idx → Elt F e} (hf : mr.view.read (Elt F) f = x) {off off' size : Fin s.rank → ℕ}
    (inb : ∀ a, off a + size a ≤ s.size a) (ho : off = off') (inb' : ∀ a, off' a + size a ≤ s.size a) :
    View.readAt (Elt F) mr.view (Rect.unit off size inb).toLoadRect f = VecWindow.window x off' size inb' := by
  subst hf; exact View.readAt_unit _ _ inb ho inb'

/-- A store of part of a buffer puts the payload over that window. -/
theorem st_put (x : s.Idx → Elt F e) {off off' size : Fin s.rank → ℕ} (inb : ∀ a, off a + size a ≤ s.size a)
    (w w' : (Rect.unit off size inb).shape.Idx → Elt F e) (ho : off = off') (hw : w = w') :
    mr.view.read (Elt F) (mr.view.writes (Elt F) (h.unread x) [⟨Rect.unit off size inb, w⟩]) = VecWindow.put x off' size w' := by
  subst hw
  refine (View.read_writes_cons_put _ _ inb w [] ho).trans ?_
  rw [View.writes_nil, h.read_unread]

/-- A store of a whole buffer leaves the payload. -/
theorem st_full (f : mr.view.ty.Contents (Elt F)) {off : Fin s.rank → ℕ} (inb : ∀ a, off a + s.size a ≤ s.size a)
    (w w' : (Rect.unit off s.size inb).shape.Idx → Elt F e) (hw : w = w') :
    mr.view.read (Elt F) (mr.view.writes (Elt F) f [⟨Rect.unit off s.size inb, w⟩]) = w' :=
  (View.read_writes_full _ _ inb w []).trans hw
end Loads

/-- The block a grid point stores, from equal readings of its operands. -/
theorem pay9_congr {a a' : Vec F S1x640x128 .f32} {b b' : Vec F S1x640x18432 .fp8e4m3} {x x' : Vec F S18432x512 .fp8e4m3} {y y' : Vec F S1x512 .f32}
    {z z' : Vec F S640x512 .bf16} (ha : a = a') (hb : b = b') (hx : x = x') (hy : y = y') (hz : z = z') :
    k0_pay1 (k0_pay9 a b x y z) = k0_pay1 (k0_pay9 a' b' x' y' z') := by subst ha hb hx hy hz; rfl

set_option maxHeartbeats 1000000 in
/-- The first point: the first row tile's scales and its first chunk of codes. -/
theorem runA (c : Dev nD) (i : grid0.Coords) (h1 : k0_cond1 i = 1#1) (h2 : k0_cond2 i = 1#1) (h3 : ¬ k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 (inv x0) x1) ∗ owns (c : Thread nD τ) arg8 fullShare (row x0) ∗ owns (c : Thread nD τ) arg9 fullShare y7 ∗ owns (c : Thread nD τ) arg10 fullShare (putA i sa (k0_pay8 (inv x0) x1)) ∗ owns (c : Thread nD τ) arg11 fullShare (putS i ss (scl x0)) ∗ owns (c : Thread nD τ) arg12 fullShare (inv x0)) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact st_full _ _ _ _ (congrArg₂ (k0_pay7 (F := F)) ((View.readCov_full _ _ _ _ _).trans (congrArg (k0_pay11 (F := F)) (congrArg (fun v => k0_pay5 (k0_pay3 v) (k0_pay4 v) 8#32) (ld_full harg2 x0 _)))) (ld_full harg3 x1 _))
  isplitl [H6]
  · iexists _; isplitr; swap; · iexact H6
    ipureintro
    exact st_full _ _ _ _ (congrArg (k0_pay12 (F := F)) (congrArg (fun v => k0_pay5 (k0_pay3 v) (k0_pay4 v) 8#32) (ld_full harg2 x0 _)))
  isplitl [H7]
  · iexists _; isplitr; swap; · iexact H7
    ipureintro
    exact harg9.read_unread y7
  isplitl [Ha]
  · iexists _; isplitr; swap; · iexact Ha
    ipureintro
    exact st_put harg10 sa _ _ _ (off2_eq i) (congrArg₂ (k0_pay8 (F := F)) ((View.readCov_full _ _ _ _ _).trans (congrArg (k0_pay11 (F := F)) (congrArg (fun v => k0_pay5 (k0_pay3 v) (k0_pay4 v) 8#32) (ld_full harg2 x0 _)))) (ld_full harg3 x1 _))
  isplitl [Hs]
  · iexists _; isplitr; swap; · iexact Hs
    ipureintro
    exact st_put harg11 ss _ _ _ (off1_eq i) (congrArg (fun v => k0_pay10 (F := F) (k0_pay6 (k0_pay3 v) (k0_pay4 v) 8#32) 23#32) (ld_full harg2 x0 _))
  iexists _; isplitr; swap; · iexact Hi
  ipureintro
  exact st_full _ _ _ _ (congrArg (k0_pay11 (F := F)) (congrArg (fun v => k0_pay5 (k0_pay3 v) (k0_pay4 v) 8#32) (ld_full harg2 x0 _)))

set_option maxHeartbeats 1000000 in
/-- A point of the first grid row: one chunk of codes of the first row tile. -/
theorem runB (c : Dev nD) (i : grid0.Coords) (h1 : ¬ k0_cond1 i = 1#1) (h2 : k0_cond2 i = 1#1) (h3 : ¬ k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 si x1) ∗ owns (c : Thread nD τ) arg8 fullShare y6 ∗ owns (c : Thread nD τ) arg9 fullShare y7 ∗ owns (c : Thread nD τ) arg10 fullShare (putA i sa (k0_pay8 si x1)) ∗ owns (c : Thread nD τ) arg11 fullShare ss ∗ owns (c : Thread nD τ) arg12 fullShare si) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact st_full _ _ _ _ (congrArg₂ (k0_pay7 (F := F)) (ld_full harg12 si _) (ld_full harg3 x1 _))
  isplitl [H6]
  · iexists _; isplitr; swap; · iexact H6
    ipureintro
    exact harg8.read_unread y6
  isplitl [H7]
  · iexists _; isplitr; swap; · iexact H7
    ipureintro
    exact harg9.read_unread y7
  isplitl [Ha]
  · iexists _; isplitr; swap; · iexact Ha
    ipureintro
    exact st_put harg10 sa _ _ _ (off2_eq i) (congrArg₂ (k0_pay8 (F := F)) (ld_full harg12 si _) (ld_full harg3 x1 _))
  isplitl [Hs]
  · iexists _; isplitr; swap; · iexact Hs
    ipureintro
    exact harg11.read_unread ss
  iexists _; isplitr; swap; · iexact Hi
  ipureintro
  exact harg12.read_unread si

set_option maxHeartbeats 1000000 in
/-- A point with nothing to do. -/
theorem runC (c : Dev nD) (i : grid0.Coords) (h1 : ¬ k0_cond1 i = 1#1) (h2 : ¬ k0_cond2 i = 1#1) (h3 : ¬ k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact harg7.read_unread y5
  isplitl [H6]
  · iexists _; isplitr; swap; · iexact H6
    ipureintro
    exact harg8.read_unread y6
  isplitl [H7]
  · iexists _; isplitr; swap; · iexact H7
    ipureintro
    exact harg9.read_unread y7
  isplitl [Ha]
  · iexists _; isplitr; swap; · iexact Ha
    ipureintro
    exact harg10.read_unread sa
  isplitl [Hs]
  · iexists _; isplitr; swap; · iexact Hs
    ipureintro
    exact harg11.read_unread ss
  iexists _; isplitr; swap; · iexact Hi
  ipureintro
  exact harg12.read_unread si

set_option maxHeartbeats 1000000 in
/-- The first point of a middle grid row: the row tile's scales, its first chunk of codes, and a block of the projection of the tile before. -/
theorem runD (c : Dev nD) (i : grid0.Coords) (h1 : k0_cond1 i = 1#1) (h2 : ¬ k0_cond2 i = 1#1) (h3 : k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 (inv x0) x1) ∗ owns (c : Thread nD τ) arg8 fullShare (row x0) ∗ owns (c : Thread nD τ) arg9 fullShare (outB i (putS i ss (scl x0)) (putA i sa (k0_pay8 (inv x0) x1)) x2 x3 x4) ∗ owns (c : Thread nD τ) arg10 fullShare (putA i sa (k0_pay8 (inv x0) x1)) ∗ owns (c : Thread nD τ) arg11 fullShare (putS i ss (scl x0)) ∗ owns (c : Thread nD τ) arg12 fullShare (inv x0)) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact st_full _ _ _ _ (congrArg₂ (k0_pay7 (F := F)) ((View.readCov_full _ _ _ _ _).trans (congrArg (k0_pay11 (F := F)) (congrArg (fun v => k0_pay5 (k0_pay3 v) (k0_pay4 v) 8#32) (ld_full harg2 x0 _)))) (ld_full harg3 x1 _))
  isplitl [H6]
  · iexists _; isplitr; swap; · iexact H6
    ipureintro
    exact st_full _ _ _ _ (congrArg (k0_pay12 (F := F)) (congrArg (fun v => k0_pay5 (k0_pay3 v) (k0_pay4 v) 8#32) (ld_full harg2 x0 _)))
  isplitl [H7]
  · iexists _; isplitr; swap; · iexact H7
    ipureintro
    exact st_full _ _ _ _ (pay9_congr (ld_win (st_put harg11 ss _ _ _ (off1_eq i) (congrArg (fun v => k0_pay10 (F := F) (k0_pay6 (k0_pay3 v) (k0_pay4 v) 8#32) 23#32) (ld_full harg2 x0 _))) _ (off4_eq i) (inbS i)) (ld_win (st_put harg10 sa _ _ _ (off3_eq i) (congrArg₂ (k0_pay8 (F := F)) ((View.readCov_full _ _ _ _ _).trans (congrArg (k0_pay11 (F := F)) (congrArg (fun v => k0_pay5 (k0_pay3 v) (k0_pay4 v) 8#32) (ld_full harg2 x0 _)))) (ld_full harg3 x1 _))) _ (off5_eq i) (inbA i))
        (ld_full harg4 x2 _) (ld_full harg5 x3 _) (ld_full harg6 x4 _))
  isplitl [Ha]
  · iexists _; isplitr; swap; · iexact Ha
    ipureintro
    exact st_put harg10 sa _ _ _ (off3_eq i) (congrArg₂ (k0_pay8 (F := F)) ((View.readCov_full _ _ _ _ _).trans (congrArg (k0_pay11 (F := F)) (congrArg (fun v => k0_pay5 (k0_pay3 v) (k0_pay4 v) 8#32) (ld_full harg2 x0 _)))) (ld_full harg3 x1 _))
  isplitl [Hs]
  · iexists _; isplitr; swap; · iexact Hs
    ipureintro
    exact st_put harg11 ss _ _ _ (off1_eq i) (congrArg (fun v => k0_pay10 (F := F) (k0_pay6 (k0_pay3 v) (k0_pay4 v) 8#32) 23#32) (ld_full harg2 x0 _))
  iexists _; isplitr; swap; · iexact Hi
  ipureintro
  exact st_full _ _ _ _ (congrArg (k0_pay11 (F := F)) (congrArg (fun v => k0_pay5 (k0_pay3 v) (k0_pay4 v) 8#32) (ld_full harg2 x0 _)))

set_option maxHeartbeats 1000000 in
/-- A later point of a middle grid row: a chunk of codes, and a block of the projection of the tile before. -/
theorem runE (c : Dev nD) (i : grid0.Coords) (h1 : ¬ k0_cond1 i = 1#1) (h2 : ¬ k0_cond2 i = 1#1) (h3 : k0_cond3 i = 1#1) (h4 : ¬ k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 si x1) ∗ owns (c : Thread nD τ) arg8 fullShare y6 ∗ owns (c : Thread nD τ) arg9 fullShare (outB i ss (putA i sa (k0_pay8 si x1)) x2 x3 x4) ∗ owns (c : Thread nD τ) arg10 fullShare (putA i sa (k0_pay8 si x1)) ∗ owns (c : Thread nD τ) arg11 fullShare ss ∗ owns (c : Thread nD τ) arg12 fullShare si) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact st_full _ _ _ _ (congrArg₂ (k0_pay7 (F := F)) (ld_full harg12 si _) (ld_full harg3 x1 _))
  isplitl [H6]
  · iexists _; isplitr; swap; · iexact H6
    ipureintro
    exact harg8.read_unread y6
  isplitl [H7]
  · iexists _; isplitr; swap; · iexact H7
    ipureintro
    exact st_full _ _ _ _ (pay9_congr (ld_win (harg11.read_unread ss) _ (off4_eq i) (inbS i)) (ld_win (st_put harg10 sa _ _ _ (off3_eq i) (congrArg₂ (k0_pay8 (F := F)) (ld_full harg12 si _) (ld_full harg3 x1 _))) _ (off5_eq i) (inbA i))
        (ld_full harg4 x2 _) (ld_full harg5 x3 _) (ld_full harg6 x4 _))
  isplitl [Ha]
  · iexists _; isplitr; swap; · iexact Ha
    ipureintro
    exact st_put harg10 sa _ _ _ (off3_eq i) (congrArg₂ (k0_pay8 (F := F)) (ld_full harg12 si _) (ld_full harg3 x1 _))
  isplitl [Hs]
  · iexists _; isplitr; swap; · iexact Hs
    ipureintro
    exact harg11.read_unread ss
  iexists _; isplitr; swap; · iexact Hi
  ipureintro
  exact harg12.read_unread si

set_option maxHeartbeats 1000000 in
/-- A point of the last grid row: a block of the projection of the last tile. -/
theorem runF (c : Dev nD) (i : grid0.Coords) (h1 : ¬ k0_cond1 i = 1#1) (h2 : ¬ k0_cond2 i = 1#1) (h3 : ¬ k0_cond3 i = 1#1) (h4 : k0_cond4 i = 1#1)
    (arg2 : Memref sig .tc .vmem S640x128 .f32) (harg2 : arg2.IsWhole) (arg3 : Memref sig .tc .vmem S640x1536 .bf16) (harg3 : arg3.IsWhole) (arg4 : Memref sig .tc .vmem S18432x512 .fp8e4m3) (harg4 : arg4.IsWhole) (arg5 : Memref sig .tc .vmem S1x512 .f32) (harg5 : arg5.IsWhole) (arg6 : Memref sig .tc .vmem S640x512 .bf16) (harg6 : arg6.IsWhole) (arg7 : Memref sig .tc .vmem S640x1536 .fp8e4m3) (harg7 : arg7.IsWhole) (arg8 : Memref sig .tc .vmem S1x640 .f32) (harg8 : arg8.IsWhole) (arg9 : Memref sig .tc .vmem S640x512 .bf16) (harg9 : arg9.IsWhole) (arg10 : Memref sig .tc .vmem S2x640x18432 .fp8e4m3) (harg10 : arg10.IsWhole) (arg11 : Memref sig .tc .vmem S2x640x128 .f32) (harg11 : arg11.IsWhole) (arg12 : Memref sig .tc .vmem S640x128 .f32) (harg12 : arg12.IsWhole)
    (x0 : Vec F S640x128 .f32) (x1 : Vec F S640x1536 .bf16) (x2 : Vec F S18432x512 .fp8e4m3) (x3 : Vec F S1x512 .f32) (x4 : Vec F S640x512 .bf16) (y5 : Vec F S640x1536 .fp8e4m3) (y6 : Vec F S1x640 .f32) (y7 : Vec F S640x512 .bf16) (sa : Vec F S2x640x18432 .fp8e4m3) (ss : Vec F S2x640x128 .f32) (si : Vec F S640x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare sa ∗ owns (c : Thread nD τ) arg11 fullShare ss ∗ owns (c : Thread nD τ) arg12 fullShare si
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (outB i ss sa x2 x3 x4) ∗ owns (c : Thread nD τ) arg10 fullShare sa ∗ owns (c : Thread nD τ) arg11 fullShare ss ∗ owns (c : Thread nD τ) arg12 fullShare si) -∗ K ⟨⟩))
      ⊢ wp frame (wpE (defs₀ (F := F)) Variants.none c none) E
          (cc0_down i arg2 harg2 arg3 harg3 arg4 harg4 arg5 harg5 arg6 harg6 arg7 harg7 arg8 harg8 arg9 harg9 arg10 harg10 arg11 harg11 arg12 harg12) K := by
  simp only [cc0_down_eq_skeleton]; unfold cc0_down_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, Ha⟩, ⟨%f9, %hf9, Hs⟩, ⟨%f10, %hf10, Hi⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4)
  sl_step
  iapply Hk
  isplitl [H0]
  · iexists _; isplitr; swap; · iexact H0
    ipureintro
    exact harg2.read_unread x0
  isplitl [H1]
  · iexists _; isplitr; swap; · iexact H1
    ipureintro
    exact harg3.read_unread x1
  isplitl [H2]
  · iexists _; isplitr; swap; · iexact H2
    ipureintro
    exact harg4.read_unread x2
  isplitl [H3]
  · iexists _; isplitr; swap; · iexact H3
    ipureintro
    exact harg5.read_unread x3
  isplitl [H4]
  · iexists _; isplitr; swap; · iexact H4
    ipureintro
    exact harg6.read_unread x4
  isplitl [H5]
  · iexists _; isplitr; swap; · iexact H5
    ipureintro
    exact harg7.read_unread y5
  isplitl [H6]
  · iexists _; isplitr; swap; · iexact H6
    ipureintro
    exact harg8.read_unread y6
  isplitl [H7]
  · iexists _; isplitr; swap; · iexact H7
    ipureintro
    exact st_full _ _ _ _ (pay9_congr (ld_win (harg11.read_unread ss) _ (off6_eq i) (inbS i)) (ld_win (harg10.read_unread sa) _ (off7_eq i) (inbA i))
        (ld_full harg4 x2 _) (ld_full harg5 x3 _) (ld_full harg6 x4 _))
  isplitl [Ha]
  · iexists _; isplitr; swap; · iexact Ha
    ipureintro
    exact harg10.read_unread sa
  isplitl [Hs]
  · iexists _; isplitr; swap; · iexact Hs
    ipureintro
    exact harg11.read_unread ss
  iexists _; isplitr; swap; · iexact Hi
  ipureintro
  exact harg12.read_unread si

end Cert.Down.Hand
end
-- ==== Proof.DownBody.lean ====
/- The down projection's pipeline: what its scratch buffers hold before each grid point, what each point leaves in the
   three output blocks, and the run of the whole pipeline with these. -/
module

public import proofs.«01_k».proof.Proof.DownRun
public import Idealize.ShloMosaic.Lib.Pointwise
public import Idealize.ShloMosaic.Lib.Pipeline.ArrRel
public import Idealize.ShloMosaic.Lib.Claim

@[expose] public section
set_option maxRecDepth 16384
noncomputable section
namespace Cert.Down.Hand
open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The grid -/

theorem tlt (t : Fin cfg0.N) : t.val < 70 := by have hN : cfg0.N = 70 := N_0; have := t.isLt; omega
theorem coords0 : ∀ t : Fin cfg0.N, ((grid0.coords t) 0).val = t.val / 14 :=
  (by decide +kernel : ∀ t : Fin grid0.N, ((grid0.coords t) 0).val = t.val / 14)
theorem coords1 : ∀ t : Fin cfg0.N, ((grid0.coords t) 1).val = t.val % 14 :=
  (by decide +kernel : ∀ t : Fin grid0.N, ((grid0.coords t) 1).val = t.val % 14)
theorem cond1_iff : ∀ t : Fin cfg0.N, k0_cond1 (grid0.coords t) = 1#1 ↔ t.val / 14 < 4 ∧ t.val % 14 = 0 :=
  (by decide +kernel : ∀ t : Fin grid0.N, k0_cond1 (grid0.coords t) = 1#1 ↔ t.val / 14 < 4 ∧ t.val % 14 = 0)
theorem cond2_iff : ∀ t : Fin cfg0.N, k0_cond2 (grid0.coords t) = 1#1 ↔ t.val / 14 = 0 ∧ t.val % 14 < 12 :=
  (by decide +kernel : ∀ t : Fin grid0.N, k0_cond2 (grid0.coords t) = 1#1 ↔ t.val / 14 = 0 ∧ t.val % 14 < 12)
theorem cond3_iff : ∀ t : Fin cfg0.N, k0_cond3 (grid0.coords t) = 1#1 ↔ 0 < t.val / 14 ∧ t.val / 14 < 4 :=
  (by decide +kernel : ∀ t : Fin grid0.N, k0_cond3 (grid0.coords t) = 1#1 ↔ 0 < t.val / 14 ∧ t.val / 14 < 4)
theorem cond4_iff : ∀ t : Fin cfg0.N, k0_cond4 (grid0.coords t) = 1#1 ↔ t.val / 14 = 4 :=
  (by decide +kernel : ∀ t : Fin grid0.N, k0_cond4 (grid0.coords t) = 1#1 ↔ t.val / 14 = 4)

theorem index0 : ∀ t : Fin cfg0.N, win0_0.index t 0 = min (t.val / 14) 3 ∧ win0_0.index t 1 = 0 :=
  (by decide +kernel : ∀ t : Fin grid0.N, win0_0.index t 0 = min (t.val / 14) 3 ∧ win0_0.index t 1 = 0)
theorem index1 : ∀ t : Fin cfg0.N, win0_1.index t 0 = min (t.val / 14) 3 ∧ win0_1.index t 1 = if t.val / 14 = 4 then 11 else min (t.val % 14) 11 :=
  (by decide +kernel : ∀ t : Fin grid0.N, win0_1.index t 0 = min (t.val / 14) 3 ∧ win0_1.index t 1 = if t.val / 14 = 4 then 11 else min (t.val % 14) 11)
theorem index2 : ∀ t : Fin cfg0.N, win0_2.index t 0 = 0 ∧ win0_2.index t 1 = if t.val / 14 = 0 then 0 else t.val % 14 :=
  (by decide +kernel : ∀ t : Fin grid0.N, win0_2.index t 0 = 0 ∧ win0_2.index t 1 = if t.val / 14 = 0 then 0 else t.val % 14)
theorem index3 : ∀ t : Fin cfg0.N, win0_3.index t 0 = 0 ∧ win0_3.index t 1 = if t.val / 14 = 0 then 0 else t.val % 14 :=
  (by decide +kernel : ∀ t : Fin grid0.N, win0_3.index t 0 = 0 ∧ win0_3.index t 1 = if t.val / 14 = 0 then 0 else t.val % 14)
theorem index4 : ∀ t : Fin cfg0.N, win0_4.index t 0 = t.val / 14 - 1 ∧ win0_4.index t 1 = if t.val / 14 = 0 then 0 else t.val % 14 :=
  (by decide +kernel : ∀ t : Fin grid0.N, win0_4.index t 0 = t.val / 14 - 1 ∧ win0_4.index t 1 = if t.val / 14 = 0 then 0 else t.val % 14)

/-! ## The blocks of the arguments -/

abbrev aAM : S2560x128.Idx → Elt F .f32 := m ((c : Thread nD τ).loc main_arg0)
abbrev aAct : S2560x18432.Idx → Elt F .bf16 := m ((c : Thread nD τ).loc main_arg1)
abbrev aW : S18432x7168.Idx → Elt F .fp8e4m3 := m ((c : Thread nD τ).loc main_arg2)
abbrev aSw : S1x7168.Idx → Elt F .f32 := V m c main_v0
abbrev aHm : S2560x7168.Idx → Elt F .bf16 := m ((c : Thread nD τ).loc main_arg4)

/-- The chunk maxima of row tile `j`. -/
def AMX (j : ℕ) : Vec F S640x128 .f32 := fun y => aAM m c (ix2 (Fin.ofNat 2560 (j * 640 + (y 0).val)) (y 1))
/-- Chunk `ch` of the activations of row tile `j`. -/
def ACT (j ch : ℕ) : Vec F S640x1536 .bf16 := fun y => aAct m c (ix2 (Fin.ofNat 2560 (j * 640 + (y 0).val)) (Fin.ofNat 18432 (ch * 1536 + (y 1).val)))
/-- Column block `n` of the weights. -/
def WB (n : ℕ) : Vec F S18432x512 .fp8e4m3 := fun y => aW m c (ix2 (y 0) (Fin.ofNat 7168 (n * 512 + (y 1).val)))
/-- Column block `n` of the weights' scales. -/
def SWB (n : ℕ) : Vec F S1x512 .f32 := fun y => aSw m c (ix2 0 (Fin.ofNat 7168 (n * 512 + (y 1).val)))
/-- Block `(j, n)` of the residual. -/
def HMB (j n : ℕ) : Vec F S640x512 .bf16 := fun y => aHm m c (ix2 (Fin.ofNat 2560 (j * 640 + (y 0).val)) (Fin.ofNat 7168 (n * 512 + (y 1).val)))

theorem iblk0 (t : Fin cfg0.N) (h : t.val / 14 < 4) : (iblk m c 0 t : Vec F S640x128 .f32) = AMX m c (t.val / 14) := by
  funext y
  have h0 : (y 0).val < 640 := (y 0).isLt
  unfold iblk AMX
  rw [View.read_apply]
  show V m c main_arg0 _ = m (c.tc.loc main_arg0) _
  rw [V_main_arg0]
  congr 1
  funext a; apply Fin.ext
  match a with
  | ⟨0, _⟩ => show win0_0.index t 0 * 640 + 1 * (y 0).val = (t.val / 14 * 640 + (y 0).val) % 2560; rw [(index0 t).1]; omega
  | ⟨1, _⟩ => show win0_0.index t 1 * 128 + 1 * (y 1).val = (y 1).val; rw [(index0 t).2]; omega

theorem iblk1 (t : Fin cfg0.N) (h : t.val / 14 < 4) :
    (iblk m c 1 t : Vec F S640x1536 .bf16) = ACT m c (t.val / 14) (min (t.val % 14) 11) := by
  funext y
  have h0 : (y 0).val < 640 := (y 0).isLt
  have h1 : (y 1).val < 1536 := (y 1).isLt
  unfold iblk ACT
  rw [View.read_apply]
  show V m c main_arg1 _ = m (c.tc.loc main_arg1) _
  rw [V_main_arg1]
  congr 1
  funext a; apply Fin.ext
  match a with
  | ⟨0, _⟩ => show win0_1.index t 0 * 640 + 1 * (y 0).val = (t.val / 14 * 640 + (y 0).val) % 2560; rw [(index1 t).1]; omega
  | ⟨1, _⟩ =>
    show win0_1.index t 1 * 1536 + 1 * (y 1).val = (min (t.val % 14) 11 * 1536 + (y 1).val) % 18432
    rw [(index1 t).2, if_neg (by omega)]; omega

theorem iblk2 (t : Fin cfg0.N) (h : 0 < t.val / 14) : (iblk m c 2 t : Vec F S18432x512 .fp8e4m3) = WB m c (t.val % 14) := by
  funext y
  have h1 : (y 1).val < 512 := (y 1).isLt
  unfold iblk WB
  rw [View.read_apply]
  show V m c main_arg2 _ = m (c.tc.loc main_arg2) _
  rw [V_main_arg2]
  congr 1
  funext a; apply Fin.ext
  match a with
  | ⟨0, _⟩ => show win0_2.index t 0 * 18432 + 1 * (y 0).val = (y 0).val; rw [(index2 t).1]; omega
  | ⟨1, _⟩ =>
    show win0_2.index t 1 * 512 + 1 * (y 1).val = (t.val % 14 * 512 + (y 1).val) % 7168
    rw [(index2 t).2, if_neg (by omega)]; omega

theorem iblk3 (t : Fin cfg0.N) (h : 0 < t.val / 14) : (iblk m c 3 t : Vec F S1x512 .f32) = SWB m c (t.val % 14) := by
  funext y
  have h0 : (y 0).val < 1 := (y 0).isLt
  have h1 : (y 1).val < 512 := (y 1).isLt
  unfold iblk SWB
  rw [View.read_apply]
  show V m c main_v0 _ = V m c main_v0 _
  congr 1
  funext a; apply Fin.ext
  match a with
  | ⟨0, _⟩ => show win0_3.index t 0 * 1 + 1 * (y 0).val = 0; rw [(index3 t).1]; omega
  | ⟨1, _⟩ =>
    show win0_3.index t 1 * 512 + 1 * (y 1).val = (t.val % 14 * 512 + (y 1).val) % 7168
    rw [(index3 t).2, if_neg (by omega)]; omega

theorem iblk4 (t : Fin cfg0.N) (h : 0 < t.val / 14) :
    (iblk m c 4 t : Vec F S640x512 .bf16) = HMB m c (t.val / 14 - 1) (t.val % 14) := by
  funext y
  have ht := tlt t
  have h0 : (y 0).val < 640 := (y 0).isLt
  have h1 : (y 1).val < 512 := (y 1).isLt
  unfold iblk HMB
  rw [View.read_apply]
  show V m c main_arg4 _ = m (c.tc.loc main_arg4) _
  rw [V_main_arg4]
  congr 1
  funext a; apply Fin.ext
  match a with
  | ⟨0, _⟩ => show win0_4.index t 0 * 640 + 1 * (y 0).val = ((t.val / 14 - 1) * 640 + (y 0).val) % 2560; rw [(index4 t).1]; omega
  | ⟨1, _⟩ =>
    show win0_4.index t 1 * 512 + 1 * (y 1).val = (t.val % 14 * 512 + (y 1).val) % 7168
    rw [(index4 t).2, if_neg (by omega)]; omega

/-! ## What the pipeline keeps and what it stores -/

/-- The codes of chunk `ch` of row tile `j`. -/
def CODE (j ch : ℕ) : Vec F S640x1536 .fp8e4m3 := k0_pay7 (inv (AMX m c j)) (ACT m c j ch)
/-- All codes of row tile `j`. -/
def PA (j : ℕ) : Vec F S1x640x18432 .fp8e4m3 := fun y => CODE m c j ((y 2).val / 1536) (ix2 (y 1) (Fin.ofNat 1536 (y 2).val))
/-- The row scales of row tile `j`. -/
def PS (j : ℕ) : Vec F S1x640x128 .f32 := scl (AMX m c j)
/-- Block `(j, n)` of the projection. -/
def OUT (j n : ℕ) : Vec F S640x512 .bf16 := k0_pay1 (k0_pay9 (PS m c j) (PA m c j) (WB m c n) (SWB m c n) (HMB m c j n))

theorem putA_apply (i : grid0.Coords) (sa : Vec F S2x640x18432 .fp8e4m3) (w : Vec F S1x640x1536 .fp8e4m3) (b : Fin 2) (r : Fin 640) (l : Fin 18432) :
    putA i sa w (ix3 b r l) = if b.val = (i 0).val % 2 ∧ l.val / 1536 = min (i 1).val 11 then w (ix3 0 r (Fin.ofNat 1536 l.val)) else sa (ix3 b r l) := by
  unfold putA VecWindow.put
  have hr := r.isLt
  by_cases h : b.val = (i 0).val % 2 ∧ l.val / 1536 = min (i 1).val 11
  · rw [if_pos h, dif_pos (fun a => by
      match a with
      | ⟨0, _⟩ => show (i 0).val % 2 ≤ b.val ∧ b.val < (i 0).val % 2 + 1; omega
      | ⟨1, _⟩ => show 0 ≤ r.val ∧ r.val < 0 + 640; omega
      | ⟨2, _⟩ => show 1536 * min (i 1).val 11 ≤ l.val ∧ l.val < 1536 * min (i 1).val 11 + 1536; omega)]
    congr 1
    funext a; apply Fin.ext
    match a with
    | ⟨0, _⟩ => show b.val - (i 0).val % 2 = 0; omega
    | ⟨1, _⟩ => show r.val - 0 = r.val; omega
    | ⟨2, _⟩ => show l.val - 1536 * min (i 1).val 11 = l.val % 1536; omega
  · rw [if_neg h, dif_neg]
    intro hall
    have h0 : (i 0).val % 2 ≤ b.val ∧ b.val < (i 0).val % 2 + 1 := hall 0
    have h2 : 1536 * min (i 1).val 11 ≤ l.val ∧ l.val < 1536 * min (i 1).val 11 + 1536 := hall 2
    exact h ⟨by omega, by omega⟩

theorem putS_apply (i : grid0.Coords) (ss : Vec F S2x640x128 .f32) (w : Vec F S1x640x128 .f32) (b : Fin 2) (r : Fin 640) (l : Fin 128) :
    putS i ss w (ix3 b r l) = if b.val = (i 0).val % 2 then w (ix3 0 r l) else ss (ix3 b r l) := by
  unfold putS VecWindow.put
  have hr := r.isLt
  have hl := l.isLt
  by_cases h : b.val = (i 0).val % 2
  · rw [if_pos h, dif_pos (fun a => by
      match a with
      | ⟨0, _⟩ => show (i 0).val % 2 ≤ b.val ∧ b.val < (i 0).val % 2 + 1; omega
      | ⟨1, _⟩ => show 0 ≤ r.val ∧ r.val < 0 + 640; omega
      | ⟨2, _⟩ => show 0 ≤ l.val ∧ l.val < 0 + 128; omega)]
    congr 1
    funext a; apply Fin.ext
    match a with
    | ⟨0, _⟩ => show b.val - (i 0).val % 2 = 0; omega
    | ⟨1, _⟩ => show r.val - 0 = r.val; omega
    | ⟨2, _⟩ => show l.val - 0 = l.val; omega
  · rw [if_neg h, dif_neg]
    intro hall
    have h0 : (i 0).val % 2 ≤ b.val ∧ b.val < (i 0).val % 2 + 1 := hall 0
    exact h (by omega)

theorem pay8_apply (a : Vec F S640x128 .f32) (b : Vec F S640x1536 .bf16) (r : Fin 640) (l : Fin 1536) :
    k0_pay8 a b (ix3 0 r l) = k0_pay7 a b (ix2 r l) := by
  unfold k0_pay8
  pointwise

/-- What the scratch buffers hold before grid point `k`: the codes and scales of the row tile being quantised as far as
    the points before went, and all those of the tile before it. -/
structure Inv (k : ℕ) (sa : Vec F S2x640x18432 .fp8e4m3) (ss : Vec F S2x640x128 .f32) (si : Vec F S640x128 .f32) : Prop where
  codes : ∀ j < 4, ∀ ch < 12, 14 * j + ch < k → k ≤ 14 * (j + 2) → ∀ (r : Fin 640) (l : Fin 18432), l.val / 1536 = ch →
    sa (ix3 (Fin.ofNat 2 j) r l) = PA m c j (ix3 0 r l)
  scales : ∀ j < 4, 14 * j < k → k ≤ 14 * (j + 2) → ∀ (r : Fin 640) (l : Fin 128), ss (ix3 (Fin.ofNat 2 j) r l) = PS m c j (ix3 0 r l)
  invs : ∀ j < 4, 14 * j < k → k ≤ 14 * (j + 1) → si = inv (AMX m c j)

variable {m c}

theorem Inv.init (sa : Vec F S2x640x18432 .fp8e4m3) (ss : Vec F S2x640x128 .f32) (si : Vec F S640x128 .f32) : Inv m c 0 sa ss si :=
  ⟨fun _ _ _ _ h => absurd h (Nat.not_lt_zero _), fun _ _ h => absurd h (Nat.not_lt_zero _), fun _ _ h => absurd h (Nat.not_lt_zero _)⟩

/-- One grid point's effect on the scratch buffers keeps what is said of them. -/
theorem Inv.next (t : Fin cfg0.N) {sa sa' : Vec F S2x640x18432 .fp8e4m3} {ss ss' : Vec F S2x640x128 .f32} {si si' : Vec F S640x128 .f32}
    (h : Inv m c t.val sa ss si)
    (hs : (t.val / 14 < 4 ∧ t.val % 14 = 0 ∧ ss' = putS (grid0.coords t) ss (PS m c (t.val / 14)) ∧ si' = inv (AMX m c (t.val / 14)))
      ∨ (¬ (t.val / 14 < 4 ∧ t.val % 14 = 0) ∧ ss' = ss ∧ si' = si))
    (ha : (t.val / 14 < 4 ∧ sa' = putA (grid0.coords t) sa (k0_pay8 (inv (AMX m c (t.val / 14))) (ACT m c (t.val / 14) (min (t.val % 14) 11))))
      ∨ (¬ (t.val / 14 < 4 ∧ t.val % 14 < 12) ∧ sa' = sa)) : Inv m c (t.val + 1) sa' ss' si' := by
  have ht := tlt t
  refine ⟨fun j hj ch hch h1 h2 r l hl => ?_, fun j hj h1 h2 r l => ?_, fun j hj h1 h2 => ?_⟩
  · rcases ha with ⟨hq, rfl⟩ | ⟨hq, rfl⟩
    · rw [putA_apply, coords0, coords1]
      have hb : (Fin.ofNat 2 j).val = j % 2 := rfl
      rw [hb]
      by_cases hin : j % 2 = t.val / 14 % 2 ∧ l.val / 1536 = min (t.val % 14) 11
      · have e : t.val / 14 = j := by omega
        rw [if_pos hin, pay8_apply, e, ← hin.2]
        rfl
      · rw [if_neg hin]
        exact h.codes j hj ch hch (by omega) (by omega) r l hl
    · exact h.codes j hj ch hch (by omega) (by omega) r l hl
  · rcases hs with ⟨hq, hz, rfl, rfl⟩ | ⟨hq, rfl, rfl⟩
    · rw [putS_apply, coords0]
      have hb : (Fin.ofNat 2 j).val = j % 2 := rfl
      rw [hb]
      by_cases hin : j % 2 = t.val / 14 % 2
      · have e : t.val / 14 = j := by omega
        rw [if_pos hin, e]
      · rw [if_neg hin]
        exact h.scales j hj (by omega) (by omega) r l
    · exact h.scales j hj (by omega) (by omega) r l
  · rcases hs with ⟨hq, hz, rfl, rfl⟩ | ⟨hq, rfl, rfl⟩
    · have e : t.val / 14 = j := by omega
      rw [e]
    · exact h.invs j hj (by omega) (by omega)

/-- After a point of a later grid row the other planes hold the tile before. -/
theorem Inv.other (t : Fin cfg0.N) {sa : Vec F S2x640x18432 .fp8e4m3} {ss : Vec F S2x640x128 .f32} {si : Vec F S640x128 .f32}
    (h : Inv m c (t.val + 1) sa ss si) (hq : 0 < t.val / 14) :
    otherS (grid0.coords t) ss = PS m c (t.val / 14 - 1) ∧ otherA (grid0.coords t) sa = PA m c (t.val / 14 - 1) := by
  have ht := tlt t
  constructor
  · funext y
    obtain ⟨b, r, l, rfl⟩ : ∃ (b : Fin 1) (r : Fin 640) (l : Fin 128), y = ix3 b r l := ⟨y 0, y 1, y 2, eq_ix3 y⟩
    obtain rfl : b = 0 := Subsingleton.elim _ _
    rw [← h.scales (t.val / 14 - 1) (by omega) (by omega) (by omega) r l]
    unfold otherS VecWindow.window
    congr 1
    funext a; apply Fin.ext
    match a with
    | ⟨0, _⟩ => show (((grid0.coords t) 0).val + 1) % 2 + 1 * 0 = (t.val / 14 - 1) % 2; rw [coords0]; omega
    | ⟨1, _⟩ => show 0 + 1 * r.val = r.val; omega
    | ⟨2, _⟩ => show 0 + 1 * l.val = l.val; omega
  · funext y
    obtain ⟨b, r, l, rfl⟩ : ∃ (b : Fin 1) (r : Fin 640) (l : Fin 18432), y = ix3 b r l := ⟨y 0, y 1, y 2, eq_ix3 y⟩
    obtain rfl : b = 0 := Subsingleton.elim _ _
    have hl := l.isLt
    rw [← h.codes (t.val / 14 - 1) (by omega) (l.val / 1536) (by omega) (by omega) (by omega) r l rfl]
    unfold otherA VecWindow.window
    congr 1
    funext a; apply Fin.ext
    match a with
    | ⟨0, _⟩ => show (((grid0.coords t) 0).val + 1) % 2 + 1 * 0 = (t.val / 14 - 1) % 2; rw [coords0]; omega
    | ⟨1, _⟩ => show 0 + 1 * r.val = r.val; omega
    | ⟨2, _⟩ => show 0 + 1 * l.val = l.val; omega

theorem outB_eq (t : Fin cfg0.N) {sa : Vec F S2x640x18432 .fp8e4m3} {ss : Vec F S2x640x128 .f32} {si : Vec F S640x128 .f32}
    (h : Inv m c (t.val + 1) sa ss si) (hq : 0 < t.val / 14) :
    outB (grid0.coords t) ss sa (iblk m c 2 t) (iblk m c 3 t) (iblk m c 4 t) = OUT m c (t.val / 14 - 1) (t.val % 14) := by
  unfold outB OUT
  rw [(h.other t hq).1, (h.other t hq).2, iblk2 m c t hq, iblk3 m c t hq, iblk4 m c t hq]

end Cert.Down.Hand
end
-- ==== Proof.DownPipe.lean ====
/- The down projection's run: the proof data of its pipeline, the body at every grid point, and what the machine's memory
   holds at the end. -/
module

public import proofs.«01_k».proof.Proof.DownBody

@[expose] public section
set_option maxRecDepth 16384
noncomputable section
namespace Cert.Down.Hand
open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The scratch buffers the body is handed. -/
abbrev scA : Memref sig .tc .vmem S2x640x18432 .fp8e4m3 := Memref.whole cc0_scratch0
abbrev scS : Memref sig .tc .vmem S2x640x128 .f32 := Memref.whole cc0_scratch1
abbrev scI : Memref sig .tc .vmem S640x128 .f32 := Memref.whole cc0_scratch2

theorem PhiA0_eq (c : Dev nD) :
    (Pipeline.ΦA spec0 c : sProp 𝕄)
      = iprop(iprop((∃ d, owns (c : Thread nD τ) scA fullShare d) ∗ (∃ d, owns (c : Thread nD τ) scS fullShare d) ∗ (∃ d, owns (c : Thread nD τ) scI fullShare d))
          ∗ (∃ r, prngReg c r)) := by
  unfold Pipeline.ΦA; rw [scopedRest0_eq]; simp only [scA, scS, scI, owns_whole]; try rfl

/-- Whether grid point `t` quantises a chunk. -/
def quant (t : ℕ) : Prop := t / 14 < 4 ∧ (0 < t / 14 ∨ t % 14 < 12)

/-- The proof data: an input's buffer is left as found; an output's holds its point's result where the point stores
    one, and is left as found elsewhere; the scratch buffers hold what `Inv` says. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => (quant t.val ∧ X = CODE m c (t.val / 14) (min (t.val % 14) 11)) ∨ (¬ quant t.val ∧ X = Y)
    | ⟨6, _⟩ => ((t.val / 14 < 4 ∧ t.val % 14 = 0) ∧ X = row (AMX m c (t.val / 14))) ∨ (¬ (t.val / 14 < 4 ∧ t.val % 14 = 0) ∧ X = Y)
    | ⟨7, _⟩ => (0 < t.val / 14 ∧ X = OUT m c (t.val / 14 - 1) (t.val % 14)) ∨ (¬ 0 < t.val / 14 ∧ X = Y)
  Φ k := iprop((∃ sa ss si, ⌜Inv m c k.val sa ss si⌝ ∗ owns (c : Thread nD τ) scA fullShare sa ∗ owns (c : Thread nD τ) scS fullShare ss
    ∗ owns (c : Thread nD τ) scI fullShare si) ∗ (∃ r, prngReg c r))
  q _ := fullShare
  owed _ := 0

theorem A_eq (c : Dev nD) (w : Fin cfg0.W) : (rdat m c).A w = V m c (Pipeline.arrRef spec0 w) := by dsimp only [rdat]

/-- An input's buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rw [A_eq]; try rfl

/-! ## The body at a grid point -/

abbrev ms0 (t : Fin cfg0.N) : Memref sig .tc .vmem S640x128 .f32 := win0_0.stage (cfg0.slots t 0)
abbrev ms1 (t : Fin cfg0.N) : Memref sig .tc .vmem S640x1536 .bf16 := win0_1.stage (cfg0.slots t 1)
abbrev ms2 (t : Fin cfg0.N) : Memref sig .tc .vmem S18432x512 .fp8e4m3 := win0_2.stage (cfg0.slots t 2)
abbrev ms3 (t : Fin cfg0.N) : Memref sig .tc .vmem S1x512 .f32 := win0_3.stage (cfg0.slots t 3)
abbrev ms4 (t : Fin cfg0.N) : Memref sig .tc .vmem S640x512 .bf16 := win0_4.stage (cfg0.slots t 4)
abbrev ms5 (t : Fin cfg0.N) : Memref sig .tc .vmem S640x1536 .fp8e4m3 := win0_5.stage (cfg0.slots t 5)
abbrev ms6 (t : Fin cfg0.N) : Memref sig .tc .vmem S1x640 .f32 := win0_6.stage (cfg0.slots t 6)
abbrev ms7 (t : Fin cfg0.N) : Memref sig .tc .vmem S640x512 .bf16 := win0_7.stage (cfg0.slots t 7)

/-- What the body is called with at point `t`. -/
def bodyPre (c : Dev nD) (t : Fin cfg0.N) (y5 : Vec F S640x1536 .fp8e4m3) (y6 : Vec F S1x640 .f32) (y7 : Vec F S640x512 .bf16) : sProp 𝕄 :=
  iprop((rdat m c).Φ t.castSucc ∗ (rdat m c).owesAt () t.castSucc
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ owns (c : Thread nD τ) (ms5 t) fullShare y5
    ∗ owns (c : Thread nD τ) (ms6 t) fullShare y6 ∗ owns (c : Thread nD τ) (ms7 t) fullShare y7)

/-- What it returns. -/
def bodyPost (c : Dev nD) (t : Fin cfg0.N) (y5 : Vec F S640x1536 .fp8e4m3) (y6 : Vec F S1x640 .f32) (y7 : Vec F S640x512 .bf16) : sProp 𝕄 :=
  iprop((rdat m c).Φ t.succ ∗ (rdat m c).owesAt () t.succ
    ∗ (∃ X, ⌜X = iblk m c 0 t⌝ ∗ owns (c : Thread nD τ) (ms0 t) fullShare X) ∗ (∃ X, ⌜X = iblk m c 1 t⌝ ∗ owns (c : Thread nD τ) (ms1 t) fullShare X)
    ∗ (∃ X, ⌜X = iblk m c 2 t⌝ ∗ owns (c : Thread nD τ) (ms2 t) fullShare X) ∗ (∃ X, ⌜X = iblk m c 3 t⌝ ∗ owns (c : Thread nD τ) (ms3 t) fullShare X)
    ∗ (∃ X, ⌜X = iblk m c 4 t⌝ ∗ owns (c : Thread nD τ) (ms4 t) fullShare X)
    ∗ (∃ X, ⌜(rdat m c).after 5 t y5 X⌝ ∗ owns (c : Thread nD τ) (ms5 t) fullShare X)
    ∗ (∃ X, ⌜(rdat m c).after 6 t y6 X⌝ ∗ owns (c : Thread nD τ) (ms6 t) fullShare X)
    ∗ (∃ X, ⌜(rdat m c).after 7 t y7 X⌝ ∗ owns (c : Thread nD τ) (ms7 t) fullShare X))

/-- The body at a point, from a run with the contents it leaves and what they are. -/
theorem sound_of (c : Dev nD) (t : Fin cfg0.N) (y5 : Vec F S640x1536 .fp8e4m3) (y6 : Vec F S1x640 .f32) (y7 : Vec F S640x512 .bf16)
    (x5 : Vec F S2x640x18432 .fp8e4m3 → Vec F S2x640x128 .f32 → Vec F S640x128 .f32 → Vec F S640x1536 .fp8e4m3)
    (x6 : Vec F S1x640 .f32)
    (x7 : Vec F S2x640x18432 .fp8e4m3 → Vec F S2x640x128 .f32 → Vec F S640x128 .f32 → Vec F S640x512 .bf16)
    (ga : Vec F S2x640x18432 .fp8e4m3 → Vec F S640x128 .f32 → Vec F S2x640x18432 .fp8e4m3)
    (gs : Vec F S2x640x128 .f32 → Vec F S2x640x128 .f32) (gi : Vec F S640x128 .f32 → Vec F S640x128 .f32)
    (hrun : ∀ (sa : Vec F S2x640x18432 .fp8e4m3) (ss : Vec F S2x640x128 .f32) (si : Vec F S640x128 .f32) (K : PUnit → sProp 𝕄),
      iprop(owns (c : Thread nD τ) (ms0 t) fullShare (iblk m c 0 t) ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ owns (c : Thread nD τ) (ms4 t) fullShare (iblk m c 4 t) ∗ owns (c : Thread nD τ) (ms5 t) fullShare y5
        ∗ owns (c : Thread nD τ) (ms6 t) fullShare y6 ∗ owns (c : Thread nD τ) (ms7 t) fullShare y7
        ∗ owns (c : Thread nD τ) scA fullShare sa ∗ owns (c : Thread nD τ) scS fullShare ss ∗ owns (c : Thread nD τ) scI fullShare si
        ∗ (iprop(owns (c : Thread nD τ) (ms0 t) fullShare (iblk m c 0 t) ∗ owns (c : Thread nD τ) (ms1 t) fullShare (iblk m c 1 t)
          ∗ owns (c : Thread nD τ) (ms2 t) fullShare (iblk m c 2 t) ∗ owns (c : Thread nD τ) (ms3 t) fullShare (iblk m c 3 t)
          ∗ owns (c : Thread nD τ) (ms4 t) fullShare (iblk m c 4 t) ∗ owns (c : Thread nD τ) (ms5 t) fullShare (x5 sa ss si)
          ∗ owns (c : Thread nD τ) (ms6 t) fullShare x6 ∗ owns (c : Thread nD τ) (ms7 t) fullShare (x7 sa ss si)
          ∗ owns (c : Thread nD τ) scA fullShare (ga sa si) ∗ owns (c : Thread nD τ) scS fullShare (gs ss) ∗ owns (c : Thread nD τ) scI fullShare (gi si)) -∗ K ⟨⟩))
        ⊢ wp frame (wpE (defs₀ (F := F)) Variants.none c none) Set.univ (bodyAt0 t) K)
    (h5 : ∀ sa ss si, Inv m c t.val sa ss si → (rdat m c).after 5 t y5 (x5 sa ss si))
    (h6 : (rdat m c).after 6 t y6 x6)
    (h7 : ∀ sa ss si, Inv m c t.val sa ss si → Inv m c (t.val + 1) (ga sa si) (gs ss) (gi si) → (rdat m c).after 7 t y7 (x7 sa ss si))
    (hi : ∀ sa ss si, Inv m c t.val sa ss si → Inv m c (t.val + 1) (ga sa si) (gs ss) (gi si)) :
    bodyPre m c t y5 y6 y7 ⊢ wp frame (wpE (defs₀ (F := F)) Variants.none c none) Set.univ (bodyAt0 t) (fun _ => bodyPost m c t y5 y6 y7) := by
  unfold bodyPre bodyPost
  rw [show (rdat m c).owesAt () t.succ = (rdat m c).owesAt () t.castSucc from rfl]
  dsimp only [rdat]
  iintro ⟨⟨⟨%sa, %ss, %si, %hinv, Ha, Hs, Hi⟩, Hg⟩, Ho, H0, H1, H2, H3, H4, H5, H6, H7⟩
  iapply (hrun sa ss si _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha]; · iexact Ha
  isplitl [Hs]; · iexact Hs
  isplitl [Hi]; · iexact Hi
  iintro ⟨H0, H1, H2, H3, H4, H5, H6, H7, Ha, Hs, Hi⟩
  isplitl [Ha Hs Hi Hg]
  · isplitl [Ha Hs Hi]
    · iexists _, _, _; isplitr
      swap
      · isplitl [Ha]; · iexact Ha
        isplitl [Hs]; · iexact Hs
        iexact Hi
      ipureintro; exact hi sa ss si hinv
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact h5 sa ss si hinv
  isplitl [H6]
  · iexists _; isplitr; swap; · iexact H6
    ipureintro; exact h6
  iexists _; isplitr; swap; · iexact H7
  ipureintro; exact h7 sa ss si hinv (hi sa ss si hinv)

/-- The body at any point. -/
theorem sound_body (c : Dev nD) (t : Fin cfg0.N) (y5 : Vec F S640x1536 .fp8e4m3) (y6 : Vec F S1x640 .f32) (y7 : Vec F S640x512 .bf16) :
    bodyPre m c t y5 y6 y7 ⊢ wp frame (wpE (defs₀ (F := F)) Variants.none c none) Set.univ (bodyAt0 t) (fun _ => bodyPost m c t y5 y6 y7) := by
  have ht := tlt t
  have i1 := cond1_iff t
  have i2 := cond2_iff t
  have i3 := cond3_iff t
  have i4 := cond4_iff t
  by_cases c4 : t.val / 14 = 4
  · -- the last grid row
    have nq : ¬ quant t.val := fun h => by have := h.1; omega
    refine sound_of m c t y5 y6 y7 (fun _ _ _ => y5) y6 (fun sa ss _ => outB (grid0.coords t) ss sa (iblk m c 2 t) (iblk m c 3 t) (iblk m c 4 t))
      (fun sa _ => sa) (fun ss => ss) (fun si => si)
      (fun sa ss si K => runF c (grid0.coords t) (by rw [i1]; omega) (by rw [i2]; omega) (by rw [i3]; omega) (by rw [i4]; omega)
        _ _ _ _ _ _ _ _ _ _ _ _ _ _ _ _ _ _ _ _ _ _ _ _ _ _ _ _ _ _ _ _ _ Set.univ K)
      (fun _ _ _ _ => .inr ⟨nq, rfl⟩) (.inr ⟨by omega, rfl⟩)
      (fun sa ss si h h' => .inl ⟨by omega, outB_eq t h' (by omega)⟩)
      (fun sa ss si h => h.next t (.inr ⟨by omega, rfl, rfl⟩) (.inr ⟨by omega, rfl⟩))
  by_cases c0 : t.val / 14 = 0
  · by_cases n0 : t.val % 14 = 0
    · -- the first point
      have hq : quant t.val := ⟨by omega, by omega⟩
      refine sound_of m c t y5 y6 y7 (fun _ _ _ => k0_pay7 (inv (iblk m c 0 t)) (iblk m c 1 t)) (row (iblk m c 0 t)) (fun _ _ _ => y7)
        (fun sa _ => putA (grid0.coords t) sa (k0_pay8 (inv (iblk m c 0 t)) (iblk m c 1 t)))
        (fun ss => putS (grid0.coords t) ss (scl (iblk m c 0 t))) (fun _ => inv (iblk m c 0 t))
        (fun sa ss si K => runA c (grid0.coords t) (by rw [i1]; omega) (by rw [i2]; omega) (by rw [i3]; omega) (by rw [i4]; omega)
          _ _ _ _ _ _ _ _ _ _ _ _ _ _ _ _ _ _ _ _ _ _ _ _ _ _ _ _ _ _ _ _ _ Set.univ K)
        (fun _ _ _ _ => .inl ⟨hq, by rw [iblk0 m c t (by omega), iblk1 m c t (by omega)]; rfl⟩)
        (.inl ⟨by omega, by rw [iblk0 m c t (by omega)]⟩)
        (fun sa ss si h h' => .inr ⟨by omega, rfl⟩)
        (fun sa ss si h => h.next t (.inl ⟨by omega, by omega, by rw [iblk0 m c t (by omega)]; rfl, by rw [iblk0 m c t (by omega)]⟩)
          (.inl ⟨by omega, by rw [iblk0 m c t (by omega), iblk1 m c t (by omega)]⟩))
    by_cases n12 : t.val % 14 < 12
    · -- a later chunk of the first row tile
      have hq : quant t.val := ⟨by omega, by omega⟩
      have e : ∀ {sa ss si}, Inv m c t.val sa ss si → si = inv (AMX m c (t.val / 14)) := fun h => h.invs (t.val / 14) (by omega) (by omega) (by omega)
      refine sound_of m c t y5 y6 y7 (fun _ _ si => k0_pay7 si (iblk m c 1 t)) y6 (fun _ _ _ => y7)
        (fun sa si => putA (grid0.coords t) sa (k0_pay8 si (iblk m c 1 t))) (fun ss => ss) (fun si => si)
        (fun sa ss si K => runB c (grid0.coords t) (by rw [i1]; omega) (by rw [i2]; omega) (by rw [i3]; omega) (by rw [i4]; omega)
          _ _ _ _ _ _ _ _ _ _ _ _ _ _ _ _ _ _ _ _ _ _ _ _ _ _ _ _ _ _ _ _ _ Set.univ K)
        (fun _ _ _ h => .inl ⟨hq, by rw [e h, iblk1 m c t (by omega)]; rfl⟩)
        (.inr ⟨by omega, rfl⟩)
        (fun sa ss si h h' => .inr ⟨by omega, rfl⟩)
        (fun sa ss si h => h.next t (.inr ⟨by omega, rfl, rfl⟩) (.inl ⟨by omega, by rw [e h, iblk1 m c t (by omega)]⟩))
    · -- the two idle points
      have nq : ¬ quant t.val := fun h => by have := h.2; omega
      refine sound_of m c t y5 y6 y7 (fun _ _ _ => y5) y6 (fun _ _ _ => y7) (fun sa _ => sa) (fun ss => ss) (fun si => si)
        (fun sa ss si K => runC c (grid0.coords t) (by rw [i1]; omega) (by rw [i2]; omega) (by rw [i3]; omega) (by rw [i4]; omega)
          _ _ _ _ _ _ _ _ _ _ _ _ _ _ _ _ _ _ _ _ _ _ _ _ _ _ _ _ _ _ _ _ _ Set.univ K)
        (fun _ _ _ _ => .inr ⟨nq, rfl⟩) (.inr ⟨by omega, rfl⟩)
        (fun sa ss si h h' => .inr ⟨by omega, rfl⟩)
        (fun sa ss si h => h.next t (.inr ⟨by omega, rfl, rfl⟩) (.inr ⟨by omega, rfl⟩))
  have hq : quant t.val := ⟨by omega, by omega⟩
  by_cases n0 : t.val % 14 = 0
  · -- the first point of a middle grid row
    refine sound_of m c t y5 y6 y7 (fun _ _ _ => k0_pay7 (inv (iblk m c 0 t)) (iblk m c 1 t)) (row (iblk m c 0 t))
      (fun sa ss _ => outB (grid0.coords t) (putS (grid0.coords t) ss (scl (iblk m c 0 t))) (putA (grid0.coords t) sa (k0_pay8 (inv (iblk m c 0 t)) (iblk m c 1 t)))
        (iblk m c 2 t) (iblk m c 3 t) (iblk m c 4 t))
      (fun sa _ => putA (grid0.coords t) sa (k0_pay8 (inv (iblk m c 0 t)) (iblk m c 1 t)))
      (fun ss => putS (grid0.coords t) ss (scl (iblk m c 0 t))) (fun _ => inv (iblk m c 0 t))
      (fun sa ss si K => runD c (grid0.coords t) (by rw [i1]; omega) (by rw [i2]; omega) (by rw [i3]; omega) (by rw [i4]; omega)
        _ _ _ _ _ _ _ _ _ _ _ _ _ _ _ _ _ _ _ _ _ _ _ _ _ _ _ _ _ _ _ _ _ Set.univ K)
      (fun _ _ _ _ => .inl ⟨hq, by rw [iblk0 m c t (by omega), iblk1 m c t (by omega)]; rfl⟩)
      (.inl ⟨by omega, by rw [iblk0 m c t (by omega)]⟩)
      (fun sa ss si h h' => .inl ⟨by omega, outB_eq t h' (by omega)⟩)
      (fun sa ss si h => h.next t (.inl ⟨by omega, by omega, by rw [iblk0 m c t (by omega)]; rfl, by rw [iblk0 m c t (by omega)]⟩)
        (.inl ⟨by omega, by rw [iblk0 m c t (by omega), iblk1 m c t (by omega)]⟩))
  · -- a later point of a middle grid row
    have e : ∀ {sa ss si}, Inv m c t.val sa ss si → si = inv (AMX m c (t.val / 14)) := fun h => h.invs (t.val / 14) (by omega) (by omega) (by omega)
    refine sound_of m c t y5 y6 y7 (fun _ _ si => k0_pay7 si (iblk m c 1 t)) y6
      (fun sa ss si => outB (grid0.coords t) ss (putA (grid0.coords t) sa (k0_pay8 si (iblk m c 1 t))) (iblk m c 2 t) (iblk m c 3 t) (iblk m c 4 t))
      (fun sa si => putA (grid0.coords t) sa (k0_pay8 si (iblk m c 1 t))) (fun ss => ss) (fun si => si)
      (fun sa ss si K => runE c (grid0.coords t) (by rw [i1]; omega) (by rw [i2]; omega) (by rw [i3]; omega) (by rw [i4]; omega)
        _ _ _ _ _ _ _ _ _ _ _ _ _ _ _ _ _ _ _ _ _ _ _ _ _ _ _ _ _ _ _ _ _ Set.univ K)
      (fun _ _ _ h => .inl ⟨hq, by rw [e h, iblk1 m c t (by omega)]; rfl⟩)
      (.inr ⟨by omega, rfl⟩)
      (fun sa ss si h h' => .inl ⟨by omega, outB_eq t h' (by omega)⟩)
      (fun sa ss si h => h.next t (.inr ⟨by omega, rfl, rfl⟩) (.inl ⟨by omega, by rw [e h, iblk1 m c t (by omega)]⟩))

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [e0, e1, e2, e3, e4]
  exact triple_restated (sound_body m c t (Y 5) (Y 6) (Y 7)) rfl .rfl fun _ => .rfl

set_option backward.isDefEq.respectTransparency.types false in
/-- Every run ends with the arrays at contents the proof data allow, the other buffers as found and every semaphore at zero. -/
theorem run_main : θ_run defs (onTc (τ := τ) (main (F := F))) (s₀ m ρ)
    (fun r => (RDat.FramePost cfg0 (rdat m) (V m)) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m)
    (hin := fun c => by
      rw [PhiA0_eq]
      dsimp only [rdat]
      iintro ⟨⟨⟨%sa, Ha⟩, ⟨%ss, Hs⟩, ⟨%si, Hi⟩⟩, Hg⟩
      isplitl [Ha Hs Hi]
      · iexists sa, ss, si; isplitr
        · ipureintro; exact Inv.init sa ss si
        isplitl [Ha]; · iexact Ha
        isplitl [Hs]; · iexact Hs
        iexact Hi
      iexact Hg)
    (hout := fun c => by
      rw [PhiA0_eq]
      dsimp only [rdat]
      iintro ⟨⟨%sa, %ss, %si, %hinv, Ha, Hs, Hi⟩, Hg⟩
      isplitl [Ha Hs Hi]
      · isplitl [Ha]; · iexists _; iexact Ha
        isplitl [Hs]; · iexists _; iexact Hs
        iexists _; iexact Hi
      iexact Hg)

/-- The argument arrays end as they were. -/
theorem args_kept (r : PUnit × MemSt nD τ sig (Elt F)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans ((A_eq m c 0).trans (V_main_arg0 m c)),
   (RDat.FramePost.arr_in h c 1 rfl).trans ((A_eq m c 1).trans (V_main_arg1 m c)),
   (RDat.FramePost.arr_in h c 2 rfl).trans ((A_eq m c 2).trans (V_main_arg2 m c)),
   ((h c).2 main_arg3 (Pipeline.mem_restRefs_of main_arg3 (by decide) (by decide))).trans (V_main_arg3 m c),
   (RDat.FramePost.arr_in h c 4 rfl).trans ((A_eq m c 4).trans (V_main_arg4 m c))⟩

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m r h.1 c, h.2⟩) (run_main m ρ)

end Cert.Down.Hand
end
-- ==== Proof.OprojRun.lean ====
module

public import Idealize.ShloMosaic.Lib.VecWindow
public import proofs.«01_k».proof.Proof.Gen.Oproj.Skeleton
public import proofs.«01_k».proof.Proof.Gen.Oproj.Frame

/-! The body of the output projection, run once at a quantising grid point and once at a multiplying one. Each run
states what every buffer holds afterwards as a plain function of what the buffers held before. -/

@[expose] public section
set_option maxRecDepth 16384
noncomputable section
namespace Cert.Oproj.Hand
open Cert.Oproj Cert.Oproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem off1_eq (i : grid0.Coords) (h : k0_cond1 i = 1#1) : k0_off1 i = ![256 * (i 0).val, 0] :=
  (by decide +kernel : ∀ i : grid0.Coords, k0_off1 i = ![256 * (i 0).val, 0]) i
theorem off2_eq (i : grid0.Coords) (h : k0_cond1 i = 1#1) : k0_off2 i = ![256 * (i 0).val, 0] :=
  (by decide +kernel : ∀ i : grid0.Coords, k0_off2 i = ![256 * (i 0).val, 0]) i

instance (i : grid0.Coords) : ClosedOff (k0_off1 i) := ⟨_, (by decide +kernel : ∀ i : grid0.Coords, k0_off1 i = ![256 * (i 0).val, 0]) i⟩
instance (i : grid0.Coords) : ClosedOff (k0_off2 i) := ⟨_, (by decide +kernel : ∀ i : grid0.Coords, k0_off2 i = ![256 * (i 0).val, 0]) i⟩

/-! ## What the body computes from its blocks -/

/-- The exponent of each column's quantisation scale. -/
def expo (x0 : Vec F S5376x256 .bf16) : IVec S1x256 32 := k0_pay6 (k0_pay2 x0) (k0_pay3 x0) (k0_pay4 x0) (k0_pay5 x0)
/-- The block of codes. -/
def cod (x0 : Vec F S5376x256 .bf16) : Vec F S256x5376 .fp8e4m3 := k0_pay10 x0 (expo x0)
/-- The codes as the body keeps them. -/
def codS (x0 : Vec F S5376x256 .bf16) : Vec F S256x5376 .fp8e4m3 := k0_pay11 x0 (expo x0)
/-- The scales the body keeps. -/
def scl (x0 : Vec F S5376x256 .bf16) : Vec F S256x128 .f32 := k0_pay12 (expo x0)
/-- The row of scales the body stores as a result. -/
def row (x0 : Vec F S5376x256 .bf16) : Vec F S1x256 .f32 := k0_pay8 (expo x0) k0_pay7

/-- The scales after this grid point's own are stored. -/
def putS (i : grid0.Coords) (ss : Vec F S2560x128 .f32) (w : Vec F S256x128 .f32) : Vec F S2560x128 .f32 :=
  VecWindow.put ss ![256 * (i 0).val, 0] S256x128.size w
/-- The codes after this grid point's own are stored. -/
def putA (i : grid0.Coords) (sa : Vec F S2560x5376 .fp8e4m3) (w : Vec F S256x5376 .fp8e4m3) : Vec F S2560x5376 .fp8e4m3 :=
  VecWindow.put sa ![256 * (i 0).val, 0] S256x5376.size w

/-- Rows `512 q` to `512 q + 511` of the projection's column block. -/
def mul (q : Fin 5) (ss : Vec F S2560x128 .f32) (sa : Vec F S2560x5376 .fp8e4m3) (x1 : Vec F S5376x512 .fp8e4m3) (x2 : Vec F S1x512 .f32)
    (x3 : Vec F S2560x512 .bf16) : Vec F S512x512 .bf16 :=
  k0_pay13 (VecWindow.window ss ![512 * q.val, 0] S512x128.size ((by decide +kernel : ∀ q : Fin 5, ∀ a, (![512 * q.val, 0] : Fin 2 → ℕ) a + S512x128.size a ≤ S2560x128.size a) q))
    (VecWindow.window sa ![512 * q.val, 0] S512x5376.size ((by decide +kernel : ∀ q : Fin 5, ∀ a, (![512 * q.val, 0] : Fin 2 → ℕ) a + S512x5376.size a ≤ S2560x5376.size a) q))
    x1 x2
    (VecWindow.window x3 ![512 * q.val, 0] S512x512.size ((by decide +kernel : ∀ q : Fin 5, ∀ a, (![512 * q.val, 0] : Fin 2 → ℕ) a + S512x512.size a ≤ S2560x512.size a) q))

/-- The result block after one chunk of rows is stored. -/
def putO (q : Fin 5) (y : Vec F S2560x512 .bf16) (w : Vec F S512x512 .bf16) : Vec F S2560x512 .bf16 :=
  VecWindow.put y ![512 * q.val, 0] S512x512.size w

/-- The result block after the first `n` chunks of rows are stored. -/
def outUpto (n : ℕ) (ss : Vec F S2560x128 .f32) (sa : Vec F S2560x5376 .fp8e4m3) (x1 : Vec F S5376x512 .fp8e4m3) (x2 : Vec F S1x512 .f32)
    (x3 y6 : Vec F S2560x512 .bf16) : Vec F S2560x512 .bf16 :=
  match n with
  | 0 => y6
  | n + 1 => putO (Fin.ofNat 5 n) (outUpto n ss sa x1 x2 x3 y6) (mul (Fin.ofNat 5 n) ss sa x1 x2 x3)

section Loads
variable {s : Shape} {e : EltTy} {mr : Memref sig .tc .vmem s e} (h : mr.IsWhole)

/-- A load of a whole buffer reads its contents. -/
theorem ld_full (x : s.Idx → Elt F e) {off : Fin s.rank → ℕ} (inb : ∀ a, off a + s.size a ≤ s.size a) :
    View.readAt (Elt F) mr.view (Rect.unit off s.size inb).toLoadRect (h.unread x) = x :=
  (View.readAt_full _ _ inb).trans (h.read_unread x)

/-- A load of part of a buffer reads that window of its contents. -/
theorem ld_win {f : mr.view.ty.Contents (Elt F)} {x : s.Idx → Elt F e} (hf : mr.view.read (Elt F) f = x) {off off' size : Fin s.rank → ℕ}
    (inb : ∀ a, off a + size a ≤ s.size a) (ho : off = off') (inb' : ∀ a, off' a + size a ≤ s.size a) :
    View.readAt (Elt F) mr.view (Rect.unit off size inb).toLoadRect f = VecWindow.window x off' size inb' := by
  subst hf; exact View.readAt_unit _ _ inb ho inb'

/-- A store of part of a buffer puts the payload over that window. -/
theorem st_put (x : s.Idx → Elt F e) {off off' size : Fin s.rank → ℕ} (inb : ∀ a, off a + size a ≤ s.size a)
    (w w' : (Rect.unit off size inb).shape.Idx → Elt F e) (ho : off = off') (hw : w = w') :
    mr.view.read (Elt F) (mr.view.writes (Elt F) (h.unread x) [⟨Rect.unit off size inb, w⟩]) = VecWindow.put x off' size w' := by
  subst hw
  refine (View.read_writes_cons_put _ _ inb w [] ho).trans ?_
  rw [View.writes_nil, h.read_unread]

/-- A store of a whole buffer leaves the payload. -/
theorem st_full (f : mr.view.ty.Contents (Elt F)) {off : Fin s.rank → ℕ} (inb : ∀ a, off a + s.size a ≤ s.size a)
    (w w' : (Rect.unit off s.size inb).shape.Idx → Elt F e) (hw : w = w') :
    mr.view.read (Elt F) (mr.view.writes (Elt F) f [⟨Rect.unit off s.size inb, w⟩]) = w' :=
  (View.read_writes_full _ _ inb w []).trans hw
end Loads

/-- A further store of part of a buffer puts its payload over that window. -/
theorem st_cons {s : Shape} {e : EltTy} {mr : Memref sig .tc .vmem s e} {f : mr.view.ty.Contents (Elt F)} {off off' size : Fin s.rank → ℕ}
    (inb : ∀ a, off a + size a ≤ s.size a) (w w' : (Rect.unit off size inb).shape.Idx → Elt F e) {L : List ((r : Rect s) × (r.shape.Idx → Elt F e))} {z : s.Idx → Elt F e}
    (ho : off = off') (hw : w = w') (hz : mr.view.read (Elt F) (mr.view.writes (Elt F) f L) = z) :
    mr.view.read (Elt F) (mr.view.writes (Elt F) f (⟨Rect.unit off size inb, w⟩ :: L)) = VecWindow.put z off' size w' := by
  subst hw hz; exact View.read_writes_cons_put _ _ inb w L ho

/-- A chunk of the projection, from equal readings of its operands. -/
theorem pay13_congr {a a' : Vec F S512x128 .f32} {b b' : Vec F S512x5376 .fp8e4m3} {x x' : Vec F S5376x512 .fp8e4m3} {y y' : Vec F S1x512 .f32}
    {z z' : Vec F S512x512 .bf16} (ha : a = a') (hb : b = b') (hx : x = x') (hy : y = y') (hz : z = z') :
    k0_pay13 a b x y z = k0_pay13 a' b' x' y' z' := by subst ha hb hx hy hz; rfl

set_option maxHeartbeats 1000000 in
/-- A quantising point: one block of codes and its scales. -/
theorem runA (c : Dev nD) (i : grid0.Coords) (h1 : k0_cond1 i = 1#1) (h2 : ¬ k0_cond2 i = 1#1)
    (arg1 : Memref sig .tc .vmem S5376x256 .bf16) (harg1 : arg1.IsWhole) (arg2 : Memref sig .tc .vmem S5376x512 .fp8e4m3) (harg2 : arg2.IsWhole) (arg3 : Memref sig .tc .vmem S1x512 .f32) (harg3 : arg3.IsWhole) (arg4 : Memref sig .tc .vmem S2560x512 .bf16) (harg4 : arg4.IsWhole) (arg5 : Memref sig .tc .vmem S256x5376 .fp8e4m3) (harg5 : arg5.IsWhole) (arg6 : Memref sig .tc .vmem S1x256 .f32) (harg6 : arg6.IsWhole) (arg7 : Memref sig .tc .vmem S2560x512 .bf16) (harg7 : arg7.IsWhole) (arg8 : Memref sig .tc .vmem S2560x5376 .fp8e4m3) (harg8 : arg8.IsWhole) (arg9 : Memref sig .tc .vmem S2560x128 .f32) (harg9 : arg9.IsWhole)
    (x0 : Vec F S5376x256 .bf16) (x1 : Vec F S5376x512 .fp8e4m3) (x2 : Vec F S1x512 .f32) (x3 : Vec F S2560x512 .bf16) (y4 : Vec F S256x5376 .fp8e4m3) (y5 : Vec F S1x256 .f32) (y6 : Vec F S2560x512 .bf16) (sa : Vec F S2560x5376 .fp8e4m3) (ss : Vec F S2560x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare sa ∗ owns (c : Thread nD τ) arg9 fullShare ss
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (cod x0) ∗ owns (c : Thread nD τ) arg6 fullShare (row x0) ∗ owns (c : Thread nD τ) arg7 fullShare y6 ∗ owns (c : Thread nD τ) arg8 fullShare (putA i sa (codS x0)) ∗ owns (c : Thread nD τ) arg9 fullShare (putS i ss (scl x0))) -∗ K ⟨⟩))
      ⊢ wp frame (wpE (defs₀ (F := F)) Variants.none c none) E
          (cc0_oproj i arg1 harg1 arg2 harg2 arg3 harg3 arg4 harg4 arg5 harg5 arg6 harg6 arg7 harg7 arg8 harg8 arg9 harg9) K := by
  simp only [cc0_oproj_eq_skeleton]; unfold cc0_oproj_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, Ha⟩, ⟨%f8, %hf8, Hs⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h1 | sl_exact h2)
  sl_step
  iapply Hk
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact st_full _ _ _ _ (congrArg (cod (F := F)) (ld_full harg1 x0 _))
  isplitl [H5]
  · iexists _; isplitr; swap; · iexact H5
    ipureintro
    exact st_full _ _ _ _ (congrArg (row (F := F)) (ld_full harg1 x0 _))
  isplitl [H6]
  · iexists _; isplitr; swap; · iexact H6
    ipureintro
    exact harg7.read_unread y6
  isplitl [Ha]
  · iexists _; isplitr; swap; · iexact Ha
    ipureintro
    exact st_put harg8 sa _ _ _ (off1_eq i h1) (congrArg (codS (F := F)) (ld_full harg1 x0 _))
  iexists _; isplitr; swap; · iexact Hs
  ipureintro
  exact st_put harg9 ss _ _ _ (off2_eq i h1) (congrArg (scl (F := F)) (ld_full harg1 x0 _))

set_option maxHeartbeats 1000000 in
/-- A multiplying point: one column block of the projection. -/
theorem runB (c : Dev nD) (i : grid0.Coords) (h1 : ¬ k0_cond1 i = 1#1) (h2 : k0_cond2 i = 1#1)
    (arg1 : Memref sig .tc .vmem S5376x256 .bf16) (harg1 : arg1.IsWhole) (arg2 : Memref sig .tc .vmem S5376x512 .fp8e4m3) (harg2 : arg2.IsWhole) (arg3 : Memref sig .tc .vmem S1x512 .f32) (harg3 : arg3.IsWhole) (arg4 : Memref sig .tc .vmem S2560x512 .bf16) (harg4 : arg4.IsWhole) (arg5 : Memref sig .tc .vmem S256x5376 .fp8e4m3) (harg5 : arg5.IsWhole) (arg6 : Memref sig .tc .vmem S1x256 .f32) (harg6 : arg6.IsWhole) (arg7 : Memref sig .tc .vmem S2560x512 .bf16) (harg7 : arg7.IsWhole) (arg8 : Memref sig .tc .vmem S2560x5376 .fp8e4m3) (harg8 : arg8.IsWhole) (arg9 : Memref sig .tc .vmem S2560x128 .f32) (harg9 : arg9.IsWhole)
    (x0 : Vec F S5376x256 .bf16) (x1 : Vec F S5376x512 .fp8e4m3) (x2 : Vec F S1x512 .f32) (x3 : Vec F S2560x512 .bf16) (y4 : Vec F S256x5376 .fp8e4m3) (y5 : Vec F S1x256 .f32) (y6 : Vec F S2560x512 .bf16) (sa : Vec F S2560x5376 .fp8e4m3) (ss : Vec F S2560x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare sa ∗ owns (c : Thread nD τ) arg9 fullShare ss
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare (outUpto 5 ss sa x1 x2 x3 y6) ∗ owns (c : Thread nD τ) arg8 fullShare sa ∗ owns (c : Thread nD τ) arg9 fullShare ss) -∗ K ⟨⟩))
      ⊢ wp frame (wpE (defs₀ (F := F)) Variants.none c none) E
          (cc0_oproj i arg1 harg1 arg2 harg2 arg3 harg3 arg4 harg4 arg5 harg5 arg6 harg6 arg7 harg7 arg8 harg8 arg9 harg9) K := by
  simp only [cc0_oproj_eq_skeleton]; unfold cc0_oproj_skel
  simp only [k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, Ha⟩, ⟨%f8, %hf8, Hs⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h1 | sl_exact h2)
  sl_step
  iapply Hk
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact harg5.read_unread y4
  isplitl [H5]
  · iexists _; isplitr; swap; · iexact H5
    ipureintro
    exact harg6.read_unread y5
  isplitl [H6]
  · iexists _; isplitr; swap; · iexact H6
    ipureintro
    exact st_cons _ _ _ rfl (pay13_congr (ld_win (harg9.read_unread ss) _ rfl _) (ld_win (harg8.read_unread sa) _ rfl _) (ld_full harg2 x1 _) (ld_full harg3 x2 _) (ld_win (harg4.read_unread x3) _ rfl _)) (st_cons _ _ _ rfl (pay13_congr (ld_win (harg9.read_unread ss) _ rfl _) (ld_win (harg8.read_unread sa) _ rfl _) (ld_full harg2 x1 _) (ld_full harg3 x2 _) (ld_win (harg4.read_unread x3) _ rfl _)) (st_cons _ _ _ rfl (pay13_congr (ld_win (harg9.read_unread ss) _ rfl _) (ld_win (harg8.read_unread sa) _ rfl _) (ld_full harg2 x1 _) (ld_full harg3 x2 _) (ld_win (harg4.read_unread x3) _ rfl _)) (st_cons _ _ _ rfl (pay13_congr (ld_win (harg9.read_unread ss) _ rfl _) (ld_win (harg8.read_unread sa) _ rfl _) (ld_full harg2 x1 _) (ld_full harg3 x2 _) (ld_win (harg4.read_unread x3) _ rfl _)) (st_cons _ _ _ rfl (pay13_congr (ld_win (harg9.read_unread ss) _ rfl _) (ld_win (harg8.read_unread sa) _ rfl _) (ld_full harg2 x1 _) (ld_full harg3 x2 _) (ld_win (harg4.read_unread x3) _ rfl _)) (by rw [View.writes_nil]; exact harg7.read_unread y6)))))
  isplitl [Ha]
  · iexists _; isplitr; swap; · iexact Ha
    ipureintro
    exact harg8.read_unread sa
  iexists _; isplitr; swap; · iexact Hs
  ipureintro
  exact harg9.read_unread ss

end Cert.Oproj.Hand
end
-- ==== Proof.OprojBody.lean ====
/- The output projection's pipeline: what its scratch buffers hold before each grid point and what each point leaves in
   the three output blocks. -/
module

public import proofs.«01_k».proof.Proof.OprojRun
public import Idealize.ShloMosaic.Lib.Pointwise
public import Idealize.ShloMosaic.Lib.Pipeline.ArrRel
public import Idealize.ShloMosaic.Lib.Claim

@[expose] public section
set_option maxRecDepth 16384
noncomputable section
namespace Cert.Oproj.Hand
open Cert.Oproj Cert.Oproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The grid -/

theorem tlt (t : Fin cfg0.N) : t.val < 24 := by have hN : cfg0.N = 24 := N_0; have := t.isLt; omega
theorem coords0 : ∀ t : Fin cfg0.N, ((grid0.coords t) 0).val = t.val :=
  (by decide +kernel : ∀ t : Fin grid0.N, ((grid0.coords t) 0).val = t.val)
theorem cond1_iff : ∀ t : Fin cfg0.N, k0_cond1 (grid0.coords t) = 1#1 ↔ t.val < 10 :=
  (by decide +kernel : ∀ t : Fin grid0.N, k0_cond1 (grid0.coords t) = 1#1 ↔ t.val < 10)
theorem cond2_iff : ∀ t : Fin cfg0.N, k0_cond2 (grid0.coords t) = 1#1 ↔ 10 ≤ t.val :=
  (by decide +kernel : ∀ t : Fin grid0.N, k0_cond2 (grid0.coords t) = 1#1 ↔ 10 ≤ t.val)

theorem index0 : ∀ t : Fin cfg0.N, win0_0.index t 0 = 0 ∧ win0_0.index t 1 = min t.val 9 :=
  (by decide +kernel : ∀ t : Fin grid0.N, win0_0.index t 0 = 0 ∧ win0_0.index t 1 = min t.val 9)
theorem index1 : ∀ t : Fin cfg0.N, win0_1.index t 0 = 0 ∧ win0_1.index t 1 = t.val - 10 :=
  (by decide +kernel : ∀ t : Fin grid0.N, win0_1.index t 0 = 0 ∧ win0_1.index t 1 = t.val - 10)
theorem index2 : ∀ t : Fin cfg0.N, win0_2.index t 0 = 0 ∧ win0_2.index t 1 = t.val - 10 :=
  (by decide +kernel : ∀ t : Fin grid0.N, win0_2.index t 0 = 0 ∧ win0_2.index t 1 = t.val - 10)
theorem index3 : ∀ t : Fin cfg0.N, win0_3.index t 0 = 0 ∧ win0_3.index t 1 = t.val - 10 :=
  (by decide +kernel : ∀ t : Fin grid0.N, win0_3.index t 0 = 0 ∧ win0_3.index t 1 = t.val - 10)

/-! ## The blocks of the arguments -/

abbrev aAt : S5376x2560.Idx → Elt F .bf16 := m ((c : Thread nD τ).loc main_arg0)
abbrev aW : S5376x7168.Idx → Elt F .fp8e4m3 := m ((c : Thread nD τ).loc main_arg1)
abbrev aSw : S1x7168.Idx → Elt F .f32 := V m c main_v0
abbrev aX : S2560x7168.Idx → Elt F .bf16 := m ((c : Thread nD τ).loc main_arg3)

/-- Column block `j` of the attention's output. -/
def AT (j : ℕ) : Vec F S5376x256 .bf16 := fun y => aAt m c (ix2 (y 0) (Fin.ofNat 2560 (j * 256 + (y 1).val)))
/-- Column block `n` of the weights. -/
def WB (n : ℕ) : Vec F S5376x512 .fp8e4m3 := fun y => aW m c (ix2 (y 0) (Fin.ofNat 7168 (n * 512 + (y 1).val)))
/-- Column block `n` of the weights' scales. -/
def SWB (n : ℕ) : Vec F S1x512 .f32 := fun y => aSw m c (ix2 0 (Fin.ofNat 7168 (n * 512 + (y 1).val)))
/-- Column block `n` of the residual. -/
def XB (n : ℕ) : Vec F S2560x512 .bf16 := fun y => aX m c (ix2 (y 0) (Fin.ofNat 7168 (n * 512 + (y 1).val)))

theorem iblk0 (t : Fin cfg0.N) (h : t.val < 10) : (iblk m c 0 t : Vec F S5376x256 .bf16) = AT m c t.val := by
  funext y
  have h1 : (y 1).val < 256 := (y 1).isLt
  unfold iblk AT
  rw [View.read_apply]
  show V m c main_arg0 _ = m (c.tc.loc main_arg0) _
  rw [V_main_arg0]
  congr 1
  funext a; apply Fin.ext
  match a with
  | ⟨0, _⟩ => show win0_0.index t 0 * 5376 + 1 * (y 0).val = (y 0).val; rw [(index0 t).1]; omega
  | ⟨1, _⟩ => show win0_0.index t 1 * 256 + 1 * (y 1).val = (t.val * 256 + (y 1).val) % 2560; rw [(index0 t).2]; omega

theorem iblk1 (t : Fin cfg0.N) (h : 10 ≤ t.val) : (iblk m c 1 t : Vec F S5376x512 .fp8e4m3) = WB m c (t.val - 10) := by
  funext y
  have ht := tlt t
  have h1 : (y 1).val < 512 := (y 1).isLt
  unfold iblk WB
  rw [View.read_apply]
  show V m c main_arg1 _ = m (c.tc.loc main_arg1) _
  rw [V_main_arg1]
  congr 1
  funext a; apply Fin.ext
  match a with
  | ⟨0, _⟩ => show win0_1.index t 0 * 5376 + 1 * (y 0).val = (y 0).val; rw [(index1 t).1]; omega
  | ⟨1, _⟩ => show win0_1.index t 1 * 512 + 1 * (y 1).val = ((t.val - 10) * 512 + (y 1).val) % 7168; rw [(index1 t).2]; omega

theorem iblk2 (t : Fin cfg0.N) (h : 10 ≤ t.val) : (iblk m c 2 t : Vec F S1x512 .f32) = SWB m c (t.val - 10) := by
  funext y
  have ht := tlt t
  have h0 : (y 0).val < 1 := (y 0).isLt
  have h1 : (y 1).val < 512 := (y 1).isLt
  unfold iblk SWB
  rw [View.read_apply]
  show V m c main_v0 _ = V m c main_v0 _
  congr 1
  funext a; apply Fin.ext
  match a with
  | ⟨0, _⟩ => show win0_2.index t 0 * 1 + 1 * (y 0).val = 0; rw [(index2 t).1]; omega
  | ⟨1, _⟩ => show win0_2.index t 1 * 512 + 1 * (y 1).val = ((t.val - 10) * 512 + (y 1).val) % 7168; rw [(index2 t).2]; omega

theorem iblk3 (t : Fin cfg0.N) (h : 10 ≤ t.val) : (iblk m c 3 t : Vec F S2560x512 .bf16) = XB m c (t.val - 10) := by
  funext y
  have ht := tlt t
  have h1 : (y 1).val < 512 := (y 1).isLt
  unfold iblk XB
  rw [View.read_apply]
  show V m c main_arg3 _ = m (c.tc.loc main_arg3) _
  rw [V_main_arg3]
  congr 1
  funext a; apply Fin.ext
  match a with
  | ⟨0, _⟩ => show win0_3.index t 0 * 2560 + 1 * (y 0).val = (y 0).val; rw [(index3 t).1]; omega
  | ⟨1, _⟩ => show win0_3.index t 1 * 512 + 1 * (y 1).val = ((t.val - 10) * 512 + (y 1).val) % 7168; rw [(index3 t).2]; omega

/-! ## What the pipeline keeps and what it stores -/

/-- The codes of column block `j`. -/
def CODE (j : ℕ) : Vec F S256x5376 .fp8e4m3 := cod (AT m c j)
/-- The row of scales of column block `j`. -/
def ROW (j : ℕ) : Vec F S1x256 .f32 := row (AT m c j)
/-- All codes. -/
def PA : Vec F S2560x5376 .fp8e4m3 := fun y => CODE m c ((y 0).val / 256) (ix2 (Fin.ofNat 256 (y 0).val) (y 1))
/-- All scales, as the body keeps them. -/
def PS : Vec F S2560x128 .f32 := fun y => scl (AT m c ((y 0).val / 256)) (ix2 (Fin.ofNat 256 (y 0).val) (y 1))
/-- Column block `n` of the projection. -/
def OUT (n : ℕ) : Vec F S2560x512 .bf16 := fun y =>
  mul (Fin.ofNat 5 ((y 0).val / 512)) (PS m c) (PA m c) (WB m c n) (SWB m c n) (XB m c n) (ix2 (Fin.ofNat 512 (y 0).val) (y 1))

theorem putA_apply (i : grid0.Coords) (sa : Vec F S2560x5376 .fp8e4m3) (w : Vec F S256x5376 .fp8e4m3) (r : Fin 2560) (l : Fin 5376) :
    putA i sa w (ix2 r l) = if r.val / 256 = (i 0).val then w (ix2 (Fin.ofNat 256 r.val) l) else sa (ix2 r l) := by
  unfold putA VecWindow.put
  have hr := r.isLt
  have hl := l.isLt
  by_cases h : r.val / 256 = (i 0).val
  · rw [if_pos h, dif_pos (fun a => by
      match a with
      | ⟨0, _⟩ => show 256 * (i 0).val ≤ r.val ∧ r.val < 256 * (i 0).val + 256; omega
      | ⟨1, _⟩ => show 0 ≤ l.val ∧ l.val < 0 + 5376; omega)]
    congr 1
    funext a; apply Fin.ext
    match a with
    | ⟨0, _⟩ => show r.val - 256 * (i 0).val = r.val % 256; omega
    | ⟨1, _⟩ => show l.val - 0 = l.val; omega
  · rw [if_neg h, dif_neg]
    intro hall
    have h0 : 256 * (i 0).val ≤ r.val ∧ r.val < 256 * (i 0).val + 256 := hall 0
    exact h (by omega)

theorem putS_apply (i : grid0.Coords) (ss : Vec F S2560x128 .f32) (w : Vec F S256x128 .f32) (r : Fin 2560) (l : Fin 128) :
    putS i ss w (ix2 r l) = if r.val / 256 = (i 0).val then w (ix2 (Fin.ofNat 256 r.val) l) else ss (ix2 r l) := by
  unfold putS VecWindow.put
  have hr := r.isLt
  have hl := l.isLt
  by_cases h : r.val / 256 = (i 0).val
  · rw [if_pos h, dif_pos (fun a => by
      match a with
      | ⟨0, _⟩ => show 256 * (i 0).val ≤ r.val ∧ r.val < 256 * (i 0).val + 256; omega
      | ⟨1, _⟩ => show 0 ≤ l.val ∧ l.val < 0 + 128; omega)]
    congr 1
    funext a; apply Fin.ext
    match a with
    | ⟨0, _⟩ => show r.val - 256 * (i 0).val = r.val % 256; omega
    | ⟨1, _⟩ => show l.val - 0 = l.val; omega
  · rw [if_neg h, dif_neg]
    intro hall
    have h0 : 256 * (i 0).val ≤ r.val ∧ r.val < 256 * (i 0).val + 256 := hall 0
    exact h (by omega)

theorem putO_apply (q : Fin 5) (y : Vec F S2560x512 .bf16) (w : Vec F S512x512 .bf16) (r : Fin 2560) (l : Fin 512) :
    putO q y w (ix2 r l) = if r.val / 512 = q.val then w (ix2 (Fin.ofNat 512 r.val) l) else y (ix2 r l) := by
  unfold putO VecWindow.put
  have hr := r.isLt
  have hl := l.isLt
  by_cases h : r.val / 512 = q.val
  · rw [if_pos h, dif_pos (fun a => by
      match a with
      | ⟨0, _⟩ => show 512 * q.val ≤ r.val ∧ r.val < 512 * q.val + 512; omega
      | ⟨1, _⟩ => show 0 ≤ l.val ∧ l.val < 0 + 512; omega)]
    congr 1
    funext a; apply Fin.ext
    match a with
    | ⟨0, _⟩ => show r.val - 512 * q.val = r.val % 512; omega
    | ⟨1, _⟩ => show l.val - 0 = l.val; omega
  · rw [if_neg h, dif_neg]
    intro hall
    have h0 : 512 * q.val ≤ r.val ∧ r.val < 512 * q.val + 512 := hall 0
    exact h (by omega)

theorem codS_apply (x : Vec F S5376x256 .bf16) (r : Fin 256) (l : Fin 5376) : codS x (ix2 r l) = cod x (ix2 r l) := by
  unfold codS cod k0_pay11
  pointwise

/-- The first `n` chunks of rows of the result block hold the projection. -/
theorem outUpto_apply (n : ℕ) (hn : n ≤ 5) (ss : Vec F S2560x128 .f32) (sa : Vec F S2560x5376 .fp8e4m3) (x1 : Vec F S5376x512 .fp8e4m3) (x2 : Vec F S1x512 .f32)
    (x3 y6 : Vec F S2560x512 .bf16) (r : Fin 2560) (l : Fin 512) (h : r.val / 512 < n) :
    outUpto n ss sa x1 x2 x3 y6 (ix2 r l) = mul (Fin.ofNat 5 (r.val / 512)) ss sa x1 x2 x3 (ix2 (Fin.ofNat 512 r.val) l) := by
  induction n with
  | zero => exact absurd h (Nat.not_lt_zero _)
  | succ n ih =>
    show putO (Fin.ofNat 5 n) _ _ (ix2 r l) = _
    have hv : (Fin.ofNat 5 n).val = n := by show n % 5 = n; omega
    rw [putO_apply, hv]
    by_cases e : r.val / 512 = n
    · rw [if_pos e, e]
    · rw [if_neg e]; exact ih (by omega) (by omega)

/-- What the scratch buffers hold before grid point `k`: the codes and scales of the column blocks quantised so far. -/
structure Inv (k : ℕ) (sa : Vec F S2560x5376 .fp8e4m3) (ss : Vec F S2560x128 .f32) : Prop where
  codes : ∀ (r : Fin 2560) (l : Fin 5376), r.val / 256 < k → sa (ix2 r l) = PA m c (ix2 r l)
  scales : ∀ (r : Fin 2560) (l : Fin 128), r.val / 256 < k → ss (ix2 r l) = PS m c (ix2 r l)

variable {m c}

theorem Inv.init (sa : Vec F S2560x5376 .fp8e4m3) (ss : Vec F S2560x128 .f32) : Inv m c 0 sa ss :=
  ⟨fun _ _ h => absurd h (Nat.not_lt_zero _), fun _ _ h => absurd h (Nat.not_lt_zero _)⟩

/-- A quantising point extends what is held. -/
theorem Inv.quant (t : Fin cfg0.N) {sa : Vec F S2560x5376 .fp8e4m3} {ss : Vec F S2560x128 .f32} (h : Inv m c t.val sa ss) :
    Inv m c (t.val + 1) (putA (grid0.coords t) sa (codS (AT m c t.val))) (putS (grid0.coords t) ss (scl (AT m c t.val))) := by
  refine ⟨fun r l hr => ?_, fun r l hr => ?_⟩
  · rw [putA_apply, coords0]
    by_cases e : r.val / 256 = t.val
    · rw [if_pos e, codS_apply, ← e]; rfl
    · rw [if_neg e]; exact h.codes r l (by omega)
  · rw [putS_apply, coords0]
    by_cases e : r.val / 256 = t.val
    · rw [if_pos e, ← e]; rfl
    · rw [if_neg e]; exact h.scales r l (by omega)

/-- Once ten blocks are quantised everything is held. -/
theorem Inv.all {k : ℕ} {sa : Vec F S2560x5376 .fp8e4m3} {ss : Vec F S2560x128 .f32} (h : Inv m c k sa ss) (hk : 10 ≤ k) :
    sa = PA m c ∧ ss = PS m c := by
  constructor
  · funext y
    have h0 : (y 0).val < 2560 := (y 0).isLt
    have e := h.codes (y 0) (y 1) (by omega)
    exact (congrArg sa (eq_ix2 y)).trans (e.trans (congrArg (PA m c) (eq_ix2 y).symm))
  · funext y
    have h0 : (y 0).val < 2560 := (y 0).isLt
    have e := h.scales (y 0) (y 1) (by omega)
    exact (congrArg ss (eq_ix2 y)).trans (e.trans (congrArg (PS m c) (eq_ix2 y).symm))

theorem Inv.keep {k : ℕ} {sa : Vec F S2560x5376 .fp8e4m3} {ss : Vec F S2560x128 .f32} (h : Inv m c k sa ss) (hk : 10 ≤ k) : Inv m c (k + 1) sa ss := by
  obtain ⟨rfl, rfl⟩ := h.all hk
  exact ⟨fun _ _ _ => rfl, fun _ _ _ => rfl⟩

/-- A multiplying point leaves a column block of the projection. -/
theorem out_eq (t : Fin cfg0.N) {sa : Vec F S2560x5376 .fp8e4m3} {ss : Vec F S2560x128 .f32} (h : Inv m c t.val sa ss) (ht : 10 ≤ t.val)
    (y6 : Vec F S2560x512 .bf16) :
    outUpto 5 ss sa (iblk m c 1 t) (iblk m c 2 t) (iblk m c 3 t) y6 = OUT m c (t.val - 10) := by
  obtain ⟨rfl, rfl⟩ := h.all ht
  rw [iblk1 m c t ht, iblk2 m c t ht, iblk3 m c t ht]
  funext y
  have h0 : (y 0).val < 2560 := (y 0).isLt
  have e := outUpto_apply 5 (le_refl 5) (PS m c) (PA m c) (WB m c (t.val - 10)) (SWB m c (t.val - 10)) (XB m c (t.val - 10)) y6 (y 0) (y 1) (by omega)
  exact (congrArg _ (eq_ix2 y)).trans e

end Cert.Oproj.Hand
end
-- ==== Proof.OprojPipe.lean ====
/- The output projection's run: the proof data of its pipeline, the body at every grid point, and what the machine's memory
   holds at the end. -/
module

public import proofs.«01_k».proof.Proof.OprojBody

@[expose] public section
set_option maxRecDepth 16384
noncomputable section
namespace Cert.Oproj.Hand
open Cert.Oproj Cert.Oproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The scratch buffers the body is handed. -/
abbrev scA : Memref sig .tc .vmem S2560x5376 .fp8e4m3 := Memref.whole cc0_scratch0
abbrev scS : Memref sig .tc .vmem S2560x128 .f32 := Memref.whole cc0_scratch1

theorem PhiA0_eq (c : Dev nD) :
    (Pipeline.ΦA spec0 c : sProp 𝕄)
      = iprop(iprop((∃ d, owns (c : Thread nD τ) scA fullShare d) ∗ (∃ d, owns (c : Thread nD τ) scS fullShare d))
          ∗ (∃ r, prngReg c r)) := by
  unfold Pipeline.ΦA; rw [scopedRest0_eq]; simp only [scA, scS, owns_whole]; try rfl

/-- The proof data: an input's buffer is left as found; an output's holds its point's result where the point stores
    one, and is left as found elsewhere; the scratch buffers hold what `Inv` says. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => (t.val < 10 ∧ X = CODE m c t.val) ∨ (10 ≤ t.val ∧ X = Y)
    | ⟨5, _⟩ => (t.val < 10 ∧ X = ROW m c t.val) ∨ (10 ≤ t.val ∧ X = Y)
    | ⟨6, _⟩ => (10 ≤ t.val ∧ X = OUT m c (t.val - 10)) ∨ (t.val < 10 ∧ X = Y)
  Φ k := iprop((∃ sa ss, ⌜Inv m c k.val sa ss⌝ ∗ owns (c : Thread nD τ) scA fullShare sa ∗ owns (c : Thread nD τ) scS fullShare ss) ∗ (∃ r, prngReg c r))
  q _ := fullShare
  owed _ := 0

theorem A_eq (c : Dev nD) (w : Fin cfg0.W) : (rdat m c).A w = V m c (Pipeline.arrRef spec0 w) := by dsimp only [rdat]

/-- An input's buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl

/-! ## The body at a grid point -/

abbrev ms0 (t : Fin cfg0.N) : Memref sig .tc .vmem S5376x256 .bf16 := win0_0.stage (cfg0.slots t 0)
abbrev ms1 (t : Fin cfg0.N) : Memref sig .tc .vmem S5376x512 .fp8e4m3 := win0_1.stage (cfg0.slots t 1)
abbrev ms2 (t : Fin cfg0.N) : Memref sig .tc .vmem S1x512 .f32 := win0_2.stage (cfg0.slots t 2)
abbrev ms3 (t : Fin cfg0.N) : Memref sig .tc .vmem S2560x512 .bf16 := win0_3.stage (cfg0.slots t 3)
abbrev ms4 (t : Fin cfg0.N) : Memref sig .tc .vmem S256x5376 .fp8e4m3 := win0_4.stage (cfg0.slots t 4)
abbrev ms5 (t : Fin cfg0.N) : Memref sig .tc .vmem S1x256 .f32 := win0_5.stage (cfg0.slots t 5)
abbrev ms6 (t : Fin cfg0.N) : Memref sig .tc .vmem S2560x512 .bf16 := win0_6.stage (cfg0.slots t 6)

/-- What the body is called with at point `t`. -/
def bodyPre (c : Dev nD) (t : Fin cfg0.N) (y4 : Vec F S256x5376 .fp8e4m3) (y5 : Vec F S1x256 .f32) (y6 : Vec F S2560x512 .bf16) : sProp 𝕄 :=
  iprop((rdat m c).Φ t.castSucc ∗ (rdat m c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare y4 ∗ owns (c : Thread nD τ) (ms5 t) fullShare y5 ∗ owns (c : Thread nD τ) (ms6 t) fullShare y6)

/-- What it returns. -/
def bodyPost (c : Dev nD) (t : Fin cfg0.N) (y4 : Vec F S256x5376 .fp8e4m3) (y5 : Vec F S1x256 .f32) (y6 : Vec F S2560x512 .bf16) : sProp 𝕄 :=
  iprop((rdat m c).Φ t.succ ∗ (rdat m c).owesAt () t.succ ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X) ∗ (∃ X, ⌜(rdat m c).after 4 t y4 X⌝ ∗ owns (c : Thread nD τ) (ms4 t) fullShare X) ∗ (∃ X, ⌜(rdat m c).after 5 t y5 X⌝ ∗ owns (c : Thread nD τ) (ms5 t) fullShare X) ∗ (∃ X, ⌜(rdat m c).after 6 t y6 X⌝ ∗ owns (c : Thread nD τ) (ms6 t) fullShare X))

/-- The body at a point, from a run with the contents it leaves and what they are. -/
theorem sound_of (c : Dev nD) (t : Fin cfg0.N) (y4 : Vec F S256x5376 .fp8e4m3) (y5 : Vec F S1x256 .f32) (y6 : Vec F S2560x512 .bf16)
    (x4 : Vec F S256x5376 .fp8e4m3) (x5 : Vec F S1x256 .f32)
    (x6 : Vec F S2560x5376 .fp8e4m3 → Vec F S2560x128 .f32 → Vec F S2560x512 .bf16)
    (ga : Vec F S2560x5376 .fp8e4m3 → Vec F S2560x5376 .fp8e4m3) (gs : Vec F S2560x128 .f32 → Vec F S2560x128 .f32)
    (hrun : ∀ (sa : Vec F S2560x5376 .fp8e4m3) (ss : Vec F S2560x128 .f32) (K : PUnit → sProp 𝕄),
      iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare y4 ∗ owns (c : Thread nD τ) (ms5 t) fullShare y5 ∗ owns (c : Thread nD τ) (ms6 t) fullShare y6 ∗ owns (c : Thread nD τ) scA fullShare sa ∗ owns (c : Thread nD τ) scS fullShare ss
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare x4 ∗ owns (c : Thread nD τ) (ms5 t) fullShare x5 ∗ owns (c : Thread nD τ) (ms6 t) fullShare (x6 sa ss)
          ∗ owns (c : Thread nD τ) scA fullShare (ga sa) ∗ owns (c : Thread nD τ) scS fullShare (gs ss)) -∗ K ⟨⟩))
        ⊢ wp frame (wpE (defs₀ (F := F)) Variants.none c none) Set.univ (bodyAt0 t) K)
    (h4 : (rdat m c).after 4 t y4 x4) (h5 : (rdat m c).after 5 t y5 x5)
    (h6 : ∀ sa ss, Inv m c t.val sa ss → (rdat m c).after 6 t y6 (x6 sa ss))
    (hi : ∀ sa ss, Inv m c t.val sa ss → Inv m c (t.val + 1) (ga sa) (gs ss)) :
    bodyPre m c t y4 y5 y6 ⊢ wp frame (wpE (defs₀ (F := F)) Variants.none c none) Set.univ (bodyAt0 t) (fun _ => bodyPost m c t y4 y5 y6) := by
  unfold bodyPre bodyPost
  rw [show (rdat m c).owesAt () t.succ = (rdat m c).owesAt () t.castSucc from rfl]
  dsimp only [rdat]
  iintro ⟨⟨⟨%sa, %ss, %hinv, Ha, Hs⟩, Hg⟩, Ho, H0, H1, H2, H3, H4, H5, H6⟩
  iapply (hrun sa ss _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Ha]; · iexact Ha
  isplitl [Hs]; · iexact Hs
  iintro ⟨H0, H1, H2, H3, H4, H5, H6, Ha, Hs⟩
  isplitl [Ha Hs Hg]
  · isplitl [Ha Hs]
    · iexists _, _; isplitr
      swap
      · isplitl [Ha]; · iexact Ha
        iexact Hs
      ipureintro; exact hi sa ss hinv
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact h4
  isplitl [H5]
  · iexists _; isplitr; swap; · iexact H5
    ipureintro; exact h5
  iexists _; isplitr; swap; · iexact H6
  ipureintro; exact h6 sa ss hinv

/-- The body at any point. -/
theorem sound_body (c : Dev nD) (t : Fin cfg0.N) (y4 : Vec F S256x5376 .fp8e4m3) (y5 : Vec F S1x256 .f32) (y6 : Vec F S2560x512 .bf16) :
    bodyPre m c t y4 y5 y6 ⊢ wp frame (wpE (defs₀ (F := F)) Variants.none c none) Set.univ (bodyAt0 t) (fun _ => bodyPost m c t y4 y5 y6) := by
  have i1 := cond1_iff t
  have i2 := cond2_iff t
  by_cases h : t.val < 10
  · refine sound_of m c t y4 y5 y6 (cod (iblk m c 0 t)) (row (iblk m c 0 t)) (fun _ _ => y6)
      (fun sa => putA (grid0.coords t) sa (codS (iblk m c 0 t))) (fun ss => putS (grid0.coords t) ss (scl (iblk m c 0 t)))
      (fun sa ss K => runA c (grid0.coords t) (by rw [i1]; omega) (by rw [i2]; omega) _ _ _ _ _ _ _ _ _ _ _ _ _ _ _ _ _ _ _ _ _ _ _ _ _ _ _ Set.univ K)
      (.inl ⟨h, by rw [iblk0 m c t h]; rfl⟩) (.inl ⟨h, by rw [iblk0 m c t h]; rfl⟩) (fun _ _ _ => .inr ⟨h, rfl⟩)
      (fun sa ss hi => ?_)
    rw [iblk0 m c t h]; exact hi.quant t
  · have h' : 10 ≤ t.val := by omega
    exact sound_of m c t y4 y5 y6 y4 y5 (fun sa ss => outUpto 5 ss sa (iblk m c 1 t) (iblk m c 2 t) (iblk m c 3 t) y6)
      (fun sa => sa) (fun ss => ss)
      (fun sa ss K => runB c (grid0.coords t) (by rw [i1]; omega) (by rw [i2]; omega) _ _ _ _ _ _ _ _ _ _ _ _ _ _ _ _ _ _ _ _ _ _ _ _ _ _ _ Set.univ K)
      (.inr ⟨h', rfl⟩) (.inr ⟨h', rfl⟩) (fun sa ss hi => .inl ⟨h', out_eq t hi h' y6⟩) (fun sa ss hi => hi.keep h')

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have e0 := finds0 m c t (Y 0) (hY 0)
  have e1 := finds1 m c t (Y 1) (hY 1)
  have e2 := finds2 m c t (Y 2) (hY 2)
  have e3 := finds3 m c t (Y 3) (hY 3)
  rw [e0, e1, e2, e3]
  exact triple_restated (sound_body m c t (Y 4) (Y 5) (Y 6)) rfl .rfl fun _ => .rfl

set_option backward.isDefEq.respectTransparency.types false in
/-- Every run ends with the arrays at contents the proof data allow, the other buffers as found and every semaphore at zero. -/
theorem run_main : θ_run defs (onTc (τ := τ) (main (F := F))) (s₀ m ρ)
    (fun r => (RDat.FramePost cfg0 (rdat m) (V m)) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m)
    (hin := fun c => by
      rw [PhiA0_eq]
      dsimp only [rdat]
      iintro ⟨⟨⟨%sa, Ha⟩, ⟨%ss, Hs⟩⟩, Hg⟩
      isplitl [Ha Hs]
      · iexists sa, ss; isplitr
        · ipureintro; exact Inv.init sa ss
        isplitl [Ha]; · iexact Ha
        iexact Hs
      iexact Hg)
    (hout := fun c => by
      rw [PhiA0_eq]
      dsimp only [rdat]
      iintro ⟨⟨%sa, %ss, %hinv, Ha, Hs⟩, Hg⟩
      isplitl [Ha Hs]
      · isplitl [Ha]; · iexists _; iexact Ha
        iexists _; iexact Hs
      iexact Hg)

/-- The argument arrays end as they were. -/
theorem args_kept (r : PUnit × MemSt nD τ sig (Elt F)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((A_eq m c 0).trans (V_main_arg0 m c)),
   (RDat.FramePost.arr_in h c 1 rfl).trans ((A_eq m c 1).trans (V_main_arg1 m c)),
   ((h c).2 main_arg2 (Pipeline.mem_restRefs_of main_arg2 (by decide) (by decide))).trans (V_main_arg2 m c),
   (RDat.FramePost.arr_in h c 3 rfl).trans ((A_eq m c 3).trans (V_main_arg3 m c))⟩

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m r h.1 c, h.2⟩) (run_main m ρ)

end Cert.Oproj.Hand
end
-- ==== Proof.QkvRun.lean ====
module

public import Idealize.ShloMosaic.Lib.VecWindow
public import proofs.«01_k».proof.Proof.Gen.Qkv.Skeleton
public import proofs.«01_k».proof.Proof.Gen.Qkv.Frame

/-! The body of the q/k/v projection, run once at a grid point of each kind. Each run states what every buffer holds
afterwards as a plain function of what the buffers held before. -/

@[expose] public section
set_option maxRecDepth 16384
noncomputable section
namespace Cert.Qkv.Hand
open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## What the body computes from its blocks -/

/-- The lower half of one head, rotated. -/
def lo (y : FVec F S768x512 .f32) (c s : FVec F S48x512 .f32) (a b : ℕ) (ha : S768x512.Slices ![a, 0] S48x512) (hb : S768x512.Slices ![b, 0] S48x512) :
    FVec F S48x512 .f32 :=
  addf (mulf (extractStridedSlice S48x512 ![a, 0] y ha) c)
    (mulf (subf (broadcast S48x512 (Scalar.ofBits .f32 0x00000000#32)) (extractStridedSlice S48x512 ![b, 0] y hb)) s)
/-- The upper half of one head, rotated. -/
def hi (y : FVec F S768x512 .f32) (c s : FVec F S48x512 .f32) (a b : ℕ) (ha : S768x512.Slices ![a, 0] S48x512) (hb : S768x512.Slices ![b, 0] S48x512) :
    FVec F S48x512 .f32 :=
  addf (mulf (extractStridedSlice S48x512 ![b, 0] y hb) c) (mulf (extractStridedSlice S48x512 ![a, 0] y ha) s)
/-- Eight heads rotated. -/
def rope (y : FVec F S768x512 .f32) (c s : FVec F S48x512 .f32) : FVec F S768x512 .f32 :=
  concatenate S768x512 0 [⟨S48x512, lo y c s 0 48 slices_S768x512_o0_0_S48x512 slices_S768x512_o48_0_S48x512⟩, ⟨S48x512, hi y c s 0 48 slices_S768x512_o0_0_S48x512 slices_S768x512_o48_0_S48x512⟩, ⟨S48x512, lo y c s 96 144 slices_S768x512_o96_0_S48x512 slices_S768x512_o144_0_S48x512⟩, ⟨S48x512, hi y c s 96 144 slices_S768x512_o96_0_S48x512 slices_S768x512_o144_0_S48x512⟩, ⟨S48x512, lo y c s 192 240 slices_S768x512_o192_0_S48x512 slices_S768x512_o240_0_S48x512⟩, ⟨S48x512, hi y c s 192 240 slices_S768x512_o192_0_S48x512 slices_S768x512_o240_0_S48x512⟩, ⟨S48x512, lo y c s 288 336 slices_S768x512_o288_0_S48x512 slices_S768x512_o336_0_S48x512⟩, ⟨S48x512, hi y c s 288 336 slices_S768x512_o288_0_S48x512 slices_S768x512_o336_0_S48x512⟩, ⟨S48x512, lo y c s 384 432 slices_S768x512_o384_0_S48x512 slices_S768x512_o432_0_S48x512⟩, ⟨S48x512, hi y c s 384 432 slices_S768x512_o384_0_S48x512 slices_S768x512_o432_0_S48x512⟩, ⟨S48x512, lo y c s 480 528 slices_S768x512_o480_0_S48x512 slices_S768x512_o528_0_S48x512⟩, ⟨S48x512, hi y c s 480 528 slices_S768x512_o480_0_S48x512 slices_S768x512_o528_0_S48x512⟩, ⟨S48x512, lo y c s 576 624 slices_S768x512_o576_0_S48x512 slices_S768x512_o624_0_S48x512⟩, ⟨S48x512, hi y c s 576 624 slices_S768x512_o576_0_S48x512 slices_S768x512_o624_0_S48x512⟩, ⟨S48x512, lo y c s 672 720 slices_S768x512_o672_0_S48x512 slices_S768x512_o720_0_S48x512⟩, ⟨S48x512, hi y c s 672 720 slices_S768x512_o672_0_S48x512 slices_S768x512_o720_0_S48x512⟩]
    concatenates_S48x512_S48x512_S48x512_S48x512_S48x512_S48x512_S48x512_S48x512_S48x512_S48x512_S48x512_S48x512_S48x512_S48x512_S48x512_S48x512_S768x512_d0

/-- A chunk of the rotated queries. -/
def qChunk (a : Vec F S512x7168 .fp8e4m3) (b : Vec F S7168x768 .fp8e4m3) (c : Vec F S512x128 .f32) (d : Vec F S1x768 .f32) (e f : Vec F S48x512 .f32) :
    Vec F S768x512 .bf16 := truncf .bf16 (rope (k0_pay7 a b c d) (k0_pay8 e) (k0_pay9 f)) bitsLt_bf16_f32
/-- A chunk of the keys' codes. -/
def kChunk (a : Vec F S512x7168 .fp8e4m3) (b : Vec F S7168x768 .fp8e4m3) (c : Vec F S512x128 .f32) (d : Vec F S1x768 .f32) (e f : Vec F S48x512 .f32)
    (g : Elt F .f32) : Vec F S768x512 .fp8e4m3 := k0_pay5 (rope (k0_pay7 a b c d) (k0_pay8 e) (k0_pay9 f)) g

/-- The number a scalar buffer holds. -/
def one (x : Vec F S1 .f32) : Elt F .f32 := x (Shape.Idx.first (by decide : 0 < S1.numel))

/-- Rows `512 q` to `512 q + 511` of the activations' codes. -/
def wh (q : Fin 5) (x : Vec F S2560x7168 .fp8e4m3) : Vec F S512x7168 .fp8e4m3 :=
  VecWindow.window x ![512 * q.val, 0] S512x7168.size ((by decide +kernel : ∀ q : Fin 5, ∀ a, (![512 * q.val, 0] : Fin 2 → ℕ) a + S512x7168.size a ≤ S2560x7168.size a) q)
/-- The same rows of the activations' scales. -/
def wsh (q : Fin 5) (x : Vec F S2560x128 .f32) : Vec F S512x128 .f32 :=
  VecWindow.window x ![512 * q.val, 0] S512x128.size ((by decide +kernel : ∀ q : Fin 5, ∀ a, (![512 * q.val, 0] : Fin 2 → ℕ) a + S512x128.size a ≤ S2560x128.size a) q)
/-- The same rows' angles. -/
def wc (q : Fin 5) (x : Vec F S48x2560 .f32) : Vec F S48x512 .f32 :=
  VecWindow.window x ![0, 512 * q.val] S48x512.size ((by decide +kernel : ∀ q : Fin 5, ∀ a, (![0, 512 * q.val] : Fin 2 → ℕ) a + S48x512.size a ≤ S48x2560.size a) q)

/-- A result block after one chunk of columns is stored. -/
def putC {e : EltTy} (q : Fin 5) (y : Vec F S768x2560 e) (w : Vec F S768x512 e) : Vec F S768x2560 e :=
  VecWindow.put y ![0, 512 * q.val] S768x512.size w
/-- A result block after the first `n` chunks of columns are stored. -/
def upto {e : EltTy} (f : Fin 5 → Vec F S768x512 e) (y : Vec F S768x2560 e) : ℕ → Vec F S768x2560 e
  | 0 => y
  | n + 1 => putC (Fin.ofNat 5 n) (upto f y n) (f (Fin.ofNat 5 n))

/-- The chunks of the rotated queries. -/
def qF (x2 : Vec F S2560x7168 .fp8e4m3) (x3 : Vec F S7168x768 .fp8e4m3) (x4 : Vec F S2560x128 .f32) (x5 : Vec F S1x768 .f32) (x6 x7 : Vec F S48x2560 .f32)
    (q : Fin 5) : Vec F S768x512 .bf16 := qChunk (wh q x2) x3 (wsh q x4) x5 (wc q x6) (wc q x7)
/-- The chunks of the keys' codes. -/
def kF (x0 : Vec F S1 .f32) (x2 : Vec F S2560x7168 .fp8e4m3) (x3 : Vec F S7168x768 .fp8e4m3) (x4 : Vec F S2560x128 .f32) (x5 : Vec F S1x768 .f32) (x6 x7 : Vec F S48x2560 .f32)
    (q : Fin 5) : Vec F S768x512 .fp8e4m3 := kChunk (wh q x2) x3 (wsh q x4) x5 (wc q x6) (wc q x7) (one x0)
/-- The chunks of the values' codes. -/
def vF (x1 : Vec F S1 .f32) (x2 : Vec F S2560x7168 .fp8e4m3) (x3 : Vec F S7168x768 .fp8e4m3) (x4 : Vec F S2560x128 .f32) (x5 : Vec F S1x768 .f32)
    (q : Fin 5) : Vec F S768x512 .fp8e4m3 := k0_pay6 (wh q x2) x3 (wsh q x4) x5 (one x1)

section Loads
variable {s : Shape} {e : EltTy} {mr : Memref sig .tc .vmem s e} (h : mr.IsWhole)

/-- A load of a whole buffer reads its contents. -/
theorem ld_full (x : s.Idx → Elt F e) {off : Fin s.rank → ℕ} (inb : ∀ a, off a + s.size a ≤ s.size a) :
    View.readAt (Elt F) mr.view (Rect.unit off s.size inb).toLoadRect (h.unread x) = x :=
  (View.readAt_full _ _ inb).trans (h.read_unread x)

/-- A load of part of a buffer reads that window of its contents. -/
theorem ld_win {f : mr.view.ty.Contents (Elt F)} {x : s.Idx → Elt F e} (hf : mr.view.read (Elt F) f = x) {off off' size : Fin s.rank → ℕ}
    (inb : ∀ a, off a + size a ≤ s.size a) (ho : off = off') (inb' : ∀ a, off' a + size a ≤ s.size a) :
    View.readAt (Elt F) mr.view (Rect.unit off size inb).toLoadRect f = VecWindow.window x off' size inb' := by
  subst hf; exact View.readAt_unit _ _ inb ho inb'

/-- A store of part of a buffer puts the payload over that window. -/
theorem st_put (x : s.Idx → Elt F e) {off off' size : Fin s.rank → ℕ} (inb : ∀ a, off a + size a ≤ s.size a)
    (w w' : (Rect.unit off size inb).shape.Idx → Elt F e) (ho : off = off') (hw : w = w') :
    mr.view.read (Elt F) (mr.view.writes (Elt F) (h.unread x) [⟨Rect.unit off size inb, w⟩]) = VecWindow.put x off' size w' := by
  subst hw
  refine (View.read_writes_cons_put _ _ inb w [] ho).trans ?_
  rw [View.writes_nil, h.read_unread]

/-- A store of a whole buffer leaves the payload. -/
theorem st_full (f : mr.view.ty.Contents (Elt F)) {off : Fin s.rank → ℕ} (inb : ∀ a, off a + s.size a ≤ s.size a)
    (w w' : (Rect.unit off s.size inb).shape.Idx → Elt F e) (hw : w = w') :
    mr.view.read (Elt F) (mr.view.writes (Elt F) f [⟨Rect.unit off s.size inb, w⟩]) = w' :=
  (View.read_writes_full _ _ inb w []).trans hw
end Loads

/-- A further store of part of a buffer puts its payload over that window. -/
theorem st_cons {s : Shape} {e : EltTy} {mr : Memref sig .tc .vmem s e} {f : mr.view.ty.Contents (Elt F)} {off off' size : Fin s.rank → ℕ}
    (inb : ∀ a, off a + size a ≤ s.size a) (w w' : (Rect.unit off size inb).shape.Idx → Elt F e) {L : List ((r : Rect s) × (r.shape.Idx → Elt F e))} {z : s.Idx → Elt F e}
    (ho : off = off') (hw : w = w') (hz : mr.view.read (Elt F) (mr.view.writes (Elt F) f L) = z) :
    mr.view.read (Elt F) (mr.view.writes (Elt F) f (⟨Rect.unit off size inb, w⟩ :: L)) = VecWindow.put z off' size w' := by
  subst hw hz; exact View.read_writes_cons_put _ _ inb w L ho

/-- A chunk of the rotated queries, from equal readings of its operands. -/
theorem q_of {w : Vec F S768x512 .bf16} {a a' : Vec F S512x7168 .fp8e4m3} {b b' : Vec F S7168x768 .fp8e4m3} {c c' : Vec F S512x128 .f32} {d d' : Vec F S1x768 .f32} {e e' f f' : Vec F S48x512 .f32}
    (ha : a = a') (hb : b = b') (hc : c = c') (hd : d = d') (he : e = e') (hf : f = f') (hw : w = qChunk a b c d e f) : w = qChunk a' b' c' d' e' f' := by
  subst ha hb hc hd he hf; exact hw
/-- A chunk of the keys' codes, likewise. -/
theorem k_of {w : Vec F S768x512 .fp8e4m3} {a a' : Vec F S512x7168 .fp8e4m3} {b b' : Vec F S7168x768 .fp8e4m3} {c c' : Vec F S512x128 .f32} {d d' : Vec F S1x768 .f32} {e e' f f' : Vec F S48x512 .f32} {g g' : Elt F .f32}
    (ha : a = a') (hb : b = b') (hc : c = c') (hd : d = d') (he : e = e') (hf : f = f') (hg : g = g') (hw : w = kChunk a b c d e f g) : w = kChunk a' b' c' d' e' f' g' := by
  subst ha hb hc hd he hf hg; exact hw
/-- A chunk of the values' codes, likewise. -/
theorem v_of {a a' : Vec F S512x7168 .fp8e4m3} {b b' : Vec F S7168x768 .fp8e4m3} {c c' : Vec F S512x128 .f32} {d d' : Vec F S1x768 .f32} {g g' : Elt F .f32}
    (ha : a = a') (hb : b = b') (hc : c = c') (hd : d = d') (hg : g = g') : k0_pay6 a b c d g = k0_pay6 a' b' c' d' g' := by
  subst ha hb hc hd hg; rfl

/-- The body's buffers. -/
def held (c : Dev nD) (arg1 : Memref sig .tc .smem S1 .f32) (arg2 : Memref sig .tc .smem S1 .f32) (arg3 : Memref sig .tc .vmem S2560x7168 .fp8e4m3) (arg4 : Memref sig .tc .vmem S7168x768 .fp8e4m3) (arg5 : Memref sig .tc .vmem S2560x128 .f32) (arg6 : Memref sig .tc .vmem S1x768 .f32) (arg7 : Memref sig .tc .vmem S48x2560 .f32) (arg8 : Memref sig .tc .vmem S48x2560 .f32) (arg9 : Memref sig .tc .vmem S768x2560 .bf16) (arg10 : Memref sig .tc .vmem S768x2560 .fp8e4m3) (arg11 : Memref sig .tc .vmem S768x2560 .fp8e4m3)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10)

/-- A scalar load reads the number the buffer holds. -/
theorem ld_one {m : Memref sig .tc .smem S1 .f32} (h : m.IsWhole) (x : Vec F S1 .f32) :
    View.readAt (Elt F) m.view (Rect.unit (s := S1) ![0] S1.size inb_S1_S1_0).toLoadRect (h.unread x) (Shape.Idx.first (by decide : 0 < S1.numel)) = one x :=
  congrFun ((View.readAt_full m.view (h.unread x) inb_S1_S1_0).trans (h.read_unread x)) _
theorem tlt1 (t : Fin k0_t1_loop.trips) : (Fin.ofNat 5 t.val).val = t.val := Nat.mod_eq_of_lt (lt_of_lt_of_le t.isLt k0_t1_abs.2.1)
theorem tlt2 (t : Fin k0_t2_loop.trips) : (Fin.ofNat 5 t.val).val = t.val := Nat.mod_eq_of_lt (lt_of_lt_of_le t.isLt k0_t2_abs.2.1)
theorem o1 (t : Fin k0_t1_loop.trips) : k0_off1 t = ![512 * (Fin.ofNat 5 t.val).val, 0] := by rw [tlt1]; exact k0_off1_eq t
theorem o2 (t : Fin k0_t1_loop.trips) : k0_off2 t = ![512 * (Fin.ofNat 5 t.val).val, 0] := by rw [tlt1]; exact k0_off2_eq t
theorem o3 (t : Fin k0_t1_loop.trips) : k0_off3 t = ![0, 512 * (Fin.ofNat 5 t.val).val] := by rw [tlt1]; exact k0_off3_eq t
theorem o4 (t : Fin k0_t1_loop.trips) : k0_off4 t = ![0, 512 * (Fin.ofNat 5 t.val).val] := by rw [tlt1]; exact k0_off4_eq t
theorem o5 (t : Fin k0_t2_loop.trips) : k0_off5 t = ![512 * (Fin.ofNat 5 t.val).val, 0] := by rw [tlt2]; exact k0_off5_eq t
theorem o6 (t : Fin k0_t2_loop.trips) : k0_off6 t = ![512 * (Fin.ofNat 5 t.val).val, 0] := by rw [tlt2]; exact k0_off6_eq t
theorem o7 (t : Fin k0_t2_loop.trips) : k0_off7 t = ![0, 512 * (Fin.ofNat 5 t.val).val] := by rw [tlt2]; exact k0_off7_eq t

set_option maxHeartbeats 1000000 in
/-- One trip of the loop at the key point: one chunk of columns. -/
theorem tripK (c : Dev nD) (i : grid0.Coords) (h : k0_cond2 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (t : Fin k0_t1_loop.trips) (u : Unit) :
    held c arg1 arg2 arg3 arg4 arg5 arg6 arg7 arg8 arg9 arg10 arg11 x0 x1 x2 x3 x4 x5 x6 x7 y8 y9 y10
      ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 h t u)
          (fun _ => held c arg1 arg2 arg3 arg4 arg5 arg6 arg7 arg8 arg9 arg10 arg11 x0 x1 x2 x3 x4 x5 x6 x7 y8 (putC (Fin.ofNat 5 t.val) y9 (kF x0 x2 x3 x4 x5 x6 x7 (Fin.ofNat 5 t.val))) y10) := by
  unfold k0_t1_body
  simp only [k0_part11_eq_skeleton, k0_part12_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec
  sl_step
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact harg5.read_unread x4
  isplitl [H5]
  · iexists _; isplitr; swap; · iexact H5
    ipureintro
    exact harg6.read_unread x5
  isplitl [H6]
  · iexists _; isplitr; swap; · iexact H6
    ipureintro
    exact harg7.read_unread x6
  isplitl [H7]
  · iexists _; isplitr; swap; · iexact H7
    ipureintro
    exact harg8.read_unread x7
  isplitl [H8]
  · iexists _; isplitr; swap; · iexact H8
    ipureintro
    exact harg9.read_unread y8
  isplitl [H9]
  · iexists _; isplitr; swap; · iexact H9
    ipureintro
    exact st_put harg10 y9 _ _ _ (o4 t) (k_of (ld_win (harg3.read_unread x2) (k0_off1_inb i t h) (o1 t) _) (ld_full harg4 x3 inb_S7168x768_S7168x768_0_0) (ld_win (harg5.read_unread x4) (k0_off2_inb i t h) (o2 t) _) (ld_full harg6 x5 inb_S1x768_S1x768_0_0) (ld_win (harg7.read_unread x6) (k0_off3_inb i t h) (o3 t) _) (ld_win (harg8.read_unread x7) (k0_off3_inb i t h) (o3 t) _) (ld_one harg1 x0) rfl)
  iexists _; isplitr; swap; · iexact H10
  ipureintro
  exact harg11.read_unread y10

set_option maxHeartbeats 1000000 in
/-- One trip of the loop at the value point: one chunk of columns. -/
theorem tripV (c : Dev nD) (i : grid0.Coords) (h : k0_cond3 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (t : Fin k0_t2_loop.trips) (u : Unit) :
    held c arg1 arg2 arg3 arg4 arg5 arg6 arg7 arg8 arg9 arg10 arg11 x0 x1 x2 x3 x4 x5 x6 x7 y8 y9 y10
      ⊢ wp frame (wpE (defs₀ (F := F)) Variants.none c none) E (k0_t2_body i arg1 harg1 arg2 harg2 arg3 harg3 arg4 harg4 arg5 harg5 arg6 harg6 arg7 harg7 arg8 harg8 arg9 harg9 arg10 harg10 arg11 harg11 h t u)
          (fun _ => held c arg1 arg2 arg3 arg4 arg5 arg6 arg7 arg8 arg9 arg10 arg11 x0 x1 x2 x3 x4 x5 x6 x7 y8 y9 (putC (Fin.ofNat 5 t.val) y10 (vF x1 x2 x3 x4 x5 (Fin.ofNat 5 t.val)))) := by
  unfold k0_t2_body
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec
  sl_step
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact harg5.read_unread x4
  isplitl [H5]
  · iexists _; isplitr; swap; · iexact H5
    ipureintro
    exact harg6.read_unread x5
  isplitl [H6]
  · iexists _; isplitr; swap; · iexact H6
    ipureintro
    exact harg7.read_unread x6
  isplitl [H7]
  · iexists _; isplitr; swap; · iexact H7
    ipureintro
    exact harg8.read_unread x7
  isplitl [H8]
  · iexists _; isplitr; swap; · iexact H8
    ipureintro
    exact harg9.read_unread y8
  isplitl [H9]
  · iexists _; isplitr; swap; · iexact H9
    ipureintro
    exact harg10.read_unread y9
  iexists _; isplitr; swap; · iexact H10
  ipureintro
  exact st_put harg11 y10 _ _ _ (o7 t) (v_of (ld_win (harg3.read_unread x2) (k0_off5_inb i t h) (o5 t) _) (ld_full harg4 x3 inb_S7168x768_S7168x768_0_0) (ld_win (harg5.read_unread x4) (k0_off6_inb i t h) (o6 t) _) (ld_full harg6 x5 inb_S1x768_S1x768_0_0) (ld_one harg2 x1))

end Cert.Qkv.Hand
end
-- ==== Proof.QkvRuns.lean ====
module

public import proofs.«01_k».proof.Proof.QkvRun

/-! The body of the q/k/v projection, run once at a grid point of each kind. Each run states what every buffer holds
afterwards as a plain function of what the buffers held before. -/

@[expose] public section
set_option maxRecDepth 16384
noncomputable section
namespace Cert.Qkv.Hand
open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The key point: the whole block of codes. -/
theorem runK (c : Dev nD) (i : grid0.Coords) (h1 : ¬ k0_cond1 i = 1#1) (h2 : k0_cond2 i = 1#1) (h3 : ¬ k0_cond3 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (K : PUnit → sProp 𝕄) :
    iprop(held c arg1 arg2 arg3 arg4 arg5 arg6 arg7 arg8 arg9 arg10 arg11 x0 x1 x2 x3 x4 x5 x6 x7 y8 y9 y10 ∗ (held c arg1 arg2 arg3 arg4 arg5 arg6 arg7 arg8 arg9 arg10 arg11 x0 x1 x2 x3 x4 x5 x6 x7 y8 (upto (kF x0 x2 x3 x4 x5 x6 x7) y9 5) y10 -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11) K := by
  simp only [cc0_qkv_eq_skeleton]; unfold cc0_qkv_skel
  iintro ⟨H, Hk⟩
  sl_exec (disch := first | sl_exact h1 | sl_exact h2 | sl_exact h3)
  sl_for (fun k _ => held c arg1 arg2 arg3 arg4 arg5 arg6 arg7 arg8 arg9 arg10 arg11 x0 x1 x2 x3 x4 x5 x6 x7 y8 (upto (kF x0 x2 x3 x4 x5 x6 x7) y9 k) y10) $$ [H]
  case region =>
    intro t u
    exact tripK c i h2 arg1 harg1 arg2 harg2 arg3 harg3 arg4 harg4 arg5 harg5 arg6 harg6 arg7 harg7 arg8 harg8 arg9 harg9 arg10 harg10 arg11 harg11 x0 x1 x2 x3 x4 x5 x6 x7 y8 (upto (kF x0 x2 x3 x4 x5 x6 x7) y9 t.val) y10 E t u
  · iexact H
  iintro %u H
  sl_exec (disch := first | sl_exact h1 | sl_exact h2 | sl_exact h3)
  sl_step
  iapply Hk
  iexact H

set_option maxHeartbeats 1000000 in
/-- The value point: the whole block of codes. -/
theorem runV (c : Dev nD) (i : grid0.Coords) (h1 : ¬ k0_cond1 i = 1#1) (h2 : ¬ k0_cond2 i = 1#1) (h3 : k0_cond3 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (K : PUnit → sProp 𝕄) :
    iprop(held c arg1 arg2 arg3 arg4 arg5 arg6 arg7 arg8 arg9 arg10 arg11 x0 x1 x2 x3 x4 x5 x6 x7 y8 y9 y10 ∗ (held c arg1 arg2 arg3 arg4 arg5 arg6 arg7 arg8 arg9 arg10 arg11 x0 x1 x2 x3 x4 x5 x6 x7 y8 y9 (upto (vF x1 x2 x3 x4 x5) y10 5) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11) K := by
  simp only [cc0_qkv_eq_skeleton]; unfold cc0_qkv_skel
  iintro ⟨H, Hk⟩
  sl_exec (disch := first | sl_exact h1 | sl_exact h2 | sl_exact h3)
  sl_for (fun k _ => held c arg1 arg2 arg3 arg4 arg5 arg6 arg7 arg8 arg9 arg10 arg11 x0 x1 x2 x3 x4 x5 x6 x7 y8 y9 (upto (vF x1 x2 x3 x4 x5) y10 k)) $$ [H]
  case region =>
    intro t u
    exact tripV c i h3 arg1 harg1 arg2 harg2 arg3 harg3 arg4 harg4 arg5 harg5 arg6 harg6 arg7 harg7 arg8 harg8 arg9 harg9 arg10 harg10 arg11 harg11 x0 x1 x2 x3 x4 x5 x6 x7 y8 y9 (upto (vF x1 x2 x3 x4 x5) y10 t.val) E t u
  · iexact H
  iintro %u H
  sl_exec (disch := first | sl_exact h1 | sl_exact h2 | sl_exact h3)
  sl_step
  iapply Hk
  iexact H

set_option maxHeartbeats 1000000 in
/-- A query point: the whole block of rotated queries. -/
theorem runQ (c : Dev nD) (i : grid0.Coords) (h1 : k0_cond1 i = 1#1) (h2 : ¬ k0_cond2 i = 1#1) (h3 : ¬ k0_cond3 i = 1#1) (arg1 : Memref sig .tc .smem S1 .f32) (harg1 : arg1.IsWhole) (arg2 : Memref sig .tc .smem S1 .f32) (harg2 : arg2.IsWhole) (arg3 : Memref sig .tc .vmem S2560x7168 .fp8e4m3) (harg3 : arg3.IsWhole) (arg4 : Memref sig .tc .vmem S7168x768 .fp8e4m3) (harg4 : arg4.IsWhole) (arg5 : Memref sig .tc .vmem S2560x128 .f32) (harg5 : arg5.IsWhole) (arg6 : Memref sig .tc .vmem S1x768 .f32) (harg6 : arg6.IsWhole) (arg7 : Memref sig .tc .vmem S48x2560 .f32) (harg7 : arg7.IsWhole) (arg8 : Memref sig .tc .vmem S48x2560 .f32) (harg8 : arg8.IsWhole) (arg9 : Memref sig .tc .vmem S768x2560 .bf16) (harg9 : arg9.IsWhole) (arg10 : Memref sig .tc .vmem S768x2560 .fp8e4m3) (harg10 : arg10.IsWhole) (arg11 : Memref sig .tc .vmem S768x2560 .fp8e4m3) (harg11 : arg11.IsWhole)
    (x0 : Vec F S1 .f32) (x1 : Vec F S1 .f32) (x2 : Vec F S2560x7168 .fp8e4m3) (x3 : Vec F S7168x768 .fp8e4m3) (x4 : Vec F S2560x128 .f32) (x5 : Vec F S1x768 .f32) (x6 : Vec F S48x2560 .f32) (x7 : Vec F S48x2560 .f32) (y8 : Vec F S768x2560 .bf16) (y9 : Vec F S768x2560 .fp8e4m3) (y10 : Vec F S768x2560 .fp8e4m3) (E : Set ℕ) (K : PUnit → sProp 𝕄) :
    iprop(held c arg1 arg2 arg3 arg4 arg5 arg6 arg7 arg8 arg9 arg10 arg11 x0 x1 x2 x3 x4 x5 x6 x7 y8 y9 y10 ∗ (held c arg1 arg2 arg3 arg4 arg5 arg6 arg7 arg8 arg9 arg10 arg11 x0 x1 x2 x3 x4 x5 x6 x7 (upto (qF x2 x3 x4 x5 x6 x7) y8 5) y9 y10 -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11) K := by
  simp only [cc0_qkv_eq_skeleton]; unfold cc0_qkv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact h1 | sl_exact h2 | sl_exact h3)
  sl_step
  iapply Hk
  isplitl [H0]
  · iexists _; isplitr; swap; · iexact H0
    ipureintro
    exact harg1.read_unread x0
  isplitl [H1]
  · iexists _; isplitr; swap; · iexact H1
    ipureintro
    exact harg2.read_unread x1
  isplitl [H2]
  · iexists _; isplitr; swap; · iexact H2
    ipureintro
    exact harg3.read_unread x2
  isplitl [H3]
  · iexists _; isplitr; swap; · iexact H3
    ipureintro
    exact harg4.read_unread x3
  isplitl [H4]
  · iexists _; isplitr; swap; · iexact H4
    ipureintro
    exact harg5.read_unread x4
  isplitl [H5]
  · iexists _; isplitr; swap; · iexact H5
    ipureintro
    exact harg6.read_unread x5
  isplitl [H6]
  · iexists _; isplitr; swap; · iexact H6
    ipureintro
    exact harg7.read_unread x6
  isplitl [H7]
  · iexists _; isplitr; swap; · iexact H7
    ipureintro
    exact harg8.read_unread x7
  isplitl [H8]
  · iexists _; isplitr; swap; · iexact H8
    ipureintro
    exact st_cons _ _ _ rfl (q_of (ld_win (harg3.read_unread x2) inb_S2560x7168_S512x7168_2048_0 rfl _) (ld_full harg4 x3 inb_S7168x768_S7168x768_0_0) (ld_win (harg5.read_unread x4) inb_S2560x128_S512x128_2048_0 rfl _) (ld_full harg6 x5 inb_S1x768_S1x768_0_0) (ld_win (harg7.read_unread x6) inb_S48x2560_S48x512_0_2048 rfl _) (ld_win (harg8.read_unread x7) inb_S48x2560_S48x512_0_2048 rfl _) rfl) (st_cons _ _ _ rfl (q_of (ld_win (harg3.read_unread x2) inb_S2560x7168_S512x7168_1536_0 rfl _) (ld_full harg4 x3 inb_S7168x768_S7168x768_0_0) (ld_win (harg5.read_unread x4) inb_S2560x128_S512x128_1536_0 rfl _) (ld_full harg6 x5 inb_S1x768_S1x768_0_0) (ld_win (harg7.read_unread x6) inb_S48x2560_S48x512_0_1536 rfl _) (ld_win (harg8.read_unread x7) inb_S48x2560_S48x512_0_1536 rfl _) rfl) (st_cons _ _ _ rfl (q_of (ld_win (harg3.read_unread x2) inb_S2560x7168_S512x7168_1024_0 rfl _) (ld_full harg4 x3 inb_S7168x768_S7168x768_0_0) (ld_win (harg5.read_unread x4) inb_S2560x128_S512x128_1024_0 rfl _) (ld_full harg6 x5 inb_S1x768_S1x768_0_0) (ld_win (harg7.read_unread x6) inb_S48x2560_S48x512_0_1024 rfl _) (ld_win (harg8.read_unread x7) inb_S48x2560_S48x512_0_1024 rfl _) rfl) (st_cons _ _ _ rfl (q_of (ld_win (harg3.read_unread x2) inb_S2560x7168_S512x7168_512_0 rfl _) (ld_full harg4 x3 inb_S7168x768_S7168x768_0_0) (ld_win (harg5.read_unread x4) inb_S2560x128_S512x128_512_0 rfl _) (ld_full harg6 x5 inb_S1x768_S1x768_0_0) (ld_win (harg7.read_unread x6) inb_S48x2560_S48x512_0_512 rfl _) (ld_win (harg8.read_unread x7) inb_S48x2560_S48x512_0_512 rfl _) rfl) (st_put harg9 y8 _ _ _ rfl (q_of (ld_win (harg3.read_unread x2) inb_S2560x7168_S512x7168_0_0 rfl _) (ld_full harg4 x3 inb_S7168x768_S7168x768_0_0) (ld_win (harg5.read_unread x4) inb_S2560x128_S512x128_0_0 rfl _) (ld_full harg6 x5 inb_S1x768_S1x768_0_0) (ld_win (harg7.read_unread x6) inb_S48x2560_S48x512_0_0 rfl _) (ld_win (harg8.read_unread x7) inb_S48x2560_S48x512_0_0 rfl _) rfl)))))
  isplitl [H9]
  · iexists _; isplitr; swap; · iexact H9
    ipureintro
    exact harg10.read_unread y9
  iexists _; isplitr; swap; · iexact H10
  ipureintro
  exact harg11.read_unread y10

end Cert.Qkv.Hand
end
-- ==== Proof.QkvBody.lean ====
/- The q/k/v projection's pipeline: the blocks each grid point reads and what it leaves in the three output blocks. -/
module

public import proofs.«01_k».proof.Proof.QkvRuns
public import Idealize.ShloMosaic.Lib.Pointwise
public import Idealize.ShloMosaic.Lib.Pipeline.ArrRel
public import Idealize.ShloMosaic.Lib.Claim

@[expose] public section
set_option maxRecDepth 16384
noncomputable section
namespace Cert.Qkv.Hand
open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg) (c : Dev nD)

/-! ## The grid -/

theorem tlt (t : Fin cfg0.N) : t.val < 9 := by have hN : cfg0.N = 9 := N_0; have := t.isLt; omega
theorem cond1_iff : ∀ t : Fin cfg0.N, k0_cond1 (grid0.coords t) = 1#1 ↔ t.val < 7 :=
  (by decide +kernel : ∀ t : Fin grid0.N, k0_cond1 (grid0.coords t) = 1#1 ↔ t.val < 7)
theorem cond2_iff : ∀ t : Fin cfg0.N, k0_cond2 (grid0.coords t) = 1#1 ↔ t.val = 7 :=
  (by decide +kernel : ∀ t : Fin grid0.N, k0_cond2 (grid0.coords t) = 1#1 ↔ t.val = 7)
theorem cond3_iff : ∀ t : Fin cfg0.N, k0_cond3 (grid0.coords t) = 1#1 ↔ t.val = 8 :=
  (by decide +kernel : ∀ t : Fin grid0.N, k0_cond3 (grid0.coords t) = 1#1 ↔ t.val = 8)
theorem index0 : ∀ t : Fin cfg0.N, win0_0.index t 0 = 0 :=
  (by decide +kernel : ∀ t : Fin grid0.N, win0_0.index t 0 = 0)
theorem index1 : ∀ t : Fin cfg0.N, win0_1.index t 0 = 0 :=
  (by decide +kernel : ∀ t : Fin grid0.N, win0_1.index t 0 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = t.val :=
  (by decide +kernel : ∀ t : Fin grid0.N, win0_3.index t 0 = 0 ∧ win0_3.index t 1 = t.val)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = t.val :=
  (by decide +kernel : ∀ t : Fin grid0.N, win0_5.index t 0 = 0 ∧ win0_5.index t 1 = t.val)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

/-! ## The arguments and their blocks -/

abbrev aKs : S1.Idx → Elt F .f32 := m ((c : Thread nD τ).loc main_arg5)
abbrev aVs : S1.Idx → Elt F .f32 := m ((c : Thread nD τ).loc main_arg6)
abbrev aH : S2560x7168.Idx → Elt F .fp8e4m3 := m ((c : Thread nD τ).loc main_arg0)
abbrev aW : S7168x6912.Idx → Elt F .fp8e4m3 := m ((c : Thread nD τ).loc main_arg2)
abbrev aSh : S2560x128.Idx → Elt F .f32 := V m c main_v15
abbrev aSw : S1x6912.Idx → Elt F .f32 := V m c main_v18
abbrev aC : S48x2560.Idx → Elt F .f32 := V m c main_v16
abbrev aS : S48x2560.Idx → Elt F .f32 := V m c main_v17

/-- Column block `n` of the weights. -/
def WB (n : ℕ) : Vec F S7168x768 .fp8e4m3 := fun y => aW m c (ix2 (y 0) (Fin.ofNat 6912 (n * 768 + (y 1).val)))
/-- Column block `n` of the weights' scales. -/
def SWB (n : ℕ) : Vec F S1x768 .f32 := fun y => aSw m c (ix2 0 (Fin.ofNat 6912 (n * 768 + (y 1).val)))

theorem iblk0 (t : Fin cfg0.N) : (iblk m c 0 t : Vec F S1 .f32) = aKs m c := by
  funext y
  have ht := tlt t
  have h0 : (y 0).val < 1 := (y 0).isLt
  unfold iblk
  rw [View.read_apply]
  show V m c main_arg5 _ = m (c.tc.loc main_arg5) _
  rw [V_main_arg5]
  congr 1
  funext a; apply Fin.ext
  match a with
  | ⟨0, _⟩ => show win0_0.index t 0 * 1 + 1 * (y 0).val = (y 0).val; rw [(index0 t)]; omega

theorem iblk1 (t : Fin cfg0.N) : (iblk m c 1 t : Vec F S1 .f32) = aVs m c := by
  funext y
  have ht := tlt t
  have h0 : (y 0).val < 1 := (y 0).isLt
  unfold iblk
  rw [View.read_apply]
  show V m c main_arg6 _ = m (c.tc.loc main_arg6) _
  rw [V_main_arg6]
  congr 1
  funext a; apply Fin.ext
  match a with
  | ⟨0, _⟩ => show win0_1.index t 0 * 1 + 1 * (y 0).val = (y 0).val; rw [(index1 t)]; omega

theorem iblk2 (t : Fin cfg0.N) : (iblk m c 2 t : Vec F S2560x7168 .fp8e4m3) = aH m c := by
  funext y
  have ht := tlt t
  have h0 : (y 0).val < 2560 := (y 0).isLt
  have h1 : (y 1).val < 7168 := (y 1).isLt
  unfold iblk
  rw [View.read_apply]
  show V m c main_arg0 _ = m (c.tc.loc main_arg0) _
  rw [V_main_arg0]
  congr 1
  funext a; apply Fin.ext
  match a with
  | ⟨0, _⟩ => show win0_2.index t 0 * 2560 + 1 * (y 0).val = (y 0).val; rw [(index2 t).1]; omega
  | ⟨1, _⟩ => show win0_2.index t 1 * 7168 + 1 * (y 1).val = (y 1).val; rw [(index2 t).2]; omega

theorem iblk3 (t : Fin cfg0.N) : (iblk m c 3 t : Vec F S7168x768 .fp8e4m3) = WB m c t.val := by
  funext y
  have ht := tlt t
  have h0 : (y 0).val < 7168 := (y 0).isLt
  have h1 : (y 1).val < 768 := (y 1).isLt
  unfold iblk WB
  rw [View.read_apply]
  show V m c main_arg2 _ = m (c.tc.loc main_arg2) _
  rw [V_main_arg2]
  congr 1
  funext a; apply Fin.ext
  match a with
  | ⟨0, _⟩ => show win0_3.index t 0 * 7168 + 1 * (y 0).val = (y 0).val; rw [(index3 t).1]; omega
  | ⟨1, _⟩ => show win0_3.index t 1 * 768 + 1 * (y 1).val = (t.val * 768 + (y 1).val) % 6912; rw [(index3 t).2]; omega

theorem iblk4 (t : Fin cfg0.N) : (iblk m c 4 t : Vec F S2560x128 .f32) = aSh m c := by
  funext y
  have ht := tlt t
  have h0 : (y 0).val < 2560 := (y 0).isLt
  have h1 : (y 1).val < 128 := (y 1).isLt
  unfold iblk
  rw [View.read_apply]
  show V m c main_v15 _ = V m c main_v15 _
  congr 1
  funext a; apply Fin.ext
  match a with
  | ⟨0, _⟩ => show win0_4.index t 0 * 2560 + 1 * (y 0).val = (y 0).val; rw [(index4 t).1]; omega
  | ⟨1, _⟩ => show win0_4.index t 1 * 128 + 1 * (y 1).val = (y 1).val; rw [(index4 t).2]; omega

theorem iblk5 (t : Fin cfg0.N) : (iblk m c 5 t : Vec F S1x768 .f32) = SWB m c t.val := by
  funext y
  have ht := tlt t
  have h0 : (y 0).val < 1 := (y 0).isLt
  have h1 : (y 1).val < 768 := (y 1).isLt
  unfold iblk SWB
  rw [View.read_apply]
  show V m c main_v18 _ = V m c main_v18 _
  congr 1
  funext a; apply Fin.ext
  match a with
  | ⟨0, _⟩ => show win0_5.index t 0 * 1 + 1 * (y 0).val = 0; rw [(index5 t).1]; omega
  | ⟨1, _⟩ => show win0_5.index t 1 * 768 + 1 * (y 1).val = (t.val * 768 + (y 1).val) % 6912; rw [(index5 t).2]; omega

theorem iblk6 (t : Fin cfg0.N) : (iblk m c 6 t : Vec F S48x2560 .f32) = aC m c := by
  funext y
  have ht := tlt t
  have h0 : (y 0).val < 48 := (y 0).isLt
  have h1 : (y 1).val < 2560 := (y 1).isLt
  unfold iblk
  rw [View.read_apply]
  show V m c main_v16 _ = V m c main_v16 _
  congr 1
  funext a; apply Fin.ext
  match a with
  | ⟨0, _⟩ => show win0_6.index t 0 * 48 + 1 * (y 0).val = (y 0).val; rw [(index6 t).1]; omega
  | ⟨1, _⟩ => show win0_6.index t 1 * 2560 + 1 * (y 1).val = (y 1).val; rw [(index6 t).2]; omega

theorem iblk7 (t : Fin cfg0.N) : (iblk m c 7 t : Vec F S48x2560 .f32) = aS m c := by
  funext y
  have ht := tlt t
  have h0 : (y 0).val < 48 := (y 0).isLt
  have h1 : (y 1).val < 2560 := (y 1).isLt
  unfold iblk
  rw [View.read_apply]
  show V m c main_v17 _ = V m c main_v17 _
  congr 1
  funext a; apply Fin.ext
  match a with
  | ⟨0, _⟩ => show win0_7.index t 0 * 48 + 1 * (y 0).val = (y 0).val; rw [(index7 t).1]; omega
  | ⟨1, _⟩ => show win0_7.index t 1 * 2560 + 1 * (y 1).val = (y 1).val; rw [(index7 t).2]; omega

/-! ## What the pipeline stores -/

/-- A result block from its chunks of 512 columns. -/
def glue {e : EltTy} (f : Fin 5 → Vec F S768x512 e) : Vec F S768x2560 e := fun y =>
  f (Fin.ofNat 5 ((y 1).val / 512)) (ix2 (y 0) (Fin.ofNat 512 (y 1).val))

theorem putC_apply {e : EltTy} (q : Fin 5) (y : Vec F S768x2560 e) (w : Vec F S768x512 e) (r : Fin 768) (l : Fin 2560) :
    putC q y w (ix2 r l) = if l.val / 512 = q.val then w (ix2 r (Fin.ofNat 512 l.val)) else y (ix2 r l) := by
  unfold putC VecWindow.put
  have hr := r.isLt
  have hl := l.isLt
  by_cases h : l.val / 512 = q.val
  · rw [if_pos h, dif_pos (fun a => by
      match a with
      | ⟨0, _⟩ => show 0 ≤ r.val ∧ r.val < 0 + 768; omega
      | ⟨1, _⟩ => show 512 * q.val ≤ l.val ∧ l.val < 512 * q.val + 512; omega)]
    congr 1
    funext a; apply Fin.ext
    match a with
    | ⟨0, _⟩ => show r.val - 0 = r.val; omega
    | ⟨1, _⟩ => show l.val - 512 * q.val = l.val % 512; omega
  · rw [if_neg h, dif_neg]
    intro hall
    have h0 : 512 * q.val ≤ l.val ∧ l.val < 512 * q.val + 512 := hall 1
    exact h (by omega)

theorem upto_apply {e : EltTy} (f : Fin 5 → Vec F S768x512 e) (y : Vec F S768x2560 e) (n : ℕ) (hn : n ≤ 5) (r : Fin 768) (l : Fin 2560)
    (h : l.val / 512 < n) : upto f y n (ix2 r l) = glue f (ix2 r l) := by
  induction n with
  | zero => exact absurd h (Nat.not_lt_zero _)
  | succ n ih =>
    show putC (Fin.ofNat 5 n) _ _ (ix2 r l) = f (Fin.ofNat 5 (l.val / 512)) (ix2 r (Fin.ofNat 512 l.val))
    have hv : (Fin.ofNat 5 n).val = n := by show n % 5 = n; omega
    rw [putC_apply, hv]
    by_cases e : l.val / 512 = n
    · rw [if_pos e, e]
    · rw [if_neg e]; exact ih (by omega) (by omega)

/-- The five chunks fill the block. -/
theorem upto_all {e : EltTy} (f : Fin 5 → Vec F S768x512 e) (y : Vec F S768x2560 e) : upto f y 5 = glue f := by
  funext i
  have h1 : (i 1).val < 2560 := (i 1).isLt
  have e := upto_apply f y 5 (le_refl 5) (i 0) (i 1) (by omega)
  exact (congrArg (upto f y 5) (eq_ix2 i)).trans (e.trans (congrArg (glue f) (eq_ix2 i).symm))

/-- Row block `n` of the rotated queries. -/
def QB (n : ℕ) : Vec F S768x2560 .bf16 := glue (qF (aH m c) (WB m c n) (aSh m c) (SWB m c n) (aC m c) (aS m c))
/-- The keys' codes. -/
def KB : Vec F S768x2560 .fp8e4m3 := glue (kF (aKs m c) (aH m c) (WB m c 7) (aSh m c) (SWB m c 7) (aC m c) (aS m c))
/-- The values' codes. -/
def VB : Vec F S768x2560 .fp8e4m3 := glue (vF (aVs m c) (aH m c) (WB m c 8) (aSh m c) (SWB m c 8))

end Cert.Qkv.Hand
end
-- ==== Proof.QkvPipe.lean ====
/- The q/k/v projection's run: the proof data of its pipeline, the body at every grid point, and what the machine's memory
   holds at the end. -/
module

public import proofs.«01_k».proof.Proof.QkvBody

@[expose] public section
set_option maxRecDepth 16384
noncomputable section
namespace Cert.Qkv.Hand
open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The proof data: an input's buffer is left as found; an output's holds its point's result where the point stores
    one, and is left as found elsewhere. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => (t.val < 7 ∧ X = QB m c t.val) ∨ (7 ≤ t.val ∧ X = Y)
    | ⟨9, _⟩ => (t.val = 7 ∧ X = KB m c) ∨ (t.val ≠ 7 ∧ X = Y)
    | ⟨10, _⟩ => (t.val = 8 ∧ X = VB m c) ∨ (t.val ≠ 8 ∧ X = Y)
  Φ _ := Pipeline.ΦA spec0 c
  q _ := fullShare
  owed _ := 0

theorem A_eq (c : Dev nD) (w : Fin cfg0.W) : (rdat m c).A w = V m c (Pipeline.arrRef spec0 w) := by dsimp only [rdat]

/-- An input's buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rw [A_eq]; try rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rw [A_eq]; try rfl
theorem finds6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold RDat.fetched RDat.blockOf iblk; rw [A_eq]; try rfl
theorem finds7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  unfold RDat.fetched RDat.blockOf iblk; rw [A_eq]; try rfl

/-! ## The body at a grid point -/

abbrev ms0 (t : Fin cfg0.N) : Memref sig .tc .smem S1 .f32 := win0_0.stage (cfg0.slots t 0)
abbrev ms1 (t : Fin cfg0.N) : Memref sig .tc .smem S1 .f32 := win0_1.stage (cfg0.slots t 1)
abbrev ms2 (t : Fin cfg0.N) : Memref sig .tc .vmem S2560x7168 .fp8e4m3 := win0_2.stage (cfg0.slots t 2)
abbrev ms3 (t : Fin cfg0.N) : Memref sig .tc .vmem S7168x768 .fp8e4m3 := win0_3.stage (cfg0.slots t 3)
abbrev ms4 (t : Fin cfg0.N) : Memref sig .tc .vmem S2560x128 .f32 := win0_4.stage (cfg0.slots t 4)
abbrev ms5 (t : Fin cfg0.N) : Memref sig .tc .vmem S1x768 .f32 := win0_5.stage (cfg0.slots t 5)
abbrev ms6 (t : Fin cfg0.N) : Memref sig .tc .vmem S48x2560 .f32 := win0_6.stage (cfg0.slots t 6)
abbrev ms7 (t : Fin cfg0.N) : Memref sig .tc .vmem S48x2560 .f32 := win0_7.stage (cfg0.slots t 7)
abbrev ms8 (t : Fin cfg0.N) : Memref sig .tc .vmem S768x2560 .bf16 := win0_8.stage (cfg0.slots t 8)
abbrev ms9 (t : Fin cfg0.N) : Memref sig .tc .vmem S768x2560 .fp8e4m3 := win0_9.stage (cfg0.slots t 9)
abbrev ms10 (t : Fin cfg0.N) : Memref sig .tc .vmem S768x2560 .fp8e4m3 := win0_10.stage (cfg0.slots t 10)

/-- What the body is called with at point `t`. -/
def bodyPre (c : Dev nD) (t : Fin cfg0.N) (y8 : Vec F S768x2560 .bf16) (y9 y10 : Vec F S768x2560 .fp8e4m3) : sProp 𝕄 :=
  iprop((rdat m c).Φ t.castSucc ∗ (rdat m c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare y8 ∗ owns (c : Thread nD τ) (ms9 t) fullShare y9 ∗ owns (c : Thread nD τ) (ms10 t) fullShare y10)

/-- What it returns. -/
def bodyPost (c : Dev nD) (t : Fin cfg0.N) (y8 : Vec F S768x2560 .bf16) (y9 y10 : Vec F S768x2560 .fp8e4m3) : sProp 𝕄 :=
  iprop((rdat m c).Φ t.succ ∗ (rdat m c).owesAt () t.succ ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X) ∗ (∃ X, ⌜X = iblk m c 4 t⌝ ∗ owns (c : Thread nD τ) (ms4 t) fullShare X) ∗ (∃ X, ⌜X = iblk m c 5 t⌝ ∗ owns (c : Thread nD τ) (ms5 t) fullShare X) ∗ (∃ X, ⌜X = iblk m c 6 t⌝ ∗ owns (c : Thread nD τ) (ms6 t) fullShare X) ∗ (∃ X, ⌜X = iblk m c 7 t⌝ ∗ owns (c : Thread nD τ) (ms7 t) fullShare X) ∗ (∃ X, ⌜(rdat m c).after 8 t y8 X⌝ ∗ owns (c : Thread nD τ) (ms8 t) fullShare X) ∗ (∃ X, ⌜(rdat m c).after 9 t y9 X⌝ ∗ owns (c : Thread nD τ) (ms9 t) fullShare X) ∗ (∃ X, ⌜(rdat m c).after 10 t y10 X⌝ ∗ owns (c : Thread nD τ) (ms10 t) fullShare X))

/-- The body at a point, from a run with the contents it leaves and what they are. -/
theorem sound_of (c : Dev nD) (t : Fin cfg0.N) (y8 : Vec F S768x2560 .bf16) (y9 y10 : Vec F S768x2560 .fp8e4m3)
    (x8 : Vec F S768x2560 .bf16) (x9 x10 : Vec F S768x2560 .fp8e4m3)
    (hrun : ∀ (K : PUnit → sProp 𝕄),
      iprop(held c (ms0 t) (ms1 t) (ms2 t) (ms3 t) (ms4 t) (ms5 t) (ms6 t) (ms7 t) (ms8 t) (ms9 t) (ms10 t) (iblk m c 0 t) (iblk m c 1 t) (iblk m c 2 t) (iblk m c 3 t) (iblk m c 4 t) (iblk m c 5 t) (iblk m c 6 t) (iblk m c 7 t) y8 y9 y10 ∗ (held c (ms0 t) (ms1 t) (ms2 t) (ms3 t) (ms4 t) (ms5 t) (ms6 t) (ms7 t) (ms8 t) (ms9 t) (ms10 t) (iblk m c 0 t) (iblk m c 1 t) (iblk m c 2 t) (iblk m c 3 t) (iblk m c 4 t) (iblk m c 5 t) (iblk m c 6 t) (iblk m c 7 t) x8 x9 x10 -∗ K ⟨⟩))
        ⊢ wp frame (wpE (defs₀ (F := F)) Variants.none c none) Set.univ (bodyAt0 t) K)
    (h8 : (rdat m c).after 8 t y8 x8) (h9 : (rdat m c).after 9 t y9 x9) (h10 : (rdat m c).after 10 t y10 x10) :
    bodyPre m c t y8 y9 y10 ⊢ wp frame (wpE (defs₀ (F := F)) Variants.none c none) Set.univ (bodyAt0 t) (fun _ => bodyPost m c t y8 y9 y10) := by
  unfold bodyPre bodyPost
  rw [show (rdat m c).owesAt () t.succ = (rdat m c).owesAt () t.castSucc from rfl,
    show (rdat m c).Φ t.succ = (rdat m c).Φ t.castSucc from rfl]
  iintro ⟨Hg, Ho, H0, H1, H2, H3, H4, H5, H6, H7, H8, H9, H10⟩
  iapply (hrun _)
  unfold held
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [Hg]; · iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact h8
  isplitl [H9]
  · iexists _; isplitr; swap; · iexact H9
    ipureintro; exact h9
  iexists _; isplitr; swap; · iexact H10
  ipureintro; exact h10

/-- The body at any point. -/
theorem sound_body (c : Dev nD) (t : Fin cfg0.N) (y8 : Vec F S768x2560 .bf16) (y9 y10 : Vec F S768x2560 .fp8e4m3) :
    bodyPre m c t y8 y9 y10 ⊢ wp frame (wpE (defs₀ (F := F)) Variants.none c none) Set.univ (bodyAt0 t) (fun _ => bodyPost m c t y8 y9 y10) := by
  have i1 := cond1_iff t
  have i2 := cond2_iff t
  have i3 := cond3_iff t
  have ht := tlt t
  by_cases h : t.val < 7
  · exact sound_of m c t y8 y9 y10 _ y9 y10 (fun K => runQ c (grid0.coords t) (by rw [i1]; omega) (by rw [i2]; omega) (by rw [i3]; omega) _ _ _ _ _ _ _ _ _ _ _ _ _ _ _ _ _ _ _ _ _ _ _ _ _ _ _ _ _ _ _ _ _ Set.univ K)
      (.inl ⟨h, by rw [upto_all, iblk2, iblk3, iblk4, iblk5, iblk6, iblk7]; rfl⟩) (.inr ⟨by omega, rfl⟩) (.inr ⟨by omega, rfl⟩)
  · by_cases h' : t.val = 7
    · exact sound_of m c t y8 y9 y10 y8 _ y10 (fun K => runK c (grid0.coords t) (by rw [i1]; omega) (by rw [i2]; omega) (by rw [i3]; omega) _ _ _ _ _ _ _ _ _ _ _ _ _ _ _ _ _ _ _ _ _ _ _ _ _ _ _ _ _ _ _ _ _ Set.univ K)
        (.inr ⟨by omega, rfl⟩) (.inl ⟨h', by rw [upto_all, iblk0, iblk2, iblk3, iblk4, iblk5, iblk6, iblk7, h']; rfl⟩) (.inr ⟨by omega, rfl⟩)
    · exact sound_of m c t y8 y9 y10 y8 y9 _ (fun K => runV c (grid0.coords t) (by rw [i1]; omega) (by rw [i2]; omega) (by rw [i3]; omega) _ _ _ _ _ _ _ _ _ _ _ _ _ _ _ _ _ _ _ _ _ _ _ _ _ _ _ _ _ _ _ _ _ Set.univ K)
        (.inr ⟨by omega, rfl⟩) (.inr ⟨h', rfl⟩) (.inl ⟨by omega, by rw [upto_all, iblk1, iblk2, iblk3, iblk4, iblk5, show t.val = 8 by omega]; rfl⟩)

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have e6 := finds6 m c t (Y 6) (hY 6)
  have e7 := finds7 m c t (Y 7) (hY 7)
  rw [e0, e1, e2, e3, e4, e5, e6, e7]
  exact triple_restated (sound_body m c t (Y 8) (Y 9) (Y 10)) rfl .rfl fun _ => .rfl

set_option backward.isDefEq.respectTransparency.types false in
/-- Every run ends with the arrays at contents the proof data allow, the other buffers as found and every semaphore at zero. -/
theorem run_main : θ_run defs (onTc (τ := τ) (main (F := F))) (s₀ m ρ)
    (fun r => (RDat.FramePost cfg0 (rdat m) (V m)) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m)
    (hin := fun c => by dsimp only [rdat]; exact .rfl)
    (hout := fun c => by dsimp only [rdat]; exact .rfl)

/-- The argument arrays end as they were. -/
theorem args_kept (r : PUnit × MemSt nD τ sig (Elt F)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(RDat.FramePost.arr_in h c 2 rfl).trans ((A_eq m c 2).trans (V_main_arg0 m c)),
   ((h c).2 main_arg1 (Pipeline.mem_restRefs_of main_arg1 (by decide) (by decide))).trans (V_main_arg1 m c),
   (RDat.FramePost.arr_in h c 3 rfl).trans ((A_eq m c 3).trans (V_main_arg2 m c)),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   (RDat.FramePost.arr_in h c 0 rfl).trans ((A_eq m c 0).trans (V_main_arg5 m c)),
   (RDat.FramePost.arr_in h c 1 rfl).trans ((A_eq m c 1).trans (V_main_arg6 m c))⟩

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_kept m r h.1 c, h.2⟩) (run_main m ρ)

end Cert.Qkv.Hand
end
-- ==== Proof.lean ====
/- The claims of this certificate, each proved in a module of its own. -/
module

public import proofs.«01_k».proof.Defs
public import proofs.«01_k».proof.Proof.GateUpThm
public import proofs.«01_k».proof.Proof.DownThm
public import proofs.«01_k».proof.Proof.OprojThm
public import proofs.«01_k».proof.Proof.QkvThm
public import proofs.«01_k».proof.Proof.Gen.GateUp.Frame
public import proofs.«01_k».proof.Proof.Gen.GateUpIdeal.Frame
public import proofs.«01_k».proof.Proof.Gen.GateUpReferenceIdeal.Frame
public import proofs.«01_k».proof.Proof.DownPipe
public import proofs.«01_k».proof.Proof.DownIdealPipe
public import proofs.«01_k».proof.Proof.Gen.DownReferenceIdeal.Frame
public import proofs.«01_k».proof.Proof.OprojPipe
public import proofs.«01_k».proof.Proof.OprojIdealPipe
public import proofs.«01_k».proof.Proof.Gen.OprojReferenceIdeal.Frame
public import proofs.«01_k».proof.Proof.QkvPipe
public import proofs.«01_k».proof.Proof.QkvIdealPipe
public import proofs.«01_k».proof.Proof.Gen.QkvReferenceIdeal.Frame

@[expose] public section

noncomputable section

namespace Cert.Proof

open Idealize.ShloMosaic Idealize.SL.Sem

theorem claim : Cert.Claim :=
  ⟨Cert.GateUp.Gen.facts, Cert.GateUpIdeal.Gen.facts, Cert.GateUpReferenceIdeal.Gen.facts, Cert.Down.Gen.facts, Cert.DownIdeal.Gen.facts, Cert.DownReferenceIdeal.Gen.facts, Cert.Oproj.Gen.facts, Cert.OprojIdeal.Gen.facts, Cert.OprojReferenceIdeal.Gen.facts, Cert.Qkv.Gen.facts, Cert.QkvIdeal.Gen.facts, Cert.QkvReferenceIdeal.Gen.facts, down_pre_facts, oproj_pre_facts,
   fun m ρ _ => Cert.GateUp.Gen.frame m ρ,
   fun m ρ _ => Cert.GateUpIdeal.Gen.frame m ρ,
   fun m ρ _ => Cert.GateUpReferenceIdeal.Gen.frame m ρ,
   fun m ρ _ => Cert.Down.Hand.frame m ρ,
   fun m ρ _ => Cert.DownIdeal.Hand.frame m ρ,
   fun m ρ _ => Cert.DownIdeal.Hand.frame m ρ,
   fun m ρ _ => Cert.DownReferenceIdeal.Gen.frame m ρ,
   fun m ρ _ => Cert.DownReferenceIdeal.Gen.frame m ρ,
   fun m ρ _ => Cert.Oproj.Hand.frame m ρ,
   fun m ρ _ => Cert.OprojIdeal.Hand.frame m ρ,
   fun m ρ _ => Cert.OprojIdeal.Hand.frame m ρ,
   fun m ρ _ => Cert.OprojReferenceIdeal.Gen.frame m ρ,
   fun m ρ _ => Cert.OprojReferenceIdeal.Gen.frame m ρ,
   fun m ρ _ => Cert.Qkv.Hand.frame m ρ,
   fun m ρ _ => Cert.QkvIdeal.Hand.frame m ρ,
   fun m ρ _ => Cert.QkvReferenceIdeal.Gen.frame m ρ,
   trivial,
   gateUp_algebraic,
   trivial,
   down_algebraic (hP := down_pre_facts),
   trivial,
   oproj_algebraic (hP := oproj_pre_facts),
   trivial,
   qkv_algebraic⟩

end Cert.Proof

end
